-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_GateH (m : (ℓ : Loc Cert.GateH.nD Cert.GateH.τ Cert.GateH.sig) → Buf (Elt Bits) ℓ) : Prop :=
  True

def Pre_GateHIdeal (m : (ℓ : Loc Cert.GateHIdeal.nD Cert.GateHIdeal.τ Cert.GateHIdeal.sig) → Buf (Elt Ideal) ℓ) : Prop :=
  True

def Pre_GateHRefIdeal (m : (ℓ : Loc Cert.GateHRefIdeal.nD Cert.GateHRefIdeal.τ Cert.GateHRefIdeal.sig) → Buf (Elt Ideal) ℓ) : Prop :=
  True

def Pre_BranchW (m : (ℓ : Loc Cert.BranchW.nD Cert.BranchW.τ Cert.BranchW.sig) → Buf (Elt Bits) ℓ) : Prop :=
  True

def Pre_BranchWIdeal (m : (ℓ : Loc Cert.BranchWIdeal.nD Cert.BranchWIdeal.τ Cert.BranchWIdeal.sig) → Buf (Elt Ideal) ℓ) : Prop :=
  True

def Pre_BranchWRefIdeal (m : (ℓ : Loc Cert.BranchWRefIdeal.nD Cert.BranchWRefIdeal.τ Cert.BranchWRefIdeal.sig) → Buf (Elt Ideal) ℓ) : Prop :=
  True

def Pre_BranchY (m : (ℓ : Loc Cert.BranchY.nD Cert.BranchY.τ Cert.BranchY.sig) → Buf (Elt Bits) ℓ) : Prop :=
  True

def Pre_BranchYIdeal (m : (ℓ : Loc Cert.BranchYIdeal.nD Cert.BranchYIdeal.τ Cert.BranchYIdeal.sig) → Buf (Elt Ideal) ℓ) : Prop :=
  True

def Pre_BranchYRefIdeal (m : (ℓ : Loc Cert.BranchYRefIdeal.nD Cert.BranchYRefIdeal.τ Cert.BranchYRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InH (m : (ℓ : Loc Cert.InH.nD Cert.InH.τ Cert.InH.sig) → Buf (Elt Bits) ℓ) : Prop :=
  True

def Pre_InHIdeal (m : (ℓ : Loc Cert.InHIdeal.nD Cert.InHIdeal.τ Cert.InHIdeal.sig) → Buf (Elt Ideal) ℓ) : Prop :=
  True

def Pre_InHRefIdeal (m : (ℓ : Loc Cert.InHRefIdeal.nD Cert.InHRefIdeal.τ Cert.InHRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_OutP (m : (ℓ : Loc Cert.OutP.nD Cert.OutP.τ Cert.OutP.sig) → Buf (Elt Bits) ℓ) : Prop :=
  True

def Pre_OutPIdeal (m : (ℓ : Loc Cert.OutPIdeal.nD Cert.OutPIdeal.τ Cert.OutPIdeal.sig) → Buf (Elt Ideal) ℓ) : Prop :=
  True

def Pre_OutPRefIdeal (m : (ℓ : Loc Cert.OutPRefIdeal.nD Cert.OutPRefIdeal.τ Cert.OutPRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_LatW (m : (ℓ : Loc Cert.LatW.nD Cert.LatW.τ Cert.LatW.sig) → Buf (Elt Bits) ℓ) : Prop :=
  True

def Pre_LatWIdeal (m : (ℓ : Loc Cert.LatWIdeal.nD Cert.LatWIdeal.τ Cert.LatWIdeal.sig) → Buf (Elt Ideal) ℓ) : Prop :=
  True

def Pre_LatWRefIdeal (m : (ℓ : Loc Cert.LatWRefIdeal.nD Cert.LatWRefIdeal.τ Cert.LatWRefIdeal.sig) → Buf (Elt Ideal) ℓ) : Prop :=
  True

def Pre_LatV (m : (ℓ : Loc Cert.LatV.nD Cert.LatV.τ Cert.LatV.sig) → Buf (Elt Bits) ℓ) : Prop :=
  True

def Pre_LatVIdeal (m : (ℓ : Loc Cert.LatVIdeal.nD Cert.LatVIdeal.τ Cert.LatVIdeal.sig) → Buf (Elt Ideal) ℓ) : Prop :=
  True

def Pre_LatVRefIdeal (m : (ℓ : Loc Cert.LatVRefIdeal.nD Cert.LatVRefIdeal.τ Cert.LatVRefIdeal.sig) → Buf (Elt Ideal) ℓ) : Prop :=
  True

def Pre_LatQ (m : (ℓ : Loc Cert.LatQ.nD Cert.LatQ.τ Cert.LatQ.sig) → Buf (Elt Bits) ℓ) : Prop :=
  True

def Pre_LatQIdeal (m : (ℓ : Loc Cert.LatQIdeal.nD Cert.LatQIdeal.τ Cert.LatQIdeal.sig) → Buf (Elt Ideal) ℓ) : Prop :=
  True

def Pre_LatQRefIdeal (m : (ℓ : Loc Cert.LatQRefIdeal.nD Cert.LatQRefIdeal.τ Cert.LatQRefIdeal.sig) → Buf (Elt Ideal) ℓ) : Prop :=
  True

def Pre_LatC (m : (ℓ : Loc Cert.LatC.nD Cert.LatC.τ Cert.LatC.sig) → Buf (Elt Bits) ℓ) : Prop :=
  True

def Pre_LatCIdeal (m : (ℓ : Loc Cert.LatCIdeal.nD Cert.LatCIdeal.τ Cert.LatCIdeal.sig) → Buf (Elt Ideal) ℓ) : Prop :=
  True

def Pre_LatCRefIdeal (m : (ℓ : Loc Cert.LatCRefIdeal.nD Cert.LatCRefIdeal.τ Cert.LatCRefIdeal.sig) → Buf (Elt Ideal) ℓ) : Prop :=
  True

def Pre_MemP (m : (ℓ : Loc Cert.MemP.nD Cert.MemP.τ Cert.MemP.sig) → Buf (Elt Bits) ℓ) : Prop :=
  True

def Pre_MemPIdeal (m : (ℓ : Loc Cert.MemPIdeal.nD Cert.MemPIdeal.τ Cert.MemPIdeal.sig) → Buf (Elt Ideal) ℓ) : Prop :=
  True

def Pre_MemPRefIdeal (m : (ℓ : Loc Cert.MemPRefIdeal.nD Cert.MemPRefIdeal.τ Cert.MemPRefIdeal.sig) → Buf (Elt Ideal) ℓ) : Prop :=
  True

def Pre_MemW (m : (ℓ : Loc Cert.MemW.nD Cert.MemW.τ Cert.MemW.sig) → Buf (Elt Bits) ℓ) : Prop :=
  True

def Pre_MemWIdeal (m : (ℓ : Loc Cert.MemWIdeal.nD Cert.MemWIdeal.τ Cert.MemWIdeal.sig) → Buf (Elt Ideal) ℓ) : Prop :=
  True

def Pre_MemWRefIdeal (m : (ℓ : Loc Cert.MemWRefIdeal.nD Cert.MemWRefIdeal.τ Cert.MemWRefIdeal.sig) → Buf (Elt Ideal) ℓ) : Prop :=
  True

def Pre_MemX (m : (ℓ : Loc Cert.MemX.nD Cert.MemX.τ Cert.MemX.sig) → Buf (Elt Bits) ℓ) : Prop :=
  True

def Pre_MemXIdeal (m : (ℓ : Loc Cert.MemXIdeal.nD Cert.MemXIdeal.τ Cert.MemXIdeal.sig) → Buf (Elt Ideal) ℓ) : Prop :=
  True

def Pre_MemXRefIdeal (m : (ℓ : Loc Cert.MemXRefIdeal.nD Cert.MemXRefIdeal.τ Cert.MemXRefIdeal.sig) → Buf (Elt Ideal) ℓ) : Prop :=
  True

def Pre_MemF (m : (ℓ : Loc Cert.MemF.nD Cert.MemF.τ Cert.MemF.sig) → Buf (Elt Bits) ℓ) : Prop :=
  True

def Pre_MemFIdeal (m : (ℓ : Loc Cert.MemFIdeal.nD Cert.MemFIdeal.τ Cert.MemFIdeal.sig) → Buf (Elt Ideal) ℓ) : Prop :=
  True

def Pre_MemFRefIdeal (m : (ℓ : Loc Cert.MemFRefIdeal.nD Cert.MemFRefIdeal.τ Cert.MemFRefIdeal.sig) → Buf (Elt Ideal) ℓ) : Prop :=
  True

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXRefIdeal (m : (ℓ : Loc Cert.NormXRefIdeal.nD Cert.NormXRefIdeal.τ Cert.NormXRefIdeal.sig) → Buf (Elt Ideal) ℓ) : Prop :=
  True

def Pre_NormM (m : (ℓ : Loc Cert.NormM.nD Cert.NormM.τ Cert.NormM.sig) → Buf (Elt Bits) ℓ) : Prop :=
  True

def Pre_NormMIdeal (m : (ℓ : Loc Cert.NormMIdeal.nD Cert.NormMIdeal.τ Cert.NormMIdeal.sig) → Buf (Elt Ideal) ℓ) : Prop :=
  True

def Pre_NormMRefIdeal (m : (ℓ : Loc Cert.NormMRefIdeal.nD Cert.NormMRefIdeal.τ Cert.NormMRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormKRefIdeal (m : (ℓ : Loc Cert.NormKRefIdeal.nD Cert.NormKRefIdeal.τ Cert.NormKRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_GateH [hGateH : Cert.GateH.Facts] : Prop :=
  ∀ (m : (ℓ : Loc Cert.GateH.nD Cert.GateH.τ Cert.GateH.sig) → Buf (Elt Bits) ℓ) (g : Dev Cert.GateH.nD → PrngReg), Pre_GateH m →
    θ_run (Cert.GateH.defs (F := Bits)) (onTc (τ := Cert.GateH.τ) (Cert.GateH.main (F := Bits))) ⟨m, fun _ => 0, g⟩ (fun r => (∀ c : Dev Cert.GateH.nD,
      r.2.mem ((c.tc : Thread Cert.GateH.nD Cert.GateH.τ).loc Cert.GateH.main_arg0) = m ((c.tc : Thread Cert.GateH.nD Cert.GateH.τ).loc Cert.GateH.main_arg0)
      ∧ r.2.mem ((c.tc : Thread Cert.GateH.nD Cert.GateH.τ).loc Cert.GateH.main_arg1) = m ((c.tc : Thread Cert.GateH.nD Cert.GateH.τ).loc Cert.GateH.main_arg1))
      ∧ r.2.sem = fun _ => 0)

def quiescent_GateHIdeal [hGateHIdeal : Cert.GateHIdeal.Facts] : Prop :=
  ∀ (m : (ℓ : Loc Cert.GateHIdeal.nD Cert.GateHIdeal.τ Cert.GateHIdeal.sig) → Buf (Elt Ideal) ℓ) (g : Dev Cert.GateHIdeal.nD → PrngReg), Pre_GateHIdeal m →
    θ_run (Cert.GateHIdeal.defs (F := Ideal)) (onTc (τ := Cert.GateHIdeal.τ) (Cert.GateHIdeal.main (F := Ideal))) ⟨m, fun _ => 0, g⟩ (fun r => (∀ c : Dev Cert.GateHIdeal.nD,
      r.2.mem ((c.tc : Thread Cert.GateHIdeal.nD Cert.GateHIdeal.τ).loc Cert.GateHIdeal.main_arg0) = m ((c.tc : Thread Cert.GateHIdeal.nD Cert.GateHIdeal.τ).loc Cert.GateHIdeal.main_arg0)
      ∧ r.2.mem ((c.tc : Thread Cert.GateHIdeal.nD Cert.GateHIdeal.τ).loc Cert.GateHIdeal.main_arg1) = m ((c.tc : Thread Cert.GateHIdeal.nD Cert.GateHIdeal.τ).loc Cert.GateHIdeal.main_arg1))
      ∧ r.2.sem = fun _ => 0)

def quiescent_GateHRefIdeal [hGateHRefIdeal : Cert.GateHRefIdeal.Facts] : Prop :=
  ∀ (m : (ℓ : Loc Cert.GateHRefIdeal.nD Cert.GateHRefIdeal.τ Cert.GateHRefIdeal.sig) → Buf (Elt Ideal) ℓ) (g : Dev Cert.GateHRefIdeal.nD → PrngReg), Pre_GateHRefIdeal m →
    θ_run (Cert.GateHRefIdeal.defs (F := Ideal)) (onTc (τ := Cert.GateHRefIdeal.τ) (Cert.GateHRefIdeal.main (F := Ideal))) ⟨m, fun _ => 0, g⟩ (fun r => (∀ c : Dev Cert.GateHRefIdeal.nD,
      r.2.mem ((c.tc : Thread Cert.GateHRefIdeal.nD Cert.GateHRefIdeal.τ).loc Cert.GateHRefIdeal.main_arg0) = m ((c.tc : Thread Cert.GateHRefIdeal.nD Cert.GateHRefIdeal.τ).loc Cert.GateHRefIdeal.main_arg0)
      ∧ r.2.mem ((c.tc : Thread Cert.GateHRefIdeal.nD Cert.GateHRefIdeal.τ).loc Cert.GateHRefIdeal.main_arg1) = m ((c.tc : Thread Cert.GateHRefIdeal.nD Cert.GateHRefIdeal.τ).loc Cert.GateHRefIdeal.main_arg1))
      ∧ r.2.sem = fun _ => 0)

def quiescent_BranchW [hBranchW : Cert.BranchW.Facts] : Prop :=
  ∀ (m : (ℓ : Loc Cert.BranchW.nD Cert.BranchW.τ Cert.BranchW.sig) → Buf (Elt Bits) ℓ) (g : Dev Cert.BranchW.nD → PrngReg), Pre_BranchW m →
    θ_run (Cert.BranchW.defs (F := Bits)) (onTc (τ := Cert.BranchW.τ) (Cert.BranchW.main (F := Bits))) ⟨m, fun _ => 0, g⟩ (fun r => (∀ c : Dev Cert.BranchW.nD,
      r.2.mem ((c.tc : Thread Cert.BranchW.nD Cert.BranchW.τ).loc Cert.BranchW.main_arg0) = m ((c.tc : Thread Cert.BranchW.nD Cert.BranchW.τ).loc Cert.BranchW.main_arg0)
      ∧ r.2.mem ((c.tc : Thread Cert.BranchW.nD Cert.BranchW.τ).loc Cert.BranchW.main_arg1) = m ((c.tc : Thread Cert.BranchW.nD Cert.BranchW.τ).loc Cert.BranchW.main_arg1))
      ∧ r.2.sem = fun _ => 0)

def quiescent_BranchWIdeal [hBranchWIdeal : Cert.BranchWIdeal.Facts] : Prop :=
  ∀ (m : (ℓ : Loc Cert.BranchWIdeal.nD Cert.BranchWIdeal.τ Cert.BranchWIdeal.sig) → Buf (Elt Ideal) ℓ) (g : Dev Cert.BranchWIdeal.nD → PrngReg), Pre_BranchWIdeal m →
    θ_run (Cert.BranchWIdeal.defs (F := Ideal)) (onTc (τ := Cert.BranchWIdeal.τ) (Cert.BranchWIdeal.main (F := Ideal))) ⟨m, fun _ => 0, g⟩ (fun r => (∀ c : Dev Cert.BranchWIdeal.nD,
      r.2.mem ((c.tc : Thread Cert.BranchWIdeal.nD Cert.BranchWIdeal.τ).loc Cert.BranchWIdeal.main_arg0) = m ((c.tc : Thread Cert.BranchWIdeal.nD Cert.BranchWIdeal.τ).loc Cert.BranchWIdeal.main_arg0)
      ∧ r.2.mem ((c.tc : Thread Cert.BranchWIdeal.nD Cert.BranchWIdeal.τ).loc Cert.BranchWIdeal.main_arg1) = m ((c.tc : Thread Cert.BranchWIdeal.nD Cert.BranchWIdeal.τ).loc Cert.BranchWIdeal.main_arg1))
      ∧ r.2.sem = fun _ => 0)

def quiescent_BranchWRefIdeal [hBranchWRefIdeal : Cert.BranchWRefIdeal.Facts] : Prop :=
  ∀ (m : (ℓ : Loc Cert.BranchWRefIdeal.nD Cert.BranchWRefIdeal.τ Cert.BranchWRefIdeal.sig) → Buf (Elt Ideal) ℓ) (g : Dev Cert.BranchWRefIdeal.nD → PrngReg), Pre_BranchWRefIdeal m →
    θ_run (Cert.BranchWRefIdeal.defs (F := Ideal)) (onTc (τ := Cert.BranchWRefIdeal.τ) (Cert.BranchWRefIdeal.main (F := Ideal))) ⟨m, fun _ => 0, g⟩ (fun r => (∀ c : Dev Cert.BranchWRefIdeal.nD,
      r.2.mem ((c.tc : Thread Cert.BranchWRefIdeal.nD Cert.BranchWRefIdeal.τ).loc Cert.BranchWRefIdeal.main_arg0) = m ((c.tc : Thread Cert.BranchWRefIdeal.nD Cert.BranchWRefIdeal.τ).loc Cert.BranchWRefIdeal.main_arg0)
      ∧ r.2.mem ((c.tc : Thread Cert.BranchWRefIdeal.nD Cert.BranchWRefIdeal.τ).loc Cert.BranchWRefIdeal.main_arg1) = m ((c.tc : Thread Cert.BranchWRefIdeal.nD Cert.BranchWRefIdeal.τ).loc Cert.BranchWRefIdeal.main_arg1))
      ∧ r.2.sem = fun _ => 0)

def quiescent_BranchY [hBranchY : Cert.BranchY.Facts] : Prop :=
  ∀ (m : (ℓ : Loc Cert.BranchY.nD Cert.BranchY.τ Cert.BranchY.sig) → Buf (Elt Bits) ℓ) (g : Dev Cert.BranchY.nD → PrngReg), Pre_BranchY m →
    θ_run (Cert.BranchY.defs (F := Bits)) (onTc (τ := Cert.BranchY.τ) (Cert.BranchY.main (F := Bits))) ⟨m, fun _ => 0, g⟩ (fun r => (∀ c : Dev Cert.BranchY.nD,
      r.2.mem ((c.tc : Thread Cert.BranchY.nD Cert.BranchY.τ).loc Cert.BranchY.main_arg0) = m ((c.tc : Thread Cert.BranchY.nD Cert.BranchY.τ).loc Cert.BranchY.main_arg0)
      ∧ r.2.mem ((c.tc : Thread Cert.BranchY.nD Cert.BranchY.τ).loc Cert.BranchY.main_arg1) = m ((c.tc : Thread Cert.BranchY.nD Cert.BranchY.τ).loc Cert.BranchY.main_arg1))
      ∧ r.2.sem = fun _ => 0)

def quiescent_BranchYIdeal [hBranchYIdeal : Cert.BranchYIdeal.Facts] : Prop :=
  ∀ (m : (ℓ : Loc Cert.BranchYIdeal.nD Cert.BranchYIdeal.τ Cert.BranchYIdeal.sig) → Buf (Elt Ideal) ℓ) (g : Dev Cert.BranchYIdeal.nD → PrngReg), Pre_BranchYIdeal m →
    θ_run (Cert.BranchYIdeal.defs (F := Ideal)) (onTc (τ := Cert.BranchYIdeal.τ) (Cert.BranchYIdeal.main (F := Ideal))) ⟨m, fun _ => 0, g⟩ (fun r => (∀ c : Dev Cert.BranchYIdeal.nD,
      r.2.mem ((c.tc : Thread Cert.BranchYIdeal.nD Cert.BranchYIdeal.τ).loc Cert.BranchYIdeal.main_arg0) = m ((c.tc : Thread Cert.BranchYIdeal.nD Cert.BranchYIdeal.τ).loc Cert.BranchYIdeal.main_arg0)
      ∧ r.2.mem ((c.tc : Thread Cert.BranchYIdeal.nD Cert.BranchYIdeal.τ).loc Cert.BranchYIdeal.main_arg1) = m ((c.tc : Thread Cert.BranchYIdeal.nD Cert.BranchYIdeal.τ).loc Cert.BranchYIdeal.main_arg1))
      ∧ r.2.sem = fun _ => 0)

def quiescent_BranchYRefIdeal [hBranchYRefIdeal : Cert.BranchYRefIdeal.Facts] : Prop :=
  ∀ (m : (ℓ : Loc Cert.BranchYRefIdeal.nD Cert.BranchYRefIdeal.τ Cert.BranchYRefIdeal.sig) → Buf (Elt Ideal) ℓ) (g : Dev Cert.BranchYRefIdeal.nD → PrngReg), Pre_BranchYRefIdeal m →
    θ_run (Cert.BranchYRefIdeal.defs (F := Ideal)) (onTc (τ := Cert.BranchYRefIdeal.τ) (Cert.BranchYRefIdeal.main (F := Ideal))) ⟨m, fun _ => 0, g⟩ (fun r => (∀ c : Dev Cert.BranchYRefIdeal.nD,
      r.2.mem ((c.tc : Thread Cert.BranchYRefIdeal.nD Cert.BranchYRefIdeal.τ).loc Cert.BranchYRefIdeal.main_arg0) = m ((c.tc : Thread Cert.BranchYRefIdeal.nD Cert.BranchYRefIdeal.τ).loc Cert.BranchYRefIdeal.main_arg0)
      ∧ r.2.mem ((c.tc : Thread Cert.BranchYRefIdeal.nD Cert.BranchYRefIdeal.τ).loc Cert.BranchYRefIdeal.main_arg1) = m ((c.tc : Thread Cert.BranchYRefIdeal.nD Cert.BranchYRefIdeal.τ).loc Cert.BranchYRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InH [hInH : Cert.InH.Facts] : Prop :=
  ∀ (m : (ℓ : Loc Cert.InH.nD Cert.InH.τ Cert.InH.sig) → Buf (Elt Bits) ℓ) (g : Dev Cert.InH.nD → PrngReg), Pre_InH m →
    θ_run (Cert.InH.defs (F := Bits)) (onTc (τ := Cert.InH.τ) (Cert.InH.main (F := Bits))) ⟨m, fun _ => 0, g⟩ (fun r => (∀ c : Dev Cert.InH.nD,
      r.2.mem ((c.tc : Thread Cert.InH.nD Cert.InH.τ).loc Cert.InH.main_arg0) = m ((c.tc : Thread Cert.InH.nD Cert.InH.τ).loc Cert.InH.main_arg0)
      ∧ r.2.mem ((c.tc : Thread Cert.InH.nD Cert.InH.τ).loc Cert.InH.main_arg1) = m ((c.tc : Thread Cert.InH.nD Cert.InH.τ).loc Cert.InH.main_arg1)
      ∧ r.2.mem ((c.tc : Thread Cert.InH.nD Cert.InH.τ).loc Cert.InH.main_arg2) = m ((c.tc : Thread Cert.InH.nD Cert.InH.τ).loc Cert.InH.main_arg2))
      ∧ r.2.sem = fun _ => 0)

def quiescent_InHIdeal [hInHIdeal : Cert.InHIdeal.Facts] : Prop :=
  ∀ (m : (ℓ : Loc Cert.InHIdeal.nD Cert.InHIdeal.τ Cert.InHIdeal.sig) → Buf (Elt Ideal) ℓ) (g : Dev Cert.InHIdeal.nD → PrngReg), Pre_InHIdeal m →
    θ_run (Cert.InHIdeal.defs (F := Ideal)) (onTc (τ := Cert.InHIdeal.τ) (Cert.InHIdeal.main (F := Ideal))) ⟨m, fun _ => 0, g⟩ (fun r => (∀ c : Dev Cert.InHIdeal.nD,
      r.2.mem ((c.tc : Thread Cert.InHIdeal.nD Cert.InHIdeal.τ).loc Cert.InHIdeal.main_arg0) = m ((c.tc : Thread Cert.InHIdeal.nD Cert.InHIdeal.τ).loc Cert.InHIdeal.main_arg0)
      ∧ r.2.mem ((c.tc : Thread Cert.InHIdeal.nD Cert.InHIdeal.τ).loc Cert.InHIdeal.main_arg1) = m ((c.tc : Thread Cert.InHIdeal.nD Cert.InHIdeal.τ).loc Cert.InHIdeal.main_arg1)
      ∧ r.2.mem ((c.tc : Thread Cert.InHIdeal.nD Cert.InHIdeal.τ).loc Cert.InHIdeal.main_arg2) = m ((c.tc : Thread Cert.InHIdeal.nD Cert.InHIdeal.τ).loc Cert.InHIdeal.main_arg2))
      ∧ r.2.sem = fun _ => 0)

def quiescent_InHRefIdeal [hInHRefIdeal : Cert.InHRefIdeal.Facts] : Prop :=
  ∀ (m : (ℓ : Loc Cert.InHRefIdeal.nD Cert.InHRefIdeal.τ Cert.InHRefIdeal.sig) → Buf (Elt Ideal) ℓ) (g : Dev Cert.InHRefIdeal.nD → PrngReg), Pre_InHRefIdeal m →
    θ_run (Cert.InHRefIdeal.defs (F := Ideal)) (onTc (τ := Cert.InHRefIdeal.τ) (Cert.InHRefIdeal.main (F := Ideal))) ⟨m, fun _ => 0, g⟩ (fun r => (∀ c : Dev Cert.InHRefIdeal.nD,
      r.2.mem ((c.tc : Thread Cert.InHRefIdeal.nD Cert.InHRefIdeal.τ).loc Cert.InHRefIdeal.main_arg0) = m ((c.tc : Thread Cert.InHRefIdeal.nD Cert.InHRefIdeal.τ).loc Cert.InHRefIdeal.main_arg0)
      ∧ r.2.mem ((c.tc : Thread Cert.InHRefIdeal.nD Cert.InHRefIdeal.τ).loc Cert.InHRefIdeal.main_arg1) = m ((c.tc : Thread Cert.InHRefIdeal.nD Cert.InHRefIdeal.τ).loc Cert.InHRefIdeal.main_arg1)
      ∧ r.2.mem ((c.tc : Thread Cert.InHRefIdeal.nD Cert.InHRefIdeal.τ).loc Cert.InHRefIdeal.main_arg2) = m ((c.tc : Thread Cert.InHRefIdeal.nD Cert.InHRefIdeal.τ).loc Cert.InHRefIdeal.main_arg2))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1))
      ∧ r.2.sem = fun _ => 0)

def quiescent_OutP [hOutP : Cert.OutP.Facts] : Prop :=
  ∀ (m : (ℓ : Loc Cert.OutP.nD Cert.OutP.τ Cert.OutP.sig) → Buf (Elt Bits) ℓ) (g : Dev Cert.OutP.nD → PrngReg), Pre_OutP m →
    θ_run (Cert.OutP.defs (F := Bits)) (onTc (τ := Cert.OutP.τ) (Cert.OutP.main (F := Bits))) ⟨m, fun _ => 0, g⟩ (fun r => (∀ c : Dev Cert.OutP.nD,
      r.2.mem ((c.tc : Thread Cert.OutP.nD Cert.OutP.τ).loc Cert.OutP.main_arg0) = m ((c.tc : Thread Cert.OutP.nD Cert.OutP.τ).loc Cert.OutP.main_arg0)
      ∧ r.2.mem ((c.tc : Thread Cert.OutP.nD Cert.OutP.τ).loc Cert.OutP.main_arg1) = m ((c.tc : Thread Cert.OutP.nD Cert.OutP.τ).loc Cert.OutP.main_arg1))
      ∧ r.2.sem = fun _ => 0)

def quiescent_OutPIdeal [hOutPIdeal : Cert.OutPIdeal.Facts] : Prop :=
  ∀ (m : (ℓ : Loc Cert.OutPIdeal.nD Cert.OutPIdeal.τ Cert.OutPIdeal.sig) → Buf (Elt Ideal) ℓ) (g : Dev Cert.OutPIdeal.nD → PrngReg), Pre_OutPIdeal m →
    θ_run (Cert.OutPIdeal.defs (F := Ideal)) (onTc (τ := Cert.OutPIdeal.τ) (Cert.OutPIdeal.main (F := Ideal))) ⟨m, fun _ => 0, g⟩ (fun r => (∀ c : Dev Cert.OutPIdeal.nD,
      r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
      ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1))
      ∧ r.2.sem = fun _ => 0)

def quiescent_OutPRefIdeal [hOutPRefIdeal : Cert.OutPRefIdeal.Facts] : Prop :=
  ∀ (m : (ℓ : Loc Cert.OutPRefIdeal.nD Cert.OutPRefIdeal.τ Cert.OutPRefIdeal.sig) → Buf (Elt Ideal) ℓ) (g : Dev Cert.OutPRefIdeal.nD → PrngReg), Pre_OutPRefIdeal m →
    θ_run (Cert.OutPRefIdeal.defs (F := Ideal)) (onTc (τ := Cert.OutPRefIdeal.τ) (Cert.OutPRefIdeal.main (F := Ideal))) ⟨m, fun _ => 0, g⟩ (fun r => (∀ c : Dev Cert.OutPRefIdeal.nD,
      r.2.mem ((c.tc : Thread Cert.OutPRefIdeal.nD Cert.OutPRefIdeal.τ).loc Cert.OutPRefIdeal.main_arg0) = m ((c.tc : Thread Cert.OutPRefIdeal.nD Cert.OutPRefIdeal.τ).loc Cert.OutPRefIdeal.main_arg0)
      ∧ r.2.mem ((c.tc : Thread Cert.OutPRefIdeal.nD Cert.OutPRefIdeal.τ).loc Cert.OutPRefIdeal.main_arg1) = m ((c.tc : Thread Cert.OutPRefIdeal.nD Cert.OutPRefIdeal.τ).loc Cert.OutPRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_LatW [hLatW : Cert.LatW.Facts] : Prop :=
  ∀ (m : (ℓ : Loc Cert.LatW.nD Cert.LatW.τ Cert.LatW.sig) → Buf (Elt Bits) ℓ) (g : Dev Cert.LatW.nD → PrngReg), Pre_LatW m →
    θ_run (Cert.LatW.defs (F := Bits)) (onTc (τ := Cert.LatW.τ) (Cert.LatW.main (F := Bits))) ⟨m, fun _ => 0, g⟩ (fun r => (∀ c : Dev Cert.LatW.nD,
      r.2.mem ((c.tc : Thread Cert.LatW.nD Cert.LatW.τ).loc Cert.LatW.main_arg0) = m ((c.tc : Thread Cert.LatW.nD Cert.LatW.τ).loc Cert.LatW.main_arg0)
      ∧ r.2.mem ((c.tc : Thread Cert.LatW.nD Cert.LatW.τ).loc Cert.LatW.main_arg1) = m ((c.tc : Thread Cert.LatW.nD Cert.LatW.τ).loc Cert.LatW.main_arg1))
      ∧ r.2.sem = fun _ => 0)

def quiescent_LatWIdeal [hLatWIdeal : Cert.LatWIdeal.Facts] : Prop :=
  ∀ (m : (ℓ : Loc Cert.LatWIdeal.nD Cert.LatWIdeal.τ Cert.LatWIdeal.sig) → Buf (Elt Ideal) ℓ) (g : Dev Cert.LatWIdeal.nD → PrngReg), Pre_LatWIdeal m →
    θ_run (Cert.LatWIdeal.defs (F := Ideal)) (onTc (τ := Cert.LatWIdeal.τ) (Cert.LatWIdeal.main (F := Ideal))) ⟨m, fun _ => 0, g⟩ (fun r => (∀ c : Dev Cert.LatWIdeal.nD,
      r.2.mem ((c.tc : Thread Cert.LatWIdeal.nD Cert.LatWIdeal.τ).loc Cert.LatWIdeal.main_arg0) = m ((c.tc : Thread Cert.LatWIdeal.nD Cert.LatWIdeal.τ).loc Cert.LatWIdeal.main_arg0)
      ∧ r.2.mem ((c.tc : Thread Cert.LatWIdeal.nD Cert.LatWIdeal.τ).loc Cert.LatWIdeal.main_arg1) = m ((c.tc : Thread Cert.LatWIdeal.nD Cert.LatWIdeal.τ).loc Cert.LatWIdeal.main_arg1))
      ∧ r.2.sem = fun _ => 0)

def quiescent_LatWRefIdeal [hLatWRefIdeal : Cert.LatWRefIdeal.Facts] : Prop :=
  ∀ (m : (ℓ : Loc Cert.LatWRefIdeal.nD Cert.LatWRefIdeal.τ Cert.LatWRefIdeal.sig) → Buf (Elt Ideal) ℓ) (g : Dev Cert.LatWRefIdeal.nD → PrngReg), Pre_LatWRefIdeal m →
    θ_run (Cert.LatWRefIdeal.defs (F := Ideal)) (onTc (τ := Cert.LatWRefIdeal.τ) (Cert.LatWRefIdeal.main (F := Ideal))) ⟨m, fun _ => 0, g⟩ (fun r => (∀ c : Dev Cert.LatWRefIdeal.nD,
      r.2.mem ((c.tc : Thread Cert.LatWRefIdeal.nD Cert.LatWRefIdeal.τ).loc Cert.LatWRefIdeal.main_arg0) = m ((c.tc : Thread Cert.LatWRefIdeal.nD Cert.LatWRefIdeal.τ).loc Cert.LatWRefIdeal.main_arg0)
      ∧ r.2.mem ((c.tc : Thread Cert.LatWRefIdeal.nD Cert.LatWRefIdeal.τ).loc Cert.LatWRefIdeal.main_arg1) = m ((c.tc : Thread Cert.LatWRefIdeal.nD Cert.LatWRefIdeal.τ).loc Cert.LatWRefIdeal.main_arg1))
      ∧ r.2.sem = fun _ => 0)

def quiescent_LatV [hLatV : Cert.LatV.Facts] : Prop :=
  ∀ (m : (ℓ : Loc Cert.LatV.nD Cert.LatV.τ Cert.LatV.sig) → Buf (Elt Bits) ℓ) (g : Dev Cert.LatV.nD → PrngReg), Pre_LatV m →
    θ_run (Cert.LatV.defs (F := Bits)) (onTc (τ := Cert.LatV.τ) (Cert.LatV.main (F := Bits))) ⟨m, fun _ => 0, g⟩ (fun r => (∀ c : Dev Cert.LatV.nD,
      r.2.mem ((c.tc : Thread Cert.LatV.nD Cert.LatV.τ).loc Cert.LatV.main_arg0) = m ((c.tc : Thread Cert.LatV.nD Cert.LatV.τ).loc Cert.LatV.main_arg0)
      ∧ r.2.mem ((c.tc : Thread Cert.LatV.nD Cert.LatV.τ).loc Cert.LatV.main_arg1) = m ((c.tc : Thread Cert.LatV.nD Cert.LatV.τ).loc Cert.LatV.main_arg1))
      ∧ r.2.sem = fun _ => 0)

def quiescent_LatVIdeal [hLatVIdeal : Cert.LatVIdeal.Facts] : Prop :=
  ∀ (m : (ℓ : Loc Cert.LatVIdeal.nD Cert.LatVIdeal.τ Cert.LatVIdeal.sig) → Buf (Elt Ideal) ℓ) (g : Dev Cert.LatVIdeal.nD → PrngReg), Pre_LatVIdeal m →
    θ_run (Cert.LatVIdeal.defs (F := Ideal)) (onTc (τ := Cert.LatVIdeal.τ) (Cert.LatVIdeal.main (F := Ideal))) ⟨m, fun _ => 0, g⟩ (fun r => (∀ c : Dev Cert.LatVIdeal.nD,
      r.2.mem ((c.tc : Thread Cert.LatVIdeal.nD Cert.LatVIdeal.τ).loc Cert.LatVIdeal.main_arg0) = m ((c.tc : Thread Cert.LatVIdeal.nD Cert.LatVIdeal.τ).loc Cert.LatVIdeal.main_arg0)
      ∧ r.2.mem ((c.tc : Thread Cert.LatVIdeal.nD Cert.LatVIdeal.τ).loc Cert.LatVIdeal.main_arg1) = m ((c.tc : Thread Cert.LatVIdeal.nD Cert.LatVIdeal.τ).loc Cert.LatVIdeal.main_arg1))
      ∧ r.2.sem = fun _ => 0)

def quiescent_LatVRefIdeal [hLatVRefIdeal : Cert.LatVRefIdeal.Facts] : Prop :=
  ∀ (m : (ℓ : Loc Cert.LatVRefIdeal.nD Cert.LatVRefIdeal.τ Cert.LatVRefIdeal.sig) → Buf (Elt Ideal) ℓ) (g : Dev Cert.LatVRefIdeal.nD → PrngReg), Pre_LatVRefIdeal m →
    θ_run (Cert.LatVRefIdeal.defs (F := Ideal)) (onTc (τ := Cert.LatVRefIdeal.τ) (Cert.LatVRefIdeal.main (F := Ideal))) ⟨m, fun _ => 0, g⟩ (fun r => (∀ c : Dev Cert.LatVRefIdeal.nD,
      r.2.mem ((c.tc : Thread Cert.LatVRefIdeal.nD Cert.LatVRefIdeal.τ).loc Cert.LatVRefIdeal.main_arg0) = m ((c.tc : Thread Cert.LatVRefIdeal.nD Cert.LatVRefIdeal.τ).loc Cert.LatVRefIdeal.main_arg0)
      ∧ r.2.mem ((c.tc : Thread Cert.LatVRefIdeal.nD Cert.LatVRefIdeal.τ).loc Cert.LatVRefIdeal.main_arg1) = m ((c.tc : Thread Cert.LatVRefIdeal.nD Cert.LatVRefIdeal.τ).loc Cert.LatVRefIdeal.main_arg1))
      ∧ r.2.sem = fun _ => 0)

def quiescent_LatQ [hLatQ : Cert.LatQ.Facts] : Prop :=
  ∀ (m : (ℓ : Loc Cert.LatQ.nD Cert.LatQ.τ Cert.LatQ.sig) → Buf (Elt Bits) ℓ) (g : Dev Cert.LatQ.nD → PrngReg), Pre_LatQ m →
    θ_run (Cert.LatQ.defs (F := Bits)) (onTc (τ := Cert.LatQ.τ) (Cert.LatQ.main (F := Bits))) ⟨m, fun _ => 0, g⟩ (fun r => (∀ c : Dev Cert.LatQ.nD,
      r.2.mem ((c.tc : Thread Cert.LatQ.nD Cert.LatQ.τ).loc Cert.LatQ.main_arg0) = m ((c.tc : Thread Cert.LatQ.nD Cert.LatQ.τ).loc Cert.LatQ.main_arg0)
      ∧ r.2.mem ((c.tc : Thread Cert.LatQ.nD Cert.LatQ.τ).loc Cert.LatQ.main_arg1) = m ((c.tc : Thread Cert.LatQ.nD Cert.LatQ.τ).loc Cert.LatQ.main_arg1))
      ∧ r.2.sem = fun _ => 0)

def quiescent_LatQIdeal [hLatQIdeal : Cert.LatQIdeal.Facts] : Prop :=
  ∀ (m : (ℓ : Loc Cert.LatQIdeal.nD Cert.LatQIdeal.τ Cert.LatQIdeal.sig) → Buf (Elt Ideal) ℓ) (g : Dev Cert.LatQIdeal.nD → PrngReg), Pre_LatQIdeal m →
    θ_run (Cert.LatQIdeal.defs (F := Ideal)) (onTc (τ := Cert.LatQIdeal.τ) (Cert.LatQIdeal.main (F := Ideal))) ⟨m, fun _ => 0, g⟩ (fun r => (∀ c : Dev Cert.LatQIdeal.nD,
      r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0)
      ∧ r.2.mem ((c.tc : Thread Cert.LatQIdeal.nD Cert.LatQIdeal.τ).loc Cert.LatQIdeal.main_arg1) = m ((c.tc : Thread Cert.LatQIdeal.nD Cert.LatQIdeal.τ).loc Cert.LatQIdeal.main_arg1))
      ∧ r.2.sem = fun _ => 0)

def quiescent_LatQRefIdeal [hLatQRefIdeal : Cert.LatQRefIdeal.Facts] : Prop :=
  ∀ (m : (ℓ : Loc Cert.LatQRefIdeal.nD Cert.LatQRefIdeal.τ Cert.LatQRefIdeal.sig) → Buf (Elt Ideal) ℓ) (g : Dev Cert.LatQRefIdeal.nD → PrngReg), Pre_LatQRefIdeal m →
    θ_run (Cert.LatQRefIdeal.defs (F := Ideal)) (onTc (τ := Cert.LatQRefIdeal.τ) (Cert.LatQRefIdeal.main (F := Ideal))) ⟨m, fun _ => 0, g⟩ (fun r => (∀ c : Dev Cert.LatQRefIdeal.nD,
      r.2.mem ((c.tc : Thread Cert.LatQRefIdeal.nD Cert.LatQRefIdeal.τ).loc Cert.LatQRefIdeal.main_arg0) = m ((c.tc : Thread Cert.LatQRefIdeal.nD Cert.LatQRefIdeal.τ).loc Cert.LatQRefIdeal.main_arg0)
      ∧ r.2.mem ((c.tc : Thread Cert.LatQRefIdeal.nD Cert.LatQRefIdeal.τ).loc Cert.LatQRefIdeal.main_arg1) = m ((c.tc : Thread Cert.LatQRefIdeal.nD Cert.LatQRefIdeal.τ).loc Cert.LatQRefIdeal.main_arg1))
      ∧ r.2.sem = fun _ => 0)

def quiescent_LatC [hLatC : Cert.LatC.Facts] : Prop :=
  ∀ (m : (ℓ : Loc Cert.LatC.nD Cert.LatC.τ Cert.LatC.sig) → Buf (Elt Bits) ℓ) (g : Dev Cert.LatC.nD → PrngReg), Pre_LatC m →
    θ_run (Cert.LatC.defs (F := Bits)) (onTc (τ := Cert.LatC.τ) (Cert.LatC.main (F := Bits))) ⟨m, fun _ => 0, g⟩ (fun r => (∀ c : Dev Cert.LatC.nD,
      r.2.mem ((c.tc : Thread Cert.LatC.nD Cert.LatC.τ).loc Cert.LatC.main_arg0) = m ((c.tc : Thread Cert.LatC.nD Cert.LatC.τ).loc Cert.LatC.main_arg0)
      ∧ r.2.mem ((c.tc : Thread Cert.LatC.nD Cert.LatC.τ).loc Cert.LatC.main_arg1) = m ((c.tc : Thread Cert.LatC.nD Cert.LatC.τ).loc Cert.LatC.main_arg1)
      ∧ r.2.mem ((c.tc : Thread Cert.LatC.nD Cert.LatC.τ).loc Cert.LatC.main_arg2) = m ((c.tc : Thread Cert.LatC.nD Cert.LatC.τ).loc Cert.LatC.main_arg2))
      ∧ r.2.sem = fun _ => 0)

def quiescent_LatCIdeal [hLatCIdeal : Cert.LatCIdeal.Facts] : Prop :=
  ∀ (m : (ℓ : Loc Cert.LatCIdeal.nD Cert.LatCIdeal.τ Cert.LatCIdeal.sig) → Buf (Elt Ideal) ℓ) (g : Dev Cert.LatCIdeal.nD → PrngReg), Pre_LatCIdeal m →
    θ_run (Cert.LatCIdeal.defs (F := Ideal)) (onTc (τ := Cert.LatCIdeal.τ) (Cert.LatCIdeal.main (F := Ideal))) ⟨m, fun _ => 0, g⟩ (fun r => (∀ c : Dev Cert.LatCIdeal.nD,
      r.2.mem ((c.tc : Thread Cert.LatCIdeal.nD Cert.LatCIdeal.τ).loc Cert.LatCIdeal.main_arg0) = m ((c.tc : Thread Cert.LatCIdeal.nD Cert.LatCIdeal.τ).loc Cert.LatCIdeal.main_arg0)
      ∧ r.2.mem ((c.tc : Thread Cert.LatCIdeal.nD Cert.LatCIdeal.τ).loc Cert.LatCIdeal.main_arg1) = m ((c.tc : Thread Cert.LatCIdeal.nD Cert.LatCIdeal.τ).loc Cert.LatCIdeal.main_arg1)
      ∧ r.2.mem ((c.tc : Thread Cert.LatCIdeal.nD Cert.LatCIdeal.τ).loc Cert.LatCIdeal.main_arg2) = m ((c.tc : Thread Cert.LatCIdeal.nD Cert.LatCIdeal.τ).loc Cert.LatCIdeal.main_arg2))
      ∧ r.2.sem = fun _ => 0)

def quiescent_LatCRefIdeal [hLatCRefIdeal : Cert.LatCRefIdeal.Facts] : Prop :=
  ∀ (m : (ℓ : Loc Cert.LatCRefIdeal.nD Cert.LatCRefIdeal.τ Cert.LatCRefIdeal.sig) → Buf (Elt Ideal) ℓ) (g : Dev Cert.LatCRefIdeal.nD → PrngReg), Pre_LatCRefIdeal m →
    θ_run (Cert.LatCRefIdeal.defs (F := Ideal)) (onTc (τ := Cert.LatCRefIdeal.τ) (Cert.LatCRefIdeal.main (F := Ideal))) ⟨m, fun _ => 0, g⟩ (fun r => (∀ c : Dev Cert.LatCRefIdeal.nD,
      r.2.mem ((c.tc : Thread Cert.LatCRefIdeal.nD Cert.LatCRefIdeal.τ).loc Cert.LatCRefIdeal.main_arg0) = m ((c.tc : Thread Cert.LatCRefIdeal.nD Cert.LatCRefIdeal.τ).loc Cert.LatCRefIdeal.main_arg0)
      ∧ r.2.mem ((c.tc : Thread Cert.LatCRefIdeal.nD Cert.LatCRefIdeal.τ).loc Cert.LatCRefIdeal.main_arg1) = m ((c.tc : Thread Cert.LatCRefIdeal.nD Cert.LatCRefIdeal.τ).loc Cert.LatCRefIdeal.main_arg1)
      ∧ r.2.mem ((c.tc : Thread Cert.LatCRefIdeal.nD Cert.LatCRefIdeal.τ).loc Cert.LatCRefIdeal.main_arg2) = m ((c.tc : Thread Cert.LatCRefIdeal.nD Cert.LatCRefIdeal.τ).loc Cert.LatCRefIdeal.main_arg2))
      ∧ r.2.sem = fun _ => 0)

def quiescent_MemP [hMemP : Cert.MemP.Facts] : Prop :=
  ∀ (m : (ℓ : Loc Cert.MemP.nD Cert.MemP.τ Cert.MemP.sig) → Buf (Elt Bits) ℓ) (g : Dev Cert.MemP.nD → PrngReg), Pre_MemP m →
    θ_run (Cert.MemP.defs (F := Bits)) (onTc (τ := Cert.MemP.τ) (Cert.MemP.main (F := Bits))) ⟨m, fun _ => 0, g⟩ (fun r => (∀ c : Dev Cert.MemP.nD,
      r.2.mem ((c.tc : Thread Cert.MemP.nD Cert.MemP.τ).loc Cert.MemP.main_arg0) = m ((c.tc : Thread Cert.MemP.nD Cert.MemP.τ).loc Cert.MemP.main_arg0)
      ∧ r.2.mem ((c.tc : Thread Cert.MemP.nD Cert.MemP.τ).loc Cert.MemP.main_arg1) = m ((c.tc : Thread Cert.MemP.nD Cert.MemP.τ).loc Cert.MemP.main_arg1))
      ∧ r.2.sem = fun _ => 0)

def quiescent_MemPIdeal [hMemPIdeal : Cert.MemPIdeal.Facts] : Prop :=
  ∀ (m : (ℓ : Loc Cert.MemPIdeal.nD Cert.MemPIdeal.τ Cert.MemPIdeal.sig) → Buf (Elt Ideal) ℓ) (g : Dev Cert.MemPIdeal.nD → PrngReg), Pre_MemPIdeal m →
    θ_run (Cert.MemPIdeal.defs (F := Ideal)) (onTc (τ := Cert.MemPIdeal.τ) (Cert.MemPIdeal.main (F := Ideal))) ⟨m, fun _ => 0, g⟩ (fun r => (∀ c : Dev Cert.MemPIdeal.nD,
      r.2.mem ((c.tc : Thread Cert.MemPIdeal.nD Cert.MemPIdeal.τ).loc Cert.MemPIdeal.main_arg0) = m ((c.tc : Thread Cert.MemPIdeal.nD Cert.MemPIdeal.τ).loc Cert.MemPIdeal.main_arg0)
      ∧ r.2.mem ((c.tc : Thread Cert.MemPIdeal.nD Cert.MemPIdeal.τ).loc Cert.MemPIdeal.main_arg1) = m ((c.tc : Thread Cert.MemPIdeal.nD Cert.MemPIdeal.τ).loc Cert.MemPIdeal.main_arg1))
      ∧ r.2.sem = fun _ => 0)

def quiescent_MemPRefIdeal [hMemPRefIdeal : Cert.MemPRefIdeal.Facts] : Prop :=
  ∀ (m : (ℓ : Loc Cert.MemPRefIdeal.nD Cert.MemPRefIdeal.τ Cert.MemPRefIdeal.sig) → Buf (Elt Ideal) ℓ) (g : Dev Cert.MemPRefIdeal.nD → PrngReg), Pre_MemPRefIdeal m →
    θ_run (Cert.MemPRefIdeal.defs (F := Ideal)) (onTc (τ := Cert.MemPRefIdeal.τ) (Cert.MemPRefIdeal.main (F := Ideal))) ⟨m, fun _ => 0, g⟩ (fun r => (∀ c : Dev Cert.MemPRefIdeal.nD,
      r.2.mem ((c.tc : Thread Cert.MemPRefIdeal.nD Cert.MemPRefIdeal.τ).loc Cert.MemPRefIdeal.main_arg0) = m ((c.tc : Thread Cert.MemPRefIdeal.nD Cert.MemPRefIdeal.τ).loc Cert.MemPRefIdeal.main_arg0)
      ∧ r.2.mem ((c.tc : Thread Cert.MemPRefIdeal.nD Cert.MemPRefIdeal.τ).loc Cert.MemPRefIdeal.main_arg1) = m ((c.tc : Thread Cert.MemPRefIdeal.nD Cert.MemPRefIdeal.τ).loc Cert.MemPRefIdeal.main_arg1))
      ∧ r.2.sem = fun _ => 0)

def quiescent_MemW [hMemW : Cert.MemW.Facts] : Prop :=
  ∀ (m : (ℓ : Loc Cert.MemW.nD Cert.MemW.τ Cert.MemW.sig) → Buf (Elt Bits) ℓ) (g : Dev Cert.MemW.nD → PrngReg), Pre_MemW m →
    θ_run (Cert.MemW.defs (F := Bits)) (onTc (τ := Cert.MemW.τ) (Cert.MemW.main (F := Bits))) ⟨m, fun _ => 0, g⟩ (fun r => (∀ c : Dev Cert.MemW.nD,
      r.2.mem ((c.tc : Thread Cert.MemW.nD Cert.MemW.τ).loc Cert.MemW.main_arg0) = m ((c.tc : Thread Cert.MemW.nD Cert.MemW.τ).loc Cert.MemW.main_arg0)
      ∧ r.2.mem ((c.tc : Thread Cert.MemW.nD Cert.MemW.τ).loc Cert.MemW.main_arg1) = m ((c.tc : Thread Cert.MemW.nD Cert.MemW.τ).loc Cert.MemW.main_arg1))
      ∧ r.2.sem = fun _ => 0)

def quiescent_MemWIdeal [hMemWIdeal : Cert.MemWIdeal.Facts] : Prop :=
  ∀ (m : (ℓ : Loc Cert.MemWIdeal.nD Cert.MemWIdeal.τ Cert.MemWIdeal.sig) → Buf (Elt Ideal) ℓ) (g : Dev Cert.MemWIdeal.nD → PrngReg), Pre_MemWIdeal m →
    θ_run (Cert.MemWIdeal.defs (F := Ideal)) (onTc (τ := Cert.MemWIdeal.τ) (Cert.MemWIdeal.main (F := Ideal))) ⟨m, fun _ => 0, g⟩ (fun r => (∀ c : Dev Cert.MemWIdeal.nD,
      r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
      ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ r.2.sem = fun _ => 0)

def quiescent_MemWRefIdeal [hMemWRefIdeal : Cert.MemWRefIdeal.Facts] : Prop :=
  ∀ (m : (ℓ : Loc Cert.MemWRefIdeal.nD Cert.MemWRefIdeal.τ Cert.MemWRefIdeal.sig) → Buf (Elt Ideal) ℓ) (g : Dev Cert.MemWRefIdeal.nD → PrngReg), Pre_MemWRefIdeal m →
    θ_run (Cert.MemWRefIdeal.defs (F := Ideal)) (onTc (τ := Cert.MemWRefIdeal.τ) (Cert.MemWRefIdeal.main (F := Ideal))) ⟨m, fun _ => 0, g⟩ (fun r => (∀ c : Dev Cert.MemWRefIdeal.nD,
      r.2.mem ((c.tc : Thread Cert.MemWRefIdeal.nD Cert.MemWRefIdeal.τ).loc Cert.MemWRefIdeal.main_arg0) = m ((c.tc : Thread Cert.MemWRefIdeal.nD Cert.MemWRefIdeal.τ).loc Cert.MemWRefIdeal.main_arg0)
      ∧ r.2.mem ((c.tc : Thread Cert.MemWRefIdeal.nD Cert.MemWRefIdeal.τ).loc Cert.MemWRefIdeal.main_arg1) = m ((c.tc : Thread Cert.MemWRefIdeal.nD Cert.MemWRefIdeal.τ).loc Cert.MemWRefIdeal.main_arg1))
      ∧ r.2.sem = fun _ => 0)

def quiescent_MemX [hMemX : Cert.MemX.Facts] : Prop :=
  ∀ (m : (ℓ : Loc Cert.MemX.nD Cert.MemX.τ Cert.MemX.sig) → Buf (Elt Bits) ℓ) (g : Dev Cert.MemX.nD → PrngReg), Pre_MemX m →
    θ_run (Cert.MemX.defs (F := Bits)) (onTc (τ := Cert.MemX.τ) (Cert.MemX.main (F := Bits))) ⟨m, fun _ => 0, g⟩ (fun r => (∀ c : Dev Cert.MemX.nD,
      r.2.mem ((c.tc : Thread Cert.MemX.nD Cert.MemX.τ).loc Cert.MemX.main_arg0) = m ((c.tc : Thread Cert.MemX.nD Cert.MemX.τ).loc Cert.MemX.main_arg0)
      ∧ r.2.mem ((c.tc : Thread Cert.MemX.nD Cert.MemX.τ).loc Cert.MemX.main_arg1) = m ((c.tc : Thread Cert.MemX.nD Cert.MemX.τ).loc Cert.MemX.main_arg1))
      ∧ r.2.sem = fun _ => 0)

def quiescent_MemXIdeal [hMemXIdeal : Cert.MemXIdeal.Facts] : Prop :=
  ∀ (m : (ℓ : Loc Cert.MemXIdeal.nD Cert.MemXIdeal.τ Cert.MemXIdeal.sig) → Buf (Elt Ideal) ℓ) (g : Dev Cert.MemXIdeal.nD → PrngReg), Pre_MemXIdeal m →
    θ_run (Cert.MemXIdeal.defs (F := Ideal)) (onTc (τ := Cert.MemXIdeal.τ) (Cert.MemXIdeal.main (F := Ideal))) ⟨m, fun _ => 0, g⟩ (fun r => (∀ c : Dev Cert.MemXIdeal.nD,
      r.2.mem ((c.tc : Thread Cert.MemXIdeal.nD Cert.MemXIdeal.τ).loc Cert.MemXIdeal.main_arg0) = m ((c.tc : Thread Cert.MemXIdeal.nD Cert.MemXIdeal.τ).loc Cert.MemXIdeal.main_arg0)
      ∧ r.2.mem ((c.tc : Thread Cert.MemXIdeal.nD Cert.MemXIdeal.τ).loc Cert.MemXIdeal.main_arg1) = m ((c.tc : Thread Cert.MemXIdeal.nD Cert.MemXIdeal.τ).loc Cert.MemXIdeal.main_arg1))
      ∧ r.2.sem = fun _ => 0)

def quiescent_MemXRefIdeal [hMemXRefIdeal : Cert.MemXRefIdeal.Facts] : Prop :=
  ∀ (m : (ℓ : Loc Cert.MemXRefIdeal.nD Cert.MemXRefIdeal.τ Cert.MemXRefIdeal.sig) → Buf (Elt Ideal) ℓ) (g : Dev Cert.MemXRefIdeal.nD → PrngReg), Pre_MemXRefIdeal m →
    θ_run (Cert.MemXRefIdeal.defs (F := Ideal)) (onTc (τ := Cert.MemXRefIdeal.τ) (Cert.MemXRefIdeal.main (F := Ideal))) ⟨m, fun _ => 0, g⟩ (fun r => (∀ c : Dev Cert.MemXRefIdeal.nD,
      r.2.mem ((c.tc : Thread Cert.MemXRefIdeal.nD Cert.MemXRefIdeal.τ).loc Cert.MemXRefIdeal.main_arg0) = m ((c.tc : Thread Cert.MemXRefIdeal.nD Cert.MemXRefIdeal.τ).loc Cert.MemXRefIdeal.main_arg0)
      ∧ r.2.mem ((c.tc : Thread Cert.MemXRefIdeal.nD Cert.MemXRefIdeal.τ).loc Cert.MemXRefIdeal.main_arg1) = m ((c.tc : Thread Cert.MemXRefIdeal.nD Cert.MemXRefIdeal.τ).loc Cert.MemXRefIdeal.main_arg1))
      ∧ r.2.sem = fun _ => 0)

def quiescent_MemF [hMemF : Cert.MemF.Facts] : Prop :=
  ∀ (m : (ℓ : Loc Cert.MemF.nD Cert.MemF.τ Cert.MemF.sig) → Buf (Elt Bits) ℓ) (g : Dev Cert.MemF.nD → PrngReg), Pre_MemF m →
    θ_run (Cert.MemF.defs (F := Bits)) (onTc (τ := Cert.MemF.τ) (Cert.MemF.main (F := Bits))) ⟨m, fun _ => 0, g⟩ (fun r => (∀ c : Dev Cert.MemF.nD,
      r.2.mem ((c.tc : Thread Cert.MemF.nD Cert.MemF.τ).loc Cert.MemF.main_arg0) = m ((c.tc : Thread Cert.MemF.nD Cert.MemF.τ).loc Cert.MemF.main_arg0)
      ∧ r.2.mem ((c.tc : Thread Cert.MemF.nD Cert.MemF.τ).loc Cert.MemF.main_arg1) = m ((c.tc : Thread Cert.MemF.nD Cert.MemF.τ).loc Cert.MemF.main_arg1))
      ∧ r.2.sem = fun _ => 0)

def quiescent_MemFIdeal [hMemFIdeal : Cert.MemFIdeal.Facts] : Prop :=
  ∀ (m : (ℓ : Loc Cert.MemFIdeal.nD Cert.MemFIdeal.τ Cert.MemFIdeal.sig) → Buf (Elt Ideal) ℓ) (g : Dev Cert.MemFIdeal.nD → PrngReg), Pre_MemFIdeal m →
    θ_run (Cert.MemFIdeal.defs (F := Ideal)) (onTc (τ := Cert.MemFIdeal.τ) (Cert.MemFIdeal.main (F := Ideal))) ⟨m, fun _ => 0, g⟩ (fun r => (∀ c : Dev Cert.MemFIdeal.nD,
      r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
      ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ r.2.sem = fun _ => 0)

def quiescent_MemFRefIdeal [hMemFRefIdeal : Cert.MemFRefIdeal.Facts] : Prop :=
  ∀ (m : (ℓ : Loc Cert.MemFRefIdeal.nD Cert.MemFRefIdeal.τ Cert.MemFRefIdeal.sig) → Buf (Elt Ideal) ℓ) (g : Dev Cert.MemFRefIdeal.nD → PrngReg), Pre_MemFRefIdeal m →
    θ_run (Cert.MemFRefIdeal.defs (F := Ideal)) (onTc (τ := Cert.MemFRefIdeal.τ) (Cert.MemFRefIdeal.main (F := Ideal))) ⟨m, fun _ => 0, g⟩ (fun r => (∀ c : Dev Cert.MemFRefIdeal.nD,
      r.2.mem ((c.tc : Thread Cert.MemFRefIdeal.nD Cert.MemFRefIdeal.τ).loc Cert.MemFRefIdeal.main_arg0) = m ((c.tc : Thread Cert.MemFRefIdeal.nD Cert.MemFRefIdeal.τ).loc Cert.MemFRefIdeal.main_arg0)
      ∧ r.2.mem ((c.tc : Thread Cert.MemFRefIdeal.nD Cert.MemFRefIdeal.τ).loc Cert.MemFRefIdeal.main_arg1) = m ((c.tc : Thread Cert.MemFRefIdeal.nD Cert.MemFRefIdeal.τ).loc Cert.MemFRefIdeal.main_arg1))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ r.2.sem = fun _ => 0)

def quiescent_NormXRefIdeal [hNormXRefIdeal : Cert.NormXRefIdeal.Facts] : Prop :=
  ∀ (m : (ℓ : Loc Cert.NormXRefIdeal.nD Cert.NormXRefIdeal.τ Cert.NormXRefIdeal.sig) → Buf (Elt Ideal) ℓ) (g : Dev Cert.NormXRefIdeal.nD → PrngReg), Pre_NormXRefIdeal m →
    θ_run (Cert.NormXRefIdeal.defs (F := Ideal)) (onTc (τ := Cert.NormXRefIdeal.τ) (Cert.NormXRefIdeal.main (F := Ideal))) ⟨m, fun _ => 0, g⟩ (fun r => (∀ c : Dev Cert.NormXRefIdeal.nD,
      r.2.mem ((c.tc : Thread Cert.NormXRefIdeal.nD Cert.NormXRefIdeal.τ).loc Cert.NormXRefIdeal.main_arg0) = m ((c.tc : Thread Cert.NormXRefIdeal.nD Cert.NormXRefIdeal.τ).loc Cert.NormXRefIdeal.main_arg0)
      ∧ r.2.mem ((c.tc : Thread Cert.NormXRefIdeal.nD Cert.NormXRefIdeal.τ).loc Cert.NormXRefIdeal.main_arg1) = m ((c.tc : Thread Cert.NormXRefIdeal.nD Cert.NormXRefIdeal.τ).loc Cert.NormXRefIdeal.main_arg1))
      ∧ r.2.sem = fun _ => 0)

def quiescent_NormM [hNormM : Cert.NormM.Facts] : Prop :=
  ∀ (m : (ℓ : Loc Cert.NormM.nD Cert.NormM.τ Cert.NormM.sig) → Buf (Elt Bits) ℓ) (g : Dev Cert.NormM.nD → PrngReg), Pre_NormM m →
    θ_run (Cert.NormM.defs (F := Bits)) (onTc (τ := Cert.NormM.τ) (Cert.NormM.main (F := Bits))) ⟨m, fun _ => 0, g⟩ (fun r => (∀ c : Dev Cert.NormM.nD,
      r.2.mem ((c.tc : Thread Cert.NormM.nD Cert.NormM.τ).loc Cert.NormM.main_arg0) = m ((c.tc : Thread Cert.NormM.nD Cert.NormM.τ).loc Cert.NormM.main_arg0)
      ∧ r.2.mem ((c.tc : Thread Cert.NormM.nD Cert.NormM.τ).loc Cert.NormM.main_arg1) = m ((c.tc : Thread Cert.NormM.nD Cert.NormM.τ).loc Cert.NormM.main_arg1))
      ∧ r.2.sem = fun _ => 0)

def quiescent_NormMIdeal [hNormMIdeal : Cert.NormMIdeal.Facts] : Prop :=
  ∀ (m : (ℓ : Loc Cert.NormMIdeal.nD Cert.NormMIdeal.τ Cert.NormMIdeal.sig) → Buf (Elt Ideal) ℓ) (g : Dev Cert.NormMIdeal.nD → PrngReg), Pre_NormMIdeal m →
    θ_run (Cert.NormMIdeal.defs (F := Ideal)) (onTc (τ := Cert.NormMIdeal.τ) (Cert.NormMIdeal.main (F := Ideal))) ⟨m, fun _ => 0, g⟩ (fun r => (∀ c : Dev Cert.NormMIdeal.nD,
      r.2.mem ((c.tc : Thread Cert.NormMIdeal.nD Cert.NormMIdeal.τ).loc Cert.NormMIdeal.main_arg0) = m ((c.tc : Thread Cert.NormMIdeal.nD Cert.NormMIdeal.τ).loc Cert.NormMIdeal.main_arg0)
      ∧ r.2.mem ((c.tc : Thread Cert.NormMIdeal.nD Cert.NormMIdeal.τ).loc Cert.NormMIdeal.main_arg1) = m ((c.tc : Thread Cert.NormMIdeal.nD Cert.NormMIdeal.τ).loc Cert.NormMIdeal.main_arg1))
      ∧ r.2.sem = fun _ => 0)

def quiescent_NormMRefIdeal [hNormMRefIdeal : Cert.NormMRefIdeal.Facts] : Prop :=
  ∀ (m : (ℓ : Loc Cert.NormMRefIdeal.nD Cert.NormMRefIdeal.τ Cert.NormMRefIdeal.sig) → Buf (Elt Ideal) ℓ) (g : Dev Cert.NormMRefIdeal.nD → PrngReg), Pre_NormMRefIdeal m →
    θ_run (Cert.NormMRefIdeal.defs (F := Ideal)) (onTc (τ := Cert.NormMRefIdeal.τ) (Cert.NormMRefIdeal.main (F := Ideal))) ⟨m, fun _ => 0, g⟩ (fun r => (∀ c : Dev Cert.NormMRefIdeal.nD,
      r.2.mem ((c.tc : Thread Cert.NormMRefIdeal.nD Cert.NormMRefIdeal.τ).loc Cert.NormMRefIdeal.main_arg0) = m ((c.tc : Thread Cert.NormMRefIdeal.nD Cert.NormMRefIdeal.τ).loc Cert.NormMRefIdeal.main_arg0)
      ∧ r.2.mem ((c.tc : Thread Cert.NormMRefIdeal.nD Cert.NormMRefIdeal.τ).loc Cert.NormMRefIdeal.main_arg1) = m ((c.tc : Thread Cert.NormMRefIdeal.nD Cert.NormMRefIdeal.τ).loc Cert.NormMRefIdeal.main_arg1))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1))
      ∧ r.2.sem = fun _ => 0)

def quiescent_NormKRefIdeal [hNormKRefIdeal : Cert.NormKRefIdeal.Facts] : Prop :=
  ∀ (m : (ℓ : Loc Cert.NormKRefIdeal.nD Cert.NormKRefIdeal.τ Cert.NormKRefIdeal.sig) → Buf (Elt Ideal) ℓ) (g : Dev Cert.NormKRefIdeal.nD → PrngReg), Pre_NormKRefIdeal m →
    θ_run (Cert.NormKRefIdeal.defs (F := Ideal)) (onTc (τ := Cert.NormKRefIdeal.τ) (Cert.NormKRefIdeal.main (F := Ideal))) ⟨m, fun _ => 0, g⟩ (fun r => (∀ c : Dev Cert.NormKRefIdeal.nD,
      r.2.mem ((c.tc : Thread Cert.NormKRefIdeal.nD Cert.NormKRefIdeal.τ).loc Cert.NormKRefIdeal.main_arg0) = m ((c.tc : Thread Cert.NormKRefIdeal.nD Cert.NormKRefIdeal.τ).loc Cert.NormKRefIdeal.main_arg0)
      ∧ r.2.mem ((c.tc : Thread Cert.NormKRefIdeal.nD Cert.NormKRefIdeal.τ).loc Cert.NormKRefIdeal.main_arg1) = m ((c.tc : Thread Cert.NormKRefIdeal.nD Cert.NormKRefIdeal.τ).loc Cert.NormKRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥
  ∧ IdealRules.named_const.Statement Cert.Kernel2Ideal.κ "scale_log2e" .f32 0x3DD53B95#32 (((Real.sqrt 192)⁻¹ * (Real.log 2)⁻¹ : ℝ) : EReal)
  ∧ IdealRules.named_const.Statement Cert.Kernel2Ideal.κ "scale" .f32 0x3D93CD3A#32 (((Real.sqrt 192)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v5) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_GateH_GateHIdeal : Prop :=
  True

def algebraic_GateHIdeal_GateHRefIdeal [hGateHIdeal : Cert.GateHIdeal.Facts] [hGateHRefIdeal : Cert.GateHRefIdeal.Facts] : Prop :=
  ∀ (m : (ℓ : Loc Cert.GateHIdeal.nD Cert.GateHIdeal.τ Cert.GateHIdeal.sig) → Buf (Elt Ideal) ℓ) (g : Dev Cert.GateHIdeal.nD → PrngReg)
    (m' : (ℓ : Loc Cert.GateHRefIdeal.nD Cert.GateHRefIdeal.τ Cert.GateHRefIdeal.sig) → Buf (Elt Ideal) ℓ) (g' : Dev Cert.GateHRefIdeal.nD → PrngReg), Pre_GateHIdeal m →
    (∀ c : Dev Cert.GateHIdeal.nD,
      m' ((c.tc : Thread Cert.GateHRefIdeal.nD Cert.GateHRefIdeal.τ).loc Cert.GateHRefIdeal.main_arg0) = m ((c.tc : Thread Cert.GateHIdeal.nD Cert.GateHIdeal.τ).loc Cert.GateHIdeal.main_arg0)
      ∧ m' ((c.tc : Thread Cert.GateHRefIdeal.nD Cert.GateHRefIdeal.τ).loc Cert.GateHRefIdeal.main_arg1) = m ((c.tc : Thread Cert.GateHIdeal.nD Cert.GateHIdeal.τ).loc Cert.GateHIdeal.main_arg1)) →
    ∃ (v0 : (c : Dev Cert.GateHIdeal.nD) → Buf (Elt Ideal) ((c.tc : Thread Cert.GateHIdeal.nD Cert.GateHIdeal.τ).loc Cert.GateHIdeal.main_v0)),
      θ_run (Cert.GateHIdeal.defs (F := Ideal)) (onTc (τ := Cert.GateHIdeal.τ) (Cert.GateHIdeal.main (F := Ideal))) ⟨m, fun _ => 0, g⟩ (fun r => ∀ c : Dev Cert.GateHIdeal.nD,
          r.2.mem ((c.tc : Thread Cert.GateHIdeal.nD Cert.GateHIdeal.τ).loc Cert.GateHIdeal.main_v0) = v0 c
          ∧ r.2.mem ((c.tc : Thread Cert.GateHIdeal.nD Cert.GateHIdeal.τ).loc Cert.GateHIdeal.main_arg0) = m ((c.tc : Thread Cert.GateHIdeal.nD Cert.GateHIdeal.τ).loc Cert.GateHIdeal.main_arg0)
          ∧ r.2.mem ((c.tc : Thread Cert.GateHIdeal.nD Cert.GateHIdeal.τ).loc Cert.GateHIdeal.main_arg1) = m ((c.tc : Thread Cert.GateHIdeal.nD Cert.GateHIdeal.τ).loc Cert.GateHIdeal.main_arg1))
      ∧ θ_run (Cert.GateHRefIdeal.defs (F := Ideal)) (onTc (τ := Cert.GateHRefIdeal.τ) (Cert.GateHRefIdeal.main (F := Ideal))) ⟨m', fun _ => 0, g'⟩ (fun r => ∀ c : Dev Cert.GateHRefIdeal.nD,
          r.2.mem ((c.tc : Thread Cert.GateHRefIdeal.nD Cert.GateHRefIdeal.τ).loc Cert.GateHRefIdeal.main_v4) = v0 c
          ∧ r.2.mem ((c.tc : Thread Cert.GateHRefIdeal.nD Cert.GateHRefIdeal.τ).loc Cert.GateHRefIdeal.main_arg0) = m' ((c.tc : Thread Cert.GateHRefIdeal.nD Cert.GateHRefIdeal.τ).loc Cert.GateHRefIdeal.main_arg0)
          ∧ r.2.mem ((c.tc : Thread Cert.GateHRefIdeal.nD Cert.GateHRefIdeal.τ).loc Cert.GateHRefIdeal.main_arg1) = m' ((c.tc : Thread Cert.GateHRefIdeal.nD Cert.GateHRefIdeal.τ).loc Cert.GateHRefIdeal.main_arg1))

def preserves_BranchW_BranchWIdeal : Prop :=
  True

def algebraic_BranchWIdeal_BranchWRefIdeal [hBranchWIdeal : Cert.BranchWIdeal.Facts] [hBranchWRefIdeal : Cert.BranchWRefIdeal.Facts] : Prop :=
  ∀ (m : (ℓ : Loc Cert.BranchWIdeal.nD Cert.BranchWIdeal.τ Cert.BranchWIdeal.sig) → Buf (Elt Ideal) ℓ) (g : Dev Cert.BranchWIdeal.nD → PrngReg)
    (m' : (ℓ : Loc Cert.BranchWRefIdeal.nD Cert.BranchWRefIdeal.τ Cert.BranchWRefIdeal.sig) → Buf (Elt Ideal) ℓ) (g' : Dev Cert.BranchWRefIdeal.nD → PrngReg), Pre_BranchWIdeal m →
    (∀ c : Dev Cert.BranchWIdeal.nD,
      m' ((c.tc : Thread Cert.BranchWRefIdeal.nD Cert.BranchWRefIdeal.τ).loc Cert.BranchWRefIdeal.main_arg0) = m ((c.tc : Thread Cert.BranchWIdeal.nD Cert.BranchWIdeal.τ).loc Cert.BranchWIdeal.main_arg0)
      ∧ m' ((c.tc : Thread Cert.BranchWRefIdeal.nD Cert.BranchWRefIdeal.τ).loc Cert.BranchWRefIdeal.main_arg1) = m ((c.tc : Thread Cert.BranchWIdeal.nD Cert.BranchWIdeal.τ).loc Cert.BranchWIdeal.main_arg1)) →
    ∃ (v0 : (c : Dev Cert.BranchWIdeal.nD) → Buf (Elt Ideal) ((c.tc : Thread Cert.BranchWIdeal.nD Cert.BranchWIdeal.τ).loc Cert.BranchWIdeal.main_v0)),
      θ_run (Cert.BranchWIdeal.defs (F := Ideal)) (onTc (τ := Cert.BranchWIdeal.τ) (Cert.BranchWIdeal.main (F := Ideal))) ⟨m, fun _ => 0, g⟩ (fun r => ∀ c : Dev Cert.BranchWIdeal.nD,
          r.2.mem ((c.tc : Thread Cert.BranchWIdeal.nD Cert.BranchWIdeal.τ).loc Cert.BranchWIdeal.main_v0) = v0 c
          ∧ r.2.mem ((c.tc : Thread Cert.BranchWIdeal.nD Cert.BranchWIdeal.τ).loc Cert.BranchWIdeal.main_arg0) = m ((c.tc : Thread Cert.BranchWIdeal.nD Cert.BranchWIdeal.τ).loc Cert.BranchWIdeal.main_arg0)
          ∧ r.2.mem ((c.tc : Thread Cert.BranchWIdeal.nD Cert.BranchWIdeal.τ).loc Cert.BranchWIdeal.main_arg1) = m ((c.tc : Thread Cert.BranchWIdeal.nD Cert.BranchWIdeal.τ).loc Cert.BranchWIdeal.main_arg1))
      ∧ θ_run (Cert.BranchWRefIdeal.defs (F := Ideal)) (onTc (τ := Cert.BranchWRefIdeal.τ) (Cert.BranchWRefIdeal.main (F := Ideal))) ⟨m', fun _ => 0, g'⟩ (fun r => ∀ c : Dev Cert.BranchWRefIdeal.nD,
          r.2.mem ((c.tc : Thread Cert.BranchWRefIdeal.nD Cert.BranchWRefIdeal.τ).loc Cert.BranchWRefIdeal.main_v5) = v0 c
          ∧ r.2.mem ((c.tc : Thread Cert.BranchWRefIdeal.nD Cert.BranchWRefIdeal.τ).loc Cert.BranchWRefIdeal.main_arg0) = m' ((c.tc : Thread Cert.BranchWRefIdeal.nD Cert.BranchWRefIdeal.τ).loc Cert.BranchWRefIdeal.main_arg0)
          ∧ r.2.mem ((c.tc : Thread Cert.BranchWRefIdeal.nD Cert.BranchWRefIdeal.τ).loc Cert.BranchWRefIdeal.main_arg1) = m' ((c.tc : Thread Cert.BranchWRefIdeal.nD Cert.BranchWRefIdeal.τ).loc Cert.BranchWRefIdeal.main_arg1))

def preserves_BranchY_BranchYIdeal : Prop :=
  True

def algebraic_BranchYIdeal_BranchYRefIdeal [hBranchYIdeal : Cert.BranchYIdeal.Facts] [hBranchYRefIdeal : Cert.BranchYRefIdeal.Facts] : Prop :=
  ∀ (m : (ℓ : Loc Cert.BranchYIdeal.nD Cert.BranchYIdeal.τ Cert.BranchYIdeal.sig) → Buf (Elt Ideal) ℓ) (g : Dev Cert.BranchYIdeal.nD → PrngReg)
    (m' : (ℓ : Loc Cert.BranchYRefIdeal.nD Cert.BranchYRefIdeal.τ Cert.BranchYRefIdeal.sig) → Buf (Elt Ideal) ℓ) (g' : Dev Cert.BranchYRefIdeal.nD → PrngReg), Pre_BranchYIdeal m →
    (∀ c : Dev Cert.BranchYIdeal.nD,
      m' ((c.tc : Thread Cert.BranchYRefIdeal.nD Cert.BranchYRefIdeal.τ).loc Cert.BranchYRefIdeal.main_arg0) = m ((c.tc : Thread Cert.BranchYIdeal.nD Cert.BranchYIdeal.τ).loc Cert.BranchYIdeal.main_arg0)
      ∧ m' ((c.tc : Thread Cert.BranchYRefIdeal.nD Cert.BranchYRefIdeal.τ).loc Cert.BranchYRefIdeal.main_arg1) = m ((c.tc : Thread Cert.BranchYIdeal.nD Cert.BranchYIdeal.τ).loc Cert.BranchYIdeal.main_arg1)) →
    ∃ (v0 : (c : Dev Cert.BranchYIdeal.nD) → Buf (Elt Ideal) ((c.tc : Thread Cert.BranchYIdeal.nD Cert.BranchYIdeal.τ).loc Cert.BranchYIdeal.main_v0)),
      θ_run (Cert.BranchYIdeal.defs (F := Ideal)) (onTc (τ := Cert.BranchYIdeal.τ) (Cert.BranchYIdeal.main (F := Ideal))) ⟨m, fun _ => 0, g⟩ (fun r => ∀ c : Dev Cert.BranchYIdeal.nD,
          r.2.mem ((c.tc : Thread Cert.BranchYIdeal.nD Cert.BranchYIdeal.τ).loc Cert.BranchYIdeal.main_v0) = v0 c
          ∧ r.2.mem ((c.tc : Thread Cert.BranchYIdeal.nD Cert.BranchYIdeal.τ).loc Cert.BranchYIdeal.main_arg0) = m ((c.tc : Thread Cert.BranchYIdeal.nD Cert.BranchYIdeal.τ).loc Cert.BranchYIdeal.main_arg0)
          ∧ r.2.mem ((c.tc : Thread Cert.BranchYIdeal.nD Cert.BranchYIdeal.τ).loc Cert.BranchYIdeal.main_arg1) = m ((c.tc : Thread Cert.BranchYIdeal.nD Cert.BranchYIdeal.τ).loc Cert.BranchYIdeal.main_arg1))
      ∧ θ_run (Cert.BranchYRefIdeal.defs (F := Ideal)) (onTc (τ := Cert.BranchYRefIdeal.τ) (Cert.BranchYRefIdeal.main (F := Ideal))) ⟨m', fun _ => 0, g'⟩ (fun r => ∀ c : Dev Cert.BranchYRefIdeal.nD,
          r.2.mem ((c.tc : Thread Cert.BranchYRefIdeal.nD Cert.BranchYRefIdeal.τ).loc Cert.BranchYRefIdeal.main_v6) = v0 c
          ∧ r.2.mem ((c.tc : Thread Cert.BranchYRefIdeal.nD Cert.BranchYRefIdeal.τ).loc Cert.BranchYRefIdeal.main_arg0) = m' ((c.tc : Thread Cert.BranchYRefIdeal.nD Cert.BranchYRefIdeal.τ).loc Cert.BranchYRefIdeal.main_arg0)
          ∧ r.2.mem ((c.tc : Thread Cert.BranchYRefIdeal.nD Cert.BranchYRefIdeal.τ).loc Cert.BranchYRefIdeal.main_arg1) = m' ((c.tc : Thread Cert.BranchYRefIdeal.nD Cert.BranchYRefIdeal.τ).loc Cert.BranchYRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InH_InHIdeal : Prop :=
  True

def algebraic_InHIdeal_InHRefIdeal [hInHIdeal : Cert.InHIdeal.Facts] [hInHRefIdeal : Cert.InHRefIdeal.Facts] : Prop :=
  ∀ (m : (ℓ : Loc Cert.InHIdeal.nD Cert.InHIdeal.τ Cert.InHIdeal.sig) → Buf (Elt Ideal) ℓ) (g : Dev Cert.InHIdeal.nD → PrngReg)
    (m' : (ℓ : Loc Cert.InHRefIdeal.nD Cert.InHRefIdeal.τ Cert.InHRefIdeal.sig) → Buf (Elt Ideal) ℓ) (g' : Dev Cert.InHRefIdeal.nD → PrngReg), Pre_InHIdeal m →
    (∀ c : Dev Cert.InHIdeal.nD,
      m' ((c.tc : Thread Cert.InHRefIdeal.nD Cert.InHRefIdeal.τ).loc Cert.InHRefIdeal.main_arg0) = m ((c.tc : Thread Cert.InHIdeal.nD Cert.InHIdeal.τ).loc Cert.InHIdeal.main_arg0)
      ∧ m' ((c.tc : Thread Cert.InHRefIdeal.nD Cert.InHRefIdeal.τ).loc Cert.InHRefIdeal.main_arg1) = m ((c.tc : Thread Cert.InHIdeal.nD Cert.InHIdeal.τ).loc Cert.InHIdeal.main_arg1)
      ∧ m' ((c.tc : Thread Cert.InHRefIdeal.nD Cert.InHRefIdeal.τ).loc Cert.InHRefIdeal.main_arg2) = m ((c.tc : Thread Cert.InHIdeal.nD Cert.InHIdeal.τ).loc Cert.InHIdeal.main_arg2)) →
    ∃ (v0 : (c : Dev Cert.InHIdeal.nD) → Buf (Elt Ideal) ((c.tc : Thread Cert.InHIdeal.nD Cert.InHIdeal.τ).loc Cert.InHIdeal.main_v0)),
      θ_run (Cert.InHIdeal.defs (F := Ideal)) (onTc (τ := Cert.InHIdeal.τ) (Cert.InHIdeal.main (F := Ideal))) ⟨m, fun _ => 0, g⟩ (fun r => ∀ c : Dev Cert.InHIdeal.nD,
          r.2.mem ((c.tc : Thread Cert.InHIdeal.nD Cert.InHIdeal.τ).loc Cert.InHIdeal.main_v0) = v0 c
          ∧ r.2.mem ((c.tc : Thread Cert.InHIdeal.nD Cert.InHIdeal.τ).loc Cert.InHIdeal.main_arg0) = m ((c.tc : Thread Cert.InHIdeal.nD Cert.InHIdeal.τ).loc Cert.InHIdeal.main_arg0)
          ∧ r.2.mem ((c.tc : Thread Cert.InHIdeal.nD Cert.InHIdeal.τ).loc Cert.InHIdeal.main_arg1) = m ((c.tc : Thread Cert.InHIdeal.nD Cert.InHIdeal.τ).loc Cert.InHIdeal.main_arg1)
          ∧ r.2.mem ((c.tc : Thread Cert.InHIdeal.nD Cert.InHIdeal.τ).loc Cert.InHIdeal.main_arg2) = m ((c.tc : Thread Cert.InHIdeal.nD Cert.InHIdeal.τ).loc Cert.InHIdeal.main_arg2))
      ∧ θ_run (Cert.InHRefIdeal.defs (F := Ideal)) (onTc (τ := Cert.InHRefIdeal.τ) (Cert.InHRefIdeal.main (F := Ideal))) ⟨m', fun _ => 0, g'⟩ (fun r => ∀ c : Dev Cert.InHRefIdeal.nD,
          r.2.mem ((c.tc : Thread Cert.InHRefIdeal.nD Cert.InHRefIdeal.τ).loc Cert.InHRefIdeal.main_v5) = v0 c
          ∧ r.2.mem ((c.tc : Thread Cert.InHRefIdeal.nD Cert.InHRefIdeal.τ).loc Cert.InHRefIdeal.main_arg0) = m' ((c.tc : Thread Cert.InHRefIdeal.nD Cert.InHRefIdeal.τ).loc Cert.InHRefIdeal.main_arg0)
          ∧ r.2.mem ((c.tc : Thread Cert.InHRefIdeal.nD Cert.InHRefIdeal.τ).loc Cert.InHRefIdeal.main_arg1) = m' ((c.tc : Thread Cert.InHRefIdeal.nD Cert.InHRefIdeal.τ).loc Cert.InHRefIdeal.main_arg1)
          ∧ r.2.mem ((c.tc : Thread Cert.InHRefIdeal.nD Cert.InHRefIdeal.τ).loc Cert.InHRefIdeal.main_arg2) = m' ((c.tc : Thread Cert.InHRefIdeal.nD Cert.InHRefIdeal.τ).loc Cert.InHRefIdeal.main_arg2))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)) →
    ∃ (v0 : (c : Dev Cert.InPIdeal.nD) → Buf (Elt Ideal) ((c.tc : Thread Cert.InPIdeal.nD Cert.InPIdeal.τ).loc Cert.InPIdeal.main_v0)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v0) = v0 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v3) = v0 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1))

def preserves_OutP_OutPIdeal : Prop :=
  True

def algebraic_OutPIdeal_OutPRefIdeal [hOutPIdeal : Cert.OutPIdeal.Facts] [hOutPRefIdeal : Cert.OutPRefIdeal.Facts] : Prop :=
  ∀ (m : (ℓ : Loc Cert.OutPIdeal.nD Cert.OutPIdeal.τ Cert.OutPIdeal.sig) → Buf (Elt Ideal) ℓ) (g : Dev Cert.OutPIdeal.nD → PrngReg)
    (m' : (ℓ : Loc Cert.OutPRefIdeal.nD Cert.OutPRefIdeal.τ Cert.OutPRefIdeal.sig) → Buf (Elt Ideal) ℓ) (g' : Dev Cert.OutPRefIdeal.nD → PrngReg), Pre_OutPIdeal m →
    (∀ c : Dev Cert.OutPIdeal.nD,
      m' ((c.tc : Thread Cert.OutPRefIdeal.nD Cert.OutPRefIdeal.τ).loc Cert.OutPRefIdeal.main_arg0) = m ((c.tc : Thread Cert.OutPIdeal.nD Cert.OutPIdeal.τ).loc Cert.OutPIdeal.main_arg0)
      ∧ m' ((c.tc : Thread Cert.OutPRefIdeal.nD Cert.OutPRefIdeal.τ).loc Cert.OutPRefIdeal.main_arg1) = m ((c.tc : Thread Cert.OutPIdeal.nD Cert.OutPIdeal.τ).loc Cert.OutPIdeal.main_arg1)) →
    ∃ (v0 : (c : Dev Cert.OutPIdeal.nD) → Buf (Elt Ideal) ((c.tc : Thread Cert.OutPIdeal.nD Cert.OutPIdeal.τ).loc Cert.OutPIdeal.main_v0)),
      θ_run (Cert.OutPIdeal.defs (F := Ideal)) (onTc (τ := Cert.OutPIdeal.τ) (Cert.OutPIdeal.main (F := Ideal))) ⟨m, fun _ => 0, g⟩ (fun r => ∀ c : Dev Cert.OutPIdeal.nD,
          r.2.mem ((c.tc : Thread Cert.OutPIdeal.nD Cert.OutPIdeal.τ).loc Cert.OutPIdeal.main_v0) = v0 c
          ∧ r.2.mem ((c.tc : Thread Cert.OutPIdeal.nD Cert.OutPIdeal.τ).loc Cert.OutPIdeal.main_arg0) = m ((c.tc : Thread Cert.OutPIdeal.nD Cert.OutPIdeal.τ).loc Cert.OutPIdeal.main_arg0)
          ∧ r.2.mem ((c.tc : Thread Cert.OutPIdeal.nD Cert.OutPIdeal.τ).loc Cert.OutPIdeal.main_arg1) = m ((c.tc : Thread Cert.OutPIdeal.nD Cert.OutPIdeal.τ).loc Cert.OutPIdeal.main_arg1))
      ∧ θ_run (Cert.OutPRefIdeal.defs (F := Ideal)) (onTc (τ := Cert.OutPRefIdeal.τ) (Cert.OutPRefIdeal.main (F := Ideal))) ⟨m', fun _ => 0, g'⟩ (fun r => ∀ c : Dev Cert.OutPRefIdeal.nD,
          r.2.mem ((c.tc : Thread Cert.OutPRefIdeal.nD Cert.OutPRefIdeal.τ).loc Cert.OutPRefIdeal.main_v2) = v0 c
          ∧ r.2.mem ((c.tc : Thread Cert.OutPRefIdeal.nD Cert.OutPRefIdeal.τ).loc Cert.OutPRefIdeal.main_arg0) = m' ((c.tc : Thread Cert.OutPRefIdeal.nD Cert.OutPRefIdeal.τ).loc Cert.OutPRefIdeal.main_arg0)
          ∧ r.2.mem ((c.tc : Thread Cert.OutPRefIdeal.nD Cert.OutPRefIdeal.τ).loc Cert.OutPRefIdeal.main_arg1) = m' ((c.tc : Thread Cert.OutPRefIdeal.nD Cert.OutPRefIdeal.τ).loc Cert.OutPRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)) (v6 : (c : Dev Cert.MergeIdeal.nD) → Buf (Elt Ideal) ((c.tc : Thread Cert.MergeIdeal.nD Cert.MergeIdeal.τ).loc Cert.MergeIdeal.main_v0_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_v0_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_v42) = v4 c
          ∧ r.2.mem ((c.tc : Thread Cert.MergeRefIdeal.nD Cert.MergeRefIdeal.τ).loc Cert.MergeRefIdeal.main_v43) = v5 c
          ∧ r.2.mem ((c.tc : Thread Cert.MergeRefIdeal.nD Cert.MergeRefIdeal.τ).loc Cert.MergeRefIdeal.main_v44) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_LatW_LatWIdeal : Prop :=
  True

def algebraic_LatWIdeal_LatWRefIdeal [hLatWIdeal : Cert.LatWIdeal.Facts] [hLatWRefIdeal : Cert.LatWRefIdeal.Facts] : Prop :=
  ∀ (m : (ℓ : Loc Cert.LatWIdeal.nD Cert.LatWIdeal.τ Cert.LatWIdeal.sig) → Buf (Elt Ideal) ℓ) (g : Dev Cert.LatWIdeal.nD → PrngReg)
    (m' : (ℓ : Loc Cert.LatWRefIdeal.nD Cert.LatWRefIdeal.τ Cert.LatWRefIdeal.sig) → Buf (Elt Ideal) ℓ) (g' : Dev Cert.LatWRefIdeal.nD → PrngReg), Pre_LatWIdeal m →
    (∀ c : Dev Cert.LatWIdeal.nD,
      m' ((c.tc : Thread Cert.LatWRefIdeal.nD Cert.LatWRefIdeal.τ).loc Cert.LatWRefIdeal.main_arg0) = m ((c.tc : Thread Cert.LatWIdeal.nD Cert.LatWIdeal.τ).loc Cert.LatWIdeal.main_arg0)
      ∧ m' ((c.tc : Thread Cert.LatWRefIdeal.nD Cert.LatWRefIdeal.τ).loc Cert.LatWRefIdeal.main_arg1) = m ((c.tc : Thread Cert.LatWIdeal.nD Cert.LatWIdeal.τ).loc Cert.LatWIdeal.main_arg1)) →
    ∃ (v0 : (c : Dev Cert.LatWIdeal.nD) → Buf (Elt Ideal) ((c.tc : Thread Cert.LatWIdeal.nD Cert.LatWIdeal.τ).loc Cert.LatWIdeal.main_v0)),
      θ_run (Cert.LatWIdeal.defs (F := Ideal)) (onTc (τ := Cert.LatWIdeal.τ) (Cert.LatWIdeal.main (F := Ideal))) ⟨m, fun _ => 0, g⟩ (fun r => ∀ c : Dev Cert.LatWIdeal.nD,
          r.2.mem ((c.tc : Thread Cert.LatWIdeal.nD Cert.LatWIdeal.τ).loc Cert.LatWIdeal.main_v0) = v0 c
          ∧ r.2.mem ((c.tc : Thread Cert.LatWIdeal.nD Cert.LatWIdeal.τ).loc Cert.LatWIdeal.main_arg0) = m ((c.tc : Thread Cert.LatWIdeal.nD Cert.LatWIdeal.τ).loc Cert.LatWIdeal.main_arg0)
          ∧ r.2.mem ((c.tc : Thread Cert.LatWIdeal.nD Cert.LatWIdeal.τ).loc Cert.LatWIdeal.main_arg1) = m ((c.tc : Thread Cert.LatWIdeal.nD Cert.LatWIdeal.τ).loc Cert.LatWIdeal.main_arg1))
      ∧ θ_run (Cert.LatWRefIdeal.defs (F := Ideal)) (onTc (τ := Cert.LatWRefIdeal.τ) (Cert.LatWRefIdeal.main (F := Ideal))) ⟨m', fun _ => 0, g'⟩ (fun r => ∀ c : Dev Cert.LatWRefIdeal.nD,
          r.2.mem ((c.tc : Thread Cert.LatWRefIdeal.nD Cert.LatWRefIdeal.τ).loc Cert.LatWRefIdeal.main_v5) = v0 c
          ∧ r.2.mem ((c.tc : Thread Cert.LatWRefIdeal.nD Cert.LatWRefIdeal.τ).loc Cert.LatWRefIdeal.main_arg0) = m' ((c.tc : Thread Cert.LatWRefIdeal.nD Cert.LatWRefIdeal.τ).loc Cert.LatWRefIdeal.main_arg0)
          ∧ r.2.mem ((c.tc : Thread Cert.LatWRefIdeal.nD Cert.LatWRefIdeal.τ).loc Cert.LatWRefIdeal.main_arg1) = m' ((c.tc : Thread Cert.LatWRefIdeal.nD Cert.LatWRefIdeal.τ).loc Cert.LatWRefIdeal.main_arg1))

def preserves_LatV_LatVIdeal : Prop :=
  True

def algebraic_LatVIdeal_LatVRefIdeal [hLatVIdeal : Cert.LatVIdeal.Facts] [hLatVRefIdeal : Cert.LatVRefIdeal.Facts] : Prop :=
  ∀ (m : (ℓ : Loc Cert.LatVIdeal.nD Cert.LatVIdeal.τ Cert.LatVIdeal.sig) → Buf (Elt Ideal) ℓ) (g : Dev Cert.LatVIdeal.nD → PrngReg)
    (m' : (ℓ : Loc Cert.LatVRefIdeal.nD Cert.LatVRefIdeal.τ Cert.LatVRefIdeal.sig) → Buf (Elt Ideal) ℓ) (g' : Dev Cert.LatVRefIdeal.nD → PrngReg), Pre_LatVIdeal m →
    (∀ c : Dev Cert.LatVIdeal.nD,
      m' ((c.tc : Thread Cert.LatVRefIdeal.nD Cert.LatVRefIdeal.τ).loc Cert.LatVRefIdeal.main_arg0) = m ((c.tc : Thread Cert.LatVIdeal.nD Cert.LatVIdeal.τ).loc Cert.LatVIdeal.main_arg0)
      ∧ m' ((c.tc : Thread Cert.LatVRefIdeal.nD Cert.LatVRefIdeal.τ).loc Cert.LatVRefIdeal.main_arg1) = m ((c.tc : Thread Cert.LatVIdeal.nD Cert.LatVIdeal.τ).loc Cert.LatVIdeal.main_arg1)) →
    ∃ (v0 : (c : Dev Cert.LatVIdeal.nD) → Buf (Elt Ideal) ((c.tc : Thread Cert.LatVIdeal.nD Cert.LatVIdeal.τ).loc Cert.LatVIdeal.main_v0)),
      θ_run (Cert.LatVIdeal.defs (F := Ideal)) (onTc (τ := Cert.LatVIdeal.τ) (Cert.LatVIdeal.main (F := Ideal))) ⟨m, fun _ => 0, g⟩ (fun r => ∀ c : Dev Cert.LatVIdeal.nD,
          r.2.mem ((c.tc : Thread Cert.LatVIdeal.nD Cert.LatVIdeal.τ).loc Cert.LatVIdeal.main_v0) = v0 c
          ∧ r.2.mem ((c.tc : Thread Cert.LatVIdeal.nD Cert.LatVIdeal.τ).loc Cert.LatVIdeal.main_arg0) = m ((c.tc : Thread Cert.LatVIdeal.nD Cert.LatVIdeal.τ).loc Cert.LatVIdeal.main_arg0)
          ∧ r.2.mem ((c.tc : Thread Cert.LatVIdeal.nD Cert.LatVIdeal.τ).loc Cert.LatVIdeal.main_arg1) = m ((c.tc : Thread Cert.LatVIdeal.nD Cert.LatVIdeal.τ).loc Cert.LatVIdeal.main_arg1))
      ∧ θ_run (Cert.LatVRefIdeal.defs (F := Ideal)) (onTc (τ := Cert.LatVRefIdeal.τ) (Cert.LatVRefIdeal.main (F := Ideal))) ⟨m', fun _ => 0, g'⟩ (fun r => ∀ c : Dev Cert.LatVRefIdeal.nD,
          r.2.mem ((c.tc : Thread Cert.LatVRefIdeal.nD Cert.LatVRefIdeal.τ).loc Cert.LatVRefIdeal.main_v5) = v0 c
          ∧ r.2.mem ((c.tc : Thread Cert.LatVRefIdeal.nD Cert.LatVRefIdeal.τ).loc Cert.LatVRefIdeal.main_arg0) = m' ((c.tc : Thread Cert.LatVRefIdeal.nD Cert.LatVRefIdeal.τ).loc Cert.LatVRefIdeal.main_arg0)
          ∧ r.2.mem ((c.tc : Thread Cert.LatVRefIdeal.nD Cert.LatVRefIdeal.τ).loc Cert.LatVRefIdeal.main_arg1) = m' ((c.tc : Thread Cert.LatVRefIdeal.nD Cert.LatVRefIdeal.τ).loc Cert.LatVRefIdeal.main_arg1))

def preserves_LatQ_LatQIdeal : Prop :=
  True

def algebraic_LatQIdeal_LatQRefIdeal [hLatQIdeal : Cert.LatQIdeal.Facts] [hLatQRefIdeal : Cert.LatQRefIdeal.Facts] : Prop :=
  ∀ (m : (ℓ : Loc Cert.LatQIdeal.nD Cert.LatQIdeal.τ Cert.LatQIdeal.sig) → Buf (Elt Ideal) ℓ) (g : Dev Cert.LatQIdeal.nD → PrngReg)
    (m' : (ℓ : Loc Cert.LatQRefIdeal.nD Cert.LatQRefIdeal.τ Cert.LatQRefIdeal.sig) → Buf (Elt Ideal) ℓ) (g' : Dev Cert.LatQRefIdeal.nD → PrngReg), Pre_LatQIdeal m →
    (∀ c : Dev Cert.LatQIdeal.nD,
      m' ((c.tc : Thread Cert.LatQRefIdeal.nD Cert.LatQRefIdeal.τ).loc Cert.LatQRefIdeal.main_arg0) = m ((c.tc : Thread Cert.LatQIdeal.nD Cert.LatQIdeal.τ).loc Cert.LatQIdeal.main_arg0)
      ∧ m' ((c.tc : Thread Cert.LatQRefIdeal.nD Cert.LatQRefIdeal.τ).loc Cert.LatQRefIdeal.main_arg1) = m ((c.tc : Thread Cert.LatQIdeal.nD Cert.LatQIdeal.τ).loc Cert.LatQIdeal.main_arg1)) →
    ∃ (v0 : (c : Dev Cert.LatQIdeal.nD) → Buf (Elt Ideal) ((c.tc : Thread Cert.LatQIdeal.nD Cert.LatQIdeal.τ).loc Cert.LatQIdeal.main_v0)),
      θ_run (Cert.LatQIdeal.defs (F := Ideal)) (onTc (τ := Cert.LatQIdeal.τ) (Cert.LatQIdeal.main (F := Ideal))) ⟨m, fun _ => 0, g⟩ (fun r => ∀ c : Dev Cert.LatQIdeal.nD,
          r.2.mem ((c.tc : Thread Cert.LatQIdeal.nD Cert.LatQIdeal.τ).loc Cert.LatQIdeal.main_v0) = v0 c
          ∧ r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0)
          ∧ r.2.mem ((c.tc : Thread Cert.LatQIdeal.nD Cert.LatQIdeal.τ).loc Cert.LatQIdeal.main_arg1) = m ((c.tc : Thread Cert.LatQIdeal.nD Cert.LatQIdeal.τ).loc Cert.LatQIdeal.main_arg1))
      ∧ θ_run (Cert.LatQRefIdeal.defs (F := Ideal)) (onTc (τ := Cert.LatQRefIdeal.τ) (Cert.LatQRefIdeal.main (F := Ideal))) ⟨m', fun _ => 0, g'⟩ (fun r => ∀ c : Dev Cert.LatQRefIdeal.nD,
          r.2.mem ((c.tc : Thread Cert.LatQRefIdeal.nD Cert.LatQRefIdeal.τ).loc Cert.LatQRefIdeal.main_v4) = v0 c
          ∧ r.2.mem ((c.tc : Thread Cert.LatQRefIdeal.nD Cert.LatQRefIdeal.τ).loc Cert.LatQRefIdeal.main_arg0) = m' ((c.tc : Thread Cert.LatQRefIdeal.nD Cert.LatQRefIdeal.τ).loc Cert.LatQRefIdeal.main_arg0)
          ∧ r.2.mem ((c.tc : Thread Cert.LatQRefIdeal.nD Cert.LatQRefIdeal.τ).loc Cert.LatQRefIdeal.main_arg1) = m' ((c.tc : Thread Cert.LatQRefIdeal.nD Cert.LatQRefIdeal.τ).loc Cert.LatQRefIdeal.main_arg1))

def preserves_LatC_LatCIdeal : Prop :=
  True

def algebraic_LatCIdeal_LatCRefIdeal [hLatCIdeal : Cert.LatCIdeal.Facts] [hLatCRefIdeal : Cert.LatCRefIdeal.Facts] : Prop :=
  ∀ (m : (ℓ : Loc Cert.LatCIdeal.nD Cert.LatCIdeal.τ Cert.LatCIdeal.sig) → Buf (Elt Ideal) ℓ) (g : Dev Cert.LatCIdeal.nD → PrngReg)
    (m' : (ℓ : Loc Cert.LatCRefIdeal.nD Cert.LatCRefIdeal.τ Cert.LatCRefIdeal.sig) → Buf (Elt Ideal) ℓ) (g' : Dev Cert.LatCRefIdeal.nD → PrngReg), Pre_LatCIdeal m →
    (∀ c : Dev Cert.LatCIdeal.nD,
      m' ((c.tc : Thread Cert.LatCRefIdeal.nD Cert.LatCRefIdeal.τ).loc Cert.LatCRefIdeal.main_arg0) = m ((c.tc : Thread Cert.LatCIdeal.nD Cert.LatCIdeal.τ).loc Cert.LatCIdeal.main_arg0)
      ∧ m' ((c.tc : Thread Cert.LatCRefIdeal.nD Cert.LatCRefIdeal.τ).loc Cert.LatCRefIdeal.main_arg1) = m ((c.tc : Thread Cert.LatCIdeal.nD Cert.LatCIdeal.τ).loc Cert.LatCIdeal.main_arg1)
      ∧ m' ((c.tc : Thread Cert.LatCRefIdeal.nD Cert.LatCRefIdeal.τ).loc Cert.LatCRefIdeal.main_arg2) = m ((c.tc : Thread Cert.LatCIdeal.nD Cert.LatCIdeal.τ).loc Cert.LatCIdeal.main_arg2)) →
    ∃ (v0 : (c : Dev Cert.LatCIdeal.nD) → Buf (Elt Ideal) ((c.tc : Thread Cert.LatCIdeal.nD Cert.LatCIdeal.τ).loc Cert.LatCIdeal.main_v0)),
      θ_run (Cert.LatCIdeal.defs (F := Ideal)) (onTc (τ := Cert.LatCIdeal.τ) (Cert.LatCIdeal.main (F := Ideal))) ⟨m, fun _ => 0, g⟩ (fun r => ∀ c : Dev Cert.LatCIdeal.nD,
          r.2.mem ((c.tc : Thread Cert.LatCIdeal.nD Cert.LatCIdeal.τ).loc Cert.LatCIdeal.main_v0) = v0 c
          ∧ r.2.mem ((c.tc : Thread Cert.LatCIdeal.nD Cert.LatCIdeal.τ).loc Cert.LatCIdeal.main_arg0) = m ((c.tc : Thread Cert.LatCIdeal.nD Cert.LatCIdeal.τ).loc Cert.LatCIdeal.main_arg0)
          ∧ r.2.mem ((c.tc : Thread Cert.LatCIdeal.nD Cert.LatCIdeal.τ).loc Cert.LatCIdeal.main_arg1) = m ((c.tc : Thread Cert.LatCIdeal.nD Cert.LatCIdeal.τ).loc Cert.LatCIdeal.main_arg1)
          ∧ r.2.mem ((c.tc : Thread Cert.LatCIdeal.nD Cert.LatCIdeal.τ).loc Cert.LatCIdeal.main_arg2) = m ((c.tc : Thread Cert.LatCIdeal.nD Cert.LatCIdeal.τ).loc Cert.LatCIdeal.main_arg2))
      ∧ θ_run (Cert.LatCRefIdeal.defs (F := Ideal)) (onTc (τ := Cert.LatCRefIdeal.τ) (Cert.LatCRefIdeal.main (F := Ideal))) ⟨m', fun _ => 0, g'⟩ (fun r => ∀ c : Dev Cert.LatCRefIdeal.nD,
          r.2.mem ((c.tc : Thread Cert.LatCRefIdeal.nD Cert.LatCRefIdeal.τ).loc Cert.LatCRefIdeal.main_v5) = v0 c
          ∧ r.2.mem ((c.tc : Thread Cert.LatCRefIdeal.nD Cert.LatCRefIdeal.τ).loc Cert.LatCRefIdeal.main_arg0) = m' ((c.tc : Thread Cert.LatCRefIdeal.nD Cert.LatCRefIdeal.τ).loc Cert.LatCRefIdeal.main_arg0)
          ∧ r.2.mem ((c.tc : Thread Cert.LatCRefIdeal.nD Cert.LatCRefIdeal.τ).loc Cert.LatCRefIdeal.main_arg1) = m' ((c.tc : Thread Cert.LatCRefIdeal.nD Cert.LatCRefIdeal.τ).loc Cert.LatCRefIdeal.main_arg1)
          ∧ r.2.mem ((c.tc : Thread Cert.LatCRefIdeal.nD Cert.LatCRefIdeal.τ).loc Cert.LatCRefIdeal.main_arg2) = m' ((c.tc : Thread Cert.LatCRefIdeal.nD Cert.LatCRefIdeal.τ).loc Cert.LatCRefIdeal.main_arg2))

def preserves_MemP_MemPIdeal : Prop :=
  True

def algebraic_MemPIdeal_MemPRefIdeal [hMemPIdeal : Cert.MemPIdeal.Facts] [hMemPRefIdeal : Cert.MemPRefIdeal.Facts] : Prop :=
  ∀ (m : (ℓ : Loc Cert.MemPIdeal.nD Cert.MemPIdeal.τ Cert.MemPIdeal.sig) → Buf (Elt Ideal) ℓ) (g : Dev Cert.MemPIdeal.nD → PrngReg)
    (m' : (ℓ : Loc Cert.MemPRefIdeal.nD Cert.MemPRefIdeal.τ Cert.MemPRefIdeal.sig) → Buf (Elt Ideal) ℓ) (g' : Dev Cert.MemPRefIdeal.nD → PrngReg), Pre_MemPIdeal m →
    (∀ c : Dev Cert.MemPIdeal.nD,
      m' ((c.tc : Thread Cert.MemPRefIdeal.nD Cert.MemPRefIdeal.τ).loc Cert.MemPRefIdeal.main_arg0) = m ((c.tc : Thread Cert.MemPIdeal.nD Cert.MemPIdeal.τ).loc Cert.MemPIdeal.main_arg0)
      ∧ m' ((c.tc : Thread Cert.MemPRefIdeal.nD Cert.MemPRefIdeal.τ).loc Cert.MemPRefIdeal.main_arg1) = m ((c.tc : Thread Cert.MemPIdeal.nD Cert.MemPIdeal.τ).loc Cert.MemPIdeal.main_arg1)) →
    ∃ (v0 : (c : Dev Cert.MemPIdeal.nD) → Buf (Elt Ideal) ((c.tc : Thread Cert.MemPIdeal.nD Cert.MemPIdeal.τ).loc Cert.MemPIdeal.main_v0)),
      θ_run (Cert.MemPIdeal.defs (F := Ideal)) (onTc (τ := Cert.MemPIdeal.τ) (Cert.MemPIdeal.main (F := Ideal))) ⟨m, fun _ => 0, g⟩ (fun r => ∀ c : Dev Cert.MemPIdeal.nD,
          r.2.mem ((c.tc : Thread Cert.MemPIdeal.nD Cert.MemPIdeal.τ).loc Cert.MemPIdeal.main_v0) = v0 c
          ∧ r.2.mem ((c.tc : Thread Cert.MemPIdeal.nD Cert.MemPIdeal.τ).loc Cert.MemPIdeal.main_arg0) = m ((c.tc : Thread Cert.MemPIdeal.nD Cert.MemPIdeal.τ).loc Cert.MemPIdeal.main_arg0)
          ∧ r.2.mem ((c.tc : Thread Cert.MemPIdeal.nD Cert.MemPIdeal.τ).loc Cert.MemPIdeal.main_arg1) = m ((c.tc : Thread Cert.MemPIdeal.nD Cert.MemPIdeal.τ).loc Cert.MemPIdeal.main_arg1))
      ∧ θ_run (Cert.MemPRefIdeal.defs (F := Ideal)) (onTc (τ := Cert.MemPRefIdeal.τ) (Cert.MemPRefIdeal.main (F := Ideal))) ⟨m', fun _ => 0, g'⟩ (fun r => ∀ c : Dev Cert.MemPRefIdeal.nD,
          r.2.mem ((c.tc : Thread Cert.MemPRefIdeal.nD Cert.MemPRefIdeal.τ).loc Cert.MemPRefIdeal.main_v3) = v0 c
          ∧ r.2.mem ((c.tc : Thread Cert.MemPRefIdeal.nD Cert.MemPRefIdeal.τ).loc Cert.MemPRefIdeal.main_arg0) = m' ((c.tc : Thread Cert.MemPRefIdeal.nD Cert.MemPRefIdeal.τ).loc Cert.MemPRefIdeal.main_arg0)
          ∧ r.2.mem ((c.tc : Thread Cert.MemPRefIdeal.nD Cert.MemPRefIdeal.τ).loc Cert.MemPRefIdeal.main_arg1) = m' ((c.tc : Thread Cert.MemPRefIdeal.nD Cert.MemPRefIdeal.τ).loc Cert.MemPRefIdeal.main_arg1))

def preserves_MemW_MemWIdeal : Prop :=
  True

def algebraic_MemWIdeal_MemWRefIdeal [hMemWIdeal : Cert.MemWIdeal.Facts] [hMemWRefIdeal : Cert.MemWRefIdeal.Facts] : Prop :=
  ∀ (m : (ℓ : Loc Cert.MemWIdeal.nD Cert.MemWIdeal.τ Cert.MemWIdeal.sig) → Buf (Elt Ideal) ℓ) (g : Dev Cert.MemWIdeal.nD → PrngReg)
    (m' : (ℓ : Loc Cert.MemWRefIdeal.nD Cert.MemWRefIdeal.τ Cert.MemWRefIdeal.sig) → Buf (Elt Ideal) ℓ) (g' : Dev Cert.MemWRefIdeal.nD → PrngReg), Pre_MemWIdeal m →
    (∀ c : Dev Cert.MemWIdeal.nD,
      m' ((c.tc : Thread Cert.MemWRefIdeal.nD Cert.MemWRefIdeal.τ).loc Cert.MemWRefIdeal.main_arg0) = m ((c.tc : Thread Cert.MemWIdeal.nD Cert.MemWIdeal.τ).loc Cert.MemWIdeal.main_arg0)
      ∧ m' ((c.tc : Thread Cert.MemWRefIdeal.nD Cert.MemWRefIdeal.τ).loc Cert.MemWRefIdeal.main_arg1) = m ((c.tc : Thread Cert.MemWIdeal.nD Cert.MemWIdeal.τ).loc Cert.MemWIdeal.main_arg1)) →
    ∃ (v0 : (c : Dev Cert.MemWIdeal.nD) → Buf (Elt Ideal) ((c.tc : Thread Cert.MemWIdeal.nD Cert.MemWIdeal.τ).loc Cert.MemWIdeal.main_v0)),
      θ_run (Cert.MemWIdeal.defs (F := Ideal)) (onTc (τ := Cert.MemWIdeal.τ) (Cert.MemWIdeal.main (F := Ideal))) ⟨m, fun _ => 0, g⟩ (fun r => ∀ c : Dev Cert.MemWIdeal.nD,
          r.2.mem ((c.tc : Thread Cert.MemWIdeal.nD Cert.MemWIdeal.τ).loc Cert.MemWIdeal.main_v0) = v0 c
          ∧ r.2.mem ((c.tc : Thread Cert.MemWIdeal.nD Cert.MemWIdeal.τ).loc Cert.MemWIdeal.main_arg0) = m ((c.tc : Thread Cert.MemWIdeal.nD Cert.MemWIdeal.τ).loc Cert.MemWIdeal.main_arg0)
          ∧ r.2.mem ((c.tc : Thread Cert.MemWIdeal.nD Cert.MemWIdeal.τ).loc Cert.MemWIdeal.main_arg1) = m ((c.tc : Thread Cert.MemWIdeal.nD Cert.MemWIdeal.τ).loc Cert.MemWIdeal.main_arg1))
      ∧ θ_run (Cert.MemWRefIdeal.defs (F := Ideal)) (onTc (τ := Cert.MemWRefIdeal.τ) (Cert.MemWRefIdeal.main (F := Ideal))) ⟨m', fun _ => 0, g'⟩ (fun r => ∀ c : Dev Cert.MemWRefIdeal.nD,
          r.2.mem ((c.tc : Thread Cert.MemWRefIdeal.nD Cert.MemWRefIdeal.τ).loc Cert.MemWRefIdeal.main_v5) = v0 c
          ∧ r.2.mem ((c.tc : Thread Cert.MemWRefIdeal.nD Cert.MemWRefIdeal.τ).loc Cert.MemWRefIdeal.main_arg0) = m' ((c.tc : Thread Cert.MemWRefIdeal.nD Cert.MemWRefIdeal.τ).loc Cert.MemWRefIdeal.main_arg0)
          ∧ r.2.mem ((c.tc : Thread Cert.MemWRefIdeal.nD Cert.MemWRefIdeal.τ).loc Cert.MemWRefIdeal.main_arg1) = m' ((c.tc : Thread Cert.MemWRefIdeal.nD Cert.MemWRefIdeal.τ).loc Cert.MemWRefIdeal.main_arg1))

def preserves_MemX_MemXIdeal : Prop :=
  True

def algebraic_MemXIdeal_MemXRefIdeal [hMemXIdeal : Cert.MemXIdeal.Facts] [hMemXRefIdeal : Cert.MemXRefIdeal.Facts] : Prop :=
  ∀ (m : (ℓ : Loc Cert.MemXIdeal.nD Cert.MemXIdeal.τ Cert.MemXIdeal.sig) → Buf (Elt Ideal) ℓ) (g : Dev Cert.MemXIdeal.nD → PrngReg)
    (m' : (ℓ : Loc Cert.MemXRefIdeal.nD Cert.MemXRefIdeal.τ Cert.MemXRefIdeal.sig) → Buf (Elt Ideal) ℓ) (g' : Dev Cert.MemXRefIdeal.nD → PrngReg), Pre_MemXIdeal m →
    (∀ c : Dev Cert.MemXIdeal.nD,
      m' ((c.tc : Thread Cert.MemXRefIdeal.nD Cert.MemXRefIdeal.τ).loc Cert.MemXRefIdeal.main_arg0) = m ((c.tc : Thread Cert.MemXIdeal.nD Cert.MemXIdeal.τ).loc Cert.MemXIdeal.main_arg0)
      ∧ m' ((c.tc : Thread Cert.MemXRefIdeal.nD Cert.MemXRefIdeal.τ).loc Cert.MemXRefIdeal.main_arg1) = m ((c.tc : Thread Cert.MemXIdeal.nD Cert.MemXIdeal.τ).loc Cert.MemXIdeal.main_arg1)) →
    ∃ (v0 : (c : Dev Cert.MemXIdeal.nD) → Buf (Elt Ideal) ((c.tc : Thread Cert.MemXIdeal.nD Cert.MemXIdeal.τ).loc Cert.MemXIdeal.main_v0)),
      θ_run (Cert.MemXIdeal.defs (F := Ideal)) (onTc (τ := Cert.MemXIdeal.τ) (Cert.MemXIdeal.main (F := Ideal))) ⟨m, fun _ => 0, g⟩ (fun r => ∀ c : Dev Cert.MemXIdeal.nD,
          r.2.mem ((c.tc : Thread Cert.MemXIdeal.nD Cert.MemXIdeal.τ).loc Cert.MemXIdeal.main_v0) = v0 c
          ∧ r.2.mem ((c.tc : Thread Cert.MemXIdeal.nD Cert.MemXIdeal.τ).loc Cert.MemXIdeal.main_arg0) = m ((c.tc : Thread Cert.MemXIdeal.nD Cert.MemXIdeal.τ).loc Cert.MemXIdeal.main_arg0)
          ∧ r.2.mem ((c.tc : Thread Cert.MemXIdeal.nD Cert.MemXIdeal.τ).loc Cert.MemXIdeal.main_arg1) = m ((c.tc : Thread Cert.MemXIdeal.nD Cert.MemXIdeal.τ).loc Cert.MemXIdeal.main_arg1))
      ∧ θ_run (Cert.MemXRefIdeal.defs (F := Ideal)) (onTc (τ := Cert.MemXRefIdeal.τ) (Cert.MemXRefIdeal.main (F := Ideal))) ⟨m', fun _ => 0, g'⟩ (fun r => ∀ c : Dev Cert.MemXRefIdeal.nD,
          r.2.mem ((c.tc : Thread Cert.MemXRefIdeal.nD Cert.MemXRefIdeal.τ).loc Cert.MemXRefIdeal.main_v4) = v0 c
          ∧ r.2.mem ((c.tc : Thread Cert.MemXRefIdeal.nD Cert.MemXRefIdeal.τ).loc Cert.MemXRefIdeal.main_arg0) = m' ((c.tc : Thread Cert.MemXRefIdeal.nD Cert.MemXRefIdeal.τ).loc Cert.MemXRefIdeal.main_arg0)
          ∧ r.2.mem ((c.tc : Thread Cert.MemXRefIdeal.nD Cert.MemXRefIdeal.τ).loc Cert.MemXRefIdeal.main_arg1) = m' ((c.tc : Thread Cert.MemXRefIdeal.nD Cert.MemXRefIdeal.τ).loc Cert.MemXRefIdeal.main_arg1))

def preserves_MemF_MemFIdeal : Prop :=
  True

def algebraic_MemFIdeal_MemFRefIdeal [hMemFIdeal : Cert.MemFIdeal.Facts] [hMemFRefIdeal : Cert.MemFRefIdeal.Facts] : Prop :=
  ∀ (m : (ℓ : Loc Cert.MemFIdeal.nD Cert.MemFIdeal.τ Cert.MemFIdeal.sig) → Buf (Elt Ideal) ℓ) (g : Dev Cert.MemFIdeal.nD → PrngReg)
    (m' : (ℓ : Loc Cert.MemFRefIdeal.nD Cert.MemFRefIdeal.τ Cert.MemFRefIdeal.sig) → Buf (Elt Ideal) ℓ) (g' : Dev Cert.MemFRefIdeal.nD → PrngReg), Pre_MemFIdeal m →
    (∀ c : Dev Cert.MemFIdeal.nD,
      m' ((c.tc : Thread Cert.MemFRefIdeal.nD Cert.MemFRefIdeal.τ).loc Cert.MemFRefIdeal.main_arg0) = m ((c.tc : Thread Cert.MemFIdeal.nD Cert.MemFIdeal.τ).loc Cert.MemFIdeal.main_arg0)
      ∧ m' ((c.tc : Thread Cert.MemFRefIdeal.nD Cert.MemFRefIdeal.τ).loc Cert.MemFRefIdeal.main_arg1) = m ((c.tc : Thread Cert.MemFIdeal.nD Cert.MemFIdeal.τ).loc Cert.MemFIdeal.main_arg1)) →
    ∃ (v0 : (c : Dev Cert.MemFIdeal.nD) → Buf (Elt Ideal) ((c.tc : Thread Cert.MemFIdeal.nD Cert.MemFIdeal.τ).loc Cert.MemFIdeal.main_v0)),
      θ_run (Cert.MemFIdeal.defs (F := Ideal)) (onTc (τ := Cert.MemFIdeal.τ) (Cert.MemFIdeal.main (F := Ideal))) ⟨m, fun _ => 0, g⟩ (fun r => ∀ c : Dev Cert.MemFIdeal.nD,
          r.2.mem ((c.tc : Thread Cert.MemFIdeal.nD Cert.MemFIdeal.τ).loc Cert.MemFIdeal.main_v0) = v0 c
          ∧ r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
          ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ θ_run (Cert.MemFRefIdeal.defs (F := Ideal)) (onTc (τ := Cert.MemFRefIdeal.τ) (Cert.MemFRefIdeal.main (F := Ideal))) ⟨m', fun _ => 0, g'⟩ (fun r => ∀ c : Dev Cert.MemFRefIdeal.nD,
          r.2.mem ((c.tc : Thread Cert.MemFRefIdeal.nD Cert.MemFRefIdeal.τ).loc Cert.MemFRefIdeal.main_v30) = v0 c
          ∧ r.2.mem ((c.tc : Thread Cert.MemFRefIdeal.nD Cert.MemFRefIdeal.τ).loc Cert.MemFRefIdeal.main_arg0) = m' ((c.tc : Thread Cert.MemFRefIdeal.nD Cert.MemFRefIdeal.τ).loc Cert.MemFRefIdeal.main_arg0)
          ∧ r.2.mem ((c.tc : Thread Cert.MemFRefIdeal.nD Cert.MemFRefIdeal.τ).loc Cert.MemFRefIdeal.main_arg1) = m' ((c.tc : Thread Cert.MemFRefIdeal.nD Cert.MemFRefIdeal.τ).loc Cert.MemFRefIdeal.main_arg1))

def preserves_NormX_NormXIdeal : Prop :=
  True

def algebraic_NormXIdeal_NormXRefIdeal [hNormXIdeal : Cert.NormXIdeal.Facts] [hNormXRefIdeal : Cert.NormXRefIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXRefIdeal.nD Cert.NormXRefIdeal.τ Cert.NormXRefIdeal.sig) → Buf (Elt Ideal) ℓ) (g' : Dev Cert.NormXRefIdeal.nD → PrngReg), Pre_NormXIdeal m →
    (∀ c : Dev Cert.NormXIdeal.nD,
      m' ((c.tc : Thread Cert.NormXRefIdeal.nD Cert.NormXRefIdeal.τ).loc Cert.NormXRefIdeal.main_arg0) = m ((c.tc : Thread Cert.NormXIdeal.nD Cert.NormXIdeal.τ).loc Cert.NormXIdeal.main_arg0)
      ∧ m' ((c.tc : Thread Cert.NormXRefIdeal.nD Cert.NormXRefIdeal.τ).loc Cert.NormXRefIdeal.main_arg1) = m ((c.tc : Thread Cert.NormXIdeal.nD Cert.NormXIdeal.τ).loc Cert.NormXIdeal.main_arg1)) →
    ∃ (v0 : (c : Dev Cert.NormXIdeal.nD) → Buf (Elt Ideal) ((c.tc : Thread Cert.NormXIdeal.nD Cert.NormXIdeal.τ).loc Cert.NormXIdeal.main_v0)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v0) = v0 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ θ_run (Cert.NormXRefIdeal.defs (F := Ideal)) (onTc (τ := Cert.NormXRefIdeal.τ) (Cert.NormXRefIdeal.main (F := Ideal))) ⟨m', fun _ => 0, g'⟩ (fun r => ∀ c : Dev Cert.NormXRefIdeal.nD,
          r.2.mem ((c.tc : Thread Cert.NormXRefIdeal.nD Cert.NormXRefIdeal.τ).loc Cert.NormXRefIdeal.main_v14) = v0 c
          ∧ r.2.mem ((c.tc : Thread Cert.NormXRefIdeal.nD Cert.NormXRefIdeal.τ).loc Cert.NormXRefIdeal.main_arg0) = m' ((c.tc : Thread Cert.NormXRefIdeal.nD Cert.NormXRefIdeal.τ).loc Cert.NormXRefIdeal.main_arg0)
          ∧ r.2.mem ((c.tc : Thread Cert.NormXRefIdeal.nD Cert.NormXRefIdeal.τ).loc Cert.NormXRefIdeal.main_arg1) = m' ((c.tc : Thread Cert.NormXRefIdeal.nD Cert.NormXRefIdeal.τ).loc Cert.NormXRefIdeal.main_arg1))

def preserves_NormM_NormMIdeal : Prop :=
  True

def algebraic_NormMIdeal_NormMRefIdeal [hNormMIdeal : Cert.NormMIdeal.Facts] [hNormMRefIdeal : Cert.NormMRefIdeal.Facts] : Prop :=
  ∀ (m : (ℓ : Loc Cert.NormMIdeal.nD Cert.NormMIdeal.τ Cert.NormMIdeal.sig) → Buf (Elt Ideal) ℓ) (g : Dev Cert.NormMIdeal.nD → PrngReg)
    (m' : (ℓ : Loc Cert.NormMRefIdeal.nD Cert.NormMRefIdeal.τ Cert.NormMRefIdeal.sig) → Buf (Elt Ideal) ℓ) (g' : Dev Cert.NormMRefIdeal.nD → PrngReg), Pre_NormMIdeal m →
    (∀ c : Dev Cert.NormMIdeal.nD,
      m' ((c.tc : Thread Cert.NormMRefIdeal.nD Cert.NormMRefIdeal.τ).loc Cert.NormMRefIdeal.main_arg0) = m ((c.tc : Thread Cert.NormMIdeal.nD Cert.NormMIdeal.τ).loc Cert.NormMIdeal.main_arg0)
      ∧ m' ((c.tc : Thread Cert.NormMRefIdeal.nD Cert.NormMRefIdeal.τ).loc Cert.NormMRefIdeal.main_arg1) = m ((c.tc : Thread Cert.NormMIdeal.nD Cert.NormMIdeal.τ).loc Cert.NormMIdeal.main_arg1)) →
    ∃ (v0 : (c : Dev Cert.NormMIdeal.nD) → Buf (Elt Ideal) ((c.tc : Thread Cert.NormMIdeal.nD Cert.NormMIdeal.τ).loc Cert.NormMIdeal.main_v0)),
      θ_run (Cert.NormMIdeal.defs (F := Ideal)) (onTc (τ := Cert.NormMIdeal.τ) (Cert.NormMIdeal.main (F := Ideal))) ⟨m, fun _ => 0, g⟩ (fun r => ∀ c : Dev Cert.NormMIdeal.nD,
          r.2.mem ((c.tc : Thread Cert.NormMIdeal.nD Cert.NormMIdeal.τ).loc Cert.NormMIdeal.main_v0) = v0 c
          ∧ r.2.mem ((c.tc : Thread Cert.NormMIdeal.nD Cert.NormMIdeal.τ).loc Cert.NormMIdeal.main_arg0) = m ((c.tc : Thread Cert.NormMIdeal.nD Cert.NormMIdeal.τ).loc Cert.NormMIdeal.main_arg0)
          ∧ r.2.mem ((c.tc : Thread Cert.NormMIdeal.nD Cert.NormMIdeal.τ).loc Cert.NormMIdeal.main_arg1) = m ((c.tc : Thread Cert.NormMIdeal.nD Cert.NormMIdeal.τ).loc Cert.NormMIdeal.main_arg1))
      ∧ θ_run (Cert.NormMRefIdeal.defs (F := Ideal)) (onTc (τ := Cert.NormMRefIdeal.τ) (Cert.NormMRefIdeal.main (F := Ideal))) ⟨m', fun _ => 0, g'⟩ (fun r => ∀ c : Dev Cert.NormMRefIdeal.nD,
          r.2.mem ((c.tc : Thread Cert.NormMRefIdeal.nD Cert.NormMRefIdeal.τ).loc Cert.NormMRefIdeal.main_v14) = v0 c
          ∧ r.2.mem ((c.tc : Thread Cert.NormMRefIdeal.nD Cert.NormMRefIdeal.τ).loc Cert.NormMRefIdeal.main_arg0) = m' ((c.tc : Thread Cert.NormMRefIdeal.nD Cert.NormMRefIdeal.τ).loc Cert.NormMRefIdeal.main_arg0)
          ∧ r.2.mem ((c.tc : Thread Cert.NormMRefIdeal.nD Cert.NormMRefIdeal.τ).loc Cert.NormMRefIdeal.main_arg1) = m' ((c.tc : Thread Cert.NormMRefIdeal.nD Cert.NormMRefIdeal.τ).loc Cert.NormMRefIdeal.main_arg1))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v0)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v0) = v0 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v16) = v0 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1))

def preserves_NormK_NormKIdeal : Prop :=
  True

def algebraic_NormKIdeal_NormKRefIdeal [hNormKIdeal : Cert.NormKIdeal.Facts] [hNormKRefIdeal : Cert.NormKRefIdeal.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormKRefIdeal.nD Cert.NormKRefIdeal.τ Cert.NormKRefIdeal.sig) → Buf (Elt Ideal) ℓ) (g' : Dev Cert.NormKRefIdeal.nD → PrngReg), Pre_NormKIdeal m →
    (∀ c : Dev Cert.NormKIdeal.nD,
      m' ((c.tc : Thread Cert.NormKRefIdeal.nD Cert.NormKRefIdeal.τ).loc Cert.NormKRefIdeal.main_arg0) = m ((c.tc : Thread Cert.NormKIdeal.nD Cert.NormKIdeal.τ).loc Cert.NormKIdeal.main_arg0)
      ∧ m' ((c.tc : Thread Cert.NormKRefIdeal.nD Cert.NormKRefIdeal.τ).loc Cert.NormKRefIdeal.main_arg1) = m ((c.tc : Thread Cert.NormKIdeal.nD Cert.NormKIdeal.τ).loc Cert.NormKIdeal.main_arg1)) →
    ∃ (v0 : (c : Dev Cert.NormKIdeal.nD) → Buf (Elt Ideal) ((c.tc : Thread Cert.NormKIdeal.nD Cert.NormKIdeal.τ).loc Cert.NormKIdeal.main_v0)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v0) = v0 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1))
      ∧ θ_run (Cert.NormKRefIdeal.defs (F := Ideal)) (onTc (τ := Cert.NormKRefIdeal.τ) (Cert.NormKRefIdeal.main (F := Ideal))) ⟨m', fun _ => 0, g'⟩ (fun r => ∀ c : Dev Cert.NormKRefIdeal.nD,
          r.2.mem ((c.tc : Thread Cert.NormKRefIdeal.nD Cert.NormKRefIdeal.τ).loc Cert.NormKRefIdeal.main_v16) = v0 c
          ∧ r.2.mem ((c.tc : Thread Cert.NormKRefIdeal.nD Cert.NormKRefIdeal.τ).loc Cert.NormKRefIdeal.main_arg0) = m' ((c.tc : Thread Cert.NormKRefIdeal.nD Cert.NormKRefIdeal.τ).loc Cert.NormKRefIdeal.main_arg0)
          ∧ r.2.mem ((c.tc : Thread Cert.NormKRefIdeal.nD Cert.NormKRefIdeal.τ).loc Cert.NormKRefIdeal.main_arg1) = m' ((c.tc : Thread Cert.NormKRefIdeal.nD Cert.NormKRefIdeal.τ).loc Cert.NormKRefIdeal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hGateW : Cert.GateW.Facts) (hGateWIdeal : Cert.GateWIdeal.Facts) (hGateWRefIdeal : Cert.GateWRefIdeal.Facts) (hGateH : Cert.GateH.Facts) (hGateHIdeal : Cert.GateHIdeal.Facts) (hGateHRefIdeal : Cert.GateHRefIdeal.Facts) (hBranchW : Cert.BranchW.Facts) (hBranchWIdeal : Cert.BranchWIdeal.Facts) (hBranchWRefIdeal : Cert.BranchWRefIdeal.Facts) (hBranchY : Cert.BranchY.Facts) (hBranchYIdeal : Cert.BranchYIdeal.Facts) (hBranchYRefIdeal : Cert.BranchYRefIdeal.Facts) (hInW : Cert.InW.Facts) (hInWIdeal : Cert.InWIdeal.Facts) (hInWRefIdeal : Cert.InWRefIdeal.Facts) (hInH : Cert.InH.Facts) (hInHIdeal : Cert.InHIdeal.Facts) (hInHRefIdeal : Cert.InHRefIdeal.Facts) (hInP : Cert.InP.Facts) (hInPIdeal : Cert.InPIdeal.Facts) (hInPRefIdeal : Cert.InPRefIdeal.Facts) (hOutP : Cert.OutP.Facts) (hOutPIdeal : Cert.OutPIdeal.Facts) (hOutPRefIdeal : Cert.OutPRefIdeal.Facts) (hMerge : Cert.Merge.Facts) (hMergeIdeal : Cert.MergeIdeal.Facts) (hMergeRefIdeal : Cert.MergeRefIdeal.Facts) (hLatW : Cert.LatW.Facts) (hLatWIdeal : Cert.LatWIdeal.Facts) (hLatWRefIdeal : Cert.LatWRefIdeal.Facts) (hLatV : Cert.LatV.Facts) (hLatVIdeal : Cert.LatVIdeal.Facts) (hLatVRefIdeal : Cert.LatVRefIdeal.Facts) (hLatQ : Cert.LatQ.Facts) (hLatQIdeal : Cert.LatQIdeal.Facts) (hLatQRefIdeal : Cert.LatQRefIdeal.Facts) (hLatC : Cert.LatC.Facts) (hLatCIdeal : Cert.LatCIdeal.Facts) (hLatCRefIdeal : Cert.LatCRefIdeal.Facts) (hMemP : Cert.MemP.Facts) (hMemPIdeal : Cert.MemPIdeal.Facts) (hMemPRefIdeal : Cert.MemPRefIdeal.Facts) (hMemW : Cert.MemW.Facts) (hMemWIdeal : Cert.MemWIdeal.Facts) (hMemWRefIdeal : Cert.MemWRefIdeal.Facts) (hMemX : Cert.MemX.Facts) (hMemXIdeal : Cert.MemXIdeal.Facts) (hMemXRefIdeal : Cert.MemXRefIdeal.Facts) (hMemF : Cert.MemF.Facts) (hMemFIdeal : Cert.MemFIdeal.Facts) (hMemFRefIdeal : Cert.MemFRefIdeal.Facts) (hNormX : Cert.NormX.Facts) (hNormXIdeal : Cert.NormXIdeal.Facts) (hNormXRefIdeal : Cert.NormXRefIdeal.Facts) (hNormM : Cert.NormM.Facts) (hNormMIdeal : Cert.NormMIdeal.Facts) (hNormMRefIdeal : Cert.NormMRefIdeal.Facts) (hNormQ : Cert.NormQ.Facts) (hNormQIdeal : Cert.NormQIdeal.Facts) (hNormQRefIdeal : Cert.NormQRefIdeal.Facts) (hNormK : Cert.NormK.Facts) (hNormKIdeal : Cert.NormKIdeal.Facts) (hNormKRefIdeal : Cert.NormKRefIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_GateW (hGateW := hGateW)
    ∧ quiescent_GateWIdeal (hGateWIdeal := hGateWIdeal)
    ∧ quiescent_GateWRefIdeal (hGateWRefIdeal := hGateWRefIdeal)
    ∧ quiescent_GateH (hGateH := hGateH)
    ∧ quiescent_GateHIdeal (hGateHIdeal := hGateHIdeal)
    ∧ quiescent_GateHRefIdeal (hGateHRefIdeal := hGateHRefIdeal)
    ∧ quiescent_BranchW (hBranchW := hBranchW)
    ∧ quiescent_BranchWIdeal (hBranchWIdeal := hBranchWIdeal)
    ∧ quiescent_BranchWRefIdeal (hBranchWRefIdeal := hBranchWRefIdeal)
    ∧ quiescent_BranchY (hBranchY := hBranchY)
    ∧ quiescent_BranchYIdeal (hBranchYIdeal := hBranchYIdeal)
    ∧ quiescent_BranchYRefIdeal (hBranchYRefIdeal := hBranchYRefIdeal)
    ∧ quiescent_InW (hInW := hInW)
    ∧ quiescent_InWIdeal (hInWIdeal := hInWIdeal)
    ∧ quiescent_InWRefIdeal (hInWRefIdeal := hInWRefIdeal)
    ∧ quiescent_InH (hInH := hInH)
    ∧ quiescent_InHIdeal (hInHIdeal := hInHIdeal)
    ∧ quiescent_InHRefIdeal (hInHRefIdeal := hInHRefIdeal)
    ∧ quiescent_InP (hInP := hInP)
    ∧ quiescent_InPIdeal (hInPIdeal := hInPIdeal)
    ∧ quiescent_InPRefIdeal (hInPRefIdeal := hInPRefIdeal)
    ∧ quiescent_OutP (hOutP := hOutP)
    ∧ quiescent_OutPIdeal (hOutPIdeal := hOutPIdeal)
    ∧ quiescent_OutPRefIdeal (hOutPRefIdeal := hOutPRefIdeal)
    ∧ quiescent_Merge (hMerge := hMerge)
    ∧ quiescent_MergeIdeal (hMergeIdeal := hMergeIdeal)
    ∧ quiescent_MergeRefIdeal (hMergeRefIdeal := hMergeRefIdeal)
    ∧ quiescent_LatW (hLatW := hLatW)
    ∧ quiescent_LatWIdeal (hLatWIdeal := hLatWIdeal)
    ∧ quiescent_LatWRefIdeal (hLatWRefIdeal := hLatWRefIdeal)
    ∧ quiescent_LatV (hLatV := hLatV)
    ∧ quiescent_LatVIdeal (hLatVIdeal := hLatVIdeal)
    ∧ quiescent_LatVRefIdeal (hLatVRefIdeal := hLatVRefIdeal)
    ∧ quiescent_LatQ (hLatQ := hLatQ)
    ∧ quiescent_LatQIdeal (hLatQIdeal := hLatQIdeal)
    ∧ quiescent_LatQRefIdeal (hLatQRefIdeal := hLatQRefIdeal)
    ∧ quiescent_LatC (hLatC := hLatC)
    ∧ quiescent_LatCIdeal (hLatCIdeal := hLatCIdeal)
    ∧ quiescent_LatCRefIdeal (hLatCRefIdeal := hLatCRefIdeal)
    ∧ quiescent_MemP (hMemP := hMemP)
    ∧ quiescent_MemPIdeal (hMemPIdeal := hMemPIdeal)
    ∧ quiescent_MemPRefIdeal (hMemPRefIdeal := hMemPRefIdeal)
    ∧ quiescent_MemW (hMemW := hMemW)
    ∧ quiescent_MemWIdeal (hMemWIdeal := hMemWIdeal)
    ∧ quiescent_MemWRefIdeal (hMemWRefIdeal := hMemWRefIdeal)
    ∧ quiescent_MemX (hMemX := hMemX)
    ∧ quiescent_MemXIdeal (hMemXIdeal := hMemXIdeal)
    ∧ quiescent_MemXRefIdeal (hMemXRefIdeal := hMemXRefIdeal)
    ∧ quiescent_MemF (hMemF := hMemF)
    ∧ quiescent_MemFIdeal (hMemFIdeal := hMemFIdeal)
    ∧ quiescent_MemFRefIdeal (hMemFRefIdeal := hMemFRefIdeal)
    ∧ quiescent_NormX (hNormX := hNormX)
    ∧ quiescent_NormXIdeal (hNormXIdeal := hNormXIdeal)
    ∧ quiescent_NormXRefIdeal (hNormXRefIdeal := hNormXRefIdeal)
    ∧ quiescent_NormM (hNormM := hNormM)
    ∧ quiescent_NormMIdeal (hNormMIdeal := hNormMIdeal)
    ∧ quiescent_NormMRefIdeal (hNormMRefIdeal := hNormMRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_NormK (hNormK := hNormK)
    ∧ quiescent_NormKIdeal (hNormKIdeal := hNormKIdeal)
    ∧ quiescent_NormKRefIdeal (hNormKRefIdeal := hNormKRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_GateW_GateWIdeal
    ∧ algebraic_GateWIdeal_GateWRefIdeal (hGateWIdeal := hGateWIdeal) (hGateWRefIdeal := hGateWRefIdeal)
    ∧ preserves_GateH_GateHIdeal
    ∧ algebraic_GateHIdeal_GateHRefIdeal (hGateHIdeal := hGateHIdeal) (hGateHRefIdeal := hGateHRefIdeal)
    ∧ preserves_BranchW_BranchWIdeal
    ∧ algebraic_BranchWIdeal_BranchWRefIdeal (hBranchWIdeal := hBranchWIdeal) (hBranchWRefIdeal := hBranchWRefIdeal)
    ∧ preserves_BranchY_BranchYIdeal
    ∧ algebraic_BranchYIdeal_BranchYRefIdeal (hBranchYIdeal := hBranchYIdeal) (hBranchYRefIdeal := hBranchYRefIdeal)
    ∧ preserves_InW_InWIdeal
    ∧ algebraic_InWIdeal_InWRefIdeal (hInWIdeal := hInWIdeal) (hInWRefIdeal := hInWRefIdeal)
    ∧ preserves_InH_InHIdeal
    ∧ algebraic_InHIdeal_InHRefIdeal (hInHIdeal := hInHIdeal) (hInHRefIdeal := hInHRefIdeal)
    ∧ preserves_InP_InPIdeal
    ∧ algebraic_InPIdeal_InPRefIdeal (hInPIdeal := hInPIdeal) (hInPRefIdeal := hInPRefIdeal)
    ∧ preserves_OutP_OutPIdeal
    ∧ algebraic_OutPIdeal_OutPRefIdeal (hOutPIdeal := hOutPIdeal) (hOutPRefIdeal := hOutPRefIdeal)
    ∧ preserves_Merge_MergeIdeal
    ∧ algebraic_MergeIdeal_MergeRefIdeal (hMergeIdeal := hMergeIdeal) (hMergeRefIdeal := hMergeRefIdeal)
    ∧ preserves_LatW_LatWIdeal
    ∧ algebraic_LatWIdeal_LatWRefIdeal (hLatWIdeal := hLatWIdeal) (hLatWRefIdeal := hLatWRefIdeal)
    ∧ preserves_LatV_LatVIdeal
    ∧ algebraic_LatVIdeal_LatVRefIdeal (hLatVIdeal := hLatVIdeal) (hLatVRefIdeal := hLatVRefIdeal)
    ∧ preserves_LatQ_LatQIdeal
    ∧ algebraic_LatQIdeal_LatQRefIdeal (hLatQIdeal := hLatQIdeal) (hLatQRefIdeal := hLatQRefIdeal)
    ∧ preserves_LatC_LatCIdeal
    ∧ algebraic_LatCIdeal_LatCRefIdeal (hLatCIdeal := hLatCIdeal) (hLatCRefIdeal := hLatCRefIdeal)
    ∧ preserves_MemP_MemPIdeal
    ∧ algebraic_MemPIdeal_MemPRefIdeal (hMemPIdeal := hMemPIdeal) (hMemPRefIdeal := hMemPRefIdeal)
    ∧ preserves_MemW_MemWIdeal
    ∧ algebraic_MemWIdeal_MemWRefIdeal (hMemWIdeal := hMemWIdeal) (hMemWRefIdeal := hMemWRefIdeal)
    ∧ preserves_MemX_MemXIdeal
    ∧ algebraic_MemXIdeal_MemXRefIdeal (hMemXIdeal := hMemXIdeal) (hMemXRefIdeal := hMemXRefIdeal)
    ∧ preserves_MemF_MemFIdeal
    ∧ algebraic_MemFIdeal_MemFRefIdeal (hMemFIdeal := hMemFIdeal) (hMemFRefIdeal := hMemFRefIdeal)
    ∧ preserves_NormX_NormXIdeal
    ∧ algebraic_NormXIdeal_NormXRefIdeal (hNormXIdeal := hNormXIdeal) (hNormXRefIdeal := hNormXRefIdeal)
    ∧ preserves_NormM_NormMIdeal
    ∧ algebraic_NormMIdeal_NormMRefIdeal (hNormMIdeal := hNormMIdeal) (hNormMRefIdeal := hNormMRefIdeal)
    ∧ preserves_NormQ_NormQIdeal
    ∧ algebraic_NormQIdeal_NormQRefIdeal (hNormQIdeal := hNormQIdeal) (hNormQRefIdeal := hNormQRefIdeal)
    ∧ preserves_NormK_NormKIdeal
    ∧ algebraic_NormKIdeal_NormKRefIdeal (hNormKIdeal := hNormKIdeal) (hNormKRefIdeal := hNormKRefIdeal)
-- ==== Pre_finite.lean ====
abbrev S8192x13440 : Shape := ⟨2, ![8192, 13440]⟩
abbrev S256x4096 : Shape := ⟨2, ![256, 4096]⟩
abbrev S8192x2048 : Shape := ⟨2, ![8192, 2048]⟩
abbrev S_ : Shape := ⟨0, ![]⟩

class Facts : Prop where
  bitsLt_bf16_f32 : FTy.bits .bf16 < FTy.bits .f32
  bcast_S_S8192x13440 : S_.BroadcastsInDim S8192x13440 (![] : Fin 0 → Fin S8192x13440.rank)
  bcast_S_S256x4096 : S_.BroadcastsInDim S256x4096 (![] : Fin 0 → Fin S256x4096.rank)
  bcast_S_S8192x2048 : S_.BroadcastsInDim S8192x2048 (![] : Fin 0 → Fin S8192x2048.rank)

variable [Facts]

def fn {F : FTy → Type} [FloatOps F] (main_arg0 : FVec F S8192x13440 .bf16) (main_arg1 : FVec F S256x4096 .bf16) (main_arg2 : FVec F S8192x2048 .bf16) : IVec S8192x13440 1 × IVec S256x4096 1 × IVec S8192x2048 1 :=
  let main_v0 : FVec F S8192x13440 .f32 := (extf .f32 · bitsLt_bf16_f32) main_arg0
  let main_v1 : FVec F S8192x13440 .f32 := Host.absf main_v0
  let main_cst : FVec F S_ .f32 := constant S_ .f32 0x7F800000#32
  let main_v2 : FVec F S8192x13440 .f32 := broadcastInDim S8192x13440 ![] bcast_S_S8192x13440 main_cst
  let main_v3 : IVec S8192x13440 1 := cmpf .olt main_v1 main_v2
  let main_v4 : FVec F S256x4096 .f32 := (extf .f32 · bitsLt_bf16_f32) main_arg1
  let main_v5 : FVec F S256x4096 .f32 := Host.absf main_v4
  let main_cst_0 : FVec F S_ .f32 := constant S_ .f32 0x7F800000#32
  let main_v6 : FVec F S256x4096 .f32 := broadcastInDim S256x4096 ![] bcast_S_S256x4096 main_cst_0
  let main_v7 : IVec S256x4096 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  (main_v3, main_v7, main_v11)
-- ==== Pre_finite2.lean ====
abbrev S8192x4096 : Shape := ⟨2, ![8192, 4096]⟩
abbrev S8192x2048 : Shape := ⟨2, ![8192, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S8192x2048 : S_.BroadcastsInDim S8192x2048 (![] : Fin 0 → Fin S8192x2048.rank)

variable [Facts]

def fn {F : FTy → Type} [FloatOps F] (main_arg0 : FVec F S8192x4096 .bf16) (main_arg1 : FVec F S8192x4096 .bf16) (main_arg2 : FVec F S8192x2048 .bf16) (main_arg3 : FVec F S8192x2048 .bf16) : IVec S8192x4096 1 × IVec S8192x4096 1 × IVec S8192x2048 1 × IVec S8192x2048 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x4096 .f32 := (extf .f32 · bitsLt_bf16_f32) main_arg1
  let main_v5 : FVec F S8192x4096 .f32 := Host.absf main_v4
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : FVec F S8192x2048 .f32 := (extf .f32 · bitsLt_bf16_f32) main_arg3
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  (main_v3, main_v7, main_v11, main_v15)
-- ==== Kernel.lean ====
abbrev S8192x13440 : Shape := ⟨2, ![8192, 13440]⟩
abbrev S256x4096 : Shape := ⟨2, ![256, 4096]⟩
abbrev S8192x2048 : Shape := ⟨2, ![8192, 2048]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S8192x13440, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .bf16⟩
  | .local _ .vmem, ⟨5, _⟩ => ⟨S256x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S256x4096, .f32⟩
  | _, _ => ⟨S8192x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x13440 : Shape := ⟨2, ![8192, 13440]⟩
abbrev S256x4096 : Shape := ⟨2, ![256, 4096]⟩
abbrev S8192x2048 : Shape := ⟨2, ![8192, 2048]⟩
abbrev S256x2x4x512 : Shape := ⟨4, ![256, 2, 4, 512]⟩
abbrev S256x1x4x512 : Shape := ⟨4, ![256, 1, 4, 512]⟩
abbrev S256x4x512 : Shape := ⟨3, ![256, 4, 512]⟩
abbrev S8192x4x512 : Shape := ⟨3, ![8192, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 113
  | .vmem => 0
  | .smem => 0
  | _ => 0

abbrev bufTy : (tb : Table) → Fin (tcTables nBuf tb) → BufTy
  | .hbm, ⟨0, _⟩ => ⟨S8192x13440, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S256x4096, .f32⟩
  | .hbm, ⟨6, _⟩ => ⟨S8192x2048, .f32⟩
  | .hbm, ⟨7, _⟩ => ⟨S256x2x4x512, .f32⟩
  | .hbm, ⟨8, _⟩ => ⟨S256x1x4x512, .f32⟩
  | .hbm, ⟨9, _⟩ => ⟨S256x1x4x512, .f32⟩
  | .hbm, ⟨10, _⟩ => ⟨S256x4x512, .f32⟩
  | .hbm, ⟨11, _⟩ => ⟨S256x4x512, .f32⟩
  | .hbm, ⟨12, _⟩ => ⟨S8192x4x512, .f32⟩
  | .hbm, ⟨13, _⟩ => ⟨S4x8192x256, .f32⟩
  | .hbm, ⟨14, _⟩ => ⟨S_, .f32⟩
  | .hbm, ⟨15, _⟩ => ⟨S4x8192x256, .f32⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .i1⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x512x8192, .f32⟩
  | .hbm, ⟨56, _⟩ => ⟨S8192x4x512, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .bf16⟩
  | .hbm, ⟨81, _⟩ => ⟨S8192x4x512, .f32⟩
  | .hbm, ⟨82, _⟩ => ⟨S4x512x8192, .f32⟩
  | .hbm, ⟨83, _⟩ => ⟨S4x8192x256, .f32⟩
  | .hbm, ⟨84, _⟩ => ⟨S4x512x256, .f32⟩
  | .hbm, ⟨85, _⟩ => ⟨S256x4x512, .f32⟩
  | .hbm, ⟨86, _⟩ => ⟨S4x8192x256, .f32⟩
  | .hbm, ⟨87, _⟩ => ⟨S4x8192x256, .f32⟩
  | .hbm, ⟨88, _⟩ => ⟨S4x8192x256, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S4x8192x1, .f32⟩
  | .hbm, ⟨93, _⟩ => ⟨S4x8192x256, .f32⟩
  | .hbm, ⟨94, _⟩ => ⟨S4x8192x256, .f32⟩
  | .hbm, ⟨95, _⟩ => ⟨S_, .f32⟩
  | .hbm, ⟨96, _⟩ => ⟨S4x8192, .f32⟩
  | .hbm, ⟨97, _⟩ => ⟨S4x8192x256, .f32⟩
  | .hbm, ⟨98, _⟩ => ⟨S4x8192x256, .f32⟩
  | .hbm, ⟨99, _⟩ => ⟨S4x8192x256, .f32⟩
  | .hbm, ⟨100, _⟩ => ⟨S_, .f32⟩
  | .hbm, ⟨101, _⟩ => ⟨S4x8192x256, .f32⟩
  | .hbm, ⟨102, _⟩ => ⟨S4x8192x256, .f32⟩
  | .hbm, ⟨103, _⟩ => ⟨S4x256x512, .f32⟩
  | .hbm, ⟨104, _⟩ => ⟨S256x4x512, .f32⟩
  | .hbm, ⟨105, _⟩ => ⟨S4x8192x512, .f32⟩
  | .hbm, ⟨106, _⟩ => ⟨S8192x4x512, .f32⟩
  | .hbm, ⟨107, _⟩ => ⟨S8192x2048, .f32⟩
  | .hbm, ⟨108, _⟩ => ⟨S256x1x4x512, .f32⟩
  | .hbm, ⟨109, _⟩ => ⟨S256x1x4x512, .f32⟩
  | .hbm, ⟨110, _⟩ => ⟨S256x2x4x512, .f32⟩
  | .hbm, ⟨111, _⟩ => ⟨S256x4096, .f32⟩
  | .hbm, ⟨112, _⟩ => ⟨S8192x2048, .bf16⟩
  | _, _ => ⟨S8192x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v45_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v45_1 : Ref sig .tc := ⟨.hbm, 70, rfl⟩
abbrev main_v45_0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== Kernel2.lean ====
abbrev S8192x4096 : Shape := ⟨2, ![8192, 4096]⟩
abbrev S8192x2048 : Shape := ⟨2, ![8192, 2048]⟩
abbrev S_ : Shape := ⟨0, ![]⟩
abbrev S8192x16x256 : Shape := ⟨3, ![8192, 16, 256]⟩
abbrev S8192x16x128 : Shape := ⟨3, ![8192, 16, 128]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x8192x128 : Shape := ⟨3, ![16, 8192, 128]⟩
abbrev S8 : Shape := ⟨1, ![8]⟩
abbrev S1x1x8x1 : Shape := ⟨4, ![1, 1, 8, 1]⟩
abbrev S16x16x1x512 : Shape := ⟨4, ![16, 16, 1, 512]⟩
abbrev S16x16x8x512 : Shape := ⟨4, ![16, 16, 8, 512]⟩
abbrev S8192x256 : Shape := ⟨2, ![8192, 256]⟩
abbrev S512x256 : Shape := ⟨2, ![512, 256]⟩
abbrev S512x128 : Shape := ⟨2, ![512, 128]⟩
abbrev S8192x128 : Shape := ⟨2, ![8192, 128]⟩
abbrev S1x16x8x512 : Shape := ⟨4, ![1, 16, 8, 512]⟩
abbrev S1 : Shape := ⟨1, ![1]⟩
abbrev S1x1x8x512 : Shape := ⟨4, ![1, 1, 8, 512]⟩
abbrev S8x512 : Shape := ⟨2, ![8, 512]⟩
abbrev S512x512 : Shape := ⟨2, ![512, 512]⟩
abbrev S1x512 : Shape := ⟨2, ![1, 512]⟩

abbrev nBuf : Space → Nat
  | .hbm => 74
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x16x256, .f32⟩
  | .hbm, ⟨10, _⟩ => ⟨S8192x4096, .f32⟩
  | .hbm, ⟨11, _⟩ => ⟨S8192x16x256, .f32⟩
  | .hbm, ⟨12, _⟩ => ⟨S8192x2048, .f32⟩
  | .hbm, ⟨13, _⟩ => ⟨S8192x16x128, .f32⟩
  | .hbm, ⟨14, _⟩ => ⟨S8192x2048, .f32⟩
  | .hbm, ⟨15, _⟩ => ⟨S8192x16x128, .f32⟩
  | .hbm, ⟨16, _⟩ => ⟨S16x8192x8192, .f32⟩
  | .hbm, ⟨17, _⟩ => ⟨S8192, .i32⟩
  | .hbm, ⟨18, _⟩ => ⟨S1x8192, .i32⟩
  | .hbm, ⟨19, _⟩ => ⟨S8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S16x8192x128, .f32⟩
  | .hbm, ⟨41, _⟩ => ⟨S16x8192x1, .f32⟩
  | .hbm, ⟨42, _⟩ => ⟨S16x8192x1, .f32⟩
  | .hbm, ⟨43, _⟩ => ⟨S_, .f32⟩
  | .hbm, ⟨44, _⟩ => ⟨S_, .f32⟩
  | .hbm, ⟨45, _⟩ => ⟨S16x8192x1, .f32⟩
  | .hbm, ⟨46, _⟩ => ⟨S16x8192x1, .f32⟩
  | .hbm, ⟨47, _⟩ => ⟨S16x8192, .f32⟩
  | .hbm, ⟨48, _⟩ => ⟨S16x8192x128, .f32⟩
  | .hbm, ⟨49, _⟩ => ⟨S16x8192x128, .f32⟩
  | .hbm, ⟨50, _⟩ => ⟨S_, .f32⟩
  | .hbm, ⟨51, _⟩ => ⟨S16x8192, .f32⟩
  | .hbm, ⟨52, _⟩ => ⟨S8, .i32⟩
  | .hbm, ⟨53, _⟩ => ⟨S1x1x8x1, .i32⟩
  | .hbm, ⟨54, _⟩ => ⟨S16x16x1x512, .f32⟩
  | .hbm, ⟨55, _⟩ => ⟨S16x16x1x512, .f32⟩
  | .hbm, ⟨56, _⟩ => ⟨S_, .i32⟩
  | .hbm, ⟨57, _⟩ => ⟨S1x1x8x1, .i32⟩
  | .hbm, ⟨58, _⟩ => ⟨S1x1x8x1, .i1⟩
  | .hbm, ⟨59, _⟩ => ⟨S_, .i32⟩
  | .hbm, ⟨60, _⟩ => ⟨S1x1x8x1, .i32⟩
  | .hbm, ⟨61, _⟩ => ⟨S1x1x8x1, .i1⟩
  | .hbm, ⟨62, _⟩ => ⟨S_, .f32⟩
  | .hbm, ⟨63, _⟩ => ⟨S_, .f32⟩
  | .hbm, ⟨64, _⟩ => ⟨S16x16x8x512, .i1⟩
  | .hbm, ⟨65, _⟩ => ⟨S16x16x8x512, .f32⟩
  | .hbm, ⟨66, _⟩ => ⟨S16x16x8x512, .f32⟩
  | .hbm, ⟨67, _⟩ => ⟨S16x16x8x512, .f32⟩
  | .hbm, ⟨68, _⟩ => ⟨S16x16x8x512, .i1⟩
  | .hbm, ⟨69, _⟩ => ⟨S16x16x8x512, .f32⟩
  | .hbm, ⟨70, _⟩ => ⟨S16x16x8x512, .f32⟩
  | .hbm, ⟨71, _⟩ => ⟨S8192x4096, .f32⟩
  | .hbm, ⟨72, _⟩ => ⟨S8192x4096, .bf16⟩
  | .hbm, ⟨73, _⟩ => ⟨S8192x2048, .bf16⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S1x16x8x512, .f32⟩
  | .local _ .vmem, ⟨9, _⟩ => ⟨S1x16x8x512, .f32⟩
  | .local _ .vmem, ⟨10, _⟩ => ⟨S8192x256, .f32⟩
  | .local _ .vmem, ⟨11, _⟩ => ⟨S8192x256, .f32⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_v47 : Ref sig .tc := ⟨.hbm, 67, rfl⟩
abbrev main_call2_v0 : Ref sig .tc := ⟨.hbm, 68, rfl⟩
abbrev main_call2_v1 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_5 : Index := 0#32
  ![v9.toNat, 0]
def k0_off2 (i : grid0.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v11 : Index := Scalar.indexCast v8
  let c0_6 : Index := 0#32
  ![v11.toNat, 0]
def k0_off3 (i : grid0.Coords) : Fin 4 → Nat :=
  let c0_7 : Index := 0#32
  let arg1 : BitVec 32 := BitVec.ofNat 32 (i 1).val
  let v13 : Index := Scalar.indexCast arg1
  let c0_8 : Index := 0#32
  let c0_9 : Index := 0#32
  ![0, v13.toNat, 0, 0]
def k0_cond2 (i : grid0.Coords) : BitVec 1 :=
  let c15_i32 : BitVec 32 := 15#32
  let arg1 : BitVec 32 := BitVec.ofNat 32 (i 1).val
  let v46 : BitVec 32 := Scalar.subi c15_i32 arg1
  let c4_i32 : BitVec 32 := 4#32
  let c0_i32_19 : BitVec 32 := 0#32
  let v47 : BitVec 1 := Scalar.cmpi .eq c4_i32 c0_i32_19
  let c1_i32 : BitVec 32 := 1#32
  let v48 : BitVec 32 := Scalar.select v47 c1_i32 c4_i32
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_26 : BitVec 32 := 0#32
  let v60 : BitVec 32 := Scalar.maxsi v56 c0_i32_26
  let c3_i32 : BitVec 32 := 3#32
  let v61 : BitVec 32 := Scalar.minsi v60 c3_i32
  let c0_i32_27 : BitVec 32 := 0#32
  let v62 : BitVec 1 := Scalar.cmpi .ne v61 c0_i32_27
  v62

def k0_cond3 (i : grid0.Coords) : BitVec 1 :=
  let c15_i32 : BitVec 32 := 15#32
  let arg1 : BitVec 32 := BitVec.ofNat 32 (i 1).val
  let v46 : BitVec 32 := Scalar.subi c15_i32 arg1
  let c4_i32 : BitVec 32 := 4#32
  let c0_i32_19 : BitVec 32 := 0#32
  let v47 : BitVec 1 := Scalar.cmpi .eq c4_i32 c0_i32_19
  let c1_i32 : BitVec 32 := 1#32
  let v48 : BitVec 32 := Scalar.select v47 c1_i32 c4_i32
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_26 : BitVec 32 := 0#32
  let v60 : BitVec 32 := Scalar.maxsi v56 c0_i32_26
  let c3_i32 : BitVec 32 := 3#32
  let v61 : BitVec 32 := Scalar.minsi v60 c3_i32
  let c1_i32_51 : BitVec 32 := 1#32
  let v106 : BitVec 32 := Scalar.subi v61 c1_i32_51
  let c0_i32_52 : BitVec 32 := 0#32
  let v107 : BitVec 1 := Scalar.cmpi .ne v106 c0_i32_52
  v107

def k0_cond4 (i : grid0.Coords) : BitVec 1 :=
  let c15_i32 : BitVec 32 := 15#32
  let arg1 : BitVec 32 := BitVec.ofNat 32 (i 1).val
  let v46 : BitVec 32 := Scalar.subi c15_i32 arg1
  let c4_i32 : BitVec 32 := 4#32
  let c0_i32_19 : BitVec 32 := 0#32
  let v47 : BitVec 1 := Scalar.cmpi .eq c4_i32 c0_i32_19
  let c1_i32 : BitVec 32 := 1#32
  let v48 : BitVec 32 := Scalar.select v47 c1_i32 c4_i32
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_26 : BitVec 32 := 0#32
  let v60 : BitVec 32 := Scalar.maxsi v56 c0_i32_26
  let c3_i32 : BitVec 32 := 3#32
  let v61 : BitVec 32 := Scalar.minsi v60 c3_i32
  let c1_i32_51 : BitVec 32 := 1#32
  let v106 : BitVec 32 := Scalar.subi v61 c1_i32_51
  let c1_i32_53 : BitVec 32 := 1#32
  let v109 : BitVec 32 := Scalar.subi v106 c1_i32_53
  let c0_i32_54 : BitVec 32 := 0#32
  let v110 : BitVec 1 := Scalar.cmpi .ne v109 c0_i32_54
  v110

def k0_mult2 (i : grid0.Coords) : BitVec 32 :=
  let arg1 : BitVec 32 := BitVec.ofNat 32 (i 1).val
  let c1_i32_25 : BitVec 32 := 1#32
  let v59 : BitVec 32 := Scalar.addi arg1 c1_i32_25
  let c0_i32_55 : BitVec 32 := 0#32
  let v112 : BitVec 32 := Scalar.addi v59 c0_i32_55
  let c512_i32_56 : BitVec 32 := 512#32
  let v113 : BitVec 32 := Scalar.muli v112 c512_i32_56
  v113
def k0_off4 (i : grid0.Coords) (c0_i32_55 : BitVec 32) : Fin 2 → Nat :=
  let arg1 : BitVec 32 := BitVec.ofNat 32 (i 1).val
  let c1_i32_25 : BitVec 32 := 1#32
  let v59 : BitVec 32 := Scalar.addi arg1 c1_i32_25
  let v112 : BitVec 32 := Scalar.addi v59 c0_i32_55
  let c512_i32_56 : BitVec 32 := 512#32
  let v113 : BitVec 32 := Scalar.muli v112 c512_i32_56
  let v114 : BitVec 32 := v113
  let v115 : Index := Scalar.indexCast v114
  let c0_57 : Index := 0#32
  ![v115.toNat, 0]
def k0_off5 (i : grid0.Coords) (c0_i32_55 : BitVec 32) : Fin 2 → Nat :=
  let arg1 : BitVec 32 := BitVec.ofNat 32 (i 1).val
  let c1_i32_25 : BitVec 32 := 1#32
  let v59 : BitVec 32 := Scalar.addi arg1 c1_i32_25
  let v112 : BitVec 32 := Scalar.addi v59 c0_i32_55
  let c512_i32_56 : BitVec 32 := 512#32
  let v113 : BitVec 32 := Scalar.muli v112 c512_i32_56
  let v114 : BitVec 32 := v113
  let v117 : Index := Scalar.indexCast v114
  let c0_58 : Index := 0#32
  ![v117.toNat, 0]
def k0_off6 (i : grid0.Coords) (c0_i32_55 : BitVec 32) : Fin 4 → Nat :=
  let c0_59 : Index := 0#32
  let arg1 : BitVec 32 := BitVec.ofNat 32 (i 1).val
  let c1_i32_25 : BitVec 32 := 1#32
  let v59 : BitVec 32 := Scalar.addi arg1 c1_i32_25
  let v112 : BitVec 32 := Scalar.addi v59 c0_i32_55
  let v119 : Index := Scalar.indexCast v112
  let c0_60 : Index := 0#32
  let c0_61 : Index := 0#32
  ![0, v119.toNat, 0, 0]
def k0_mult3 (i : grid0.Coords) : BitVec 32 :=
  let arg1 : BitVec 32 := BitVec.ofNat 32 (i 1).val
  let c1_i32_25 : BitVec 32 := 1#32
  let v59 : BitVec 32 := Scalar.addi arg1 c1_i32_25
  let c1_i32_70 : BitVec 32 := 1#32
  let v147 : BitVec 32 := Scalar.addi v59 c1_i32_70
  let c512_i32_71 : BitVec 32 := 512#32
  let v148 : BitVec 32 := Scalar.muli v147 c512_i32_71
  v148
def k0_mult4 (i : grid0.Coords) : BitVec 32 :=
  let arg1 : BitVec 32 := BitVec.ofNat 32 (i 1).val
  let c1_i32_25 : BitVec 32 := 1#32
  let v59 : BitVec 32 := Scalar.addi arg1 c1_i32_25
  let c2_i32 : BitVec 32 := 2#32
  let v182 : BitVec 32 := Scalar.addi v59 c2_i32
  let c512_i32_85 : BitVec 32 := 512#32
  let v183 : BitVec 32 := Scalar.muli v182 c512_i32_85
  v183
def k0_mult5 (i : grid0.Coords) : BitVec 32 :=
  let arg1 : BitVec 32 := BitVec.ofNat 32 (i 1).val
  let c1_i32_24 : BitVec 32 := 1#32
  let v58 : BitVec 32 := Scalar.addi arg1 c1_i32_24
  let c0_i32_55 : BitVec 32 := 0#32
  let v112 : BitVec 32 := Scalar.addi v58 c0_i32_55
  let c512_i32_56 : BitVec 32 := 512#32
  let v113 : BitVec 32 := Scalar.muli v112 c512_i32_56
  v113
def k0_off7 (i : grid0.Coords) (c0_i32_55 : BitVec 32) : Fin 2 → Nat :=
  let arg1 : BitVec 32 := BitVec.ofNat 32 (i 1).val
  let c1_i32_24 : BitVec 32 := 1#32
  let v58 : BitVec 32 := Scalar.addi arg1 c1_i32_24
  let v112 : BitVec 32 := Scalar.addi v58 c0_i32_55
  let c512_i32_56 : BitVec 32 := 512#32
  let v113 : BitVec 32 := Scalar.muli v112 c512_i32_56
  let v114 : BitVec 32 := v113
  let v115 : Index := Scalar.indexCast v114
  let c0_57 : Index := 0#32
  ![v115.toNat, 0]
def k0_off8 (i : grid0.Coords) (c0_i32_55 : BitVec 32) : Fin 2 → Nat :=
  let arg1 : BitVec 32 := BitVec.ofNat 32 (i 1).val
  let c1_i32_24 : BitVec 32 := 1#32
  let v58 : BitVec 32 := Scalar.addi arg1 c1_i32_24
  let v112 : BitVec 32 := Scalar.addi v58 c0_i32_55
  let c512_i32_56 : BitVec 32 := 512#32
  let v113 : BitVec 32 := Scalar.muli v112 c512_i32_56
  let v114 : BitVec 32 := v113
  let v117 : Index := Scalar.indexCast v114
  let c0_58 : Index := 0#32
  ![v117.toNat, 0]
def k0_off9 (i : grid0.Coords) (c0_i32_55 : BitVec 32) : Fin 4 → Nat :=
  let c0_59 : Index := 0#32
  let arg1 : BitVec 32 := BitVec.ofNat 32 (i 1).val
  let c1_i32_24 : BitVec 32 := 1#32
  let v58 : BitVec 32 := Scalar.addi arg1 c1_i32_24
  let v112 : BitVec 32 := Scalar.addi v58 c0_i32_55
  let v119 : Index := Scalar.indexCast v112
  let c0_60 : Index := 0#32
  let c0_61 : Index := 0#32
  ![0, v119.toNat, 0, 0]
def k0_mult6 (i : grid0.Coords) : BitVec 32 :=
  let arg1 : BitVec 32 := BitVec.ofNat 32 (i 1).val
  let c1_i32_24 : BitVec 32 := 1#32
  let v58 : BitVec 32 := Scalar.addi arg1 c1_i32_24
  let c1_i32_70 : BitVec 32 := 1#32
  let v147 : BitVec 32 := Scalar.addi v58 c1_i32_70
  let c512_i32_71 : BitVec 32 := 512#32
  let v148 : BitVec 32 := Scalar.muli v147 c512_i32_71
  v148
def k0_mult7 (i : grid0.Coords) : BitVec 32 :=
  let arg1 : BitVec 32 := BitVec.ofNat 32 (i 1).val
  let c1_i32_23 : BitVec 32 := 1#32
  let v57 : BitVec 32 := Scalar.addi arg1 c1_i32_23
  let c0_i32_53 : BitVec 32 := 0#32
  let v109 : BitVec 32 := Scalar.addi v57 c0_i32_53
  let c512_i32_54 : BitVec 32 := 512#32
  let v110 : BitVec 32 := Scalar.muli v109 c512_i32_54
  v110
def k0_off10 (i : grid0.Coords) : Fin 2 → Nat :=
  let arg1 : BitVec 32 := BitVec.ofNat 32 (i 1).val
  let c1_i32_23 : BitVec 32 := 1#32
  let v57 : BitVec 32 := Scalar.addi arg1 c1_i32_23
  let c0_i32_53 : BitVec 32 := 0#32
  let v109 : BitVec 32 := Scalar.addi v57 c0_i32_53
  let c512_i32_54 : BitVec 32 := 512#32
  let v110 : BitVec 32 := Scalar.muli v109 c512_i32_54
  let v111 : BitVec 32 := v110
  let v112 : Index := Scalar.indexCast v111
  let c0_55 : Index := 0#32
  ![v112.toNat, 0]
def k0_off11 (i : grid0.Coords) : Fin 2 → Nat :=
  let arg1 : BitVec 32 := BitVec.ofNat 32 (i 1).val
  let c1_i32_23 : BitVec 32 := 1#32
  let v57 : BitVec 32 := Scalar.addi arg1 c1_i32_23
  let c0_i32_53 : BitVec 32 := 0#32
  let v109 : BitVec 32 := Scalar.addi v57 c0_i32_53
  let c512_i32_54 : BitVec 32 := 512#32
  let v110 : BitVec 32 := Scalar.muli v109 c512_i32_54
  let v111 : BitVec 32 := v110
  let v114 : Index := Scalar.indexCast v111
  let c0_56 : Index := 0#32
  ![v114.toNat, 0]
def k0_off12 (i : grid0.Coords) : Fin 4 → Nat :=
  let c0_57 : Index := 0#32
  let arg1 : BitVec 32 := BitVec.ofNat 32 (i 1).val
  let c1_i32_23 : BitVec 32 := 1#32
  let v57 : BitVec 32 := Scalar.addi arg1 c1_i32_23
  let c0_i32_53 : BitVec 32 := 0#32
  let v109 : BitVec 32 := Scalar.addi v57 c0_i32_53
  let v116 : Index := Scalar.indexCast v109
  let c0_58 : Index := 0#32
  let c0_59 : Index := 0#32
  ![0, v116.toNat, 0, 0]
@[reducible] def k0_t1_loop (i : grid0.Coords) : Scf.Loop 32 :=
  let c0_i32_42 : BitVec 32 := 0#32
  let c15_i32 : BitVec 32 := 15#32
  let arg1 : BitVec 32 := BitVec.ofNat 32 (i 1).val
  let v46 : BitVec 32 := Scalar.subi c15_i32 arg1
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_44 : BitVec 32 := 1#32
  ⟨c0_i32_42, v97, c1_i32_44⟩
def k0_mult8 (i : grid0.Coords) (k0_t1 : Fin (k0_t1_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let c0_i32_52 : BitVec 32 := 0#32
  let v108 : BitVec 32 := Scalar.addi v107 c0_i32_52
  let c512_i32_53 : BitVec 32 := 512#32
  let v109 : BitVec 32 := Scalar.muli v108 c512_i32_53
  v109
def k0_off13 (i : grid0.Coords) (k0_t1 : Fin (k0_t1_loop i).trips) (c0_i32_52 : BitVec 32) : Fin 2 → Nat :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let v108 : BitVec 32 := Scalar.addi v107 c0_i32_52
  let c512_i32_53 : BitVec 32 := 512#32
  let v109 : BitVec 32 := Scalar.muli v108 c512_i32_53
  let v110 : BitVec 32 := v109
  let v111 : Index := Scalar.indexCast v110
  let c0_54 : Index := 0#32
  ![v111.toNat, 0]
def k0_off14 (i : grid0.Coords) (k0_t1 : Fin (k0_t1_loop i).trips) (c0_i32_52 : BitVec 32) : Fin 2 → Nat :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let v108 : BitVec 32 := Scalar.addi v107 c0_i32_52
  let c512_i32_53 : BitVec 32 := 512#32
  let v109 : BitVec 32 := Scalar.muli v108 c512_i32_53
  let v110 : BitVec 32 := v109
  let v113 : Index := Scalar.indexCast v110
  let c0_55 : Index := 0#32
  ![v113.toNat, 0]
def k0_off15 (i : grid0.Coords) (k0_t1 : Fin (k0_t1_loop i).trips) (c0_i32_52 : BitVec 32) : Fin 4 → Nat :=
  let c0_56 : Index := 0#32
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let v108 : BitVec 32 := Scalar.addi v107 c0_i32_52
  let v115 : Index := Scalar.indexCast v108
  let c0_57 : Index := 0#32
  let c0_58 : Index := 0#32
  ![0, v115.toNat, 0, 0]
def k0_mult9 (i : grid0.Coords) (k0_t1 : Fin (k0_t1_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let c1_i32_67 : BitVec 32 := 1#32
  let v143 : BitVec 32 := Scalar.addi v107 c1_i32_67
  let c512_i32_68 : BitVec 32 := 512#32
  let v144 : BitVec 32 := Scalar.muli v143 c512_i32_68
  v144
def k0_mult10 (i : grid0.Coords) (k0_t1 : Fin (k0_t1_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let c2_i32 : BitVec 32 := 2#32
  let v178 : BitVec 32 := Scalar.addi v107 c2_i32
  let c512_i32_82 : BitVec 32 := 512#32
  let v179 : BitVec 32 := Scalar.muli v178 c512_i32_82
  v179
def k0_mult11 (i : grid0.Coords) (k0_t1 : Fin (k0_t1_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c1_i32_44 : BitVec 32 := 1#32
  let arg12 : BitVec 32 := Scf.iv c0_i32_42 c1_i32_44 k0_t1
  let v106 : BitVec 32 := Scalar.muli c4_i32_51 arg12
  let v107 : BitVec 32 := Scalar.addi v75 v106
  let c3_i32_96 : BitVec 32 := 3#32
  let v213 : BitVec 32 := Scalar.addi v107 c3_i32_96
  let c512_i32_97 : BitVec 32 := 512#32
  let v214 : BitVec 32 := Scalar.muli v213 c512_i32_97
  v214
@[reducible] def k0_t2_loop (i : grid0.Coords) : Scf.Loop 32 :=
  let c0_i32_42 : BitVec 32 := 0#32
  let c15_i32 : BitVec 32 := 15#32
  let arg1 : BitVec 32 := BitVec.ofNat 32 (i 1).val
  let v46 : BitVec 32 := Scalar.subi c15_i32 arg1
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let v94 : BitVec 32 := Scalar.addi c0_i32_42 v93
  let c1_i32_45 : BitVec 32 := 1#32
  ⟨v97, v94, c1_i32_45⟩
def k0_mult12 (i : grid0.Coords) (k0_t2 : Fin (k0_t2_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let c0_i32_52 : BitVec 32 := 0#32
  let v108 : BitVec 32 := Scalar.addi v107 c0_i32_52
  let c512_i32_53 : BitVec 32 := 512#32
  let v109 : BitVec 32 := Scalar.muli v108 c512_i32_53
  v109
def k0_off16 (i : grid0.Coords) (k0_t2 : Fin (k0_t2_loop i).trips) (c0_i32_52 : BitVec 32) : Fin 2 → Nat :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let v108 : BitVec 32 := Scalar.addi v107 c0_i32_52
  let c512_i32_53 : BitVec 32 := 512#32
  let v109 : BitVec 32 := Scalar.muli v108 c512_i32_53
  let v110 : BitVec 32 := v109
  let v111 : Index := Scalar.indexCast v110
  let c0_54 : Index := 0#32
  ![v111.toNat, 0]
def k0_off17 (i : grid0.Coords) (k0_t2 : Fin (k0_t2_loop i).trips) (c0_i32_52 : BitVec 32) : Fin 2 → Nat :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let v108 : BitVec 32 := Scalar.addi v107 c0_i32_52
  let c512_i32_53 : BitVec 32 := 512#32
  let v109 : BitVec 32 := Scalar.muli v108 c512_i32_53
  let v110 : BitVec 32 := v109
  let v113 : Index := Scalar.indexCast v110
  let c0_55 : Index := 0#32
  ![v113.toNat, 0]
def k0_off18 (i : grid0.Coords) (k0_t2 : Fin (k0_t2_loop i).trips) (c0_i32_52 : BitVec 32) : Fin 4 → Nat :=
  let c0_56 : Index := 0#32
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let v108 : BitVec 32 := Scalar.addi v107 c0_i32_52
  let v115 : Index := Scalar.indexCast v108
  let c0_57 : Index := 0#32
  let c0_58 : Index := 0#32
  ![0, v115.toNat, 0, 0]
def k0_mult13 (i : grid0.Coords) (k0_t2 : Fin (k0_t2_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let c1_i32_67 : BitVec 32 := 1#32
  let v143 : BitVec 32 := Scalar.addi v107 c1_i32_67
  let c512_i32_68 : BitVec 32 := 512#32
  let v144 : BitVec 32 := Scalar.muli v143 c512_i32_68
  v144
def k0_mult14 (i : grid0.Coords) (k0_t2 : Fin (k0_t2_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let c2_i32 : BitVec 32 := 2#32
  let v178 : BitVec 32 := Scalar.addi v107 c2_i32
  let c512_i32_82 : BitVec 32 := 512#32
  let v179 : BitVec 32 := Scalar.muli v178 c512_i32_82
  v179
def k0_mult15 (i : grid0.Coords) (k0_t2 : Fin (k0_t2_loop i).trips) : BitVec 32 :=
  let arg1 : BitVec 32 := BitVec.ofNat 32 (i 1).val
  let c1_i32_28 : BitVec 32 := 1#32
  let v64 : BitVec 32 := Scalar.addi arg1 c1_i32_28
  let c15_i32 : BitVec 32 := 15#32
  let v46 : BitVec 32 := Scalar.subi c15_i32 arg1
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v46 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let v75 : BitVec 32 := Scalar.addi v64 v74
  let c4_i32_51 : BitVec 32 := 4#32
  let c0_i32_42 : BitVec 32 := 0#32
  let c0_i32_36 : BitVec 32 := 0#32
  let v77 : BitVec 1 := Scalar.cmpi .sgt v46 c0_i32_36
  let v78 : BitVec 32 := Scalar.extui v77
  let c0_i32_37 : BitVec 32 := 0#32
  let v79 : BitVec 1 := Scalar.cmpi .slt v46 c0_i32_37
  let v80 : BitVec 32 := Scalar.extui v79
  let v81 : BitVec 32 := Scalar.subi v78 v80
  let c4_i32_35 : BitVec 32 := 4#32
  let c0_i32_38 : BitVec 32 := 0#32
  let v82 : BitVec 1 := Scalar.cmpi .sgt c4_i32_35 c0_i32_38
  let v83 : BitVec 32 := Scalar.extui v82
  let c0_i32_39 : BitVec 32 := 0#32
  let v84 : BitVec 1 := Scalar.cmpi .slt c4_i32_35 c0_i32_39
  let v85 : BitVec 32 := Scalar.extui v84
  let v86 : BitVec 32 := Scalar.subi v83 v85
  let v87 : BitVec 1 := Scalar.cmpi .ne v81 v86
  let v88 : BitVec 32 := Scalar.remsi v46 c4_i32_35
  let c0_i32_40 : BitVec 32 := 0#32
  let v89 : BitVec 1 := Scalar.cmpi .ne v88 c0_i32_40
  let v90 : BitVec 1 := Scalar.andi v87 v89
  let v76 : BitVec 32 := Scalar.divsi v46 c4_i32_35
  let c1_i32_41 : BitVec 32 := 1#32
  let v91 : BitVec 32 := Scalar.subi v76 c1_i32_41
  let v92 : BitVec 32 := Scalar.select v90 v91 v76
  let v93 : BitVec 32 := Scalar.subi v92 c0_i32_42
  let c1_i32_43 : BitVec 32 := 1#32
  let v95 : BitVec 32 := Scalar.divsi v93 c1_i32_43
  let v96 : BitVec 32 := Scalar.muli v95 c1_i32_43
  let v97 : BitVec 32 := Scalar.addi c0_i32_42 v96
  let c1_i32_45 : BitVec 32 := 1#32
  let arg12 : BitVec 32 := Scf.iv v97 c1_i32_45 k0_t2
  let v106 : BitVec 32 := Scalar.muli c4_i32_51 arg12
  let v107 : BitVec 32 := Scalar.addi v75 v106
  let c3_i32_96 : BitVec 32 := 3#32
  let v213 : BitVec 32 := Scalar.addi v107 c3_i32_96
  let c512_i32_97 : BitVec 32 := 512#32
  let v214 : BitVec 32 := Scalar.muli v213 c512_i32_97
  v214
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== Reference2Ideal.lean ====
abbrev S8192x4096 : Shape := ⟨2, ![8192, 4096]⟩
abbrev S8192x2048 : Shape := ⟨2, ![8192, 2048]⟩
abbrev S_ : Shape := ⟨0, ![]⟩
abbrev S8192x16x256 : Shape := ⟨3, ![8192, 16, 256]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S8192x16x128 : Shape := ⟨3, ![8192, 16, 128]⟩
abbrev S16x128x8192 : Shape := ⟨3, ![16, 128, 8192]⟩
abbrev S16x8192x256 : Shape := ⟨3, ![16, 8192, 256]⟩

abbrev nBuf : Space → Nat
  | .hbm => 102
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S8192x4096, .f32⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x16x256, .f32⟩
  | .hbm, ⟨10, _⟩ => ⟨S8192x4096, .f32⟩
  | .hbm, ⟨11, _⟩ => ⟨S8192x16x256, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S16x8192x8192, .i1⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192x8192, .f32⟩
  | .hbm, ⟨27, _⟩ => ⟨S_, .f32⟩
  | .hbm, ⟨28, _⟩ => ⟨S16x8192, .f32⟩
  | .hbm, ⟨29, _⟩ => ⟨S16x8192x1, .f32⟩
  | .hbm, ⟨30, _⟩ => ⟨S16x8192x8192, .f32⟩
  | .hbm, ⟨31, _⟩ => ⟨S16x8192x8192, .i1⟩
  | .hbm, ⟨32, _⟩ => ⟨S16x8192x8192, .f32⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S16x8192, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .i1⟩
  | .hbm, ⟨41, _⟩ => ⟨S_, .f32⟩
  | .hbm, ⟨42, _⟩ => ⟨S16x8192, .f32⟩
  | .hbm, ⟨43, _⟩ => ⟨S16x8192, .i1⟩
  | .hbm, ⟨44, _⟩ => ⟨S_, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S_, .f32⟩
  | .hbm, ⟨49, _⟩ => ⟨S16x8192, .f32⟩
  | .hbm, ⟨50, _⟩ => ⟨S16x8192, .f32⟩
  | .hbm, ⟨51, _⟩ => ⟨S16x8192, .f32⟩
  | .hbm, ⟨52, _⟩ => ⟨S16x8192x1, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S_, .f32⟩
  | .hbm, ⟨57, _⟩ => ⟨S16x8192, .f32⟩
  | .hbm, ⟨58, _⟩ => ⟨S16x8192x1, .f32⟩
  | .hbm, ⟨59, _⟩ => ⟨S16x8192x8192, .f32⟩
  | .hbm, ⟨60, _⟩ => ⟨S16x8192x8192, .f32⟩
  | .hbm, ⟨61, _⟩ => ⟨S16x8192x1, .f32⟩
  | .hbm, ⟨62, _⟩ => ⟨S_, .f32⟩
  | .hbm, ⟨63, _⟩ => ⟨S16x8192x1, .f32⟩
  | .hbm, ⟨64, _⟩ => ⟨S16x8192x1, .f32⟩
  | .hbm, ⟨65, _⟩ => ⟨S8192x2048, .f32⟩
  | .hbm, ⟨66, _⟩ => ⟨S8192x16x128, .f32⟩
  | .hbm, ⟨67, _⟩ => ⟨S16x128x8192, .f32⟩
  | .hbm, ⟨68, _⟩ => ⟨S8192x16x128, .f32⟩
  | .hbm, ⟨69, _⟩ => ⟨S8192x2048, .f32⟩
  | .hbm, ⟨70, _⟩ => ⟨S8192x2048, .f32⟩
  | .hbm, ⟨71, _⟩ => ⟨S8192x16x128, .f32⟩
  | .hbm, ⟨72, _⟩ => ⟨S16x128x8192, .f32⟩
  | .hbm, ⟨73, _⟩ => ⟨S16x8192x8192, .f32⟩
  | .hbm, ⟨74, _⟩ => ⟨S16x128x8192, .f32⟩
  | .hbm, ⟨75, _⟩ => ⟨S8192x16x128, .f32⟩
  | .hbm, ⟨76, _⟩ => ⟨S8192x2048, .f32⟩
  | .hbm, ⟨77, _⟩ => ⟨S8192x2048, .bf16⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S16x8192x256, .f32⟩
  | .hbm, ⟨96, _⟩ => ⟨S8192x16x256, .f32⟩
  | .hbm, ⟨97, _⟩ => ⟨S16x8192x256, .f32⟩
  | .hbm, ⟨98, _⟩ => ⟨S8192x16x256, .f32⟩
  | .hbm, ⟨99, _⟩ => ⟨S8192x4096, .f32⟩
  | .hbm, ⟨100, _⟩ => ⟨S8192x4096, .bf16⟩
  | .hbm, ⟨101, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== GateW.lean ====
abbrev S8192x2048 : Shape := ⟨2, ![8192, 2048]⟩
abbrev S8192x6144 : Shape := ⟨2, ![8192, 6144]⟩
abbrev S2048x6144 : Shape := ⟨2, ![2048, 6144]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateH.lean ====
abbrev S8192x6144 : Shape := ⟨2, ![8192, 6144]⟩
abbrev S2048x6144 : Shape := ⟨2, ![2048, 6144]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateHRefIdeal.lean ====
abbrev S8192x6144 : Shape := ⟨2, ![8192, 6144]⟩
abbrev S2048x6144 : Shape := ⟨2, ![2048, 6144]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S_, .f32⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x6144, .f32⟩
  | .hbm, ⟨7, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchW.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchWRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchY.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchYRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S8192x2048 : Shape := ⟨2, ![8192, 2048]⟩
abbrev S8192x13440 : Shape := ⟨2, ![8192, 13440]⟩
abbrev S2048x13440 : Shape := ⟨2, ![2048, 13440]⟩
abbrev S4096x1024 : Shape := ⟨2, ![4096, 1024]⟩
abbrev S4096x896 : Shape := ⟨2, ![4096, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x13440, .bf16⟩
  | .hbm, ⟨2, _⟩ => ⟨S2048x13440, .f32⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![15, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x2048 : Shape := ⟨2, ![8192, 2048]⟩
abbrev S8192x13440 : Shape := ⟨2, ![8192, 13440]⟩
abbrev S_ : Shape := ⟨0, ![]⟩
abbrev S2048x13440 : Shape := ⟨2, ![2048, 13440]⟩
abbrev S13440x2048 : Shape := ⟨2, ![13440, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x13440, .bf16⟩
  | .hbm, ⟨2, _⟩ => ⟨S_, .f32⟩
  | .hbm, ⟨3, _⟩ => ⟨S2048x13440, .f32⟩
  | .hbm, ⟨4, _⟩ => ⟨S8192x2048, .f32⟩
  | .hbm, ⟨5, _⟩ => ⟨S8192x13440, .f32⟩
  | .hbm, ⟨6, _⟩ => ⟨S8192x13440, .f32⟩
  | .hbm, ⟨7, _⟩ => ⟨S13440x2048, .f32⟩
  | .hbm, ⟨8, _⟩ => ⟨S2048x13440, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InH.lean ====
abbrev S8192x13440 : Shape := ⟨2, ![8192, 13440]⟩
abbrev S2048x13440 : Shape := ⟨2, ![2048, 13440]⟩
abbrev S8192x2048 : Shape := ⟨2, ![8192, 2048]⟩
abbrev S1024x2688 : Shape := ⟨2, ![1024, 2688]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x13440, .bf16⟩
  | .hbm, ⟨1, _⟩ => ⟨S2048x13440, .bf16⟩
  | .hbm, ⟨2, _⟩ => ⟨S8192x2048, .f32⟩
  | .hbm, ⟨3, _⟩ => ⟨S8192x2048, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InHRefIdeal.lean ====
abbrev S8192x13440 : Shape := ⟨2, ![8192, 13440]⟩
abbrev S2048x13440 : Shape := ⟨2, ![2048, 13440]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x13440, .bf16⟩
  | .hbm, ⟨1, _⟩ => ⟨S2048x13440, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x13440, .f32⟩
  | .hbm, ⟨6, _⟩ => ⟨S8192x13440, .f32⟩
  | .hbm, ⟨7, _⟩ => ⟨S8192x13440, .f32⟩
  | .hbm, ⟨8, _⟩ => ⟨S8192x2048, .f32⟩
  | .hbm, ⟨9, _⟩ => ⟨S8192x2048, .f32⟩
  | _, _ => ⟨S8192x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InP.lean ====
abbrev S8192x2048 : Shape := ⟨2, ![8192, 2048]⟩
abbrev S2048x13440 : Shape := ⟨2, ![2048, 13440]⟩
abbrev S8192x13440 : Shape := ⟨2, ![8192, 13440]⟩
abbrev S1024x2048 : Shape := ⟨2, ![1024, 2048]⟩
abbrev S2048x1920 : Shape := ⟨2, ![2048, 1920]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x13440, .bf16⟩
  | .hbm, ⟨2, _⟩ => ⟨S8192x13440, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1920, .bf16⟩
  | .local _ .vmem, ⟨3, _⟩ => ⟨S2048x1920, .bf16⟩
  | .local _ .vmem, ⟨4, _⟩ => ⟨S1024x1920, .bf16⟩
  | .local _ .vmem, ⟨5, _⟩ => ⟨S1024x1920, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPRefIdeal.lean ====
abbrev S8192x2048 : Shape := ⟨2, ![8192, 2048]⟩
abbrev S2048x13440 : Shape := ⟨2, ![2048, 13440]⟩
abbrev S8192x13440 : Shape := ⟨2, ![8192, 13440]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13440, .bf16⟩
  | .hbm, ⟨2, _⟩ => ⟨S8192x2048, .f32⟩
  | .hbm, ⟨3, _⟩ => ⟨S2048x13440, .f32⟩
  | .hbm, ⟨4, _⟩ => ⟨S8192x13440, .f32⟩
  | .hbm, ⟨5, _⟩ => ⟨S8192x13440, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutP.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutPRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8192x2048 : Shape := ⟨2, ![8192, 2048]⟩
abbrev S2048x6144 : Shape := ⟨2, ![2048, 6144]⟩
abbrev S1x6144 : Shape := ⟨2, ![1, 6144]⟩
abbrev S2048x2048 : Shape := ⟨2, ![2048, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 16
  | .vmem => 40
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S2048x6144, .bf16⟩
  | .hbm, ⟨5, _⟩ => ⟨S1x6144, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MergeRefIdeal.lean ====
abbrev S8192x2048 : Shape := ⟨2, ![8192, 2048]⟩
abbrev S2048x6144 : Shape := ⟨2, ![2048, 6144]⟩
abbrev S1x6144 : Shape := ⟨2, ![1, 6144]⟩
abbrev S2048x2048 : Shape := ⟨2, ![2048, 2048]⟩
abbrev S8192x1x2048 : Shape := ⟨3, ![8192, 1, 2048]⟩
abbrev S8192x3x2048 : Shape := ⟨3, ![8192, 3, 2048]⟩
abbrev S1x2048x2048 : Shape := ⟨3, ![1, 2048, 2048]⟩
abbrev S3x2048x2048 : Shape := ⟨3, ![3, 2048, 2048]⟩
abbrev S3x2048x8192 : Shape := ⟨3, ![3, 2048, 8192]⟩
abbrev S8192x6144 : Shape := ⟨2, ![8192, 6144]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S2048x6144, .bf16⟩
  | .hbm, ⟨5, _⟩ => ⟨S1x6144, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S8192x1x2048, .bf16⟩
  | .hbm, ⟨10, _⟩ => ⟨S8192x1x2048, .bf16⟩
  | .hbm, ⟨11, _⟩ => ⟨S8192x1x2048, .bf16⟩
  | .hbm, ⟨12, _⟩ => ⟨S8192x3x2048, .bf16⟩
  | .hbm, ⟨13, _⟩ => ⟨S8192x3x2048, .f32⟩
  | .hbm, ⟨14, _⟩ => ⟨S1x2048x2048, .bf16⟩
  | .hbm, ⟨15, _⟩ => ⟨S1x2048x2048, .bf16⟩
  | .hbm, ⟨16, _⟩ => ⟨S1x2048x2048, .bf16⟩
  | .hbm, ⟨17, _⟩ => ⟨S3x2048x2048, .bf16⟩
  | .hbm, ⟨18, _⟩ => ⟨S3x2048x2048, .f32⟩
  | .hbm, ⟨19, _⟩ => ⟨S3x2048x8192, .f32⟩
  | .hbm, ⟨20, _⟩ => ⟨S8192x3x2048, .f32⟩
  | .hbm, ⟨21, _⟩ => ⟨S8192x2048, .f32⟩
  | .hbm, ⟨22, _⟩ => ⟨S2048x6144, .f32⟩
  | .hbm, ⟨23, _⟩ => ⟨S8192x6144, .f32⟩
  | .hbm, ⟨24, _⟩ => ⟨S8192x6144, .f32⟩
  | .hbm, ⟨25, _⟩ => ⟨S8192x6144, .f32⟩
  | .hbm, ⟨26, _⟩ => ⟨S8192x6144, .f32⟩
  | .hbm, ⟨27, _⟩ => ⟨S8192x6144, .f32⟩
  | .hbm, ⟨28, _⟩ => ⟨S_, .f32⟩
  | .hbm, ⟨29, _⟩ => ⟨S8192x6144, .f32⟩
  | .hbm, ⟨30, _⟩ => ⟨S8192x6144, .f32⟩
  | .hbm, ⟨31, _⟩ => ⟨S_, .f32⟩
  | .hbm, ⟨32, _⟩ => ⟨S8192x6144, .f32⟩
  | .hbm, ⟨33, _⟩ => ⟨S8192x6144, .f32⟩
  | .hbm, ⟨34, _⟩ => ⟨S8192x3x2048, .f32⟩
  | .hbm, ⟨35, _⟩ => ⟨S8192x3x2048, .f32⟩
  | .hbm, ⟨36, _⟩ => ⟨S_, .f32⟩
  | .hbm, ⟨37, _⟩ => ⟨S8192x2048, .f32⟩
  | .hbm, ⟨38, _⟩ => ⟨S8192x1x2048, .f32⟩
  | .hbm, ⟨39, _⟩ => ⟨S8192x2048, .f32⟩
  | .hbm, ⟨40, _⟩ => ⟨S8192x1x2048, .f32⟩
  | .hbm, ⟨41, _⟩ => ⟨S8192x2048, .f32⟩
  | .hbm, ⟨42, _⟩ => ⟨S8192x1x2048, .f32⟩
  | .hbm, ⟨43, _⟩ => ⟨S8192x2048, .f32⟩
  | .hbm, ⟨44, _⟩ => ⟨S8192x1x2048, .f32⟩
  | .hbm, ⟨45, _⟩ => ⟨S8192x2048, .f32⟩
  | .hbm, ⟨46, _⟩ => ⟨S8192x1x2048, .f32⟩
  | .hbm, ⟨47, _⟩ => ⟨S8192x2048, .f32⟩
  | .hbm, ⟨48, _⟩ => ⟨S8192x1x2048, .f32⟩
  | .hbm, ⟨49, _⟩ => ⟨S8192x2048, .f32⟩
  | .hbm, ⟨50, _⟩ => ⟨S8192x2048, .bf16⟩
  | .hbm, ⟨51, _⟩ => ⟨S8192x2048, .bf16⟩
  | .hbm, ⟨52, _⟩ => ⟨S8192x2048, .bf16⟩
  | .hbm, ⟨53, _⟩ => ⟨S8192x2048, .bf16⟩
  | .hbm, ⟨54, _⟩ => ⟨S8192x2048, .bf16⟩
  | .hbm, ⟨55, _⟩ => ⟨S8192x2048, .bf16⟩
  | .hbm, ⟨56, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== LatW.lean ====
abbrev S8192x512 : Shape := ⟨2, ![8192, 512]⟩
abbrev S8192x4096 : Shape := ⟨2, ![8192, 4096]⟩
abbrev S512x4096 : Shape := ⟨2, ![512, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S512x4096, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatWIdeal.lean ====
abbrev S8192x512 : Shape := ⟨2, ![8192, 512]⟩
abbrev S8192x4096 : Shape := ⟨2, ![8192, 4096]⟩
abbrev S512x4096 : Shape := ⟨2, ![512, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S512x4096, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatWRefIdeal.lean ====
abbrev S8192x512 : Shape := ⟨2, ![8192, 512]⟩
abbrev S8192x4096 : Shape := ⟨2, ![8192, 4096]⟩
abbrev S_ : Shape := ⟨0, ![]⟩
abbrev S512x4096 : Shape := ⟨2, ![512, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S_, .f32⟩
  | .hbm, ⟨3, _⟩ => ⟨S512x4096, .f32⟩
  | .hbm, ⟨4, _⟩ => ⟨S8192x512, .f32⟩
  | .hbm, ⟨5, _⟩ => ⟨S8192x4096, .f32⟩
  | .hbm, ⟨6, _⟩ => ⟨S8192x4096, .f32⟩
  | .hbm, ⟨7, _⟩ => ⟨S4096x512, .f32⟩
  | .hbm, ⟨8, _⟩ => ⟨S512x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LatV.lean ====
abbrev S8192x512 : Shape := ⟨2, ![8192, 512]⟩
abbrev S8192x2048 : Shape := ⟨2, ![8192, 2048]⟩
abbrev S512x2048 : Shape := ⟨2, ![512, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatVRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LatQ.lean ====
abbrev S8192x4096 : Shape := ⟨2, ![8192, 4096]⟩
abbrev S512x4096 : Shape := ⟨2, ![512, 4096]⟩
abbrev S8192x512 : Shape := ⟨2, ![8192, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S8192x512, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x512, .f32⟩
  | .local _ .vmem, ⟨4, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatQRefIdeal.lean ====
abbrev S8192x4096 : Shape := ⟨2, ![8192, 4096]⟩
abbrev S512x4096 : Shape := ⟨2, ![512, 4096]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S_, .f32⟩
  | .hbm, ⟨3, _⟩ => ⟨S8192x512, .f32⟩
  | .hbm, ⟨4, _⟩ => ⟨S512x4096, .f32⟩
  | .hbm, ⟨5, _⟩ => ⟨S8192x4096, .f32⟩
  | .hbm, ⟨6, _⟩ => ⟨S8192x4096, .f32⟩
  | .hbm, ⟨7, _⟩ => ⟨S8192x512, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatC.lean ====
abbrev S8192x2048 : Shape := ⟨2, ![8192, 2048]⟩
abbrev S512x2048 : Shape := ⟨2, ![512, 2048]⟩
abbrev S8192x512 : Shape := ⟨2, ![8192, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .hbm, ⟨3, _⟩ => ⟨S8192x512, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LatCRefIdeal.lean ====
abbrev S8192x2048 : Shape := ⟨2, ![8192, 2048]⟩
abbrev S512x2048 : Shape := ⟨2, ![512, 2048]⟩
abbrev S8192x512 : Shape := ⟨2, ![8192, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .hbm, ⟨3, _⟩ => ⟨S_, .f32⟩
  | .hbm, ⟨4, _⟩ => ⟨S8192x512, .f32⟩
  | .hbm, ⟨5, _⟩ => ⟨S512x2048, .f32⟩
  | .hbm, ⟨6, _⟩ => ⟨S8192x2048, .f32⟩
  | .hbm, ⟨7, _⟩ => ⟨S8192x2048, .f32⟩
  | .hbm, ⟨8, _⟩ => ⟨S8192x512, .f32⟩
  | .hbm, ⟨9, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MemP.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemPRefIdeal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | .hbm, ⟨5, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemW.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S2048x4096, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemWRefIdeal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S_, .f32⟩
  | .hbm, ⟨3, _⟩ => ⟨S2048x4096, .f32⟩
  | .hbm, ⟨4, _⟩ => ⟨S256x2048, .f32⟩
  | .hbm, ⟨5, _⟩ => ⟨S256x4096, .f32⟩
  | .hbm, ⟨6, _⟩ => ⟨S256x4096, .f32⟩
  | .hbm, ⟨7, _⟩ => ⟨S4096x2048, .f32⟩
  | .hbm, ⟨8, _⟩ => ⟨S2048x4096, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemX.lean ====
abbrev S256x4096 : Shape := ⟨2, ![256, 4096]⟩
abbrev S2048x4096 : Shape := ⟨2, ![2048, 4096]⟩
abbrev S256x2048 : Shape := ⟨2, ![256, 2048]⟩
abbrev S1024x4096 : Shape := ⟨2, ![1024, 4096]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S256x2048, .f32⟩
  | .local _ .vmem, ⟨0, _⟩ => ⟨S256x4096, .bf16⟩
  | .local _ .vmem, ⟨1, _⟩ => ⟨S1024x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemXRefIdeal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S_, .f32⟩
  | .hbm, ⟨3, _⟩ => ⟨S256x2048, .f32⟩
  | .hbm, ⟨4, _⟩ => ⟨S2048x4096, .f32⟩
  | .hbm, ⟨5, _⟩ => ⟨S256x4096, .f32⟩
  | .hbm, ⟨6, _⟩ => ⟨S256x4096, .f32⟩
  | .hbm, ⟨7, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemF.lean ====
abbrev S8192x13440 : Shape := ⟨2, ![8192, 13440]⟩
abbrev S256x4096 : Shape := ⟨2, ![256, 4096]⟩
abbrev S8192x2048 : Shape := ⟨2, ![8192, 2048]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x13440, .bf16⟩
  | .hbm, ⟨1, _⟩ => ⟨S256x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .bf16⟩
  | .local _ .vmem, ⟨5, _⟩ => ⟨S256x2048, .bf16⟩
  | .local _ .vmem, ⟨6, _⟩ => ⟨S512x2048, .bf16⟩
  | .local _ .vmem, ⟨7, _⟩ => ⟨S512x2048, .bf16⟩
  | _, _ => ⟨S8192x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemFRefIdeal.lean ====
abbrev S8192x13440 : Shape := ⟨2, ![8192, 13440]⟩
abbrev S256x4096 : Shape := ⟨2, ![256, 4096]⟩
abbrev S8192x2048 : Shape := ⟨2, ![8192, 2048]⟩
abbrev S256x2x4x512 : Shape := ⟨4, ![256, 2, 4, 512]⟩
abbrev S256x1x4x512 : Shape := ⟨4, ![256, 1, 4, 512]⟩
abbrev S256x4x512 : Shape := ⟨3, ![256, 4, 512]⟩
abbrev S8192x4x512 : Shape := ⟨3, ![8192, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x13440, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S256x4096, .f32⟩
  | .hbm, ⟨5, _⟩ => ⟨S8192x2048, .f32⟩
  | .hbm, ⟨6, _⟩ => ⟨S256x2x4x512, .f32⟩
  | .hbm, ⟨7, _⟩ => ⟨S256x1x4x512, .f32⟩
  | .hbm, ⟨8, _⟩ => ⟨S256x1x4x512, .f32⟩
  | .hbm, ⟨9, _⟩ => ⟨S256x4x512, .f32⟩
  | .hbm, ⟨10, _⟩ => ⟨S256x4x512, .f32⟩
  | .hbm, ⟨11, _⟩ => ⟨S8192x4x512, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x512x8192, .f32⟩
  | .hbm, ⟨31, _⟩ => ⟨S8192x4x512, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== NormX.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormXIdeal.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormXRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormM.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormQ.lean ====
abbrev S8192x13440 : Shape := ⟨2, ![8192, 13440]⟩
abbrev S1x512 : Shape := ⟨2, ![1, 512]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x13440, .bf16⟩
  | .hbm, ⟨1, _⟩ => ⟨S1x512, .f32⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S8192x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormQRefIdeal.lean ====
abbrev S8192x13440 : Shape := ⟨2, ![8192, 13440]⟩
abbrev S1x512 : Shape := ⟨2, ![1, 512]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x13440, .bf16⟩
  | .hbm, ⟨1, _⟩ => ⟨S1x512, .f32⟩
  | .hbm, ⟨2, _⟩ => ⟨S8192x512, .bf16⟩
  | .hbm, ⟨3, _⟩ => ⟨S8192x512, .f32⟩
  | .hbm, ⟨4, _⟩ => ⟨S512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .bf16⟩
  | _, _ => ⟨S8192x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== NormK.lean ====
abbrev S8192x13440 : Shape := ⟨2, ![8192, 13440]⟩
abbrev S1x512 : Shape := ⟨2, ![1, 512]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x13440, .bf16⟩
  | .hbm, ⟨1, _⟩ => ⟨S1x512, .f32⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S8192x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormKRefIdeal.lean ====
abbrev S8192x13440 : Shape := ⟨2, ![8192, 13440]⟩
abbrev S1x512 : Shape := ⟨2, ![1, 512]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x13440, .bf16⟩
  | .hbm, ⟨1, _⟩ => ⟨S1x512, .f32⟩
  | .hbm, ⟨2, _⟩ => ⟨S8192x512, .bf16⟩
  | .hbm, ⟨3, _⟩ => ⟨S8192x512, .f32⟩
  | .hbm, ⟨4, _⟩ => ⟨S512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .bf16⟩
  | _, _ => ⟨S8192x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Products.lean ====
module
public import Idealize.ShloMosaic.Lib.Pipeline.ValueKit
public import Idealize.ShloMosaic.Lib.Pointwise
@[expose] public section
noncomputable section
namespace Cert.Products
open Idealize.ShloMosaic
open scoped BigOperators

/-! A product of two matrices, its contracted axis taken one block at a time. -/

/-- The element of a matrix at two numbers, zero outside it. -/
def elt {R C : ℕ} (A : (⟨2, ![R, C]⟩ : Shape).Idx → EReal) (i x : ℕ) : EReal :=
  if h : i < R ∧ x < C then A (ix2 ⟨i, h.1⟩ ⟨x, h.2⟩) else 0

theorem elt_mk {R C : ℕ} (A : (⟨2, ![R, C]⟩ : Shape).Idx → EReal) {i x : ℕ} (hi : i < R) (hx : x < C) :
    elt A i x = A (ix2 ⟨i, hi⟩ ⟨x, hx⟩) := dif_pos ⟨hi, hx⟩

/-- The product contracting the first axes: the sum over `l` of `A l i * B l j`. -/
def rowsProd {K R C : ℕ} (A : (⟨2, ![K, R]⟩ : Shape).Idx → EReal) (B : (⟨2, ![K, C]⟩ : Shape).Idx → EReal) (i j : ℕ) : EReal :=
  ∑ l ∈ Finset.range K, elt A l i * elt B l j

/-- The product contracting the second axes: the sum over `l` of `A i l * B j l`. -/
def colsProd {K R C : ℕ} (A : (⟨2, ![R, K]⟩ : Shape).Idx → EReal) (B : (⟨2, ![C, K]⟩ : Shape).Idx → EReal) (i j : ℕ) : EReal :=
  ∑ l ∈ Finset.range K, elt A i l * elt B j l

/-- The product of two matrices: the sum over `l` of `A i l * B l j`. -/
def matProd {K R C : ℕ} (A : (⟨2, ![R, K]⟩ : Shape).Idx → EReal) (B : (⟨2, ![K, C]⟩ : Shape).Idx → EReal) (i j : ℕ) : EReal :=
  ∑ l ∈ Finset.range K, elt A i l * elt B l j

theorem rowsProd_eq {K R C : ℕ} (A : (⟨2, ![K, R]⟩ : Shape).Idx → EReal) (B : (⟨2, ![K, C]⟩ : Shape).Idx → EReal) (i : Fin R) (j : Fin C) :
    rowsProd A B i.val j.val = ∑ l : Fin K, A (ix2 l i) * B (ix2 l j) := by
  unfold rowsProd
  rw [Finset.sum_range]
  exact Finset.sum_congr rfl fun l _ => by rw [elt_mk A l.isLt i.isLt, elt_mk B l.isLt j.isLt]

theorem colsProd_eq {K R C : ℕ} (A : (⟨2, ![R, K]⟩ : Shape).Idx → EReal) (B : (⟨2, ![C, K]⟩ : Shape).Idx → EReal) (i : Fin R) (j : Fin C) :
    colsProd A B i.val j.val = ∑ l : Fin K, A (ix2 i l) * B (ix2 j l) := by
  unfold colsProd
  rw [Finset.sum_range]
  exact Finset.sum_congr rfl fun l _ => by rw [elt_mk A i.isLt l.isLt, elt_mk B j.isLt l.isLt]

theorem matProd_eq {K R C : ℕ} (A : (⟨2, ![R, K]⟩ : Shape).Idx → EReal) (B : (⟨2, ![K, C]⟩ : Shape).Idx → EReal) (i : Fin R) (j : Fin C) :
    matProd A B i.val j.val = ∑ l : Fin K, A (ix2 i l) * B (ix2 l j) := by
  unfold matProd
  rw [Finset.sum_range]
  exact Finset.sum_congr rfl fun l _ => by rw [elt_mk A i.isLt l.isLt, elt_mk B l.isLt j.isLt]

theorem idx_eta {n k : ℕ} (y : (⟨2, ![n, k]⟩ : Shape).Idx) : ∃ (r : Fin n) (x : Fin k), y = ix2 r x :=
  ⟨y 0, y 1, by
    funext a; match a with
    | ⟨0, _⟩ => rfl
    | ⟨1, _⟩ => rfl⟩

theorem ix2_eq {n k : ℕ} {a i : Fin n} {b x : Fin k} (ha : a.val = i.val) (hb : b.val = x.val) : ix2 a b = ix2 i x := by
  rw [Fin.ext ha, Fin.ext hb]

/-- A sum over consecutive blocks is the sum over all of them. -/
theorem sum_blocks (J K : ℕ) (F : ℕ → EReal) : ∑ k ∈ Finset.range J, ∑ q : Fin K, F (K * k + q.val) = ∑ l ∈ Finset.range (K * J), F l := by
  induction J with
  | zero => simp
  | succ J ih => rw [Finset.sum_range_succ, ih, Nat.mul_succ, Finset.sum_range_add, Finset.sum_range (n := K)]

/-- An accumulator that starts a run of `J` points with its block's sum and adds a block's sum at each later point
    holds, at the run's last point, the sum over all blocks. -/
theorem acc_eq {N : ℕ} (f : (n : ℕ) → n < N → EReal) (J K : ℕ) (hJ : 0 < J) (F : ℕ → ℕ → EReal)
    (h0 : ∀ t : Fin N, t.val % J = 0 → f t.val t.isLt = ∑ q : Fin K, F (t.val / J) (K * (t.val % J) + q.val))
    (hs : ∀ t : Fin N, ¬t.val % J = 0 → f t.val t.isLt
      = f (t.val - 1) (Nat.lt_of_le_of_lt (Nat.sub_le _ _) t.isLt) + ∑ q : Fin K, F (t.val / J) (K * (t.val % J) + q.val))
    (t : Fin N) (ht : t.val % J = J - 1) : f t.val t.isLt = ∑ l ∈ Finset.range (K * J), F (t.val / J) l := by
  have h := Pipeline.eq_sum_of_reset_step_divmod f J 0 (fun r k => ∑ q : Fin K, F r (K * k + q.val))
    (fun t e => (h0 t e).trans (zero_add _).symm) hs t
  rw [h, zero_add, ht, Nat.sub_add_cancel hJ, sum_blocks]

end Cert.Products
end
-- ==== Proof.GateW.lean ====
module
public import proofs.«01_k».proof.Proof.Gen.GateWIdeal.Value
public import proofs.«01_k».proof.Proof.Gen.GateWRefIdeal.Read
public import proofs.«01_k».proof.Proof.Products
public import proofs.«01_k».proof.Defs
public import Idealize.ShloMosaic.Adequacy
public import Idealize.ShloMosaic.Init
@[expose] public section
set_option maxRecDepth 16384
noncomputable section
namespace Cert.GateWValue
open Cert.GateWIdeal Cert.GateWIdeal.Gen Cert.GateWIdeal.Facts Cert.GateWIdeal.Value Cert.Products
open Idealize.ShloMosaic Idealize.ShloMosaic.TcCoe Idealize.SL.Sem
open scoped BigOperators

/-! The gradient of the gate's weights: the array the kernel leaves, and the reference's. -/

variable (m : (ℓ : Loc nD τ sig) → Buf (Elt Ideal) ℓ)

theorem idx0 : ∀ t : Fin cfg0.N, win0_0.index t = ![t.val % 2, t.val / 2 % 2] := (by decide +kernel : ∀ t : Fin grid0.N, win0_0.index t = ![t.val % 2, t.val / 2 % 2])
theorem idx1 : ∀ t : Fin cfg0.N, win0_1.index t = ![t.val % 2, t.val / 2 / 2] := (by decide +kernel : ∀ t : Fin grid0.N, win0_1.index t = ![t.val % 2, t.val / 2 / 2])
theorem idx2 : ∀ t : Fin cfg0.N, win0_2.index t = ![t.val / 2 % 2, t.val / 2 / 2] := (by decide +kernel : ∀ t : Fin grid0.N, win0_2.index t = ![t.val / 2 % 2, t.val / 2 / 2])

theorem lt24 (t : Fin cfg0.N) : t.val < 24 := lt_of_lt_of_eq t.isLt N_0

variable (c : Dev nD)

theorem block0 (t : Fin cfg0.N) (q : Fin 4096) (r : Fin 1024) :
    iblk (F := Ideal) m c 0 t (ix2 q r) = elt (m ((c : Thread nD τ).loc main_arg0)) (4096 * (t.val % 2) + q.val) (1024 * (t.val / 2 % 2) + r.val) := by
  rw [elt_mk _ (by omega) (by omega)]
  blk_ext [iblk, V, idx0 t]

theorem block1 (t : Fin cfg0.N) (q : Fin 4096) (x : Fin 1024) :
    iblk (F := Ideal) m c 1 t (ix2 q x) = elt (m ((c : Thread nD τ).loc main_arg1)) (4096 * (t.val % 2) + q.val) (1024 * (t.val / 2 / 2) + x.val) := by
  have := lt24 t
  rw [elt_mk _ (by omega) (by omega)]
  blk_ext [iblk, V, idx1 t]

/-- One point's product. -/
theorem part_apply (a : Vec Ideal S4096x1024 .bf16) (b : Vec Ideal S4096x1024 .bf16) (r x : Fin 1024) :
    k0_pay1 a b (ix2 r x) = ∑ q : Fin 4096, a (ix2 q r) * b (ix2 q x) := by
  unfold k0_pay1; pointwise

/-- The accumulator's element at the last point of a block. -/
theorem acc_last (t : Fin cfg0.N) (ht : t.val % 2 = 1) (r x : Fin 1024) :
    (outsAt0 (F := Ideal) m c t.val t.isLt).2 (ix2 r x)
      = rowsProd (m ((c : Thread nD τ).loc main_arg0)) (m ((c : Thread nD τ).loc main_arg1)) (1024 * (t.val / 2 % 2) + r.val) (1024 * (t.val / 2 / 2) + x.val) :=
  acc_eq (fun n h => (outsAt0 (F := Ideal) m c n h).2 (ix2 r x)) 2 4096 (by omega)
    (fun p l => elt (m ((c : Thread nD τ).loc main_arg0)) l (1024 * (p % 2) + r.val) * elt (m ((c : Thread nD τ).loc main_arg1)) l (1024 * (p / 2) + x.val))
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      rw [outsAt0_B m c t h0 (by omega) (by omega)]; frame_out
      unfold k0_pay3; pointwise [part_apply]
      simp only [block0, block1]
      exact congrArg (· + _) (congrFun ((Memref.isWhole_whole cc0_scratch0).read_unread _) _))
    t ht

/-- The block a point writes back is the accumulator. -/
theorem out_last (t : Fin cfg0.N) (ht : t.val % 2 = 1) :
    (outsAt0 (F := Ideal) m c t.val t.isLt).1 = (outsAt0 (F := Ideal) m c t.val t.isLt).2 := by
  rw [outsAt0_B m c t (by omega) ht ht]; frame_out

/-- The gradient of the weights, an array. -/
def G (A : S8192x2048.Idx → EReal) (B : S8192x6144.Idx → EReal) : S2048x6144.Idx → EReal := fun i => rowsProd A B (i 0).val (i 1).val

theorem emb2 (t : Fin cfg0.N) (r x : Fin 1024) : ((cfg0.win 2).blk t).view.emb (ix2 r x)
    = ix2 (⟨1024 * (t.val / 2 % 2) + r.val, by omega⟩ : Fin 2048) (⟨1024 * (t.val / 2 / 2) + x.val, by have := lt24 t; omega⟩ : Fin 6144) := by
  blk_ext [idx2 t]

theorem cover2 (i : S2048x6144.Idx) : ∃ t : Fin cfg0.N, (cfg0.win 2).flush t = true ∧ i ∈ ((cfg0.win 2).blk t).view.set := by
  obtain ⟨i, x, rfl⟩ := idx_eta (n := 2048) (k := 6144) i
  obtain ⟨t, ht⟩ : ∃ t : Fin cfg0.N, t.val = 4 * (x.val / 1024) + 2 * (i.val / 1024) + 1 := ⟨⟨_, lt_of_lt_of_eq (by omega) N_0.symm⟩, rfl⟩
  refine ⟨t, (flush0_2 t).mpr (by omega), ?_⟩
  have h := ((cfg0.win 2).blk t).view.emb_mem_set (ix2 ⟨i.val % 1024, by omega⟩ ⟨x.val % 1024, by omega⟩)
  rw [emb2] at h
  exact (congrArg (· ∈ ((cfg0.win 2).blk t).view.set) (ix2_eq (by dsimp only; omega) (by dsimp only; omega))).mp h

/-- After the run the result is the gradient of the weights. -/
theorem final2 : (dats m 0 c).arrAt 2 cfg0.N = G (m ((c : Thread nD τ).loc main_arg0)) (m ((c : Thread nD τ).loc main_arg1)) :=
  (dats m 0 c).arrAt_eq_of_cover 2 _ (fun t hf => by
    have ht := (flush0_2 t).mp hf
    rw [flushed2]; funext y
    show (outsAt0 (F := Ideal) m c t.val t.isLt).1 y = G _ _ (((cfg0.win 2).blk t).view.emb y)
    obtain ⟨r, x, rfl⟩ := idx_eta (n := 1024) (k := 1024) y
    rw [out_last m c t ht, emb2]
    exact acc_last m c t ht r x) cover2

/-- The reference's result is the gradient of the weights. -/
theorem reference_eq (A : S8192x2048.Idx → EReal) (B : S8192x6144.Idx → EReal) : Cert.GateWRefIdeal.Read.val_main_v5 (F := Ideal) A B = G A B := by
  funext i
  obtain ⟨i, x, rfl⟩ := idx_eta (n := 2048) (k := 6144) i
  rw [Cert.GateWRefIdeal.Read.val_main_v5_apply, Cert.GateWRefIdeal.Read.val_main_v4_apply]
  refine Eq.trans ?_ (rowsProd_eq A B i x).symm
  refine Finset.sum_congr rfl fun l _ => (mul_comm _ _).trans ?_
  rw [Cert.GateWRefIdeal.Read.val_main_v1_apply, Cert.GateWRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_GateWIdeal_GateWRefIdeal (hGateWIdeal := facts) (hGateWRefIdeal := Cert.GateWRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.GateWRefIdeal.defs _ _).mono (fun _ h c => ⟨(h c).1.trans ((Cert.GateWRefIdeal.Read.val_main_v5_eq _ _).trans (by
      rw [(hagree c).1, (hagree c).2]; exact reference_eq _ _)), (h c).2⟩) (Cert.GateWRefIdeal.Value.run (F := Ideal) m' ρ')

/-- The reference runs, keeps its arguments and holds no semaphore. -/
theorem frame_reference : Cert.quiescent_GateWRefIdeal (hGateWRefIdeal := Cert.GateWRefIdeal.Gen.facts) := fun m ρ _ =>
  (θ_run Cert.GateWRefIdeal.defs _ _).mono (fun r h => ⟨fun c => (h c).2, sem_eq_zero_of_no_sems rfl r.2⟩) (Cert.GateWRefIdeal.Value.run (F := Ideal) m ρ)

end Cert.GateWValue
end
-- ==== Proof.GateH.lean ====
module
public import proofs.«01_k».proof.Proof.Gen.GateHIdeal.Value
public import proofs.«01_k».proof.Proof.Gen.GateHRefIdeal.Read
public import proofs.«01_k».proof.Proof.Products
public import proofs.«01_k».proof.Defs
public import Idealize.ShloMosaic.Adequacy
public import Idealize.ShloMosaic.Init
@[expose] public section
set_option maxRecDepth 16384
noncomputable section
namespace Cert.GateHValue
open Cert.GateHIdeal Cert.GateHIdeal.Gen Cert.GateHIdeal.Facts Cert.GateHIdeal.Value Cert.Products
open Idealize.ShloMosaic Idealize.ShloMosaic.TcCoe Idealize.SL.Sem
open scoped BigOperators

/-! The gradient the gate's product sends to its input: the array the kernel leaves, and the reference's. -/

variable (m : (ℓ : Loc nD τ sig) → Buf (Elt Ideal) ℓ)

theorem idx0 : ∀ t : Fin cfg0.N, win0_0.index t = ![t.val / 2 % 8, t.val % 2] := (by decide +kernel : ∀ t : Fin grid0.N, win0_0.index t = ![t.val / 2 % 8, t.val % 2])
theorem idx1 : ∀ t : Fin cfg0.N, win0_1.index t = ![t.val / 2 / 8, t.val % 2] := (by decide +kernel : ∀ t : Fin grid0.N, win0_1.index t = ![t.val / 2 / 8, t.val % 2])
theorem idx2 : ∀ t : Fin cfg0.N, win0_2.index t = ![t.val / 2 % 8, t.val / 2 / 8] := (by decide +kernel : ∀ t : Fin grid0.N, win0_2.index t = ![t.val / 2 % 8, t.val / 2 / 8])

theorem lt32 (t : Fin cfg0.N) : t.val < 32 := lt_of_lt_of_eq t.isLt N_0

variable (c : Dev nD)

theorem block0 (t : Fin cfg0.N) (r : Fin 1024) (q : Fin 3072) :
    iblk (F := Ideal) m c 0 t (ix2 r q) = elt (m ((c : Thread nD τ).loc main_arg0)) (1024 * (t.val / 2 % 8) + r.val) (3072 * (t.val % 2) + q.val) := by
  rw [elt_mk _ (by omega) (by omega)]
  blk_ext [iblk, V, idx0 t]

theorem block1 (t : Fin cfg0.N) (x : Fin 1024) (q : Fin 3072) :
    iblk (F := Ideal) m c 1 t (ix2 x q) = elt (m ((c : Thread nD τ).loc main_arg1)) (1024 * (t.val / 2 / 8) + x.val) (3072 * (t.val % 2) + q.val) := by
  have := lt32 t
  rw [elt_mk _ (by omega) (by omega)]
  blk_ext [iblk, V, idx1 t]

/-- One point's product. -/
theorem part_apply (a : Vec Ideal S1024x3072 .bf16) (b : Vec Ideal S1024x3072 .bf16) (r x : Fin 1024) :
    k0_pay1 a b (ix2 r x) = ∑ q : Fin 3072, a (ix2 r q) * b (ix2 x q) := by
  unfold k0_pay1; pointwise

/-- The accumulator's element at the last point of a block. -/
theorem acc_last (t : Fin cfg0.N) (ht : t.val % 2 = 1) (r x : Fin 1024) :
    (outsAt0 (F := Ideal) m c t.val t.isLt).2 (ix2 r x)
      = colsProd (m ((c : Thread nD τ).loc main_arg0)) (m ((c : Thread nD τ).loc main_arg1)) (1024 * (t.val / 2 % 8) + r.val) (1024 * (t.val / 2 / 8) + x.val) :=
  acc_eq (fun n h => (outsAt0 (F := Ideal) m c n h).2 (ix2 r x)) 2 3072 (by omega)
    (fun p l => elt (m ((c : Thread nD τ).loc main_arg0)) (1024 * (p % 8) + r.val) l * elt (m ((c : Thread nD τ).loc main_arg1)) (1024 * (p / 8) + x.val) l)
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      rw [outsAt0_B m c t h0 (by omega) (by omega)]; frame_out
      unfold k0_pay3; pointwise [part_apply]
      simp only [block0, block1]
      exact congrArg (· + _) (congrFun ((Memref.isWhole_whole cc0_scratch0).read_unread _) _))
    t ht

/-- The block a point writes back is the accumulator. -/
theorem out_last (t : Fin cfg0.N) (ht : t.val % 2 = 1) :
    (outsAt0 (F := Ideal) m c t.val t.isLt).1 = (outsAt0 (F := Ideal) m c t.val t.isLt).2 := by
  rw [outsAt0_B m c t (by omega) ht ht]; frame_out

/-- The gradient of the input, an array. -/
def G (A : S8192x6144.Idx → EReal) (B : S2048x6144.Idx → EReal) : S8192x2048.Idx → EReal := fun i => colsProd A B (i 0).val (i 1).val

theorem emb2 (t : Fin cfg0.N) (r x : Fin 1024) : ((cfg0.win 2).blk t).view.emb (ix2 r x)
    = ix2 (⟨1024 * (t.val / 2 % 8) + r.val, by omega⟩ : Fin 8192) (⟨1024 * (t.val / 2 / 8) + x.val, by have := lt32 t; omega⟩ : Fin 2048) := by
  blk_ext [idx2 t]

theorem cover2 (i : S8192x2048.Idx) : ∃ t : Fin cfg0.N, (cfg0.win 2).flush t = true ∧ i ∈ ((cfg0.win 2).blk t).view.set := by
  obtain ⟨i, x, rfl⟩ := idx_eta (n := 8192) (k := 2048) i
  obtain ⟨t, ht⟩ : ∃ t : Fin cfg0.N, t.val = 16 * (x.val / 1024) + 2 * (i.val / 1024) + 1 := ⟨⟨_, lt_of_lt_of_eq (by omega) N_0.symm⟩, rfl⟩
  refine ⟨t, (flush0_2 t).mpr (by omega), ?_⟩
  have h := ((cfg0.win 2).blk t).view.emb_mem_set (ix2 ⟨i.val % 1024, by omega⟩ ⟨x.val % 1024, by omega⟩)
  rw [emb2] at h
  exact (congrArg (· ∈ ((cfg0.win 2).blk t).view.set) (ix2_eq (by dsimp only; omega) (by dsimp only; omega))).mp h

/-- After the run the result is the gradient of the input. -/
theorem final2 : (dats m 0 c).arrAt 2 cfg0.N = G (m ((c : Thread nD τ).loc main_arg0)) (m ((c : Thread nD τ).loc main_arg1)) :=
  (dats m 0 c).arrAt_eq_of_cover 2 _ (fun t hf => by
    have ht := (flush0_2 t).mp hf
    rw [flushed2]; funext y
    show (outsAt0 (F := Ideal) m c t.val t.isLt).1 y = G _ _ (((cfg0.win 2).blk t).view.emb y)
    obtain ⟨r, x, rfl⟩ := idx_eta (n := 1024) (k := 1024) y
    rw [out_last m c t ht, emb2]
    exact acc_last m c t ht r x) cover2

/-- The reference's result is the gradient of the input. -/
theorem reference_eq (A : S8192x6144.Idx → EReal) (B : S2048x6144.Idx → EReal) : Cert.GateHRefIdeal.Read.val_main_v4 (F := Ideal) A B = G A B := by
  funext i
  obtain ⟨i, x, rfl⟩ := idx_eta (n := 8192) (k := 2048) i
  rw [Cert.GateHRefIdeal.Read.val_main_v4_apply]
  refine Eq.trans ?_ (colsProd_eq A B i x).symm
  refine Finset.sum_congr rfl fun l _ => ?_
  rw [Cert.GateHRefIdeal.Read.val_main_v1_apply, Cert.GateHRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_GateHIdeal_GateHRefIdeal (hGateHIdeal := facts) (hGateHRefIdeal := Cert.GateHRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.GateHRefIdeal.defs _ _).mono (fun _ h c => ⟨(h c).1.trans ((Cert.GateHRefIdeal.Read.val_main_v4_eq _ _).trans (by
      rw [(hagree c).1, (hagree c).2]; exact reference_eq _ _)), (h c).2⟩) (Cert.GateHRefIdeal.Value.run (F := Ideal) m' ρ')

/-- The reference runs, keeps its arguments and holds no semaphore. -/
theorem frame_reference : Cert.quiescent_GateHRefIdeal (hGateHRefIdeal := Cert.GateHRefIdeal.Gen.facts) := fun m ρ _ =>
  (θ_run Cert.GateHRefIdeal.defs _ _).mono (fun r h => ⟨fun c => (h c).2, sem_eq_zero_of_no_sems rfl r.2⟩) (Cert.GateHRefIdeal.Value.run (F := Ideal) m ρ)

end Cert.GateHValue
end
-- ==== Proof.BranchW.lean ====
module
public import proofs.«01_k».proof.Proof.Gen.BranchWIdeal.Value
public import proofs.«01_k».proof.Proof.Gen.BranchWRefIdeal.Read
public import proofs.«01_k».proof.Proof.Products
public import proofs.«01_k».proof.Defs
public import Idealize.ShloMosaic.Adequacy
public import Idealize.ShloMosaic.Init
@[expose] public section
set_option maxRecDepth 16384
noncomputable section
namespace Cert.BranchWValue
open Cert.BranchWIdeal Cert.BranchWIdeal.Gen Cert.BranchWIdeal.Facts Cert.BranchWIdeal.Value Cert.Products
open Idealize.ShloMosaic Idealize.ShloMosaic.TcCoe Idealize.SL.Sem
open scoped BigOperators

/-! The gradient of the weights of a branch or of the output: the array the kernel leaves, and the reference's. -/

variable (m : (ℓ : Loc nD τ sig) → Buf (Elt Ideal) ℓ)

theorem idx0 : ∀ t : Fin cfg0.N, win0_0.index t = ![t.val % 2, t.val / 2 % 2] := (by decide +kernel : ∀ t : Fin grid0.N, win0_0.index t = ![t.val % 2, t.val / 2 % 2])
theorem idx1 : ∀ t : Fin cfg0.N, win0_1.index t = ![t.val % 2, t.val / 2 / 2] := (by decide +kernel : ∀ t : Fin grid0.N, win0_1.index t = ![t.val % 2, t.val / 2 / 2])
theorem idx2 : ∀ t : Fin cfg0.N, win0_2.index t = ![t.val / 2 % 2, t.val / 2 / 2] := (by decide +kernel : ∀ t : Fin grid0.N, win0_2.index t = ![t.val / 2 % 2, t.val / 2 / 2])

theorem lt8 (t : Fin cfg0.N) : t.val < 8 := lt_of_lt_of_eq t.isLt N_0

variable (c : Dev nD)

theorem block0 (t : Fin cfg0.N) (q : Fin 4096) (r : Fin 1024) :
    iblk (F := Ideal) m c 0 t (ix2 q r) = elt (m ((c : Thread nD τ).loc main_arg0)) (4096 * (t.val % 2) + q.val) (1024 * (t.val / 2 % 2) + r.val) := by
  rw [elt_mk _ (by omega) (by omega)]
  blk_ext [iblk, V, idx0 t]

theorem block1 (t : Fin cfg0.N) (q : Fin 4096) (x : Fin 1024) :
    iblk (F := Ideal) m c 1 t (ix2 q x) = elt (m ((c : Thread nD τ).loc main_arg1)) (4096 * (t.val % 2) + q.val) (1024 * (t.val / 2 / 2) + x.val) := by
  have := lt8 t
  rw [elt_mk _ (by omega) (by omega)]
  blk_ext [iblk, V, idx1 t]

/-- One point's product. -/
theorem part_apply (a : Vec Ideal S4096x1024 .bf16) (b : Vec Ideal S4096x1024 .bf16) (r x : Fin 1024) :
    k0_pay1 a b (ix2 r x) = ∑ q : Fin 4096, a (ix2 q r) * b (ix2 q x) := by
  unfold k0_pay1; pointwise

/-- The accumulator's element at the last point of a block. -/
theorem acc_last (t : Fin cfg0.N) (ht : t.val % 2 = 1) (r x : Fin 1024) :
    (outsAt0 (F := Ideal) m c t.val t.isLt).2 (ix2 r x)
      = rowsProd (m ((c : Thread nD τ).loc main_arg0)) (m ((c : Thread nD τ).loc main_arg1)) (1024 * (t.val / 2 % 2) + r.val) (1024 * (t.val / 2 / 2) + x.val) :=
  acc_eq (fun n h => (outsAt0 (F := Ideal) m c n h).2 (ix2 r x)) 2 4096 (by omega)
    (fun p l => elt (m ((c : Thread nD τ).loc main_arg0)) l (1024 * (p % 2) + r.val) * elt (m ((c : Thread nD τ).loc main_arg1)) l (1024 * (p / 2) + x.val))
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      rw [outsAt0_B m c t h0 (by omega) (by omega)]; frame_out
      unfold k0_pay3; pointwise [part_apply]
      simp only [block0, block1]
      exact congrArg (· + _) (congrFun ((Memref.isWhole_whole cc0_scratch0).read_unread _) _))
    t ht

/-- The block a point writes back is the accumulator. -/
theorem out_last (t : Fin cfg0.N) (ht : t.val % 2 = 1) :
    (outsAt0 (F := Ideal) m c t.val t.isLt).1 = (outsAt0 (F := Ideal) m c t.val t.isLt).2 := by
  rw [outsAt0_B m c t (by omega) ht ht]; frame_out

/-- The gradient of the weights, an array. -/
def G (A : S8192x2048.Idx → EReal) (B : S8192x2048.Idx → EReal) : S2048x2048.Idx → EReal := fun i => rowsProd A B (i 0).val (i 1).val

theorem emb2 (t : Fin cfg0.N) (r x : Fin 1024) : ((cfg0.win 2).blk t).view.emb (ix2 r x)
    = ix2 (⟨1024 * (t.val / 2 % 2) + r.val, by omega⟩ : Fin 2048) (⟨1024 * (t.val / 2 / 2) + x.val, by have := lt8 t; omega⟩ : Fin 2048) := by
  blk_ext [idx2 t]

theorem cover2 (i : S2048x2048.Idx) : ∃ t : Fin cfg0.N, (cfg0.win 2).flush t = true ∧ i ∈ ((cfg0.win 2).blk t).view.set := by
  obtain ⟨i, x, rfl⟩ := idx_eta (n := 2048) (k := 2048) i
  obtain ⟨t, ht⟩ : ∃ t : Fin cfg0.N, t.val = 4 * (x.val / 1024) + 2 * (i.val / 1024) + 1 := ⟨⟨_, lt_of_lt_of_eq (by omega) N_0.symm⟩, rfl⟩
  refine ⟨t, (flush0_2 t).mpr (by omega), ?_⟩
  have h := ((cfg0.win 2).blk t).view.emb_mem_set (ix2 ⟨i.val % 1024, by omega⟩ ⟨x.val % 1024, by omega⟩)
  rw [emb2] at h
  exact (congrArg (· ∈ ((cfg0.win 2).blk t).view.set) (ix2_eq (by dsimp only; omega) (by dsimp only; omega))).mp h

/-- After the run the result is the gradient of the weights. -/
theorem final2 : (dats m 0 c).arrAt 2 cfg0.N = G (m ((c : Thread nD τ).loc main_arg0)) (m ((c : Thread nD τ).loc main_arg1)) :=
  (dats m 0 c).arrAt_eq_of_cover 2 _ (fun t hf => by
    have ht := (flush0_2 t).mp hf
    rw [flushed2]; funext y
    show (outsAt0 (F := Ideal) m c t.val t.isLt).1 y = G _ _ (((cfg0.win 2).blk t).view.emb y)
    obtain ⟨r, x, rfl⟩ := idx_eta (n := 1024) (k := 1024) y
    rw [out_last m c t ht, emb2]
    exact acc_last m c t ht r x) cover2

/-- The reference's result is the gradient of the weights. -/
theorem reference_eq (A : S8192x2048.Idx → EReal) (B : S8192x2048.Idx → EReal) : Cert.BranchWRefIdeal.Read.val_main_v5 (F := Ideal) A B = G A B := by
  funext i
  obtain ⟨i, x, rfl⟩ := idx_eta (n := 2048) (k := 2048) i
  rw [Cert.BranchWRefIdeal.Read.val_main_v5_apply, Cert.BranchWRefIdeal.Read.val_main_v4_apply]
  refine Eq.trans ?_ (rowsProd_eq A B i x).symm
  refine Finset.sum_congr rfl fun l _ => (mul_comm _ _).trans ?_
  rw [Cert.BranchWRefIdeal.Read.val_main_v1_apply, Cert.BranchWRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_BranchWIdeal_BranchWRefIdeal (hBranchWIdeal := facts) (hBranchWRefIdeal := Cert.BranchWRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.BranchWRefIdeal.defs _ _).mono (fun _ h c => ⟨(h c).1.trans ((Cert.BranchWRefIdeal.Read.val_main_v5_eq _ _).trans (by
      rw [(hagree c).1, (hagree c).2]; exact reference_eq _ _)), (h c).2⟩) (Cert.BranchWRefIdeal.Value.run (F := Ideal) m' ρ')

/-- The reference runs, keeps its arguments and holds no semaphore. -/
theorem frame_reference : Cert.quiescent_BranchWRefIdeal (hBranchWRefIdeal := Cert.BranchWRefIdeal.Gen.facts) := fun m ρ _ =>
  (θ_run Cert.BranchWRefIdeal.defs _ _).mono (fun r h => ⟨fun c => (h c).2, sem_eq_zero_of_no_sems rfl r.2⟩) (Cert.BranchWRefIdeal.Value.run (F := Ideal) m ρ)

end Cert.BranchWValue
end
-- ==== Proof.BranchY.lean ====
module
public import proofs.«01_k».proof.Proof.Gen.BranchYIdeal.Value
public import proofs.«01_k».proof.Proof.Gen.BranchYRefIdeal.Read
public import proofs.«01_k».proof.Proof.Products
public import proofs.«01_k».proof.Defs
public import Idealize.ShloMosaic.Adequacy
public import Idealize.ShloMosaic.Init
@[expose] public section
set_option maxRecDepth 16384
noncomputable section
namespace Cert.BranchYValue
open Cert.BranchYIdeal Cert.BranchYIdeal.Gen Cert.BranchYIdeal.Facts Cert.BranchYIdeal.Value Cert.Products
open Idealize.ShloMosaic Idealize.ShloMosaic.TcCoe Idealize.SL.Sem
open scoped BigOperators

/-! The gradient a branch's product, or the output's, sends to its input: the array the kernel leaves, and the reference's. -/

variable (m : (ℓ : Loc nD τ sig) → Buf (Elt Ideal) ℓ)

theorem idx0 : ∀ t : Fin cfg0.N, win0_0.index t = ![t.val % 16, 0] := (by decide +kernel : ∀ t : Fin grid0.N, win0_0.index t = ![t.val % 16, 0])
theorem idx1 : ∀ t : Fin cfg0.N, win0_1.index t = ![t.val / 16, 0] := (by decide +kernel : ∀ t : Fin grid0.N, win0_1.index t = ![t.val / 16, 0])
theorem idx2 : ∀ t : Fin cfg0.N, win0_2.index t = ![t.val % 16, t.val / 16] := (by decide +kernel : ∀ t : Fin grid0.N, win0_2.index t = ![t.val % 16, t.val / 16])

theorem lt32 (t : Fin cfg0.N) : t.val < 32 := lt_of_lt_of_eq t.isLt N_0

variable (c : Dev nD)

theorem block0 (t : Fin cfg0.N) (r : Fin 512) (q : Fin 2048) :
    iblk (F := Ideal) m c 0 t (ix2 r q) = elt (m ((c : Thread nD τ).loc main_arg0)) (512 * (t.val % 16) + r.val) q.val := by
  rw [elt_mk _ (by omega) (by omega)]
  blk_ext [iblk, V, idx0 t]

theorem block1 (t : Fin cfg0.N) (x : Fin 1024) (q : Fin 2048) :
    iblk (F := Ideal) m c 1 t (ix2 x q) = elt (m ((c : Thread nD τ).loc main_arg1)) (1024 * (t.val / 16) + x.val) q.val := by
  have := lt32 t
  rw [elt_mk _ (by omega) (by omega)]
  blk_ext [iblk, V, idx1 t]

/-- The block a point writes back. -/
theorem out_apply (t : Fin cfg0.N) (r : Fin 512) (x : Fin 1024) :
    out0_2 (F := Ideal) (iblk m c 0 t) (iblk m c 1 t) (ix2 r x)
      = colsProd (m ((c : Thread nD τ).loc main_arg0)) (m ((c : Thread nD τ).loc main_arg1)) (512 * (t.val % 16) + r.val) (1024 * (t.val / 16) + x.val) := by
  frame_out
  unfold k0_pay1 colsProd; pointwise
  rw [Finset.sum_range]
  simp only [block0, block1]

/-- The gradient of the input, an array. -/
def G (A : S8192x2048.Idx → EReal) (B : S2048x2048.Idx → EReal) : S8192x2048.Idx → EReal := fun i => colsProd A B (i 0).val (i 1).val

theorem emb2 (t : Fin cfg0.N) (r : Fin 512) (x : Fin 1024) : ((cfg0.win 2).blk t).view.emb (ix2 r x)
    = ix2 (⟨512 * (t.val % 16) + r.val, by omega⟩ : Fin 8192) (⟨1024 * (t.val / 16) + x.val, by have := lt32 t; omega⟩ : Fin 2048) := by
  blk_ext [idx2 t]

theorem cover2 (i : S8192x2048.Idx) : ∃ t : Fin cfg0.N, (cfg0.win 2).flush t = true ∧ i ∈ ((cfg0.win 2).blk t).view.set := by
  obtain ⟨i, x, rfl⟩ := idx_eta (n := 8192) (k := 2048) i
  obtain ⟨t, ht⟩ : ∃ t : Fin cfg0.N, t.val = 16 * (x.val / 1024) + i.val / 512 := ⟨⟨_, lt_of_lt_of_eq (by omega) N_0.symm⟩, rfl⟩
  refine ⟨t, flush0_2 t, ?_⟩
  have h := ((cfg0.win 2).blk t).view.emb_mem_set (ix2 ⟨i.val % 512, by omega⟩ ⟨x.val % 1024, by omega⟩)
  rw [emb2] at h
  exact (congrArg (· ∈ ((cfg0.win 2).blk t).view.set) (ix2_eq (by dsimp only; omega) (by dsimp only; omega))).mp h

/-- After the run the result is the gradient of the input. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 512) (k := 1024) y
    rw [emb2]
    exact out_apply m c t r x) cover2

/-- The reference's result is the gradient of the input. -/
theorem reference_eq (A : S8192x2048.Idx → EReal) (B : S2048x2048.Idx → EReal) : Cert.BranchYRefIdeal.Read.val_main_v6 (F := Ideal) A B = G A B := by
  funext i
  obtain ⟨i, x, rfl⟩ := idx_eta (n := 8192) (k := 2048) i
  show Cert.BranchYRefIdeal.Read.val_main_v5 (F := Ideal) A B (ix2 i x) = _
  rw [Cert.BranchYRefIdeal.Read.val_main_v5_apply]
  refine Eq.trans ?_ (colsProd_eq A B i x).symm
  refine Finset.sum_congr rfl fun l _ => ?_
  rw [Cert.BranchYRefIdeal.Read.val_main_v4_apply, Cert.BranchYRefIdeal.Read.val_main_v2_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_BranchYIdeal_BranchYRefIdeal (hBranchYIdeal := facts) (hBranchYRefIdeal := Cert.BranchYRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.BranchYRefIdeal.defs _ _).mono (fun _ h c => ⟨(h c).1.trans ((Cert.BranchYRefIdeal.Read.val_main_v6_eq _ _).trans (by
      rw [(hagree c).1, (hagree c).2]; exact reference_eq _ _)), (h c).2⟩) (Cert.BranchYRefIdeal.Value.run (F := Ideal) m' ρ')

/-- The reference runs, keeps its arguments and holds no semaphore. -/
theorem frame_reference : Cert.quiescent_BranchYRefIdeal (hBranchYRefIdeal := Cert.BranchYRefIdeal.Gen.facts) := fun m ρ _ =>
  (θ_run Cert.BranchYRefIdeal.defs _ _).mono (fun r h => ⟨fun c => (h c).2, sem_eq_zero_of_no_sems rfl r.2⟩) (Cert.BranchYRefIdeal.Value.run (F := Ideal) m ρ)

end Cert.BranchYValue
end
-- ==== Proof.InW.lean ====
module
public import proofs.«01_k».proof.Proof.Gen.InWIdeal.Value
public import proofs.«01_k».proof.Proof.Gen.InWRefIdeal.Read
public import proofs.«01_k».proof.Proof.Products
public import proofs.«01_k».proof.Defs
public import Idealize.ShloMosaic.Adequacy
public import Idealize.ShloMosaic.Init
@[expose] public section
set_option maxRecDepth 16384
noncomputable section
namespace Cert.InWValue
open Cert.InWIdeal Cert.InWIdeal.Gen Cert.InWIdeal.Facts Cert.InWIdeal.Value Cert.Products
open Idealize.ShloMosaic Idealize.ShloMosaic.TcCoe Idealize.SL.Sem
open scoped BigOperators

/-! The gradient of the input weights: the array the kernel leaves, and the reference's. -/

variable (m : (ℓ : Loc nD τ sig) → Buf (Elt Ideal) ℓ)

theorem idx0 : ∀ t : Fin cfg0.N, win0_0.index t = ![t.val % 2, t.val / 2 % 2] := (by decide +kernel : ∀ t : Fin grid0.N, win0_0.index t = ![t.val % 2, t.val / 2 % 2])
theorem idx1 : ∀ t : Fin cfg0.N, win0_1.index t = ![t.val % 2, t.val / 2 / 2] := (by decide +kernel : ∀ t : Fin grid0.N, win0_1.index t = ![t.val % 2, t.val / 2 / 2])
theorem idx2 : ∀ t : Fin cfg0.N, win0_2.index t = ![t.val / 2 % 2, t.val / 2 / 2] := (by decide +kernel : ∀ t : Fin grid0.N, win0_2.index t = ![t.val / 2 % 2, t.val / 2 / 2])

theorem lt60 (t : Fin cfg0.N) : t.val < 60 := lt_of_lt_of_eq t.isLt N_0

variable (c : Dev nD)

theorem block0 (t : Fin cfg0.N) (q : Fin 4096) (r : Fin 1024) :
    iblk (F := Ideal) m c 0 t (ix2 q r) = elt (m ((c : Thread nD τ).loc main_arg0)) (4096 * (t.val % 2) + q.val) (1024 * (t.val / 2 % 2) + r.val) := by
  rw [elt_mk _ (by omega) (by omega)]
  blk_ext [iblk, V, idx0 t]

theorem block1 (t : Fin cfg0.N) (q : Fin 4096) (x : Fin 896) :
    iblk (F := Ideal) m c 1 t (ix2 q x) = elt (m ((c : Thread nD τ).loc main_arg1)) (4096 * (t.val % 2) + q.val) (896 * (t.val / 2 / 2) + x.val) := by
  have := lt60 t
  rw [elt_mk _ (by omega) (by omega)]
  blk_ext [iblk, V, idx1 t]

/-- One point's product. -/
theorem part_apply (a : Vec Ideal S4096x1024 .bf16) (b : Vec Ideal S4096x896 .bf16) (r : Fin 1024) (x : Fin 896) :
    k0_pay1 a b (ix2 r x) = ∑ q : Fin 4096, a (ix2 q r) * b (ix2 q x) := by
  unfold k0_pay1; pointwise

/-- The accumulator's element at the last point of a block. -/
theorem acc_last (t : Fin cfg0.N) (ht : t.val % 2 = 1) (r : Fin 1024) (x : Fin 896) :
    (outsAt0 (F := Ideal) m c t.val t.isLt).2 (ix2 r x)
      = rowsProd (m ((c : Thread nD τ).loc main_arg0)) (m ((c : Thread nD τ).loc main_arg1)) (1024 * (t.val / 2 % 2) + r.val) (896 * (t.val / 2 / 2) + x.val) :=
  acc_eq (fun n h => (outsAt0 (F := Ideal) m c n h).2 (ix2 r x)) 2 4096 (by omega)
    (fun p l => elt (m ((c : Thread nD τ).loc main_arg0)) l (1024 * (p % 2) + r.val) * elt (m ((c : Thread nD τ).loc main_arg1)) l (896 * (p / 2) + x.val))
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      rw [outsAt0_B m c t h0 (by omega) (by omega)]; frame_out
      unfold k0_pay3; pointwise [part_apply]
      simp only [block0, block1]
      exact congrArg (· + _) (congrFun ((Memref.isWhole_whole cc0_scratch0).read_unread _) _))
    t ht

/-- The block a point writes back is the accumulator. -/
theorem out_last (t : Fin cfg0.N) (ht : t.val % 2 = 1) :
    (outsAt0 (F := Ideal) m c t.val t.isLt).1 = (outsAt0 (F := Ideal) m c t.val t.isLt).2 := by
  rw [outsAt0_B m c t (by omega) ht ht]; frame_out

/-- The gradient of the weights, an array. -/
def G (A : S8192x2048.Idx → EReal) (B : S8192x13440.Idx → EReal) : S2048x13440.Idx → EReal := fun i => rowsProd A B (i 0).val (i 1).val

theorem emb2 (t : Fin cfg0.N) (r : Fin 1024) (x : Fin 896) : ((cfg0.win 2).blk t).view.emb (ix2 r x)
    = ix2 (⟨1024 * (t.val / 2 % 2) + r.val, by omega⟩ : Fin 2048) (⟨896 * (t.val / 2 / 2) + x.val, by have := lt60 t; omega⟩ : Fin 13440) := by
  blk_ext [idx2 t]

theorem cover2 (i : S2048x13440.Idx) : ∃ t : Fin cfg0.N, (cfg0.win 2).flush t = true ∧ i ∈ ((cfg0.win 2).blk t).view.set := by
  obtain ⟨i, x, rfl⟩ := idx_eta (n := 2048) (k := 13440) i
  obtain ⟨t, ht⟩ : ∃ t : Fin cfg0.N, t.val = 4 * (x.val / 896) + 2 * (i.val / 1024) + 1 := ⟨⟨_, lt_of_lt_of_eq (by omega) N_0.symm⟩, rfl⟩
  refine ⟨t, (flush0_2 t).mpr (by omega), ?_⟩
  have h := ((cfg0.win 2).blk t).view.emb_mem_set (ix2 ⟨i.val % 1024, by omega⟩ ⟨x.val % 896, by omega⟩)
  rw [emb2] at h
  exact (congrArg (· ∈ ((cfg0.win 2).blk t).view.set) (ix2_eq (by dsimp only; omega) (by dsimp only; omega))).mp h

/-- After the run the result is the gradient of the weights. -/
theorem final2 : (dats m 0 c).arrAt 2 cfg0.N = G (m ((c : Thread nD τ).loc main_arg0)) (m ((c : Thread nD τ).loc main_arg1)) :=
  (dats m 0 c).arrAt_eq_of_cover 2 _ (fun t hf => by
    have ht := (flush0_2 t).mp hf
    rw [flushed2]; funext y
    show (outsAt0 (F := Ideal) m c t.val t.isLt).1 y = G _ _ (((cfg0.win 2).blk t).view.emb y)
    obtain ⟨r, x, rfl⟩ := idx_eta (n := 1024) (k := 896) y
    rw [out_last m c t ht, emb2]
    exact acc_last m c t ht r x) cover2

/-- The reference's result is the gradient of the weights. -/
theorem reference_eq (A : S8192x2048.Idx → EReal) (B : S8192x13440.Idx → EReal) : Cert.InWRefIdeal.Read.val_main_v5 (F := Ideal) A B = G A B := by
  funext i
  obtain ⟨i, x, rfl⟩ := idx_eta (n := 2048) (k := 13440) i
  rw [Cert.InWRefIdeal.Read.val_main_v5_apply, Cert.InWRefIdeal.Read.val_main_v4_apply]
  refine Eq.trans ?_ (rowsProd_eq A B i x).symm
  refine Finset.sum_congr rfl fun l _ => (mul_comm _ _).trans ?_
  rw [Cert.InWRefIdeal.Read.val_main_v1_apply, Cert.InWRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_InWIdeal_InWRefIdeal (hInWIdeal := facts) (hInWRefIdeal := Cert.InWRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.InWRefIdeal.defs _ _).mono (fun _ h c => ⟨(h c).1.trans ((Cert.InWRefIdeal.Read.val_main_v5_eq _ _).trans (by
      rw [(hagree c).1, (hagree c).2]; exact reference_eq _ _)), (h c).2⟩) (Cert.InWRefIdeal.Value.run (F := Ideal) m' ρ')

/-- The reference runs, keeps its arguments and holds no semaphore. -/
theorem frame_reference : Cert.quiescent_InWRefIdeal (hInWRefIdeal := Cert.InWRefIdeal.Gen.facts) := fun m ρ _ =>
  (θ_run Cert.InWRefIdeal.defs _ _).mono (fun r h => ⟨fun c => (h c).2, sem_eq_zero_of_no_sems rfl r.2⟩) (Cert.InWRefIdeal.Value.run (F := Ideal) m ρ)

end Cert.InWValue
end
-- ==== Proof.InH.lean ====
module
public import proofs.«01_k».proof.Proof.Gen.InHIdeal.Value
public import proofs.«01_k».proof.Proof.Gen.InHRefIdeal.Read
public import proofs.«01_k».proof.Proof.Products
public import proofs.«01_k».proof.Defs
public import Idealize.ShloMosaic.Adequacy
public import Idealize.ShloMosaic.Init
@[expose] public section
set_option maxRecDepth 16384
noncomputable section
namespace Cert.InHValue
open Cert.InHIdeal Cert.InHIdeal.Gen Cert.InHIdeal.Facts Cert.InHIdeal.Value Cert.Products
open Idealize.ShloMosaic Idealize.ShloMosaic.TcCoe Idealize.SL.Sem
open scoped BigOperators

/-! The gradient sent to the normed rows: the array the kernel leaves, and the reference's. -/

variable (m : (ℓ : Loc nD τ sig) → Buf (Elt Ideal) ℓ)

theorem idx0 : ∀ t : Fin cfg0.N, win0_0.index t = ![t.val / 5 % 8, t.val % 5] := (by decide +kernel : ∀ t : Fin grid0.N, win0_0.index t = ![t.val / 5 % 8, t.val % 5])
theorem idx1 : ∀ t : Fin cfg0.N, win0_1.index t = ![t.val / 5 / 8, t.val % 5] := (by decide +kernel : ∀ t : Fin grid0.N, win0_1.index t = ![t.val / 5 / 8, t.val % 5])
theorem idx2 : ∀ t : Fin cfg0.N, win0_2.index t = ![t.val / 5 % 8, t.val / 5 / 8] := (by decide +kernel : ∀ t : Fin grid0.N, win0_2.index t = ![t.val / 5 % 8, t.val / 5 / 8])
theorem idx3 : ∀ t : Fin cfg0.N, win0_3.index t = ![t.val / 5 % 8, t.val / 5 / 8] := (by decide +kernel : ∀ t : Fin grid0.N, win0_3.index t = ![t.val / 5 % 8, t.val / 5 / 8])

theorem lt80 (t : Fin cfg0.N) : t.val < 80 := lt_of_lt_of_eq t.isLt N_0

variable (c : Dev nD)

theorem block0 (t : Fin cfg0.N) (r : Fin 1024) (q : Fin 2688) :
    iblk (F := Ideal) m c 0 t (ix2 r q) = elt (m ((c : Thread nD τ).loc main_arg0)) (1024 * (t.val / 5 % 8) + r.val) (2688 * (t.val % 5) + q.val) := by
  rw [elt_mk _ (by omega) (by omega)]
  blk_ext [iblk, V, idx0 t]

theorem block1 (t : Fin cfg0.N) (x : Fin 1024) (q : Fin 2688) :
    iblk (F := Ideal) m c 1 t (ix2 x q) = elt (m ((c : Thread nD τ).loc main_arg1)) (1024 * (t.val / 5 / 8) + x.val) (2688 * (t.val % 5) + q.val) := by
  have := lt80 t
  rw [elt_mk _ (by omega) (by omega)]
  blk_ext [iblk, V, idx1 t]

theorem block2 (t : Fin cfg0.N) (r x : Fin 1024) : iblk (F := Ideal) m c 2 t (ix2 r x)
    = m ((c : Thread nD τ).loc main_arg2) (ix2 (⟨1024 * (t.val / 5 % 8) + r.val, by omega⟩ : Fin 8192) (⟨1024 * (t.val / 5 / 8) + x.val, by have := lt80 t; omega⟩ : Fin 2048)) := by
  blk_ext [iblk, V, idx2 t]

/-- One point's product. -/
theorem part_apply (a : Vec Ideal S1024x2688 .bf16) (b : Vec Ideal S1024x2688 .bf16) (r x : Fin 1024) :
    k0_pay1 a b (ix2 r x) = ∑ q : Fin 2688, a (ix2 r q) * b (ix2 x q) := by
  unfold k0_pay1; pointwise

/-- The accumulator's element at the last point of a block. -/
theorem acc_last (t : Fin cfg0.N) (ht : t.val % 5 = 4) (r x : Fin 1024) :
    (outsAt0 (F := Ideal) m c t.val t.isLt).2 (ix2 r x)
      = colsProd (m ((c : Thread nD τ).loc main_arg0)) (m ((c : Thread nD τ).loc main_arg1)) (1024 * (t.val / 5 % 8) + r.val) (1024 * (t.val / 5 / 8) + x.val) :=
  acc_eq (fun n h => (outsAt0 (F := Ideal) m c n h).2 (ix2 r x)) 5 2688 (by omega)
    (fun p l => elt (m ((c : Thread nD τ).loc main_arg0)) (1024 * (p % 8) + r.val) l * elt (m ((c : Thread nD τ).loc main_arg1)) (1024 * (p / 8) + x.val) l)
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      by_cases h2 : t.val % 5 = 4
      · rw [outsAt0_C m c t h0 (by omega) h2]; frame_out
        unfold k0_pay3; pointwise [part_apply]
        simp only [block0, block1]
        exact congrArg (· + _) (congrFun ((Memref.isWhole_whole cc0_scratch0).read_unread _) _)
      · rw [outsAt0_B m c t h0 (by omega) h2]; frame_out
        unfold k0_pay3; pointwise [part_apply]
        simp only [block0, block1]
        exact congrArg (· + _) (congrFun ((Memref.isWhole_whole cc0_scratch0).read_unread _) _))
    t ht

/-- The block a point writes back is the accumulator and the other gradient. -/
theorem out_last (t : Fin cfg0.N) (ht : t.val % 5 = 4) (r x : Fin 1024) :
    (outsAt0 (F := Ideal) m c t.val t.isLt).1 (ix2 r x) = (outsAt0 (F := Ideal) m c t.val t.isLt).2 (ix2 r x) + iblk (F := Ideal) m c 2 t (ix2 r x) := by
  rw [outsAt0_C m c t (by omega) (by omega) ht]; frame_out
  unfold k0_pay4; pointwise

/-- The gradient of the normed rows, an array. -/
def G (A : S8192x13440.Idx → EReal) (B : S2048x13440.Idx → EReal) (D : S8192x2048.Idx → EReal) : S8192x2048.Idx → EReal :=
  fun i => colsProd A B (i 0).val (i 1).val + D i

theorem emb3 (t : Fin cfg0.N) (r x : Fin 1024) : ((cfg0.win 3).blk t).view.emb (ix2 r x)
    = ix2 (⟨1024 * (t.val / 5 % 8) + r.val, by omega⟩ : Fin 8192) (⟨1024 * (t.val / 5 / 8) + x.val, by have := lt80 t; omega⟩ : Fin 2048) := by
  blk_ext [idx3 t]

theorem cover3 (i : S8192x2048.Idx) : ∃ t : Fin cfg0.N, (cfg0.win 3).flush t = true ∧ i ∈ ((cfg0.win 3).blk t).view.set := by
  obtain ⟨i, x, rfl⟩ := idx_eta (n := 8192) (k := 2048) i
  obtain ⟨t, ht⟩ : ∃ t : Fin cfg0.N, t.val = 40 * (x.val / 1024) + 5 * (i.val / 1024) + 4 := ⟨⟨_, lt_of_lt_of_eq (by omega) N_0.symm⟩, rfl⟩
  refine ⟨t, (flush0_3 t).mpr (by omega), ?_⟩
  have h := ((cfg0.win 3).blk t).view.emb_mem_set (ix2 ⟨i.val % 1024, by omega⟩ ⟨x.val % 1024, by omega⟩)
  rw [emb3] at h
  exact (congrArg (· ∈ ((cfg0.win 3).blk t).view.set) (ix2_eq (by dsimp only; omega) (by dsimp only; omega))).mp h

/-- After the run the result is the gradient of the normed rows. -/
theorem final3 : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t hf => by
    have ht := (flush0_3 t).mp hf
    rw [flushed3]; funext y
    show (outsAt0 (F := Ideal) m c t.val t.isLt).1 y = G _ _ _ (((cfg0.win 3).blk t).view.emb y)
    obtain ⟨r, x, rfl⟩ := idx_eta (n := 1024) (k := 1024) y
    rw [out_last m c t ht, emb3, acc_last m c t ht, block2]
    rfl) cover3

/-- The reference's result is the gradient of the normed rows. -/
theorem reference_eq (A : S8192x13440.Idx → EReal) (B : S2048x13440.Idx → EReal) (D : S8192x2048.Idx → EReal) :
    Cert.InHRefIdeal.Read.val_main_v5 (F := Ideal) A B D = G A B D := by
  funext i
  obtain ⟨i, x, rfl⟩ := idx_eta (n := 8192) (k := 2048) i
  rw [Cert.InHRefIdeal.Read.val_main_v5_apply, Cert.InHRefIdeal.Read.val_main_v4_apply]
  refine (add_comm (D _) _).trans (congrArg (· + D _) ?_)
  refine Eq.trans ?_ (colsProd_eq A B i x).symm
  refine Finset.sum_congr rfl fun l _ => ?_
  rw [Cert.InHRefIdeal.Read.val_main_v1_apply, Cert.InHRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_InHIdeal_InHRefIdeal (hInHIdeal := facts) (hInHRefIdeal := Cert.InHRefIdeal.Gen.facts) := by
  intro m ρ m' ρ' _ hagree
  refine ⟨fun c => G (m ((c : Thread nD τ).loc main_arg0)) (m ((c : Thread nD τ).loc main_arg1)) (m ((c : Thread nD τ).loc main_arg2)), ?_, ?_⟩
  · exact (θ_run defs _ _).mono (fun _ h c => ⟨(h c).1.trans (final3 m c), (h c).2⟩) (run_blocks (F := Ideal) m ρ)
  · exact (θ_run Cert.InHRefIdeal.defs _ _).mono (fun _ h c => ⟨(h c).1.trans ((Cert.InHRefIdeal.Read.val_main_v5_eq _ _ _).trans (by
      rw [(hagree c).1, (hagree c).2.1, (hagree c).2.2]; exact reference_eq _ _ _)), (h c).2⟩) (Cert.InHRefIdeal.Value.run (F := Ideal) m' ρ')

/-- The reference runs, keeps its arguments and holds no semaphore. -/
theorem frame_reference : Cert.quiescent_InHRefIdeal (hInHRefIdeal := Cert.InHRefIdeal.Gen.facts) := fun m ρ _ =>
  (θ_run Cert.InHRefIdeal.defs _ _).mono (fun r h => ⟨fun c => (h c).2, sem_eq_zero_of_no_sems rfl r.2⟩) (Cert.InHRefIdeal.Value.run (F := Ideal) m ρ)

end Cert.InHValue
end
-- ==== Proof.InP.lean ====
module
public import proofs.«01_k».proof.Proof.Gen.InPIdeal.Value
public import proofs.«01_k».proof.Proof.Gen.InPRefIdeal.Read
public import proofs.«01_k».proof.Proof.Products
public import proofs.«01_k».proof.Defs
public import Idealize.ShloMosaic.Adequacy
public import Idealize.ShloMosaic.Init
@[expose] public section
set_option maxRecDepth 16384
noncomputable section
namespace Cert.InPValue
open Cert.InPIdeal Cert.InPIdeal.Gen Cert.InPIdeal.Facts Cert.InPIdeal.Value Cert.Products
open Idealize.ShloMosaic Idealize.ShloMosaic.TcCoe Idealize.SL.Sem
open scoped BigOperators

/-! The input projection: the array the kernel leaves, and the reference's. -/

variable (m : (ℓ : Loc nD τ sig) → Buf (Elt Ideal) ℓ)

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![0, t.val / 8] := (by decide +kernel : ∀ t : Fin grid0.N, win0_1.index t = ![0, t.val / 8])
theorem idx2 : ∀ t : Fin cfg0.N, win0_2.index t = ![t.val % 8, t.val / 8] := (by decide +kernel : ∀ t : Fin grid0.N, win0_2.index t = ![t.val % 8, t.val / 8])

theorem lt56 (t : Fin cfg0.N) : t.val < 56 := lt_of_lt_of_eq t.isLt N_0

variable (c : Dev nD)

theorem block0 (t : Fin cfg0.N) (r : Fin 1024) (q : Fin 2048) :
    iblk (F := Ideal) m c 0 t (ix2 r q) = elt (m ((c : Thread nD τ).loc main_arg0)) (1024 * (t.val % 8) + r.val) q.val := by
  rw [elt_mk _ (by omega) (by omega)]
  blk_ext [iblk, V, idx0 t]

theorem block1 (t : Fin cfg0.N) (q : Fin 2048) (x : Fin 1920) :
    iblk (F := Ideal) m c 1 t (ix2 q x) = elt (m ((c : Thread nD τ).loc main_arg1)) q.val (1920 * (t.val / 8) + x.val) := by
  have := lt56 t
  rw [elt_mk _ (by omega) (by omega)]
  blk_ext [iblk, V, idx1 t]

/-- The block a point writes back. -/
theorem out_apply (t : Fin cfg0.N) (r : Fin 1024) (x : Fin 1920) :
    out0_2 (F := Ideal) (iblk m c 0 t) (iblk m c 1 t) (ix2 r x)
      = matProd (m ((c : Thread nD τ).loc main_arg0)) (m ((c : Thread nD τ).loc main_arg1)) (1024 * (t.val % 8) + r.val) (1920 * (t.val / 8) + x.val) := by
  frame_out
  unfold k0_pay1 matProd; pointwise
  rw [Finset.sum_range]
  simp only [block0, block1]

/-- The projection, an array. -/
def G (A : S8192x2048.Idx → EReal) (B : S2048x13440.Idx → EReal) : S8192x13440.Idx → EReal := fun i => matProd A B (i 0).val (i 1).val

theorem emb2 (t : Fin cfg0.N) (r : Fin 1024) (x : Fin 1920) : ((cfg0.win 2).blk t).view.emb (ix2 r x)
    = ix2 (⟨1024 * (t.val % 8) + r.val, by omega⟩ : Fin 8192) (⟨1920 * (t.val / 8) + x.val, by have := lt56 t; omega⟩ : Fin 13440) := by
  blk_ext [idx2 t]

theorem cover2 (i : S8192x13440.Idx) : ∃ t : Fin cfg0.N, (cfg0.win 2).flush t = true ∧ i ∈ ((cfg0.win 2).blk t).view.set := by
  obtain ⟨i, x, rfl⟩ := idx_eta (n := 8192) (k := 13440) i
  obtain ⟨t, ht⟩ : ∃ t : Fin cfg0.N, t.val = 8 * (x.val / 1920) + i.val / 1024 := ⟨⟨_, lt_of_lt_of_eq (by omega) N_0.symm⟩, rfl⟩
  refine ⟨t, flush0_2 t, ?_⟩
  have h := ((cfg0.win 2).blk t).view.emb_mem_set (ix2 ⟨i.val % 1024, by omega⟩ ⟨x.val % 1920, by omega⟩)
  rw [emb2] at h
  exact (congrArg (· ∈ ((cfg0.win 2).blk t).view.set) (ix2_eq (by dsimp only; omega) (by dsimp only; omega))).mp h

/-- After the run the result is the projection. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 1024) (k := 1920) y
    rw [emb2]
    exact out_apply m c t r x) cover2

/-- The reference's result is the projection. -/
theorem reference_eq (A : S8192x2048.Idx → EReal) (B : S2048x13440.Idx → EReal) : Cert.InPRefIdeal.Read.val_main_v3 (F := Ideal) A B = G A B := by
  funext i
  obtain ⟨i, x, rfl⟩ := idx_eta (n := 8192) (k := 13440) i
  show Cert.InPRefIdeal.Read.val_main_v2 (F := Ideal) A B (ix2 i x) = _
  rw [Cert.InPRefIdeal.Read.val_main_v2_apply]
  refine Eq.trans ?_ (matProd_eq A B i x).symm
  refine Finset.sum_congr rfl fun l _ => ?_
  rw [Cert.InPRefIdeal.Read.val_main_v0_apply, Cert.InPRefIdeal.Read.val_main_v1_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_InPIdeal_InPRefIdeal (hInPIdeal := facts) (hInPRefIdeal := Cert.InPRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.InPRefIdeal.defs _ _).mono (fun _ h c => ⟨(h c).1.trans ((Cert.InPRefIdeal.Read.val_main_v3_eq _ _).trans (by
      rw [(hagree c).1, (hagree c).2]; exact reference_eq _ _)), (h c).2⟩) (Cert.InPRefIdeal.Value.run (F := Ideal) m' ρ')

/-- The reference runs, keeps its arguments and holds no semaphore. -/
theorem frame_reference : Cert.quiescent_InPRefIdeal (hInPRefIdeal := Cert.InPRefIdeal.Gen.facts) := fun m ρ _ =>
  (θ_run Cert.InPRefIdeal.defs _ _).mono (fun r h => ⟨fun c => (h c).2, sem_eq_zero_of_no_sems rfl r.2⟩) (Cert.InPRefIdeal.Value.run (F := Ideal) m ρ)

end Cert.InPValue
end
-- ==== Proof.OutP.lean ====
module
public import proofs.«01_k».proof.Proof.Gen.OutPIdeal.Value
public import proofs.«01_k».proof.Proof.Gen.OutPRefIdeal.Read
public import proofs.«01_k».proof.Proof.Products
public import proofs.«01_k».proof.Defs
public import Idealize.ShloMosaic.Adequacy
public import Idealize.ShloMosaic.Init
@[expose] public section
set_option maxRecDepth 16384
noncomputable section
namespace Cert.OutPValue
open Cert.OutPIdeal Cert.OutPIdeal.Gen Cert.OutPIdeal.Facts Cert.OutPIdeal.Value Cert.Products
open Idealize.ShloMosaic Idealize.ShloMosaic.TcCoe Idealize.SL.Sem
open scoped BigOperators

/-! The output projection: the array the kernel leaves, and the reference's. -/

variable (m : (ℓ : Loc nD τ sig) → Buf (Elt Ideal) ℓ)

theorem idx0 : ∀ t : Fin cfg0.N, win0_0.index t = ![t.val % 16, 0] := (by decide +kernel : ∀ t : Fin grid0.N, win0_0.index t = ![t.val % 16, 0])
theorem idx1 : ∀ t : Fin cfg0.N, win0_1.index t = ![0, t.val / 16] := (by decide +kernel : ∀ t : Fin grid0.N, win0_1.index t = ![0, t.val / 16])
theorem idx2 : ∀ t : Fin cfg0.N, win0_2.index t = ![t.val % 16, t.val / 16] := (by decide +kernel : ∀ t : Fin grid0.N, win0_2.index t = ![t.val % 16, t.val / 16])

theorem lt32 (t : Fin cfg0.N) : t.val < 32 := lt_of_lt_of_eq t.isLt N_0

variable (c : Dev nD)

theorem block0 (t : Fin cfg0.N) (r : Fin 512) (q : Fin 2048) :
    iblk (F := Ideal) m c 0 t (ix2 r q) = elt (m ((c : Thread nD τ).loc main_arg0)) (512 * (t.val % 16) + r.val) q.val := by
  rw [elt_mk _ (by omega) (by omega)]
  blk_ext [iblk, V, idx0 t]

theorem block1 (t : Fin cfg0.N) (q : Fin 2048) (x : Fin 1024) :
    iblk (F := Ideal) m c 1 t (ix2 q x) = elt (m ((c : Thread nD τ).loc main_arg1)) q.val (1024 * (t.val / 16) + x.val) := by
  have := lt32 t
  rw [elt_mk _ (by omega) (by omega)]
  blk_ext [iblk, V, idx1 t]

/-- The block a point writes back. -/
theorem out_apply (t : Fin cfg0.N) (r : Fin 512) (x : Fin 1024) :
    out0_2 (F := Ideal) (iblk m c 0 t) (iblk m c 1 t) (ix2 r x)
      = matProd (m ((c : Thread nD τ).loc main_arg0)) (m ((c : Thread nD τ).loc main_arg1)) (512 * (t.val % 16) + r.val) (1024 * (t.val / 16) + x.val) := by
  frame_out
  unfold k0_pay1 matProd; pointwise
  rw [Finset.sum_range]
  simp only [block0, block1]

/-- The output, an array. -/
def G (A : S8192x2048.Idx → EReal) (B : S2048x2048.Idx → EReal) : S8192x2048.Idx → EReal := fun i => matProd A B (i 0).val (i 1).val

theorem emb2 (t : Fin cfg0.N) (r : Fin 512) (x : Fin 1024) : ((cfg0.win 2).blk t).view.emb (ix2 r x)
    = ix2 (⟨512 * (t.val % 16) + r.val, by omega⟩ : Fin 8192) (⟨1024 * (t.val / 16) + x.val, by have := lt32 t; omega⟩ : Fin 2048) := by
  blk_ext [idx2 t]

theorem cover2 (i : S8192x2048.Idx) : ∃ t : Fin cfg0.N, (cfg0.win 2).flush t = true ∧ i ∈ ((cfg0.win 2).blk t).view.set := by
  obtain ⟨i, x, rfl⟩ := idx_eta (n := 8192) (k := 2048) i
  obtain ⟨t, ht⟩ : ∃ t : Fin cfg0.N, t.val = 16 * (x.val / 1024) + i.val / 512 := ⟨⟨_, lt_of_lt_of_eq (by omega) N_0.symm⟩, rfl⟩
  refine ⟨t, flush0_2 t, ?_⟩
  have h := ((cfg0.win 2).blk t).view.emb_mem_set (ix2 ⟨i.val % 512, by omega⟩ ⟨x.val % 1024, by omega⟩)
  rw [emb2] at h
  exact (congrArg (· ∈ ((cfg0.win 2).blk t).view.set) (ix2_eq (by dsimp only; omega) (by dsimp only; omega))).mp h

/-- After the run the result is the output. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 512) (k := 1024) y
    rw [emb2]
    exact out_apply m c t r x) cover2

/-- The reference's result is the output. -/
theorem reference_eq (A : S8192x2048.Idx → EReal) (B : S2048x2048.Idx → EReal) : Cert.OutPRefIdeal.Read.val_main_v2 (F := Ideal) A B = G A B := by
  funext i
  obtain ⟨i, x, rfl⟩ := idx_eta (n := 8192) (k := 2048) i
  show Cert.OutPRefIdeal.Read.val_main_v2 (F := Ideal) A B (ix2 i x) = _
  rw [Cert.OutPRefIdeal.Read.val_main_v2_apply]
  refine Eq.trans ?_ (matProd_eq A B i x).symm
  refine Finset.sum_congr rfl fun l _ => ?_
  rw [Cert.OutPRefIdeal.Read.val_main_v0_apply, Cert.OutPRefIdeal.Read.val_main_v1_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_OutPIdeal_OutPRefIdeal (hOutPIdeal := facts) (hOutPRefIdeal := Cert.OutPRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.OutPRefIdeal.defs _ _).mono (fun _ h c => ⟨(h c).1.trans ((Cert.OutPRefIdeal.Read.val_main_v2_eq _ _).trans (by
      rw [(hagree c).1, (hagree c).2]; exact reference_eq _ _)), (h c).2⟩) (Cert.OutPRefIdeal.Value.run (F := Ideal) m' ρ')

/-- The reference runs, keeps its arguments and holds no semaphore. -/
theorem frame_reference : Cert.quiescent_OutPRefIdeal (hOutPRefIdeal := Cert.OutPRefIdeal.Gen.facts) := fun m ρ _ =>
  (θ_run Cert.OutPRefIdeal.defs _ _).mono (fun r h => ⟨fun c => (h c).2, sem_eq_zero_of_no_sems rfl r.2⟩) (Cert.OutPRefIdeal.Value.run (F := Ideal) m ρ)

end Cert.OutPValue
end
-- ==== Proof.RealTools.lean ====
module
public import Idealize.ShloMosaic.PureOps.Ideal
public import Idealize.ShloMosaic.PureOps.Ideal.Laws
@[expose] public section
noncomputable section
namespace Cert.RealTools
open Idealize.ShloMosaic
open scoped BigOperators

/-! Extended reals that are real numbers: sums, largest elements, quotients, exponentials and the softmax of real
    scores, each read as the real number it is. -/

/-- A finite sum of real numbers, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of a nonempty finite family of real numbers, folded from −∞, is a real number. -/
theorem fold_max_coe {ι : Type*} (s : Finset ι) (hs : s.Nonempty) (f : ι → ℝ) :
    ∃ M : ℝ, s.fold max (⊥ : EReal) (fun i => ((f i : ℝ) : EReal)) = (M : EReal) := by
  classical
  induction hs using Finset.Nonempty.cons_induction with
  | singleton a => exact ⟨f a, by simp⟩
  | cons a s h hs ih =>
    obtain ⟨M, hM⟩ := ih
    refine ⟨max (f a) M, ?_⟩
    rw [Finset.fold_cons, hM]
    exact (EReal.coe_strictMono.monotone.map_max).symm

/-- The word of −∞. -/
theorem ofBits_neg_inf : Ideal.ofBits .f32 0xFF800000#32 = ⊥ := by simp [Ideal.ofBits, Ideal.ieee]
/-- The word of one. -/
theorem ofBits_one : Ideal.ofBits .f32 0x3F800000#32 = ((1 : ℝ) : EReal) := by
  simp [Ideal.ofBits, Ideal.ieee, -EReal.coe_mul]; norm_num

/-- A quotient of real numbers whose divisor is not zero. -/
theorem div_coe_coe (x : ℝ) {y : ℝ} (h : y ≠ 0) : Ideal.div (x : EReal) (y : EReal) = ((x / y : ℝ) : EReal) := by
  rw [Ideal.div_coe h, ← EReal.coe_mul]; congr 1; ring

/-- The softmax of the real scores `s`, at `c`. -/
def softR {n : ℕ} (s : Fin n → ℝ) (c : Fin n) : ℝ := Real.exp (s c) / ∑ c', Real.exp (s c')

/-- A sum of exponentials is positive. -/
theorem sum_exp_pos {n : ℕ} (hn : 0 < n) (s : Fin n → ℝ) : 0 < ∑ c, Real.exp (s c) :=
  Finset.sum_pos (fun _ _ => Real.exp_pos _) ⟨⟨0, hn⟩, Finset.mem_univ _⟩

/-- The softmax may be taken of scores shifted by any number. -/
theorem softR_shift {n : ℕ} (s : Fin n → ℝ) (M : ℝ) (c : Fin n) :
    Real.exp (s c - M) / ∑ c', Real.exp (s c' - M) = softR s c := by
  unfold softR
  simp only [Real.exp_sub, ← Finset.sum_div]
  rw [div_div_div_cancel_right₀ (Real.exp_pos M).ne']

/-- The logistic function. -/
def sgR (z : ℝ) : ℝ := 1 / (1 + Real.exp (-z))

theorem one_add_exp_ne (z : ℝ) : 1 + Real.exp (-z) ≠ 0 := by positivity

/-- One row of the softmax of the scores `s`, as a program takes it: shifted by the row's largest score. -/
def softE {n : ℕ} (s : Fin n → EReal) (c : Fin n) : EReal :=
  Ideal.div (Ideal.exp (s c - (Finset.univ : Finset (Fin n)).fold max (Ideal.ofBits .f32 0xFF800000#32) s))
    (∑ c', Ideal.exp (s c' - (Finset.univ : Finset (Fin n)).fold max (Ideal.ofBits .f32 0xFF800000#32) s))

/-- Of real scores it is the real softmax. -/
theorem softE_coe {n : ℕ} (hn : 0 < n) (s : Fin n → ℝ) (c : Fin n) :
    softE (fun c => ((s c : ℝ) : EReal)) c = ((softR s c : ℝ) : EReal) := by
  obtain ⟨M, hM⟩ := fold_max_coe Finset.univ ⟨⟨0, hn⟩, Finset.mem_univ _⟩ s
  simp only [softE, hM, ofBits_neg_inf, ← EReal.coe_sub, Ideal.exp_coe, coe_sum]
  rw [div_coe_coe _ (sum_exp_pos hn _).ne', softR_shift]

/-- The scale of the scores is a real number. -/
def wgtR : ℝ := (Ideal.ofBits .f32 0x3D3504F3#32).toReal
theorem wgt_coe : Ideal.ofBits .f32 0x3D3504F3#32 = ((wgtR : ℝ) : EReal) := by
  refine (EReal.coe_toReal ?_ ?_).symm <;> simp [Ideal.ofBits, Ideal.ieee, -EReal.coe_mul]

end Cert.RealTools
-- ==== Proof.Merge.lean ====
module
public import proofs.«01_k».proof.Proof.Gen.MergeIdeal.Value
public import proofs.«01_k».proof.Proof.Gen.MergeRefIdeal.Read
public import proofs.«01_k».proof.Proof.Products
public import proofs.«01_k».proof.Proof.RealTools
public import proofs.«01_k».proof.Defs
public import Idealize.ShloMosaic.Adequacy
public import Idealize.ShloMosaic.Init
@[expose] public section
set_option maxRecDepth 16384
noncomputable section
namespace Cert.MergeValue
open Cert.MergeIdeal Cert.MergeIdeal.Gen Cert.MergeIdeal.Facts Cert.MergeIdeal.Value Cert.Products
open Idealize.ShloMosaic Idealize.ShloMosaic.TcCoe Idealize.SL.Sem
open scoped BigOperators

/-! The gates, the branches' products and their gated sum: the arrays the kernel leaves, and the reference's. -/

variable (m : (ℓ : Loc nD τ sig) → Buf (Elt Ideal) ℓ)

theorem idx0 : ∀ t : Fin cfg0.N, win0_0.index t = ![t.val % 16, 0] := (by decide +kernel : ∀ t : Fin grid0.N, win0_0.index t = ![t.val % 16, 0])
theorem idx1 : ∀ t : Fin cfg0.N, win0_1.index t = ![t.val % 16, 0] := (by decide +kernel : ∀ t : Fin grid0.N, win0_1.index t = ![t.val % 16, 0])
theorem idx2 : ∀ t : Fin cfg0.N, win0_2.index t = ![t.val % 16, 0] := (by decide +kernel : ∀ t : Fin grid0.N, win0_2.index t = ![t.val % 16, 0])
theorem idx3 : ∀ t : Fin cfg0.N, win0_3.index t = ![t.val % 16, 0] := (by decide +kernel : ∀ t : Fin grid0.N, win0_3.index t = ![t.val % 16, 0])
theorem idx4 : ∀ t : Fin cfg0.N, win0_4.index t = ![0, t.val / 16] := (by decide +kernel : ∀ t : Fin grid0.N, win0_4.index t = ![0, t.val / 16])
theorem idx5 : ∀ t : Fin cfg0.N, win0_5.index t = ![0, 4 + t.val / 16] := (by decide +kernel : ∀ t : Fin grid0.N, win0_5.index t = ![0, 4 + t.val / 16])
theorem idx6 : ∀ t : Fin cfg0.N, win0_6.index t = ![0, 8 + t.val / 16] := (by decide +kernel : ∀ t : Fin grid0.N, win0_6.index t = ![0, 8 + t.val / 16])
theorem idx7 : ∀ t : Fin cfg0.N, win0_7.index t = ![0, t.val / 16] := (by decide +kernel : ∀ t : Fin grid0.N, win0_7.index t = ![0, t.val / 16])
theorem idx8 : ∀ t : Fin cfg0.N, win0_8.index t = ![0, 4 + t.val / 16] := (by decide +kernel : ∀ t : Fin grid0.N, win0_8.index t = ![0, 4 + t.val / 16])
theorem idx9 : ∀ t : Fin cfg0.N, win0_9.index t = ![0, 8 + t.val / 16] := (by decide +kernel : ∀ t : Fin grid0.N, win0_9.index t = ![0, 8 + t.val / 16])
theorem idx10 : ∀ t : Fin cfg0.N, win0_10.index t = ![0, t.val / 16] := (by decide +kernel : ∀ t : Fin grid0.N, win0_10.index t = ![0, t.val / 16])
theorem idx11 : ∀ t : Fin cfg0.N, win0_11.index t = ![0, t.val / 16] := (by decide +kernel : ∀ t : Fin grid0.N, win0_11.index t = ![0, t.val / 16])
theorem idx12 : ∀ t : Fin cfg0.N, win0_12.index t = ![0, t.val / 16] := (by decide +kernel : ∀ t : Fin grid0.N, win0_12.index t = ![0, t.val / 16])
theorem idx13 : ∀ t : Fin cfg0.N, win0_13.index t = ![t.val % 16, t.val / 16] := (by decide +kernel : ∀ t : Fin grid0.N, win0_13.index t = ![t.val % 16, t.val / 16])
theorem idx14 : ∀ t : Fin cfg0.N, win0_14.index t = ![t.val % 16, t.val / 16] := (by decide +kernel : ∀ t : Fin grid0.N, win0_14.index t = ![t.val % 16, t.val / 16])
theorem idx15 : ∀ t : Fin cfg0.N, win0_15.index t = ![t.val % 16, t.val / 16] := (by decide +kernel : ∀ t : Fin grid0.N, win0_15.index t = ![t.val % 16, t.val / 16])
theorem idx16 : ∀ t : Fin cfg0.N, win0_16.index t = ![t.val % 16, t.val / 16] := (by decide +kernel : ∀ t : Fin grid0.N, win0_16.index t = ![t.val % 16, t.val / 16])
theorem idx17 : ∀ t : Fin cfg0.N, win0_17.index t = ![t.val % 16, t.val / 16] := (by decide +kernel : ∀ t : Fin grid0.N, win0_17.index t = ![t.val % 16, t.val / 16])
theorem idx18 : ∀ t : Fin cfg0.N, win0_18.index t = ![t.val % 16, t.val / 16] := (by decide +kernel : ∀ t : Fin grid0.N, win0_18.index t = ![t.val % 16, t.val / 16])
theorem idx19 : ∀ t : Fin cfg0.N, win0_19.index t = ![t.val % 16, t.val / 16] := (by decide +kernel : ∀ t : Fin grid0.N, win0_19.index t = ![t.val % 16, t.val / 16])

theorem lt64 (t : Fin cfg0.N) : t.val < 64 := lt_of_lt_of_eq t.isLt N_0

variable (c : Dev nD)

theorem block0 (t : Fin cfg0.N) (r : Fin 512) (q : Fin 2048) :
    iblk (F := Ideal) m c 0 t (ix2 r q) = elt (m ((c : Thread nD τ).loc main_arg0)) (512 * (t.val % 16) + r.val) (q.val) := by
  have := lt64 t
  rw [elt_mk _ (by omega) (by omega)]
  blk_ext [iblk, V, idx0 t]

theorem block1 (t : Fin cfg0.N) (r : Fin 512) (q : Fin 2048) :
    iblk (F := Ideal) m c 1 t (ix2 r q) = elt (m ((c : Thread nD τ).loc main_arg1)) (512 * (t.val % 16) + r.val) (q.val) := by
  have := lt64 t
  rw [elt_mk _ (by omega) (by omega)]
  blk_ext [iblk, V, idx1 t]

theorem block2 (t : Fin cfg0.N) (r : Fin 512) (q : Fin 2048) :
    iblk (F := Ideal) m c 2 t (ix2 r q) = elt (m ((c : Thread nD τ).loc main_arg2)) (512 * (t.val % 16) + r.val) (q.val) := by
  have := lt64 t
  rw [elt_mk _ (by omega) (by omega)]
  blk_ext [iblk, V, idx2 t]

theorem block3 (t : Fin cfg0.N) (r : Fin 512) (q : Fin 2048) :
    iblk (F := Ideal) m c 3 t (ix2 r q) = elt (m ((c : Thread nD τ).loc main_arg3)) (512 * (t.val % 16) + r.val) (q.val) := by
  have := lt64 t
  rw [elt_mk _ (by omega) (by omega)]
  blk_ext [iblk, V, idx3 t]

theorem block4 (t : Fin cfg0.N) (q : Fin 2048) (x : Fin 512) :
    iblk (F := Ideal) m c 4 t (ix2 q x) = elt (m ((c : Thread nD τ).loc main_arg4)) (q.val) (2048 * 0 + (512 * (t.val / 16) + x.val)) := by
  have := lt64 t
  rw [elt_mk _ (by omega) (by omega)]
  blk_ext [iblk, V, idx4 t]

theorem block5 (t : Fin cfg0.N) (q : Fin 2048) (x : Fin 512) :
    iblk (F := Ideal) m c 5 t (ix2 q x) = elt (m ((c : Thread nD τ).loc main_arg4)) (q.val) (2048 * 1 + (512 * (t.val / 16) + x.val)) := by
  have := lt64 t
  rw [elt_mk _ (by omega) (by omega)]
  blk_ext [iblk, V, idx5 t]

theorem block6 (t : Fin cfg0.N) (q : Fin 2048) (x : Fin 512) :
    iblk (F := Ideal) m c 6 t (ix2 q x) = elt (m ((c : Thread nD τ).loc main_arg4)) (q.val) (2048 * 2 + (512 * (t.val / 16) + x.val)) := by
  have := lt64 t
  rw [elt_mk _ (by omega) (by omega)]
  blk_ext [iblk, V, idx6 t]

theorem block7 (t : Fin cfg0.N) (q : Fin 1) (x : Fin 512) :
    iblk (F := Ideal) m c 7 t (ix2 q x) = elt (m ((c : Thread nD τ).loc main_arg5)) (0) (2048 * 0 + (512 * (t.val / 16) + x.val)) := by
  have := lt64 t
  rw [elt_mk _ (by omega) (by omega)]
  blk_ext [iblk, V, idx7 t]

theorem block8 (t : Fin cfg0.N) (q : Fin 1) (x : Fin 512) :
    iblk (F := Ideal) m c 8 t (ix2 q x) = elt (m ((c : Thread nD τ).loc main_arg5)) (0) (2048 * 1 + (512 * (t.val / 16) + x.val)) := by
  have := lt64 t
  rw [elt_mk _ (by omega) (by omega)]
  blk_ext [iblk, V, idx8 t]

theorem block9 (t : Fin cfg0.N) (q : Fin 1) (x : Fin 512) :
    iblk (F := Ideal) m c 9 t (ix2 q x) = elt (m ((c : Thread nD τ).loc main_arg5)) (0) (2048 * 2 + (512 * (t.val / 16) + x.val)) := by
  have := lt64 t
  rw [elt_mk _ (by omega) (by omega)]
  blk_ext [iblk, V, idx9 t]

theorem block10 (t : Fin cfg0.N) (q : Fin 2048) (x : Fin 512) :
    iblk (F := Ideal) m c 10 t (ix2 q x) = elt (m ((c : Thread nD τ).loc main_arg6)) (q.val) (512 * (t.val / 16) + x.val) := by
  have := lt64 t
  rw [elt_mk _ (by omega) (by omega)]
  blk_ext [iblk, V, idx10 t]

theorem block11 (t : Fin cfg0.N) (q : Fin 2048) (x : Fin 512) :
    iblk (F := Ideal) m c 11 t (ix2 q x) = elt (m ((c : Thread nD τ).loc main_arg7)) (q.val) (512 * (t.val / 16) + x.val) := by
  have := lt64 t
  rw [elt_mk _ (by omega) (by omega)]
  blk_ext [iblk, V, idx11 t]

theorem block12 (t : Fin cfg0.N) (q : Fin 2048) (x : Fin 512) :
    iblk (F := Ideal) m c 12 t (ix2 q x) = elt (m ((c : Thread nD τ).loc main_arg8)) (q.val) (512 * (t.val / 16) + x.val) := by
  have := lt64 t
  rw [elt_mk _ (by omega) (by omega)]
  blk_ext [iblk, V, idx12 t]

/-- A gate: the logistic function of a product plus an offset. -/
def gate (H : S8192x2048.Idx → EReal) (W : S2048x6144.Idx → EReal) (B : S1x6144.Idx → EReal) (i j : ℕ) : EReal :=
  Ideal.div 1 (1 + Ideal.exp (-(matProd H W i j + elt B 0 j)))

/-- The gates of branch `n`. -/
def Gate (n : ℕ) (H : S8192x2048.Idx → EReal) (W : S2048x6144.Idx → EReal) (B : S1x6144.Idx → EReal) : S8192x2048.Idx → EReal :=
  fun i => gate H W B (i 0).val (2048 * n + (i 1).val)

/-- A branch's product. -/
def Branch (Y : S8192x2048.Idx → EReal) (W : S2048x2048.Idx → EReal) : S8192x2048.Idx → EReal := fun i => matProd Y W (i 0).val (i 1).val

/-- The gated sum of three branches. -/
def Sum3 (g0 g1 g2 p0 p1 p2 : S8192x2048.Idx → EReal) : S8192x2048.Idx → EReal := fun i => g0 i * p0 i + g1 i * p1 i + g2 i * p2 i

/-- The array's index of a block's index. -/
def at_ (t : Fin cfg0.N) (r x : Fin 512) : S8192x2048.Idx :=
  ix2 (⟨512 * (t.val % 16) + r.val, by omega⟩ : Fin 8192) (⟨512 * (t.val / 16) + x.val, by have := lt64 t; omega⟩ : Fin 2048)

theorem out14_apply (t : Fin cfg0.N) (r x : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x)
      = Gate 0 (m ((c : Thread nD τ).loc main_arg0)) (m ((c : Thread nD τ).loc main_arg4)) (m ((c : Thread nD τ).loc main_arg5)) (at_ t r x) := by
  frame_out
  unfold k0_pay4 k0_pay2; pointwise
  rw [zero_sub]
  simp only [block0, block4, block7]
  unfold Gate gate matProd
  rw [Finset.sum_range]; rfl

theorem out15_apply (t : Fin cfg0.N) (r x : Fin 512) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x)
      = Gate 1 (m ((c : Thread nD τ).loc main_arg0)) (m ((c : Thread nD τ).loc main_arg4)) (m ((c : Thread nD τ).loc main_arg5)) (at_ t r x) := by
  frame_out
  unfold k0_pay11 k0_pay9 k0_pay18 k0_pay19 k0_pay8 k0_pay7; pointwise
  rw [zero_sub]
  simp only [block0, block5, block8]
  unfold Gate gate matProd
  rw [Finset.sum_range]; rfl

theorem out16_apply (t : Fin cfg0.N) (r x : Fin 512) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x)
      = Gate 2 (m ((c : Thread nD τ).loc main_arg0)) (m ((c : Thread nD τ).loc main_arg4)) (m ((c : Thread nD τ).loc main_arg5)) (at_ t r x) := by
  frame_out
  unfold k0_pay16 k0_pay14; pointwise
  rw [zero_sub]
  simp only [block0, block6, block9]
  unfold Gate gate matProd
  rw [Finset.sum_range]; rfl

theorem out17_apply (t : Fin cfg0.N) (r x : Fin 512) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x) = Branch (m ((c : Thread nD τ).loc main_arg1)) (m ((c : Thread nD τ).loc main_arg6)) (at_ t r x) := by
  frame_out
  unfold k0_pay5 k0_pay3; pointwise
  simp only [block1, block10]
  unfold Branch matProd
  rw [Finset.sum_range]; rfl

theorem out18_apply (t : Fin cfg0.N) (r x : Fin 512) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x) = Branch (m ((c : Thread nD τ).loc main_arg2)) (m ((c : Thread nD τ).loc main_arg7)) (at_ t r x) := by
  frame_out
  unfold k0_pay12 k0_pay10; pointwise
  simp only [block2, block11]
  unfold Branch matProd
  rw [Finset.sum_range]; rfl

theorem out19_apply (t : Fin cfg0.N) (r x : Fin 512) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x) = Branch (m ((c : Thread nD τ).loc main_arg3)) (m ((c : Thread nD τ).loc main_arg8)) (at_ t r x) := by
  frame_out
  unfold k0_pay17 k0_pay15; pointwise
  simp only [block3, block12]
  unfold Branch matProd
  rw [Finset.sum_range]; rfl

theorem out13_apply (t : Fin cfg0.N) (r x : Fin 512) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r x)
      = Sum3 (Gate 0 (m ((c : Thread nD τ).loc main_arg0)) (m ((c : Thread nD τ).loc main_arg4)) (m ((c : Thread nD τ).loc main_arg5))) (Gate 1 (m ((c : Thread nD τ).loc main_arg0)) (m ((c : Thread nD τ).loc main_arg4)) (m ((c : Thread nD τ).loc main_arg5))) (Gate 2 (m ((c : Thread nD τ).loc main_arg0)) (m ((c : Thread nD τ).loc main_arg4)) (m ((c : Thread nD τ).loc main_arg5))) (Branch (m ((c : Thread nD τ).loc main_arg1)) (m ((c : Thread nD τ).loc main_arg6))) (Branch (m ((c : Thread nD τ).loc main_arg2)) (m ((c : Thread nD τ).loc main_arg7))) (Branch (m ((c : Thread nD τ).loc main_arg3)) (m ((c : Thread nD τ).loc main_arg8))) (at_ t r x) := by
  frame_out
  unfold k0_pay1 k0_pay13 k0_pay6 k0_pay2 k0_pay3 k0_pay9 k0_pay10 k0_pay18 k0_pay19 k0_pay8 k0_pay7 k0_pay14 k0_pay15; pointwise
  simp only [zero_sub, block0, block1, block2, block3, block4, block5, block6, block7, block8, block9, block10, block11, block12]
  unfold Sum3 Branch Gate gate matProd
  simp only [Finset.sum_range]; rfl

/-- The blocks of the points fill the array. -/
theorem filled (e : Fin cfg0.N → S512x512.Idx → S8192x2048.Idx) (he : ∀ t r x, e t (ix2 r x) = at_ t r x)
    (S : Fin cfg0.N → Finset S8192x2048.Idx) (hS : ∀ t y, e t y ∈ S t) (i : S8192x2048.Idx) : ∃ t, i ∈ S t := by
  obtain ⟨i, x, rfl⟩ := idx_eta (n := 8192) (k := 2048) i
  obtain ⟨t, ht⟩ : ∃ t : Fin cfg0.N, t.val = 16 * (x.val / 512) + i.val / 512 := ⟨⟨_, lt_of_lt_of_eq (by omega) N_0.symm⟩, rfl⟩
  have h := hS t (ix2 ⟨i.val % 512, by omega⟩ ⟨x.val % 512, by omega⟩)
  rw [he] at h
  exact ⟨t, (congrArg (· ∈ S t) (ix2_eq (by dsimp only; omega) (by dsimp only; omega))).mp h⟩

/-- A block that agrees with an array at each of its indices is the array's block. -/
theorem block_eq (t : Fin cfg0.N) (e : S512x512.Idx → S8192x2048.Idx) (he : ∀ r x, e (ix2 r x) = at_ t r x)
    (o : S512x512.Idx → EReal) (A : S8192x2048.Idx → EReal) (h : ∀ r x, o (ix2 r x) = A (at_ t r x)) : o = fun y => A (e y) := by
  funext y
  obtain ⟨r, x, rfl⟩ := idx_eta (n := 512) (k := 512) y
  rw [he]; exact h r x

theorem emb13 (t : Fin cfg0.N) (r x : Fin 512) : ((cfg0.win 13).blk t).view.emb (ix2 r x) = at_ t r x := by
  unfold at_
  blk_ext [idx13 t]

theorem final13 : (dats m 0 c).arrAt 13 cfg0.N = Sum3 (Gate 0 (m ((c : Thread nD τ).loc main_arg0)) (m ((c : Thread nD τ).loc main_arg4)) (m ((c : Thread nD τ).loc main_arg5))) (Gate 1 (m ((c : Thread nD τ).loc main_arg0)) (m ((c : Thread nD τ).loc main_arg4)) (m ((c : Thread nD τ).loc main_arg5))) (Gate 2 (m ((c : Thread nD τ).loc main_arg0)) (m ((c : Thread nD τ).loc main_arg4)) (m ((c : Thread nD τ).loc main_arg5))) (Branch (m ((c : Thread nD τ).loc main_arg1)) (m ((c : Thread nD τ).loc main_arg6))) (Branch (m ((c : Thread nD τ).loc main_arg2)) (m ((c : Thread nD τ).loc main_arg7))) (Branch (m ((c : Thread nD τ).loc main_arg3)) (m ((c : Thread nD τ).loc main_arg8))) :=
  (dats m 0 c).arrAt_eq_of_cover 13 _ (fun t _ => (flushed13 m c t).trans (block_eq t _ (emb13 t) _ _ (out13_apply m c t)))
    fun i => (filled _ emb13 _ (fun t y => ((cfg0.win 13).blk t).view.emb_mem_set y) i).imp fun t h => ⟨flush0_13 t, h⟩

theorem emb14 (t : Fin cfg0.N) (r x : Fin 512) : ((cfg0.win 14).blk t).view.emb (ix2 r x) = at_ t r x := by
  unfold at_
  blk_ext [idx14 t]

theorem final14 : (dats m 0 c).arrAt 14 cfg0.N = (Gate 0 (m ((c : Thread nD τ).loc main_arg0)) (m ((c : Thread nD τ).loc main_arg4)) (m ((c : Thread nD τ).loc main_arg5))) :=
  (dats m 0 c).arrAt_eq_of_cover 14 _ (fun t _ => (flushed14 m c t).trans (block_eq t _ (emb14 t) _ _ (out14_apply m c t)))
    fun i => (filled _ emb14 _ (fun t y => ((cfg0.win 14).blk t).view.emb_mem_set y) i).imp fun t h => ⟨flush0_14 t, h⟩

theorem emb15 (t : Fin cfg0.N) (r x : Fin 512) : ((cfg0.win 15).blk t).view.emb (ix2 r x) = at_ t r x := by
  unfold at_
  blk_ext [idx15 t]

theorem final15 : (dats m 0 c).arrAt 15 cfg0.N = (Gate 1 (m ((c : Thread nD τ).loc main_arg0)) (m ((c : Thread nD τ).loc main_arg4)) (m ((c : Thread nD τ).loc main_arg5))) :=
  (dats m 0 c).arrAt_eq_of_cover 15 _ (fun t _ => (flushed15 m c t).trans (block_eq t _ (emb15 t) _ _ (out15_apply m c t)))
    fun i => (filled _ emb15 _ (fun t y => ((cfg0.win 15).blk t).view.emb_mem_set y) i).imp fun t h => ⟨flush0_15 t, h⟩

theorem emb16 (t : Fin cfg0.N) (r x : Fin 512) : ((cfg0.win 16).blk t).view.emb (ix2 r x) = at_ t r x := by
  unfold at_
  blk_ext [idx16 t]

theorem final16 : (dats m 0 c).arrAt 16 cfg0.N = (Gate 2 (m ((c : Thread nD τ).loc main_arg0)) (m ((c : Thread nD τ).loc main_arg4)) (m ((c : Thread nD τ).loc main_arg5))) :=
  (dats m 0 c).arrAt_eq_of_cover 16 _ (fun t _ => (flushed16 m c t).trans (block_eq t _ (emb16 t) _ _ (out16_apply m c t)))
    fun i => (filled _ emb16 _ (fun t y => ((cfg0.win 16).blk t).view.emb_mem_set y) i).imp fun t h => ⟨flush0_16 t, h⟩

theorem emb17 (t : Fin cfg0.N) (r x : Fin 512) : ((cfg0.win 17).blk t).view.emb (ix2 r x) = at_ t r x := by
  unfold at_
  blk_ext [idx17 t]

theorem final17 : (dats m 0 c).arrAt 17 cfg0.N = (Branch (m ((c : Thread nD τ).loc main_arg1)) (m ((c : Thread nD τ).loc main_arg6))) :=
  (dats m 0 c).arrAt_eq_of_cover 17 _ (fun t _ => (flushed17 m c t).trans (block_eq t _ (emb17 t) _ _ (out17_apply m c t)))
    fun i => (filled _ emb17 _ (fun t y => ((cfg0.win 17).blk t).view.emb_mem_set y) i).imp fun t h => ⟨flush0_17 t, h⟩

theorem emb18 (t : Fin cfg0.N) (r x : Fin 512) : ((cfg0.win 18).blk t).view.emb (ix2 r x) = at_ t r x := by
  unfold at_
  blk_ext [idx18 t]

theorem final18 : (dats m 0 c).arrAt 18 cfg0.N = (Branch (m ((c : Thread nD τ).loc main_arg2)) (m ((c : Thread nD τ).loc main_arg7))) :=
  (dats m 0 c).arrAt_eq_of_cover 18 _ (fun t _ => (flushed18 m c t).trans (block_eq t _ (emb18 t) _ _ (out18_apply m c t)))
    fun i => (filled _ emb18 _ (fun t y => ((cfg0.win 18).blk t).view.emb_mem_set y) i).imp fun t h => ⟨flush0_18 t, h⟩

theorem emb19 (t : Fin cfg0.N) (r x : Fin 512) : ((cfg0.win 19).blk t).view.emb (ix2 r x) = at_ t r x := by
  unfold at_
  blk_ext [idx19 t]

theorem final19 : (dats m 0 c).arrAt 19 cfg0.N = (Branch (m ((c : Thread nD τ).loc main_arg3)) (m ((c : Thread nD τ).loc main_arg8))) :=
  (dats m 0 c).arrAt_eq_of_cover 19 _ (fun t _ => (flushed19 m c t).trans (block_eq t _ (emb19 t) _ _ (out19_apply m c t)))
    fun i => (filled _ emb19 _ (fun t y => ((cfg0.win 19).blk t).view.emb_mem_set y) i).imp fun t h => ⟨flush0_19 t, h⟩

section Reference
open Cert.MergeRefIdeal.Read
variable (H : S8192x2048.Idx → EReal) (Y : Fin 3 → S8192x2048.Idx → EReal) (W : S2048x6144.Idx → EReal) (B : S1x6144.Idx → EReal)
  (P : Fin 3 → S2048x2048.Idx → EReal)

/-- The reference's gates. -/
theorem gates_apply (i : Fin 8192) (n : Fin 3) (x : Fin 2048) :
    val_main_v23 (F := Ideal) H W B (ix3 i n x) = Gate n.val H W B (ix2 i x) := by
  have e : idx_main_v23 (ix3 i n x) = ix2 i (⟨2048 * n.val + x.val, by omega⟩ : Fin 6144) := funext fun a => by
    match a with
    | ⟨0, _⟩ => exact Fin.ext (by show ((i.val * 3 + n.val) * 2048 + x.val) / 6144 = i.val; omega)
    | ⟨1, _⟩ => exact Fin.ext (by show ((i.val * 3 + n.val) * 2048 + x.val) % 6144 = 2048 * n.val + x.val; omega)
  rw [val_main_v23_apply, e, val_main_v22_apply, val_main_v21_apply, val_main_cst_0_apply, val_main_v20_apply, val_main_v19_apply,
    val_main_cst_apply, val_main_v18_apply, val_main_v17_apply, val_main_v16_apply, val_main_v15_apply, val_main_v14_apply]
  show Ideal.div (Ideal.ofBits .f32 0x3F800000#32) (Ideal.ofBits .f32 0x3F800000#32 + Ideal.exp (-(_ + _))) = Ideal.div 1 (1 + Ideal.exp (-(_ + _)))
  rw [Cert.RealTools.ofBits_one, EReal.coe_one]
  refine congrArg (fun z => Ideal.div 1 (1 + Ideal.exp (-z))) (congrArg₂ (· + ·) ?_ ?_)
  · refine Eq.trans (Finset.sum_congr rfl fun l _ => ?_) (matProd_eq H W i ⟨2048 * n.val + x.val, by omega⟩).symm
    rw [val_main_v12_apply, val_main_v13_apply]
    refine congrArg₂ (fun a b => H a * W b) (funext fun a => ?_) (funext fun a => ?_) <;>
    match a with
    | ⟨0, _⟩ => rfl
    | ⟨1, _⟩ => rfl
  · have hx : 2048 * n.val + x.val < 6144 := by omega
    refine Eq.trans ?_ (elt_mk B Nat.one_pos hx).symm
    refine congrArg B (funext fun a => ?_)
    match a with
    | ⟨0, _⟩ => rfl
    | ⟨1, _⟩ => rfl

/-- A stack of three arrays, row by row. -/
theorem rows_apply (i : Fin 8192) (n : Fin 3) (l : Fin 2048) : val_main_v3 (F := Ideal) (Y 0) (Y 1) (Y 2) (ix3 i n l) = Y n (ix2 i l) := by
  unfold val_main_v3
  fin_cases n <;> pointwise [val_main_v0_apply, val_main_v1_apply, val_main_v2_apply]
  all_goals
    refine congrArg _ (funext fun a => ?_)
    match a with
    | ⟨0, _⟩ => rfl
    | ⟨1, _⟩ => rfl

/-- A stack of three matrices. -/
theorem weights_apply (n : Fin 3) (l x : Fin 2048) : val_main_v8 (F := Ideal) (P 0) (P 1) (P 2) (ix3 n l x) = P n (ix2 l x) := by
  unfold val_main_v8
  fin_cases n <;> pointwise [val_main_v5_apply, val_main_v6_apply, val_main_v7_apply]
  all_goals
    refine congrArg _ (funext fun a => ?_)
    match a with
    | ⟨0, _⟩ => rfl
    | ⟨1, _⟩ => rfl

/-- The reference's products. -/
theorem products_apply (i : Fin 8192) (n : Fin 3) (x : Fin 2048) :
    val_main_v11 (F := Ideal) (Y 0) (Y 1) (Y 2) (P 0) (P 1) (P 2) (ix3 i n x) = Branch (Y n) (P n) (ix2 i x) := by
  rw [val_main_v11_apply, val_main_v10_apply]
  refine Eq.trans (Finset.sum_congr rfl fun l _ => ?_) (matProd_eq (Y n) (P n) i x).symm
  rw [val_main_v9_apply, val_main_v4_apply, mul_comm]
  refine congrArg₂ (· * ·) ((congrArg (val_main_v3 (F := Ideal) (Y 0) (Y 1) (Y 2)) (funext fun a => ?_)).trans (rows_apply Y i n l))
    ((congrArg (val_main_v8 (F := Ideal) (P 0) (P 1) (P 2)) (funext fun a => ?_)).trans (weights_apply P n l x)) <;>
  match a with
  | ⟨0, _⟩ => rfl
  | ⟨1, _⟩ => rfl
  | ⟨2, _⟩ => rfl

/-- The reference's gated sum. -/
theorem sum_eq : val_main_v38 (F := Ideal) H (Y 0) (Y 1) (Y 2) W B (P 0) (P 1) (P 2)
    = Sum3 (Gate 0 H W B) (Gate 1 H W B) (Gate 2 H W B) (Branch (Y 0) (P 0)) (Branch (Y 1) (P 1)) (Branch (Y 2) (P 2)) := by
  funext i
  obtain ⟨i, x, rfl⟩ := idx_eta (n := 8192) (k := 2048) i
  have e : ∀ k : Fin 3, val_main_v24 (F := Ideal) H (Y 0) (Y 1) (Y 2) W B (P 0) (P 1) (P 2) (idx_main_v25 (ix2 i x) k)
      = Gate k.val H W B (ix2 i x) * Branch (Y k) (P k) (ix2 i x) := fun k => by
    have e : idx_main_v25 (ix2 i x) k = ix3 i k x := funext fun a => by
      match a with
      | ⟨0, _⟩ => rfl
      | ⟨1, _⟩ => rfl
      | ⟨2, _⟩ => rfl
    rw [e, val_main_v24_apply]
    exact congrArg₂ (· * ·) (gates_apply H W B i k x) (products_apply Y P i k x)
  show val_main_v25 (F := Ideal) H (Y 0) (Y 1) (Y 2) W B (P 0) (P 1) (P 2) (ix2 i x) = _
  rw [val_main_v25_apply, Fin.sum_univ_three, e, e, e]
  show Ideal.ofBits .f32 0x00000000#32 + _ = _
  rw [show Ideal.ofBits .f32 0x00000000#32 = 0 by simp [Ideal.ofBits, Ideal.ieee], zero_add]; rfl

/-- A reading of a stack of three at one of its places. -/
theorem stack_idx (j : Cert.MergeRefIdeal.S8192x3x2048.Idx) (i : Fin 8192) (n : Fin 3) (x : Fin 2048) (h0 : (j 0).val = i.val) (h1 : (j 1).val = n.val)
    (h2 : (j 2).val = x.val) : j = ix3 i n x := funext fun a => by
  match a with
  | ⟨0, _⟩ => exact Fin.ext h0
  | ⟨1, _⟩ => exact Fin.ext h1
  | ⟨2, _⟩ => exact Fin.ext h2

theorem gate0_eq : val_main_v39 (F := Ideal) H W B = Gate 0 H W B := by
  funext i
  obtain ⟨i, x, rfl⟩ := idx_eta (n := 8192) (k := 2048) i
  show val_main_v27 (F := Ideal) H W B (ix2 i x) = _
  rw [val_main_v27_apply, val_main_v26_apply, stack_idx (idx_main_v26 (idx_main_v27 (ix2 i x))) i 0 x
    (by show (i.val * 2048 + x.val) / 2048 = i.val; omega) rfl (by show (i.val * 2048 + x.val) % 2048 = x.val; omega)]
  exact gates_apply H W B i 0 x

theorem gate1_eq : val_main_v40 (F := Ideal) H W B = Gate 1 H W B := by
  funext i
  obtain ⟨i, x, rfl⟩ := idx_eta (n := 8192) (k := 2048) i
  show val_main_v29 (F := Ideal) H W B (ix2 i x) = _
  rw [val_main_v29_apply, val_main_v28_apply, stack_idx (idx_main_v28 (idx_main_v29 (ix2 i x))) i 1 x
    (by show (i.val * 2048 + x.val) / 2048 = i.val; omega) rfl (by show (i.val * 2048 + x.val) % 2048 = x.val; omega)]
  exact gates_apply H W B i 1 x

theorem gate2_eq : val_main_v41 (F := Ideal) H W B = Gate 2 H W B := by
  funext i
  obtain ⟨i, x, rfl⟩ := idx_eta (n := 8192) (k := 2048) i
  show val_main_v31 (F := Ideal) H W B (ix2 i x) = _
  rw [val_main_v31_apply, val_main_v30_apply, stack_idx (idx_main_v30 (idx_main_v31 (ix2 i x))) i 2 x
    (by show (i.val * 2048 + x.val) / 2048 = i.val; omega) rfl (by show (i.val * 2048 + x.val) % 2048 = x.val; omega)]
  exact gates_apply H W B i 2 x

theorem branch0_eq : val_main_v42 (F := Ideal) (Y 0) (Y 1) (Y 2) (P 0) (P 1) (P 2) = Branch (Y 0) (P 0) := by
  funext i
  obtain ⟨i, x, rfl⟩ := idx_eta (n := 8192) (k := 2048) i
  show val_main_v33 (F := Ideal) (Y 0) (Y 1) (Y 2) (P 0) (P 1) (P 2) (ix2 i x) = _
  rw [val_main_v33_apply, val_main_v32_apply, stack_idx (idx_main_v32 (idx_main_v33 (ix2 i x))) i 0 x
    (by show (i.val * 2048 + x.val) / 2048 = i.val; omega) rfl (by show (i.val * 2048 + x.val) % 2048 = x.val; omega)]
  exact products_apply Y P i 0 x

theorem branch1_eq : val_main_v43 (F := Ideal) (Y 0) (Y 1) (Y 2) (P 0) (P 1) (P 2) = Branch (Y 1) (P 1) := by
  funext i
  obtain ⟨i, x, rfl⟩ := idx_eta (n := 8192) (k := 2048) i
  show val_main_v35 (F := Ideal) (Y 0) (Y 1) (Y 2) (P 0) (P 1) (P 2) (ix2 i x) = _
  rw [val_main_v35_apply, val_main_v34_apply, stack_idx (idx_main_v34 (idx_main_v35 (ix2 i x))) i 1 x
    (by show (i.val * 2048 + x.val) / 2048 = i.val; omega) rfl (by show (i.val * 2048 + x.val) % 2048 = x.val; omega)]
  exact products_apply Y P i 1 x

theorem branch2_eq : val_main_v44 (F := Ideal) (Y 0) (Y 1) (Y 2) (P 0) (P 1) (P 2) = Branch (Y 2) (P 2) := by
  funext i
  obtain ⟨i, x, rfl⟩ := idx_eta (n := 8192) (k := 2048) i
  show val_main_v37 (F := Ideal) (Y 0) (Y 1) (Y 2) (P 0) (P 1) (P 2) (ix2 i x) = _
  rw [val_main_v37_apply, val_main_v36_apply, stack_idx (idx_main_v36 (idx_main_v37 (ix2 i x))) i 2 x
    (by show (i.val * 2048 + x.val) / 2048 = i.val; omega) rfl (by show (i.val * 2048 + x.val) % 2048 = x.val; omega)]
  exact products_apply Y P i 2 x

end Reference

/-- The kernel and the reference end with the same arrays. -/
theorem algebraic : Cert.algebraic_MergeIdeal_MergeRefIdeal (hMergeIdeal := facts) (hMergeRefIdeal := Cert.MergeRefIdeal.Gen.facts) := by
  intro m ρ m' ρ' _ hagree
  refine ⟨fun c => Sum3 (Gate 0 (m ((c : Thread nD τ).loc main_arg0)) (m ((c : Thread nD τ).loc main_arg4)) (m ((c : Thread nD τ).loc main_arg5))) (Gate 1 (m ((c : Thread nD τ).loc main_arg0)) (m ((c : Thread nD τ).loc main_arg4)) (m ((c : Thread nD τ).loc main_arg5))) (Gate 2 (m ((c : Thread nD τ).loc main_arg0)) (m ((c : Thread nD τ).loc main_arg4)) (m ((c : Thread nD τ).loc main_arg5))) (Branch (m ((c : Thread nD τ).loc main_arg1)) (m ((c : Thread nD τ).loc main_arg6))) (Branch (m ((c : Thread nD τ).loc main_arg2)) (m ((c : Thread nD τ).loc main_arg7))) (Branch (m ((c : Thread nD τ).loc main_arg3)) (m ((c : Thread nD τ).loc main_arg8))), fun c => Gate 0 (m ((c : Thread nD τ).loc main_arg0)) (m ((c : Thread nD τ).loc main_arg4)) (m ((c : Thread nD τ).loc main_arg5)), fun c => Gate 1 (m ((c : Thread nD τ).loc main_arg0)) (m ((c : Thread nD τ).loc main_arg4)) (m ((c : Thread nD τ).loc main_arg5)), fun c => Gate 2 (m ((c : Thread nD τ).loc main_arg0)) (m ((c : Thread nD τ).loc main_arg4)) (m ((c : Thread nD τ).loc main_arg5)), fun c => Branch (m ((c : Thread nD τ).loc main_arg1)) (m ((c : Thread nD τ).loc main_arg6)), fun c => Branch (m ((c : Thread nD τ).loc main_arg2)) (m ((c : Thread nD τ).loc main_arg7)), fun c => Branch (m ((c : Thread nD τ).loc main_arg3)) (m ((c : Thread nD τ).loc main_arg8)), ?_, ?_⟩
  · refine (θ_run defs _ _).mono (fun _ h c => ?_) (run_blocks (F := Ideal) m ρ)
    obtain ⟨h0, h1, h2, h3, h4, h5, h6, h⟩ := h c
    exact ⟨h0.trans (final13 m c), h1.trans (final14 m c), h2.trans (final15 m c), h3.trans (final16 m c), h4.trans (final17 m c), h5.trans (final18 m c), h6.trans (final19 m c), h⟩
  · refine (θ_run Cert.MergeRefIdeal.defs _ _).mono (fun _ h c => ?_) (Cert.MergeRefIdeal.Value.run (F := Ideal) m' ρ')
    obtain ⟨a0, a1, a2, a3, a4, a5, a6, a7, a8⟩ := hagree c
    obtain ⟨h0, h1, h2, h3, h4, h5, h6, h⟩ := h c
    refine ⟨h0.trans ((Cert.MergeRefIdeal.Read.val_main_v38_eq _ _ _ _ _ _ _ _ _).trans ?_), h1.trans ((Cert.MergeRefIdeal.Read.val_main_v39_eq _ _ _).trans ?_), h2.trans ((Cert.MergeRefIdeal.Read.val_main_v40_eq _ _ _).trans ?_), h3.trans ((Cert.MergeRefIdeal.Read.val_main_v41_eq _ _ _).trans ?_), h4.trans ((Cert.MergeRefIdeal.Read.val_main_v42_eq _ _ _ _ _ _).trans ?_), h5.trans ((Cert.MergeRefIdeal.Read.val_main_v43_eq _ _ _ _ _ _).trans ?_), h6.trans ((Cert.MergeRefIdeal.Read.val_main_v44_eq _ _ _ _ _ _).trans ?_), h⟩
    · rw [a0, a1, a2, a3, a4, a5, a6, a7, a8]; exact sum_eq _ ![m ((c : Thread nD τ).loc main_arg1), m ((c : Thread nD τ).loc main_arg2), m ((c : Thread nD τ).loc main_arg3)] _ _ ![m ((c : Thread nD τ).loc main_arg6), m ((c : Thread nD τ).loc main_arg7), m ((c : Thread nD τ).loc main_arg8)]
    · rw [a0, a4, a5]; exact gate0_eq _ _ _
    · rw [a0, a4, a5]; exact gate1_eq _ _ _
    · rw [a0, a4, a5]; exact gate2_eq _ _ _
    · rw [a1, a2, a3, a6, a7, a8]; exact branch0_eq ![m ((c : Thread nD τ).loc main_arg1), m ((c : Thread nD τ).loc main_arg2), m ((c : Thread nD τ).loc main_arg3)] ![m ((c : Thread nD τ).loc main_arg6), m ((c : Thread nD τ).loc main_arg7), m ((c : Thread nD τ).loc main_arg8)]
    · rw [a1, a2, a3, a6, a7, a8]; exact branch1_eq ![m ((c : Thread nD τ).loc main_arg1), m ((c : Thread nD τ).loc main_arg2), m ((c : Thread nD τ).loc main_arg3)] ![m ((c : Thread nD τ).loc main_arg6), m ((c : Thread nD τ).loc main_arg7), m ((c : Thread nD τ).loc main_arg8)]
    · rw [a1, a2, a3, a6, a7, a8]; exact branch2_eq ![m ((c : Thread nD τ).loc main_arg1), m ((c : Thread nD τ).loc main_arg2), m ((c : Thread nD τ).loc main_arg3)] ![m ((c : Thread nD τ).loc main_arg6), m ((c : Thread nD τ).loc main_arg7), m ((c : Thread nD τ).loc main_arg8)]

/-- The reference runs, keeps its arguments and holds no semaphore. -/
theorem frame_reference : Cert.quiescent_MergeRefIdeal (hMergeRefIdeal := Cert.MergeRefIdeal.Gen.facts) := fun m ρ _ =>
  (θ_run Cert.MergeRefIdeal.defs _ _).mono (fun r h => ⟨fun c => (h c).2.2.2.2.2.2.2, sem_eq_zero_of_no_sems rfl r.2⟩) (Cert.MergeRefIdeal.Value.run (F := Ideal) m ρ)

end Cert.MergeValue
end
-- ==== Proof.LatW.lean ====
module
public import proofs.«01_k».proof.Proof.Gen.LatWIdeal.Value
public import proofs.«01_k».proof.Proof.Gen.LatWRefIdeal.Read
public import proofs.«01_k».proof.Proof.Products
public import proofs.«01_k».proof.Defs
public import Idealize.ShloMosaic.Adequacy
public import Idealize.ShloMosaic.Init
@[expose] public section
set_option maxRecDepth 16384
noncomputable section
namespace Cert.LatWValue
open Cert.LatWIdeal Cert.LatWIdeal.Gen Cert.LatWIdeal.Facts Cert.LatWIdeal.Value Cert.Products
open Idealize.ShloMosaic Idealize.ShloMosaic.TcCoe Idealize.SL.Sem
open scoped BigOperators

/-! The gradient of the weights from a latent: the queries' or the keys': the array the kernel leaves, and the reference's. -/

variable (m : (ℓ : Loc nD τ sig) → Buf (Elt Ideal) ℓ)

theorem idx0 : ∀ t : Fin cfg0.N, win0_0.index t = ![t.val % 2, 0] := (by decide +kernel : ∀ t : Fin grid0.N, win0_0.index t = ![t.val % 2, 0])
theorem idx1 : ∀ t : Fin cfg0.N, win0_1.index t = ![t.val % 2, t.val / 2] := (by decide +kernel : ∀ t : Fin grid0.N, win0_1.index t = ![t.val % 2, t.val / 2])
theorem idx2 : ∀ t : Fin cfg0.N, win0_2.index t = ![0, t.val / 2] := (by decide +kernel : ∀ t : Fin grid0.N, win0_2.index t = ![0, t.val / 2])

theorem lt8 (t : Fin cfg0.N) : t.val < 8 := lt_of_lt_of_eq t.isLt N_0

variable (c : Dev nD)

theorem block0 (t : Fin cfg0.N) (q : Fin 4096) (r : Fin 512) :
    iblk (F := Ideal) m c 0 t (ix2 q r) = elt (m ((c : Thread nD τ).loc main_arg0)) (4096 * (t.val % 2) + q.val) r.val := by
  rw [elt_mk _ (by omega) (by omega)]
  blk_ext [iblk, V, idx0 t]

theorem block1 (t : Fin cfg0.N) (q : Fin 4096) (x : Fin 1024) :
    iblk (F := Ideal) m c 1 t (ix2 q x) = elt (m ((c : Thread nD τ).loc main_arg1)) (4096 * (t.val % 2) + q.val) (1024 * (t.val / 2) + x.val) := by
  have := lt8 t
  rw [elt_mk _ (by omega) (by omega)]
  blk_ext [iblk, V, idx1 t]

/-- One point's product. -/
theorem part_apply (a : Vec Ideal S4096x512 .bf16) (b : Vec Ideal S4096x1024 .bf16) (r : Fin 512) (x : Fin 1024) :
    k0_pay1 a b (ix2 r x) = ∑ q : Fin 4096, a (ix2 q r) * b (ix2 q x) := by
  unfold k0_pay1; pointwise

/-- The accumulator's element at the last point of a block. -/
theorem acc_last (t : Fin cfg0.N) (ht : t.val % 2 = 1) (r : Fin 512) (x : Fin 1024) :
    (outsAt0 (F := Ideal) m c t.val t.isLt).2 (ix2 r x)
      = rowsProd (m ((c : Thread nD τ).loc main_arg0)) (m ((c : Thread nD τ).loc main_arg1)) r.val (1024 * (t.val / 2) + x.val) :=
  acc_eq (fun n h => (outsAt0 (F := Ideal) m c n h).2 (ix2 r x)) 2 4096 (by omega)
    (fun p l => elt (m ((c : Thread nD τ).loc main_arg0)) l r.val * elt (m ((c : Thread nD τ).loc main_arg1)) l (1024 * p + x.val))
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      rw [outsAt0_B m c t h0 (by omega) (by omega)]; frame_out
      unfold k0_pay3; pointwise [part_apply]
      simp only [block0, block1]
      exact congrArg (· + _) (congrFun ((Memref.isWhole_whole cc0_scratch0).read_unread _) _))
    t ht

/-- The block a point writes back is the accumulator. -/
theorem out_last (t : Fin cfg0.N) (ht : t.val % 2 = 1) :
    (outsAt0 (F := Ideal) m c t.val t.isLt).1 = (outsAt0 (F := Ideal) m c t.val t.isLt).2 := by
  rw [outsAt0_B m c t (by omega) ht ht]; frame_out

/-- The gradient of the weights, an array. -/
def G (A : S8192x512.Idx → EReal) (B : S8192x4096.Idx → EReal) : S512x4096.Idx → EReal := fun i => rowsProd A B (i 0).val (i 1).val

theorem emb2 (t : Fin cfg0.N) (r : Fin 512) (x : Fin 1024) : ((cfg0.win 2).blk t).view.emb (ix2 r x)
    = ix2 (r : Fin 512) (⟨1024 * (t.val / 2) + x.val, by have := lt8 t; omega⟩ : Fin 4096) := by
  blk_ext [idx2 t]

theorem cover2 (i : S512x4096.Idx) : ∃ t : Fin cfg0.N, (cfg0.win 2).flush t = true ∧ i ∈ ((cfg0.win 2).blk t).view.set := by
  obtain ⟨i, x, rfl⟩ := idx_eta (n := 512) (k := 4096) i
  obtain ⟨t, ht⟩ : ∃ t : Fin cfg0.N, t.val = 2 * (x.val / 1024) + 1 := ⟨⟨_, lt_of_lt_of_eq (by omega) N_0.symm⟩, rfl⟩
  refine ⟨t, (flush0_2 t).mpr (by omega), ?_⟩
  have h := ((cfg0.win 2).blk t).view.emb_mem_set (ix2 i ⟨x.val % 1024, by omega⟩)
  rw [emb2] at h
  exact (congrArg (· ∈ ((cfg0.win 2).blk t).view.set) (ix2_eq rfl (by dsimp only; omega))).mp h

/-- After the run the result is the gradient of the weights. -/
theorem final2 : (dats m 0 c).arrAt 2 cfg0.N = G (m ((c : Thread nD τ).loc main_arg0)) (m ((c : Thread nD τ).loc main_arg1)) :=
  (dats m 0 c).arrAt_eq_of_cover 2 _ (fun t hf => by
    have ht := (flush0_2 t).mp hf
    rw [flushed2]; funext y
    show (outsAt0 (F := Ideal) m c t.val t.isLt).1 y = G _ _ (((cfg0.win 2).blk t).view.emb y)
    obtain ⟨r, x, rfl⟩ := idx_eta (n := 512) (k := 1024) y
    rw [out_last m c t ht, emb2]
    exact acc_last m c t ht r x) cover2

/-- The reference's result is the gradient of the weights. -/
theorem reference_eq (A : S8192x512.Idx → EReal) (B : S8192x4096.Idx → EReal) : Cert.LatWRefIdeal.Read.val_main_v5 (F := Ideal) A B = G A B := by
  funext i
  obtain ⟨i, x, rfl⟩ := idx_eta (n := 512) (k := 4096) i
  rw [Cert.LatWRefIdeal.Read.val_main_v5_apply, Cert.LatWRefIdeal.Read.val_main_v4_apply]
  refine Eq.trans ?_ (rowsProd_eq A B i x).symm
  refine Finset.sum_congr rfl fun l _ => (mul_comm _ _).trans ?_
  rw [Cert.LatWRefIdeal.Read.val_main_v1_apply, Cert.LatWRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_LatWIdeal_LatWRefIdeal (hLatWIdeal := facts) (hLatWRefIdeal := Cert.LatWRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.LatWRefIdeal.defs _ _).mono (fun _ h c => ⟨(h c).1.trans ((Cert.LatWRefIdeal.Read.val_main_v5_eq _ _).trans (by
      rw [(hagree c).1, (hagree c).2]; exact reference_eq _ _)), (h c).2⟩) (Cert.LatWRefIdeal.Value.run (F := Ideal) m' ρ')

/-- The reference runs, keeps its arguments and holds no semaphore. -/
theorem frame_reference : Cert.quiescent_LatWRefIdeal (hLatWRefIdeal := Cert.LatWRefIdeal.Gen.facts) := fun m ρ _ =>
  (θ_run Cert.LatWRefIdeal.defs _ _).mono (fun r h => ⟨fun c => (h c).2, sem_eq_zero_of_no_sems rfl r.2⟩) (Cert.LatWRefIdeal.Value.run (F := Ideal) m ρ)

end Cert.LatWValue
end
-- ==== Proof.LatV.lean ====
module
public import proofs.«01_k».proof.Proof.Gen.LatVIdeal.Value
public import proofs.«01_k».proof.Proof.Gen.LatVRefIdeal.Read
public import proofs.«01_k».proof.Proof.Products
public import proofs.«01_k».proof.Defs
public import Idealize.ShloMosaic.Adequacy
public import Idealize.ShloMosaic.Init
@[expose] public section
set_option maxRecDepth 16384
noncomputable section
namespace Cert.LatVValue
open Cert.LatVIdeal Cert.LatVIdeal.Gen Cert.LatVIdeal.Facts Cert.LatVIdeal.Value Cert.Products
open Idealize.ShloMosaic Idealize.ShloMosaic.TcCoe Idealize.SL.Sem
open scoped BigOperators

/-! The gradient of the weights from a latent: the values': the array the kernel leaves, and the reference's. -/

variable (m : (ℓ : Loc nD τ sig) → Buf (Elt Ideal) ℓ)

theorem idx0 : ∀ t : Fin cfg0.N, win0_0.index t = ![t.val % 2, 0] := (by decide +kernel : ∀ t : Fin grid0.N, win0_0.index t = ![t.val % 2, 0])
theorem idx1 : ∀ t : Fin cfg0.N, win0_1.index t = ![t.val % 2, t.val / 2] := (by decide +kernel : ∀ t : Fin grid0.N, win0_1.index t = ![t.val % 2, t.val / 2])
theorem idx2 : ∀ t : Fin cfg0.N, win0_2.index t = ![0, t.val / 2] := (by decide +kernel : ∀ t : Fin grid0.N, win0_2.index t = ![0, t.val / 2])

theorem lt4 (t : Fin cfg0.N) : t.val < 4 := lt_of_lt_of_eq t.isLt N_0

variable (c : Dev nD)

theorem block0 (t : Fin cfg0.N) (q : Fin 4096) (r : Fin 512) :
    iblk (F := Ideal) m c 0 t (ix2 q r) = elt (m ((c : Thread nD τ).loc main_arg0)) (4096 * (t.val % 2) + q.val) r.val := by
  rw [elt_mk _ (by omega) (by omega)]
  blk_ext [iblk, V, idx0 t]

theorem block1 (t : Fin cfg0.N) (q : Fin 4096) (x : Fin 1024) :
    iblk (F := Ideal) m c 1 t (ix2 q x) = elt (m ((c : Thread nD τ).loc main_arg1)) (4096 * (t.val % 2) + q.val) (1024 * (t.val / 2) + x.val) := by
  have := lt4 t
  rw [elt_mk _ (by omega) (by omega)]
  blk_ext [iblk, V, idx1 t]

/-- One point's product. -/
theorem part_apply (a : Vec Ideal S4096x512 .bf16) (b : Vec Ideal S4096x1024 .bf16) (r : Fin 512) (x : Fin 1024) :
    k0_pay1 a b (ix2 r x) = ∑ q : Fin 4096, a (ix2 q r) * b (ix2 q x) := by
  unfold k0_pay1; pointwise

/-- The accumulator's element at the last point of a block. -/
theorem acc_last (t : Fin cfg0.N) (ht : t.val % 2 = 1) (r : Fin 512) (x : Fin 1024) :
    (outsAt0 (F := Ideal) m c t.val t.isLt).2 (ix2 r x)
      = rowsProd (m ((c : Thread nD τ).loc main_arg0)) (m ((c : Thread nD τ).loc main_arg1)) r.val (1024 * (t.val / 2) + x.val) :=
  acc_eq (fun n h => (outsAt0 (F := Ideal) m c n h).2 (ix2 r x)) 2 4096 (by omega)
    (fun p l => elt (m ((c : Thread nD τ).loc main_arg0)) l r.val * elt (m ((c : Thread nD τ).loc main_arg1)) l (1024 * p + x.val))
    (fun t h0 => by
      show (outsAt0 (F := Ideal) m c t.val t.isLt).2 (ix2 r x) = _
      rw [outsAt0_A m c t h0 (by omega) (by omega)]; frame_out
      unfold k0_pay2; pointwise [part_apply]
      simp only [block0, block1])
    (fun t h0 => by
      show (outsAt0 (F := Ideal) m c t.val t.isLt).2 (ix2 r x) = _
      rw [outsAt0_B m c t h0 (by omega) (by omega)]; frame_out
      unfold k0_pay3; pointwise [part_apply]
      simp only [block0, block1]
      exact congrArg (· + _) (congrFun ((Memref.isWhole_whole cc0_scratch0).read_unread _) _))
    t ht

/-- The block a point writes back is the accumulator. -/
theorem out_last (t : Fin cfg0.N) (ht : t.val % 2 = 1) :
    (outsAt0 (F := Ideal) m c t.val t.isLt).1 = (outsAt0 (F := Ideal) m c t.val t.isLt).2 := by
  rw [outsAt0_B m c t (by omega) ht ht]; frame_out

/-- The gradient of the weights, an array. -/
def G (A : S8192x512.Idx → EReal) (B : S8192x2048.Idx → EReal) : S512x2048.Idx → EReal := fun i => rowsProd A B (i 0).val (i 1).val

theorem emb2 (t : Fin cfg0.N) (r : Fin 512) (x : Fin 1024) : ((cfg0.win 2).blk t).view.emb (ix2 r x)
    = ix2 (r : Fin 512) (⟨1024 * (t.val / 2) + x.val, by have := lt4 t; omega⟩ : Fin 2048) := by
  blk_ext [idx2 t]

theorem cover2 (i : S512x2048.Idx) : ∃ t : Fin cfg0.N, (cfg0.win 2).flush t = true ∧ i ∈ ((cfg0.win 2).blk t).view.set := by
  obtain ⟨i, x, rfl⟩ := idx_eta (n := 512) (k := 2048) i
  obtain ⟨t, ht⟩ : ∃ t : Fin cfg0.N, t.val = 2 * (x.val / 1024) + 1 := ⟨⟨_, lt_of_lt_of_eq (by omega) N_0.symm⟩, rfl⟩
  refine ⟨t, (flush0_2 t).mpr (by omega), ?_⟩
  have h := ((cfg0.win 2).blk t).view.emb_mem_set (ix2 i ⟨x.val % 1024, by omega⟩)
  rw [emb2] at h
  exact (congrArg (· ∈ ((cfg0.win 2).blk t).view.set) (ix2_eq rfl (by dsimp only; omega))).mp h

/-- After the run the result is the gradient of the weights. -/
theorem final2 : (dats m 0 c).arrAt 2 cfg0.N = G (m ((c : Thread nD τ).loc main_arg0)) (m ((c : Thread nD τ).loc main_arg1)) :=
  (dats m 0 c).arrAt_eq_of_cover 2 _ (fun t hf => by
    have ht := (flush0_2 t).mp hf
    rw [flushed2]; funext y
    show (outsAt0 (F := Ideal) m c t.val t.isLt).1 y = G _ _ (((cfg0.win 2).blk t).view.emb y)
    obtain ⟨r, x, rfl⟩ := idx_eta (n := 512) (k := 1024) y
    rw [out_last m c t ht, emb2]
    exact acc_last m c t ht r x) cover2

/-- The reference's result is the gradient of the weights. -/
theorem reference_eq (A : S8192x512.Idx → EReal) (B : S8192x2048.Idx → EReal) : Cert.LatVRefIdeal.Read.val_main_v5 (F := Ideal) A B = G A B := by
  funext i
  obtain ⟨i, x, rfl⟩ := idx_eta (n := 512) (k := 2048) i
  rw [Cert.LatVRefIdeal.Read.val_main_v5_apply, Cert.LatVRefIdeal.Read.val_main_v4_apply]
  refine Eq.trans ?_ (rowsProd_eq A B i x).symm
  refine Finset.sum_congr rfl fun l _ => (mul_comm _ _).trans ?_
  rw [Cert.LatVRefIdeal.Read.val_main_v1_apply, Cert.LatVRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_LatVIdeal_LatVRefIdeal (hLatVIdeal := facts) (hLatVRefIdeal := Cert.LatVRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.LatVRefIdeal.defs _ _).mono (fun _ h c => ⟨(h c).1.trans ((Cert.LatVRefIdeal.Read.val_main_v5_eq _ _).trans (by
      rw [(hagree c).1, (hagree c).2]; exact reference_eq _ _)), (h c).2⟩) (Cert.LatVRefIdeal.Value.run (F := Ideal) m' ρ')

/-- The reference runs, keeps its arguments and holds no semaphore. -/
theorem frame_reference : Cert.quiescent_LatVRefIdeal (hLatVRefIdeal := Cert.LatVRefIdeal.Gen.facts) := fun m ρ _ =>
  (θ_run Cert.LatVRefIdeal.defs _ _).mono (fun r h => ⟨fun c => (h c).2, sem_eq_zero_of_no_sems rfl r.2⟩) (Cert.LatVRefIdeal.Value.run (F := Ideal) m ρ)

end Cert.LatVValue
end
-- ==== Proof.LatQ.lean ====
module
public import proofs.«01_k».proof.Proof.Gen.LatQIdeal.Value
public import proofs.«01_k».proof.Proof.Gen.LatQRefIdeal.Read
public import proofs.«01_k».proof.Proof.Products
public import proofs.«01_k».proof.Defs
public import Idealize.ShloMosaic.Adequacy
public import Idealize.ShloMosaic.Init
@[expose] public section
set_option maxRecDepth 16384
noncomputable section
namespace Cert.LatQValue
open Cert.LatQIdeal Cert.LatQIdeal.Gen Cert.LatQIdeal.Facts Cert.LatQIdeal.Value Cert.Products
open Idealize.ShloMosaic Idealize.ShloMosaic.TcCoe Idealize.SL.Sem
open scoped BigOperators

/-! The gradient the queries or the keys send to their latent: the array the kernel leaves, and the reference's. -/

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem lt16 (t : Fin cfg0.N) : t.val < 16 := lt_of_lt_of_eq t.isLt N_0

variable (c : Dev nD)

theorem block0 (t : Fin cfg0.N) (r : Fin 512) (q : Fin 4096) :
    iblk (F := Ideal) m c 0 t (ix2 r q) = elt (m ((c : Thread nD τ).loc main_arg0)) (512 * t.val + r.val) q.val := by
  have := lt16 t
  rw [elt_mk _ (by omega) (by omega)]
  blk_ext [iblk, V, idx0 t]

theorem block1 (t : Fin cfg0.N) (x : Fin 512) (q : Fin 4096) :
    iblk (F := Ideal) m c 1 t (ix2 x q) = elt (m ((c : Thread nD τ).loc main_arg1)) x.val q.val := by
  rw [elt_mk _ (by omega) (by omega)]
  blk_ext [iblk, V, idx1 t]

/-- The block a point writes back. -/
theorem out_apply (t : Fin cfg0.N) (r x : Fin 512) :
    out0_2 (F := Ideal) (iblk m c 0 t) (iblk m c 1 t) (ix2 r x)
      = colsProd (m ((c : Thread nD τ).loc main_arg0)) (m ((c : Thread nD τ).loc main_arg1)) (512 * t.val + r.val) x.val := by
  frame_out
  unfold k0_pay1 colsProd; pointwise
  rw [Finset.sum_range]
  simp only [block0, block1]

/-- The gradient of the input, an array. -/
def G (A : S8192x4096.Idx → EReal) (B : S512x4096.Idx → EReal) : S8192x512.Idx → EReal := fun i => colsProd A B (i 0).val (i 1).val

theorem emb2 (t : Fin cfg0.N) (r x : Fin 512) : ((cfg0.win 2).blk t).view.emb (ix2 r x)
    = ix2 (⟨512 * t.val + r.val, by have := lt16 t; omega⟩ : Fin 8192) (x : Fin 512) := by
  blk_ext [idx2 t]

theorem cover2 (i : S8192x512.Idx) : ∃ t : Fin cfg0.N, (cfg0.win 2).flush t = true ∧ i ∈ ((cfg0.win 2).blk t).view.set := by
  obtain ⟨i, x, rfl⟩ := idx_eta (n := 8192) (k := 512) i
  obtain ⟨t, ht⟩ : ∃ t : Fin cfg0.N, t.val = i.val / 512 := ⟨⟨_, lt_of_lt_of_eq (by omega) N_0.symm⟩, rfl⟩
  refine ⟨t, flush0_2 t, ?_⟩
  have h := ((cfg0.win 2).blk t).view.emb_mem_set (ix2 ⟨i.val % 512, by omega⟩ x)
  rw [emb2] at h
  exact (congrArg (· ∈ ((cfg0.win 2).blk t).view.set) (ix2_eq (by dsimp only; omega) rfl)).mp h

/-- After the run the result is the gradient of the input. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 512) (k := 512) y
    rw [emb2]
    exact out_apply m c t r x) cover2

/-- The reference's result is the gradient of the input. -/
theorem reference_eq (A : S8192x4096.Idx → EReal) (B : S512x4096.Idx → EReal) : Cert.LatQRefIdeal.Read.val_main_v4 (F := Ideal) A B = G A B := by
  funext i
  obtain ⟨i, x, rfl⟩ := idx_eta (n := 8192) (k := 512) i
  rw [Cert.LatQRefIdeal.Read.val_main_v4_apply]
  refine Eq.trans ?_ (colsProd_eq A B i x).symm
  refine Finset.sum_congr rfl fun l _ => ?_
  rw [Cert.LatQRefIdeal.Read.val_main_v1_apply, Cert.LatQRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_LatQIdeal_LatQRefIdeal (hLatQIdeal := facts) (hLatQRefIdeal := Cert.LatQRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.LatQRefIdeal.defs _ _).mono (fun _ h c => ⟨(h c).1.trans ((Cert.LatQRefIdeal.Read.val_main_v4_eq _ _).trans (by
      rw [(hagree c).1, (hagree c).2]; exact reference_eq _ _)), (h c).2⟩) (Cert.LatQRefIdeal.Value.run (F := Ideal) m' ρ')

/-- The reference runs, keeps its arguments and holds no semaphore. -/
theorem frame_reference : Cert.quiescent_LatQRefIdeal (hLatQRefIdeal := Cert.LatQRefIdeal.Gen.facts) := fun m ρ _ =>
  (θ_run Cert.LatQRefIdeal.defs _ _).mono (fun r h => ⟨fun c => (h c).2, sem_eq_zero_of_no_sems rfl r.2⟩) (Cert.LatQRefIdeal.Value.run (F := Ideal) m ρ)

end Cert.LatQValue
end
-- ==== Proof.LatC.lean ====
module
public import proofs.«01_k».proof.Proof.Gen.LatCIdeal.Value
public import proofs.«01_k».proof.Proof.Gen.LatCRefIdeal.Read
public import proofs.«01_k».proof.Proof.Products
public import proofs.«01_k».proof.Defs
public import Idealize.ShloMosaic.Adequacy
public import Idealize.ShloMosaic.Init
@[expose] public section
set_option maxRecDepth 16384
noncomputable section
namespace Cert.LatCValue
open Cert.LatCIdeal Cert.LatCIdeal.Gen Cert.LatCIdeal.Facts Cert.LatCIdeal.Value Cert.Products
open Idealize.ShloMosaic Idealize.ShloMosaic.TcCoe Idealize.SL.Sem
open scoped BigOperators

/-! The gradient the values send to their latent, the keys' added: the array the kernel leaves, and the reference's. -/

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])

theorem lt16 (t : Fin cfg0.N) : t.val < 16 := lt_of_lt_of_eq t.isLt N_0

variable (c : Dev nD)

theorem block0 (t : Fin cfg0.N) (r : Fin 512) (q : Fin 2048) :
    iblk (F := Ideal) m c 0 t (ix2 r q) = elt (m ((c : Thread nD τ).loc main_arg0)) (512 * t.val + r.val) q.val := by
  have := lt16 t
  rw [elt_mk _ (by omega) (by omega)]
  blk_ext [iblk, V, idx0 t]

theorem block1 (t : Fin cfg0.N) (x : Fin 512) (q : Fin 2048) :
    iblk (F := Ideal) m c 1 t (ix2 x q) = elt (m ((c : Thread nD τ).loc main_arg1)) x.val q.val := by
  rw [elt_mk _ (by omega) (by omega)]
  blk_ext [iblk, V, idx1 t]

theorem block2 (t : Fin cfg0.N) (r x : Fin 512) : iblk (F := Ideal) m c 2 t (ix2 r x)
    = m ((c : Thread nD τ).loc main_arg2) (ix2 (⟨512 * t.val + r.val, by have := lt16 t; omega⟩ : Fin 8192) (x : Fin 512)) := by
  blk_ext [iblk, V, idx2 t]

/-- The block a point writes back. -/
theorem out_apply (t : Fin cfg0.N) (r x : Fin 512) :
    out0_3 (F := Ideal) (iblk m c 0 t) (iblk m c 1 t) (iblk m c 2 t) (ix2 r x)
      = colsProd (m ((c : Thread nD τ).loc main_arg0)) (m ((c : Thread nD τ).loc main_arg1)) (512 * t.val + r.val) x.val
        + iblk (F := Ideal) m c 2 t (ix2 r x) := by
  frame_out
  unfold k0_pay1 colsProd; pointwise
  rw [Finset.sum_range]
  simp only [block0, block1]

/-- The gradient of the input, an array. -/
def G (A : S8192x2048.Idx → EReal) (B : S512x2048.Idx → EReal) (D : S8192x512.Idx → EReal) : S8192x512.Idx → EReal :=
  fun i => colsProd A B (i 0).val (i 1).val + D i

theorem emb3 (t : Fin cfg0.N) (r x : Fin 512) : ((cfg0.win 3).blk t).view.emb (ix2 r x)
    = ix2 (⟨512 * t.val + r.val, by have := lt16 t; omega⟩ : Fin 8192) (x : Fin 512) := by
  blk_ext [idx3 t]

theorem cover3 (i : S8192x512.Idx) : ∃ t : Fin cfg0.N, (cfg0.win 3).flush t = true ∧ i ∈ ((cfg0.win 3).blk t).view.set := by
  obtain ⟨i, x, rfl⟩ := idx_eta (n := 8192) (k := 512) i
  obtain ⟨t, ht⟩ : ∃ t : Fin cfg0.N, t.val = i.val / 512 := ⟨⟨_, lt_of_lt_of_eq (by omega) N_0.symm⟩, rfl⟩
  refine ⟨t, flush0_3 t, ?_⟩
  have h := ((cfg0.win 3).blk t).view.emb_mem_set (ix2 ⟨i.val % 512, by omega⟩ x)
  rw [emb3] at h
  exact (congrArg (· ∈ ((cfg0.win 3).blk t).view.set) (ix2_eq (by dsimp only; omega) rfl)).mp h

/-- After the run the result is the gradient of the input. -/
theorem final3 : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t _ => by
    rw [flushed3]; funext y
    show out0_3 (F := Ideal) (iblk m c 0 t) (iblk m c 1 t) (iblk m c 2 t) y = G _ _ _ (((cfg0.win 3).blk t).view.emb y)
    obtain ⟨r, x, rfl⟩ := idx_eta (n := 512) (k := 512) y
    rw [emb3]
    exact (out_apply m c t r x).trans (congrArg (_ + ·) (block2 m c t r x))) cover3

/-- The reference's result is the gradient of the input. -/
theorem reference_eq (A : S8192x2048.Idx → EReal) (B : S512x2048.Idx → EReal) (D : S8192x512.Idx → EReal) : Cert.LatCRefIdeal.Read.val_main_v5 (F := Ideal) A B D = G A B D := by
  funext i
  obtain ⟨i, x, rfl⟩ := idx_eta (n := 8192) (k := 512) i
  rw [Cert.LatCRefIdeal.Read.val_main_v5_apply, Cert.LatCRefIdeal.Read.val_main_v4_apply]
  refine (add_comm (D _) _).trans (congrArg (· + D _) ?_)
  refine Eq.trans ?_ (colsProd_eq A B i x).symm
  refine Finset.sum_congr rfl fun l _ => ?_
  rw [Cert.LatCRefIdeal.Read.val_main_v1_apply, Cert.LatCRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_LatCIdeal_LatCRefIdeal (hLatCIdeal := facts) (hLatCRefIdeal := Cert.LatCRefIdeal.Gen.facts) := by
  intro m ρ m' ρ' _ hagree
  refine ⟨fun c => G (m ((c : Thread nD τ).loc main_arg0)) (m ((c : Thread nD τ).loc main_arg1)) (m ((c : Thread nD τ).loc main_arg2)), ?_, ?_⟩
  · exact (θ_run defs _ _).mono (fun _ h c => ⟨(h c).1.trans (final3 m c), (h c).2⟩) (run_blocks (F := Ideal) m ρ)
  · exact (θ_run Cert.LatCRefIdeal.defs _ _).mono (fun _ h c => ⟨(h c).1.trans ((Cert.LatCRefIdeal.Read.val_main_v5_eq _ _ _).trans (by
      rw [(hagree c).1, (hagree c).2.1, (hagree c).2.2]; exact reference_eq _ _ _)), (h c).2⟩) (Cert.LatCRefIdeal.Value.run (F := Ideal) m' ρ')

/-- The reference runs, keeps its arguments and holds no semaphore. -/
theorem frame_reference : Cert.quiescent_LatCRefIdeal (hLatCRefIdeal := Cert.LatCRefIdeal.Gen.facts) := fun m ρ _ =>
  (θ_run Cert.LatCRefIdeal.defs _ _).mono (fun r h => ⟨fun c => (h c).2, sem_eq_zero_of_no_sems rfl r.2⟩) (Cert.LatCRefIdeal.Value.run (F := Ideal) m ρ)

end Cert.LatCValue
end
-- ==== Proof.MemP.lean ====
module
public import proofs.«01_k».proof.Proof.Gen.MemPIdeal.Value
public import proofs.«01_k».proof.Proof.Gen.MemPRefIdeal.Read
public import proofs.«01_k».proof.Proof.Products
public import proofs.«01_k».proof.Defs
public import Idealize.ShloMosaic.Adequacy
public import Idealize.ShloMosaic.Init
@[expose] public section
set_option maxRecDepth 16384
noncomputable section
namespace Cert.MemPValue
open Cert.MemPIdeal Cert.MemPIdeal.Gen Cert.MemPIdeal.Facts Cert.MemPIdeal.Value Cert.Products
open Idealize.ShloMosaic Idealize.ShloMosaic.TcCoe Idealize.SL.Sem
open scoped BigOperators

/-! The projection of the memory: the array the kernel leaves, and the reference's. -/

variable (m : (ℓ : Loc nD τ sig) → Buf (Elt Ideal) ℓ)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

theorem lt4 (t : Fin cfg0.N) : t.val < 4 := lt_of_lt_of_eq t.isLt N_0

variable (c : Dev nD)

theorem block0 (t : Fin cfg0.N) (r : Fin 256) (q : Fin 2048) :
    iblk (F := Ideal) m c 0 t (ix2 r q) = elt (m ((c : Thread nD τ).loc main_arg0)) (r.val) q.val := by
  rw [elt_mk _ (by omega) (by omega)]
  blk_ext [iblk, V, idx0 t]

theorem block1 (t : Fin cfg0.N) (q : Fin 2048) (x : Fin 1024) :
    iblk (F := Ideal) m c 1 t (ix2 q x) = elt (m ((c : Thread nD τ).loc main_arg1)) q.val (1024 * t.val + x.val) := by
  have := lt4 t
  rw [elt_mk _ (by omega) (by omega)]
  blk_ext [iblk, V, idx1 t]

/-- The block a point writes back. -/
theorem out_apply (t : Fin cfg0.N) (r : Fin 256) (x : Fin 1024) :
    out0_2 (F := Ideal) (iblk m c 0 t) (iblk m c 1 t) (ix2 r x)
      = matProd (m ((c : Thread nD τ).loc main_arg0)) (m ((c : Thread nD τ).loc main_arg1)) (r.val) (1024 * t.val + x.val) := by
  frame_out
  unfold k0_pay1 matProd; pointwise
  rw [Finset.sum_range]
  simp only [block0, block1]

/-- The projection, an array. -/
def G (A : S256x2048.Idx → EReal) (B : S2048x4096.Idx → EReal) : S256x4096.Idx → EReal := fun i => matProd A B (i 0).val (i 1).val

theorem emb2 (t : Fin cfg0.N) (r : Fin 256) (x : Fin 1024) : ((cfg0.win 2).blk t).view.emb (ix2 r x)
    = ix2 (r : Fin 256) (⟨1024 * t.val + x.val, by have := lt4 t; omega⟩ : Fin 4096) := by
  blk_ext [idx2 t]

theorem cover2 (i : S256x4096.Idx) : ∃ t : Fin cfg0.N, (cfg0.win 2).flush t = true ∧ i ∈ ((cfg0.win 2).blk t).view.set := by
  obtain ⟨i, x, rfl⟩ := idx_eta (n := 256) (k := 4096) i
  obtain ⟨t, ht⟩ : ∃ t : Fin cfg0.N, t.val = x.val / 1024 := ⟨⟨_, lt_of_lt_of_eq (by omega) N_0.symm⟩, rfl⟩
  refine ⟨t, flush0_2 t, ?_⟩
  have h := ((cfg0.win 2).blk t).view.emb_mem_set (ix2 i ⟨x.val % 1024, by omega⟩)
  rw [emb2] at h
  exact (congrArg (· ∈ ((cfg0.win 2).blk t).view.set) (ix2_eq rfl (by dsimp only; omega))).mp h

/-- After the run the result is the projection. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 256) (k := 1024) y
    rw [emb2]
    exact out_apply m c t r x) cover2

/-- The reference's result is the projection. -/
theorem reference_eq (A : S256x2048.Idx → EReal) (B : S2048x4096.Idx → EReal) : Cert.MemPRefIdeal.Read.val_main_v3 (F := Ideal) A B = G A B := by
  funext i
  obtain ⟨i, x, rfl⟩ := idx_eta (n := 256) (k := 4096) i
  show Cert.MemPRefIdeal.Read.val_main_v2 (F := Ideal) A B (ix2 i x) = _
  rw [Cert.MemPRefIdeal.Read.val_main_v2_apply]
  refine Eq.trans ?_ (matProd_eq A B i x).symm
  refine Finset.sum_congr rfl fun l _ => ?_
  rw [Cert.MemPRefIdeal.Read.val_main_v0_apply, Cert.MemPRefIdeal.Read.val_main_v1_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_MemPIdeal_MemPRefIdeal (hMemPIdeal := facts) (hMemPRefIdeal := Cert.MemPRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.MemPRefIdeal.defs _ _).mono (fun _ h c => ⟨(h c).1.trans ((Cert.MemPRefIdeal.Read.val_main_v3_eq _ _).trans (by
      rw [(hagree c).1, (hagree c).2]; exact reference_eq _ _)), (h c).2⟩) (Cert.MemPRefIdeal.Value.run (F := Ideal) m' ρ')

/-- The reference runs, keeps its arguments and holds no semaphore. -/
theorem frame_reference : Cert.quiescent_MemPRefIdeal (hMemPRefIdeal := Cert.MemPRefIdeal.Gen.facts) := fun m ρ _ =>
  (θ_run Cert.MemPRefIdeal.defs _ _).mono (fun r h => ⟨fun c => (h c).2, sem_eq_zero_of_no_sems rfl r.2⟩) (Cert.MemPRefIdeal.Value.run (F := Ideal) m ρ)

end Cert.MemPValue
end
-- ==== Proof.MemW.lean ====
module
public import proofs.«01_k».proof.Proof.Gen.MemWIdeal.Value
public import proofs.«01_k».proof.Proof.Gen.MemWRefIdeal.Read
public import proofs.«01_k».proof.Proof.Products
public import proofs.«01_k».proof.Defs
public import Idealize.ShloMosaic.Adequacy
public import Idealize.ShloMosaic.Init
@[expose] public section
set_option maxRecDepth 16384
noncomputable section
namespace Cert.MemWValue
open Cert.MemWIdeal Cert.MemWIdeal.Gen Cert.MemWIdeal.Facts Cert.MemWIdeal.Value Cert.Products
open Idealize.ShloMosaic Idealize.ShloMosaic.TcCoe Idealize.SL.Sem
open scoped BigOperators

/-! The gradient of the weights of the memory's projection: the array the kernel leaves, and the reference's. -/

variable (m : (ℓ : Loc nD τ sig) → Buf (Elt Ideal) ℓ)

theorem idx0 : ∀ t : Fin cfg0.N, win0_0.index t = ![0, t.val % 2] := (by decide +kernel : ∀ t : Fin grid0.N, win0_0.index t = ![0, t.val % 2])
theorem idx1 : ∀ t : Fin cfg0.N, win0_1.index t = ![0, t.val / 2] := (by decide +kernel : ∀ t : Fin grid0.N, win0_1.index t = ![0, t.val / 2])
theorem idx2 : ∀ t : Fin cfg0.N, win0_2.index t = ![t.val % 2, t.val / 2] := (by decide +kernel : ∀ t : Fin grid0.N, win0_2.index t = ![t.val % 2, t.val / 2])

theorem lt8 (t : Fin cfg0.N) : t.val < 8 := lt_of_lt_of_eq t.isLt N_0

variable (c : Dev nD)

theorem block0 (t : Fin cfg0.N) (q : Fin 256) (r : Fin 1024) :
    iblk (F := Ideal) m c 0 t (ix2 q r) = elt (m ((c : Thread nD τ).loc main_arg0)) q.val (1024 * (t.val % 2) + r.val) := by
  rw [elt_mk _ (by omega) (by omega)]
  blk_ext [iblk, V, idx0 t]

theorem block1 (t : Fin cfg0.N) (q : Fin 256) (x : Fin 1024) :
    iblk (F := Ideal) m c 1 t (ix2 q x) = elt (m ((c : Thread nD τ).loc main_arg1)) q.val (1024 * (t.val / 2) + x.val) := by
  have := lt8 t
  rw [elt_mk _ (by omega) (by omega)]
  blk_ext [iblk, V, idx1 t]

/-- The block a point writes back. -/
theorem out_apply (t : Fin cfg0.N) (r x : Fin 1024) :
    out0_2 (F := Ideal) (iblk m c 0 t) (iblk m c 1 t) (ix2 r x)
      = rowsProd (m ((c : Thread nD τ).loc main_arg0)) (m ((c : Thread nD τ).loc main_arg1)) (1024 * (t.val % 2) + r.val) (1024 * (t.val / 2) + x.val) := by
  frame_out
  unfold k0_pay1 rowsProd; pointwise
  rw [Finset.sum_range]
  simp only [block0, block1]

/-- The gradient of the weights, an array. -/
def G (A : S256x2048.Idx → EReal) (B : S256x4096.Idx → EReal) : S2048x4096.Idx → EReal := fun i => rowsProd A B (i 0).val (i 1).val

theorem emb2 (t : Fin cfg0.N) (r x : Fin 1024) : ((cfg0.win 2).blk t).view.emb (ix2 r x)
    = ix2 (⟨1024 * (t.val % 2) + r.val, by omega⟩ : Fin 2048) (⟨1024 * (t.val / 2) + x.val, by have := lt8 t; omega⟩ : Fin 4096) := by
  blk_ext [idx2 t]

theorem cover2 (i : S2048x4096.Idx) : ∃ t : Fin cfg0.N, (cfg0.win 2).flush t = true ∧ i ∈ ((cfg0.win 2).blk t).view.set := by
  obtain ⟨i, x, rfl⟩ := idx_eta (n := 2048) (k := 4096) i
  obtain ⟨t, ht⟩ : ∃ t : Fin cfg0.N, t.val = 2 * (x.val / 1024) + i.val / 1024 := ⟨⟨_, lt_of_lt_of_eq (by omega) N_0.symm⟩, rfl⟩
  refine ⟨t, flush0_2 t, ?_⟩
  have h := ((cfg0.win 2).blk t).view.emb_mem_set (ix2 ⟨i.val % 1024, by omega⟩ ⟨x.val % 1024, by omega⟩)
  rw [emb2] at h
  exact (congrArg (· ∈ ((cfg0.win 2).blk t).view.set) (ix2_eq (by dsimp only; omega) (by dsimp only; omega))).mp h

/-- After the run the result is the gradient of the weights. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 1024) (k := 1024) y
    rw [emb2]
    exact out_apply m c t r x) cover2

/-- The reference's result is the gradient of the weights. -/
theorem reference_eq (A : S256x2048.Idx → EReal) (B : S256x4096.Idx → EReal) : Cert.MemWRefIdeal.Read.val_main_v5 (F := Ideal) A B = G A B := by
  funext i
  obtain ⟨i, x, rfl⟩ := idx_eta (n := 2048) (k := 4096) i
  rw [Cert.MemWRefIdeal.Read.val_main_v5_apply, Cert.MemWRefIdeal.Read.val_main_v4_apply]
  refine Eq.trans ?_ (rowsProd_eq A B i x).symm
  refine Finset.sum_congr rfl fun l _ => (mul_comm _ _).trans ?_
  rw [Cert.MemWRefIdeal.Read.val_main_v1_apply, Cert.MemWRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_MemWIdeal_MemWRefIdeal (hMemWIdeal := facts) (hMemWRefIdeal := Cert.MemWRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.MemWRefIdeal.defs _ _).mono (fun _ h c => ⟨(h c).1.trans ((Cert.MemWRefIdeal.Read.val_main_v5_eq _ _).trans (by
      rw [(hagree c).1, (hagree c).2]; exact reference_eq _ _)), (h c).2⟩) (Cert.MemWRefIdeal.Value.run (F := Ideal) m' ρ')

/-- The reference runs, keeps its arguments and holds no semaphore. -/
theorem frame_reference : Cert.quiescent_MemWRefIdeal (hMemWRefIdeal := Cert.MemWRefIdeal.Gen.facts) := fun m ρ _ =>
  (θ_run Cert.MemWRefIdeal.defs _ _).mono (fun r h => ⟨fun c => (h c).2, sem_eq_zero_of_no_sems rfl r.2⟩) (Cert.MemWRefIdeal.Value.run (F := Ideal) m ρ)

end Cert.MemWValue
end
-- ==== Proof.MemX.lean ====
module
public import proofs.«01_k».proof.Proof.Gen.MemXIdeal.Value
public import proofs.«01_k».proof.Proof.Gen.MemXRefIdeal.Read
public import proofs.«01_k».proof.Proof.Products
public import proofs.«01_k».proof.Defs
public import Idealize.ShloMosaic.Adequacy
public import Idealize.ShloMosaic.Init
@[expose] public section
set_option maxRecDepth 16384
noncomputable section
namespace Cert.MemXValue
open Cert.MemXIdeal Cert.MemXIdeal.Gen Cert.MemXIdeal.Facts Cert.MemXIdeal.Value Cert.Products
open Idealize.ShloMosaic Idealize.ShloMosaic.TcCoe Idealize.SL.Sem
open scoped BigOperators

/-! The gradient the memory's keys and values send to the normed memory: the array the kernel leaves, and the reference's. -/

variable (m : (ℓ : Loc nD τ sig) → Buf (Elt Ideal) ℓ)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])

theorem lt2 (t : Fin cfg0.N) : t.val < 2 := lt_of_lt_of_eq t.isLt N_0

variable (c : Dev nD)

theorem block0 (t : Fin cfg0.N) (r : Fin 256) (q : Fin 4096) :
    iblk (F := Ideal) m c 0 t (ix2 r q) = elt (m ((c : Thread nD τ).loc main_arg0)) r.val q.val := by
  rw [elt_mk _ (by omega) (by omega)]
  blk_ext [iblk, V, idx0 t]

theorem block1 (t : Fin cfg0.N) (x : Fin 1024) (q : Fin 4096) :
    iblk (F := Ideal) m c 1 t (ix2 x q) = elt (m ((c : Thread nD τ).loc main_arg1)) (1024 * t.val + x.val) q.val := by
  have := lt2 t
  rw [elt_mk _ (by omega) (by omega)]
  blk_ext [iblk, V, idx1 t]

/-- The block a point writes back. -/
theorem out_apply (t : Fin cfg0.N) (r : Fin 256) (x : Fin 1024) :
    out0_2 (F := Ideal) (iblk m c 0 t) (iblk m c 1 t) (ix2 r x)
      = colsProd (m ((c : Thread nD τ).loc main_arg0)) (m ((c : Thread nD τ).loc main_arg1)) r.val (1024 * t.val + x.val) := by
  frame_out
  unfold k0_pay1 colsProd; pointwise
  rw [Finset.sum_range]
  simp only [block0, block1]

/-- The gradient of the input, an array. -/
def G (A : S256x4096.Idx → EReal) (B : S2048x4096.Idx → EReal) : S256x2048.Idx → EReal := fun i => colsProd A B (i 0).val (i 1).val

theorem emb2 (t : Fin cfg0.N) (r : Fin 256) (x : Fin 1024) : ((cfg0.win 2).blk t).view.emb (ix2 r x)
    = ix2 (r : Fin 256) (⟨1024 * t.val + x.val, by have := lt2 t; omega⟩ : Fin 2048) := by
  blk_ext [idx2 t]

theorem cover2 (i : S256x2048.Idx) : ∃ t : Fin cfg0.N, (cfg0.win 2).flush t = true ∧ i ∈ ((cfg0.win 2).blk t).view.set := by
  obtain ⟨i, x, rfl⟩ := idx_eta (n := 256) (k := 2048) i
  obtain ⟨t, ht⟩ : ∃ t : Fin cfg0.N, t.val = x.val / 1024 := ⟨⟨_, lt_of_lt_of_eq (by omega) N_0.symm⟩, rfl⟩
  refine ⟨t, flush0_2 t, ?_⟩
  have h := ((cfg0.win 2).blk t).view.emb_mem_set (ix2 i ⟨x.val % 1024, by omega⟩)
  rw [emb2] at h
  exact (congrArg (· ∈ ((cfg0.win 2).blk t).view.set) (ix2_eq rfl (by dsimp only; omega))).mp h

/-- After the run the result is the gradient of the input. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 256) (k := 1024) y
    rw [emb2]
    exact out_apply m c t r x) cover2

/-- The reference's result is the gradient of the input. -/
theorem reference_eq (A : S256x4096.Idx → EReal) (B : S2048x4096.Idx → EReal) : Cert.MemXRefIdeal.Read.val_main_v4 (F := Ideal) A B = G A B := by
  funext i
  obtain ⟨i, x, rfl⟩ := idx_eta (n := 256) (k := 2048) i
  rw [Cert.MemXRefIdeal.Read.val_main_v4_apply]
  refine Eq.trans ?_ (colsProd_eq A B i x).symm
  refine Finset.sum_congr rfl fun l _ => ?_
  rw [Cert.MemXRefIdeal.Read.val_main_v1_apply, Cert.MemXRefIdeal.Read.val_main_v3_apply]
  refine congrArg₂ (fun a b => A a * B b) (funext fun a => ?_) (funext fun a => ?_) <;>
  match a with
  | ⟨0, _⟩ => rfl
  | ⟨1, _⟩ => rfl

/-- The kernel and the reference end with the same array. -/
theorem algebraic : Cert.algebraic_MemXIdeal_MemXRefIdeal (hMemXIdeal := facts) (hMemXRefIdeal := Cert.MemXRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.MemXRefIdeal.defs _ _).mono (fun _ h c => ⟨(h c).1.trans ((Cert.MemXRefIdeal.Read.val_main_v4_eq _ _).trans (by
      rw [(hagree c).1, (hagree c).2]; exact reference_eq _ _)), (h c).2⟩) (Cert.MemXRefIdeal.Value.run (F := Ideal) m' ρ')

/-- The reference runs, keeps its arguments and holds no semaphore. -/
theorem frame_reference : Cert.quiescent_MemXRefIdeal (hMemXRefIdeal := Cert.MemXRefIdeal.Gen.facts) := fun m ρ _ =>
  (θ_run Cert.MemXRefIdeal.defs _ _).mono (fun r h => ⟨fun c => (h c).2, sem_eq_zero_of_no_sems rfl r.2⟩) (Cert.MemXRefIdeal.Value.run (F := Ideal) m ρ)

end Cert.MemXValue
end
-- ==== Proof.ColTiles.lean ====
module
public import Idealize.ShloMosaic.Lib.Pipeline.ValueKit
public import Idealize.ShloMosaic.Lib.Pointwise
@[expose] public section
noncomputable section
namespace Cert.ColTiles
open Idealize.ShloMosaic

/-! A matrix stored one range of columns at a time, read back at an element. -/

variable {Val : EltTy → Type} [∀ e, Nonempty (Val e)] {e : EltTy} {R C n : ℕ}

/-- The last store holds the element: it is the stored one. -/
theorem canon_hit (o : ℕ) (inb : ∀ a, (![0, o] : Fin 2 → ℕ) a + (![R, n] : Fin 2 → ℕ) a ≤ (⟨2, ![R, C]⟩ : Shape).size a)
    (w : (⟨2, ![R, n]⟩ : Shape).Idx → Val e) (L : List (View.Piece Val (⟨2, ![R, C]⟩ : Shape) e)) (r : Fin R) (d : Fin n) (x : Fin C)
    (hx : x.val = o + d.val) :
    View.canon ((⟨Rect.unit (s := ⟨2, ![R, C]⟩) ![0, o] ![R, n] inb, w⟩ : View.Piece Val (⟨2, ![R, C]⟩ : Shape) e) :: L) (ix2 r x) = w (ix2 r d) := by
  have h : (ix2 r x : (⟨2, ![R, C]⟩ : Shape).Idx) = (Rect.unit (s := ⟨2, ![R, C]⟩) ![0, o] ![R, n] inb).emb (ix2 r d) := by
    funext a; apply Fin.ext
    rw [ValueKit.rect_emb_unit_val]
    match a with
    | ⟨0, _⟩ => show r.val = 0 + r.val; omega
    | ⟨1, _⟩ => exact hx
  rw [h, View.canon_cons_emb]

/-- The last store is of other columns: the element is what the earlier stores left. -/
theorem canon_miss (o : ℕ) (inb : ∀ a, (![0, o] : Fin 2 → ℕ) a + (![R, n] : Fin 2 → ℕ) a ≤ (⟨2, ![R, C]⟩ : Shape).size a)
    (w : (⟨2, ![R, n]⟩ : Shape).Idx → Val e) (L : List (View.Piece Val (⟨2, ![R, C]⟩ : Shape) e)) (r : Fin R) (x : Fin C)
    (hx : x.val < o ∨ o + n ≤ x.val) :
    View.canon ((⟨Rect.unit (s := ⟨2, ![R, C]⟩) ![0, o] ![R, n] inb, w⟩ : View.Piece Val (⟨2, ![R, C]⟩ : Shape) e) :: L) (ix2 r x)
      = View.canon L (ix2 r x) := by
  refine View.canon_cons_of_not_mem _ _ fun h => ?_
  have h1 := (Rect.mem_set_unit (inb := inb) |>.mp h) (1 : Fin 2)
  change o ≤ x.val ∧ x.val < o + n at h1
  omega

/-- A load of columns that the last store did not touch. -/
theorem read_miss {sig : RefSig} {κ : Kind} {sp : Space} (v : View sig κ sp (⟨2, ![R, C]⟩ : Shape) e) (o o' : ℕ) (k : ℕ)
    (h : o + n ≤ o' ∨ o' + k ≤ o)
    (inb : ∀ a, (![0, o] : Fin 2 → ℕ) a + (![R, n] : Fin 2 → ℕ) a ≤ (⟨2, ![R, C]⟩ : Shape).size a)
    (inb' : ∀ a, (![0, o'] : Fin 2 → ℕ) a + (![R, k] : Fin 2 → ℕ) a ≤ (⟨2, ![R, C]⟩ : Shape).size a)
    (w : (⟨2, ![R, n]⟩ : Shape).Idx → Val e) (L : List (View.Piece Val (⟨2, ![R, C]⟩ : Shape) e)) :
    v.readCov ((⟨Rect.unit (s := ⟨2, ![R, C]⟩) ![0, o] ![R, n] inb, w⟩ : View.Piece Val (⟨2, ![R, C]⟩ : Shape) e) :: L)
      (Rect.unit (s := ⟨2, ![R, C]⟩) ![0, o'] ![R, k] inb').toLoadRect
      = v.readCov L (Rect.unit (s := ⟨2, ![R, C]⟩) ![0, o'] ![R, k] inb').toLoadRect :=
  View.readCov_cons_of_disjoint v _ L _ (Rect.unit_disjoint (inb := inb) (inb' := inb') 1 h)

/-- A load of columns of what one constant store of the whole matrix left. -/
theorem read_const {sig : RefSig} {κ : Kind} {sp : Space} (v : View sig κ sp (⟨2, ![R, C]⟩ : Shape) e) (o' : ℕ) (k : ℕ)
    (inb : ∀ a, (![0, 0] : Fin 2 → ℕ) a + (![R, C] : Fin 2 → ℕ) a ≤ (⟨2, ![R, C]⟩ : Shape).size a)
    (inb' : ∀ a, (![0, o'] : Fin 2 → ℕ) a + (![R, k] : Fin 2 → ℕ) a ≤ (⟨2, ![R, C]⟩ : Shape).size a) (z : Val e)
    (w : (⟨2, ![R, C]⟩ : Shape).Idx → Val e) (hw : ∀ i, w i = z) :
    v.readCov [(⟨Rect.unit (s := ⟨2, ![R, C]⟩) ![0, 0] ![R, C] inb, w⟩ : View.Piece Val (⟨2, ![R, C]⟩ : Shape) e)]
      (Rect.unit (s := ⟨2, ![R, C]⟩) ![0, o'] ![R, k] inb').toLoadRect = fun _ => z := by
  rw [View.readCov_eq_canon']
  funext j
  exact (congrFun (View.canon_cons_unit_zero (S := ⟨2, ![R, C]⟩) (funext fun a => by fin_cases a <;> rfl) inb w []) _).trans (hw _)

end Cert.ColTiles
-- ==== Proof.MemF.lean ====
module
public import proofs.«01_k».proof.Proof.Gen.MemFIdeal.Value
public import proofs.«01_k».proof.Proof.Gen.MemFRefIdeal.Read
public import proofs.«01_k».proof.Proof.Products
public import proofs.«01_k».proof.Proof.RealTools
public import proofs.«01_k».proof.Proof.ColTiles
public import proofs.«01_k».proof.Defs
public import Idealize.ShloMosaic.Adequacy
public import Idealize.ShloMosaic.Init
public import Idealize.ShloMosaic.Lib.Pointwise
@[expose] public section
set_option maxRecDepth 16384
noncomputable section
namespace Cert.MemFValue
open Cert.MemFIdeal Cert.MemFIdeal.Gen Cert.MemFIdeal.Facts Cert.MemFIdeal.Value Cert.Products Cert.RealTools Cert.ColTiles
open Idealize.ShloMosaic Idealize.ShloMosaic.TcCoe Idealize.SL.Sem
open scoped BigOperators

/-! The gated attention into the memory: the array the kernel leaves, and the reference's. No element need be finite. -/

/-- The scores of query `i` in head `h`, with the scale. -/
def score (A : S8192x13440.Idx → EReal) (B : S256x4096.Idx → EReal) (i : Fin 8192) (h : Fin 4) (k : Fin 256) : EReal :=
  (∑ e : Fin 512, A (ix2 i (⟨8192 + (512 * h.val + e.val), by omega⟩ : Fin 13440)) * B (ix2 k (⟨512 * h.val + e.val, by omega⟩ : Fin 4096)))
    * Ideal.ofBits .f32 0x3D3504F3#32

/-- The attention's output. -/
def att (A : S8192x13440.Idx → EReal) (B : S256x4096.Idx → EReal) (i : Fin 8192) (h : Fin 4) (d : Fin 512) : EReal :=
  ∑ k : Fin 256, softE (score A B i h) k * B (ix2 k (⟨2048 + (512 * h.val + d.val), by omega⟩ : Fin 4096))

/-- The gate. -/
def gate (z : EReal) : EReal := z * Ideal.div 1 (1 + Ideal.exp (-z))

/-- The result by row, head and column. -/
def res (A : S8192x13440.Idx → EReal) (B : S256x4096.Idx → EReal) (i : Fin 8192) (h : Fin 4) (d : Fin 512) : EReal :=
  att A B i h d * gate (A (ix2 i (⟨10240 + (512 * h.val + d.val), by omega⟩ : Fin 13440)))

/-- The head of a column, -/
def hd (x : Fin 2048) : Fin 4 := ⟨x.val / 512, by omega⟩
/-- and the column within it. -/
def dm (x : Fin 2048) : Fin 512 := ⟨x.val % 512, by omega⟩

/-- The result, an array. -/
def G (A : S8192x13440.Idx → EReal) (B : S256x4096.Idx → EReal) : S8192x2048.Idx → EReal := fun j => res A B (j 0) (hd (j 1)) (dm (j 1))

/-! ## One head's tile -/

/-- A head's attention weights. -/
def weights (Q : Vec Ideal S512x512 .bf16) (K : Vec Ideal S256x512 .bf16) : FVec Ideal S512x256 .f32 :=
  have s : FVec Ideal S512x256 .f32 := mulf (matmul (φ₁ := .bf16) (φ₂ := .bf16) dot_S512x512_S256x512_S512x256_1_1_0_0_n_n none Q K (constant S512x256 .f32 0x00000000#32))
    (broadcast S512x256 (Scalar.ofBits .f32 0x3D3504F3#32))
  have e : FVec Ideal S512x256 .f32 := exp (subf s (broadcastTo S512x256 (shapeCast S512x1
    (multiReduction .maximumf [1] S512 s 0xFF800000#32 reduces_S512x256_S512 (.inl rfl) rfl) shapeCasts_S512_S512x1) broadcasts_S512x1_S512x256))
  divf e (broadcastTo S512x256 (shapeCast S512x1
    (multiReduction .add [1] S512 e 0x00000000#32 reduces_S512x256_S512 (.inl rfl) rfl) shapeCasts_S512_S512x1) broadcasts_S512x1_S512x256)

/-- What a head stores, its columns beginning at `o`. -/
def tile (o : ℕ) (hs : S512x2048.Slices ![0, o] S512x512) (Z : FVec Ideal S512x2048 .f32) (Q : Vec Ideal S512x512 .bf16)
    (K V : Vec Ideal S256x512 .bf16) : FVec Ideal S512x512 .bf16 :=
  truncf .bf16 (mulf (matmul (φ₁ := .bf16) (φ₂ := .bf16) dot_S512x256_S256x512_S512x512_1_0_0_1_n_n none (truncf .bf16 (weights Q K) bitsLt_bf16_f32) V
    (constant S512x512 .f32 0x00000000#32)) (extractStridedSlice S512x512 ![0, o] Z hs)) bitsLt_bf16_f32

theorem weights_apply (Q : Vec Ideal S512x512 .bf16) (K : Vec Ideal S256x512 .bf16) (r : Fin 512) (k : Fin 256) :
    weights Q K (ix2 r k) = softE (fun k => (∑ e, Q (ix2 r e) * K (ix2 k e)) * Ideal.ofBits .f32 0x3D3504F3#32) k := by
  simp only [weights, pointwise]
  show softE (fun k => (0 + ∑ e, Q (ix2 r e) * K (ix2 k e)) * Ideal.ofBits .f32 0x3D3504F3#32) k = _
  simp only [zero_add]

theorem gate_apply (Z : Vec Ideal S512x2048 .bf16) (r : Fin 512) (x : Fin 2048) : k0_pay2 (F := Ideal) Z (ix2 r x) = gate (Z (ix2 r x)) := by
  simp only [k0_pay2, pointwise]
  show Z (ix2 r x) * Ideal.div 1 (1 + Ideal.exp (0 - Z (ix2 r x))) = _
  rw [zero_sub]; rfl

/-- The column `d` of the columns beginning at `o`. -/
def col (o : ℕ) (ho : o + 512 ≤ 2048) (d : Fin 512) : Fin 2048 := ⟨o + d.val, by omega⟩

theorem tile_apply (o : ℕ) (hs) (ho : o + 512 ≤ 2048) (Z : Vec Ideal S512x2048 .bf16) (Q : Vec Ideal S512x512 .bf16)
    (K V : Vec Ideal S256x512 .bf16) (r d : Fin 512) : tile o hs (k0_pay2 (F := Ideal) Z) Q K V (ix2 r d)
      = (∑ k, softE (fun k => (∑ e, Q (ix2 r e) * K (ix2 k e)) * Ideal.ofBits .f32 0x3D3504F3#32) k * V (ix2 k d)) * gate (Z (ix2 r (col o ho d))) := by
  simp only [tile, pointwise]
  have e : (ix2 ⟨![0, o] 0 + r.val, by simp⟩ ⟨![0, o] 1 + d.val, by simp; omega⟩ : (⟨2, ![512, 2048]⟩ : Shape).Idx) = ix2 r (col o ho d) := by
    congr 1 <;> exact Fin.ext (by simp [col])
  show (0 + ∑ k, weights Q K (ix2 r k) * V (ix2 k d)) * k0_pay2 (F := Ideal) Z (ix2 _ _) = _
  rw [e, gate_apply, zero_add]
  simp only [weights_apply]

/-! ## The blocks at a point -/

variable (m : (ℓ : Loc nD τ sig) → Buf (Elt Ideal) ℓ)

theorem idx0 : ∀ t : Fin cfg0.N, win0_0.index t = ![t.val, 4] := (by decide +kernel : ∀ t : Fin grid0.N, win0_0.index t = ![t.val, 4])
theorem idx1 : ∀ t : Fin cfg0.N, win0_1.index t = ![t.val, 5] := (by decide +kernel : ∀ t : Fin grid0.N, win0_1.index t = ![t.val, 5])
theorem idx2 : ∀ t : Fin cfg0.N, win0_2.index t = ![0, 0] := (by decide +kernel : ∀ t : Fin grid0.N, win0_2.index t = ![0, 0])
theorem idx3 : ∀ t : Fin cfg0.N, win0_3.index t = ![0, 1] := (by decide +kernel : ∀ t : Fin grid0.N, win0_3.index t = ![0, 1])
theorem idx4 : ∀ t : Fin cfg0.N, win0_4.index t = ![t.val, 0] := (by decide +kernel : ∀ t : Fin grid0.N, win0_4.index t = ![t.val, 0])

theorem lt16 (t : Fin cfg0.N) : t.val < 16 := lt_of_lt_of_eq t.isLt N_0

/-- The row `r` of a point's block. -/
def row (t : Fin cfg0.N) (r : Fin 512) : Fin 8192 := ⟨512 * t.val + r.val, by have := lt16 t; omega⟩

variable (c : Dev nD)

theorem q_block (t : Fin cfg0.N) (r : Fin 512) (x : Fin 2048) :
    X0_0 (F := Ideal) m c t (ix2 r x) = m ((c : Thread nD τ).loc main_arg0) (ix2 (row t r) (⟨8192 + x.val, by omega⟩ : Fin 13440)) := by
  unfold X0_0 Pipeline.Window.fill
  rw [dif_pos (moved0_0 t (ix2 r x))]
  blk_ext [iblk, V, idx0 t, row]

theorem z_block (t : Fin cfg0.N) (r : Fin 512) (x : Fin 2048) :
    X0_1 (F := Ideal) m c t (ix2 r x) = m ((c : Thread nD τ).loc main_arg0) (ix2 (row t r) (⟨10240 + x.val, by omega⟩ : Fin 13440)) := by
  unfold X0_1 Pipeline.Window.fill
  rw [dif_pos (moved0_1 t (ix2 r x))]
  blk_ext [iblk, V, idx1 t, row]

theorem k_block (t : Fin cfg0.N) (r : Fin 256) (x : Fin 2048) :
    iblk (F := Ideal) m c 2 t (ix2 r x) = m ((c : Thread nD τ).loc main_arg1) (ix2 r (⟨x.val, by omega⟩ : Fin 4096)) := by
  blk_ext [iblk, V, idx2 t, row]

theorem v_block (t : Fin cfg0.N) (r : Fin 256) (x : Fin 2048) :
    iblk (F := Ideal) m c 3 t (ix2 r x) = m ((c : Thread nD τ).loc main_arg1) (ix2 r (⟨2048 + x.val, by omega⟩ : Fin 4096)) := by
  blk_ext [iblk, V, idx3 t, row]

/-- A load of 512 columns. -/
theorem ld_col {R : ℕ} (X : Vec Ideal (⟨2, ![R, 2048]⟩ : Shape) .bf16) (o : ℕ) (ho : o + 512 ≤ 2048)
    (i : ∀ a, (![0, o] : Fin 2 → ℕ) a + (![R, 512] : Fin 2 → ℕ) a ≤ (⟨2, ![R, 2048]⟩ : Shape).size a) (r : Fin R) (d : Fin 512) :
    View.ld X (Rect.unit (s := ⟨2, ![R, 2048]⟩) ![0, o] ![R, 512] i) (ix2 r d) = X (ix2 r (col o ho d)) := by
  refine View.ld_unit_apply_of _ _ _ _ _ (ix2 r (col o ho d)) (fun a => ?_)
  match a with
  | ⟨0, _⟩ => show r.val = 0 + r.val; omega
  | ⟨1, _⟩ => rfl

/-- What a point stores for a head. -/
theorem tile_eq (t : Fin cfg0.N) (h : Fin 4) (o : ℕ) (ho : o = 512 * h.val) (hs i j l) (r d : Fin 512) :
    tile o hs (k0_pay2 (F := Ideal) (X0_1 m c t)) (View.ld (X0_0 (F := Ideal) m c t) (Rect.unit (s := S512x2048) ![0, o] ![512, 512] i))
        (View.ld (iblk (F := Ideal) m c 2 t) (Rect.unit (s := S256x2048) ![0, o] ![256, 512] j))
        (View.ld (iblk (F := Ideal) m c 3 t) (Rect.unit (s := S256x2048) ![0, o] ![256, 512] l)) (ix2 r d)
      = res (m ((c : Thread nD τ).loc main_arg0)) (m ((c : Thread nD τ).loc main_arg1)) (row t r) h d := by
  subst ho
  have ho : 512 * h.val + 512 ≤ 2048 := by omega
  have hq (e : Fin 512) := (ld_col (X0_0 (F := Ideal) m c t) _ ho i r e).trans (q_block m c t r _)
  have hk (k : Fin 256) (e : Fin 512) := (ld_col (iblk (F := Ideal) m c 2 t) _ ho j k e).trans (k_block m c t k _)
  have hv (k : Fin 256) := (ld_col (iblk (F := Ideal) m c 3 t) _ ho l k d).trans (v_block m c t k _)
  rw [tile_apply _ _ ho, z_block]
  simp only [hq, hk, hv]
  rfl

/-- The block a point writes back. -/
theorem out_apply (t : Fin cfg0.N) (h : Fin 4) (r d : Fin 512) :
    outsAt0 (F := Ideal) m c t (ix2 r ⟨512 * h.val + d.val, by omega⟩)
      = res (m ((c : Thread nD τ).loc main_arg0)) (m ((c : Thread nD τ).loc main_arg1)) (row t r) h d := by
  unfold outsAt0; frame_out
  match h with
  | ⟨0, _⟩ =>
    refine (canon_miss 1536 _ _ _ _ _ (by dsimp only <;> omega)).trans ?_
    refine (canon_miss 1024 _ _ _ _ _ (by dsimp only <;> omega)).trans ?_
    refine (canon_miss 512 _ _ _ _ _ (by dsimp only <;> omega)).trans ?_
    exact (canon_hit 0 _ _ _ _ d _ (by dsimp only <;> omega)).trans (tile_eq m c t 0 0 rfl _ _ _ _ r d)
  | ⟨1, _⟩ =>
    refine (canon_miss 1536 _ _ _ _ _ (by dsimp only <;> omega)).trans ?_
    refine (canon_miss 1024 _ _ _ _ _ (by dsimp only <;> omega)).trans ?_
    exact (canon_hit 512 _ _ _ _ d _ (by dsimp only <;> omega)).trans (tile_eq m c t 1 512 rfl _ _ _ _ r d)
  | ⟨2, _⟩ =>
    refine (canon_miss 1536 _ _ _ _ _ (by dsimp only <;> omega)).trans ?_
    exact (canon_hit 1024 _ _ _ _ d _ (by dsimp only <;> omega)).trans (tile_eq m c t 2 1024 rfl _ _ _ _ r d)
  | ⟨3, _⟩ =>
    exact (canon_hit 1536 _ _ _ _ d _ (by dsimp only <;> omega)).trans (tile_eq m c t 3 1536 rfl _ _ _ _ r d)

theorem emb4 (t : Fin cfg0.N) (r : Fin 512) (x : Fin 2048) : ((cfg0.win 4).blk t).view.emb (ix2 r x) = ix2 (row t r) x := by
  blk_ext [idx4 t, row]

theorem cover4 (i : S8192x2048.Idx) : ∃ t : Fin cfg0.N, (cfg0.win 4).flush t = true ∧ i ∈ ((cfg0.win 4).blk t).view.set := by
  obtain ⟨i, x, rfl⟩ := idx_eta (n := 8192) (k := 2048) i
  obtain ⟨t, ht⟩ : ∃ t : Fin cfg0.N, t.val = i.val / 512 := ⟨⟨_, lt_of_lt_of_eq (by omega) N_0.symm⟩, rfl⟩
  refine ⟨t, flush0_4 t, ?_⟩
  have h := ((cfg0.win 4).blk t).view.emb_mem_set (ix2 ⟨i.val % 512, by omega⟩ x)
  rw [emb4] at h
  exact (congrArg (· ∈ ((cfg0.win 4).blk t).view.set) (ix2_eq (by dsimp only [row]; omega) rfl)).mp h

/-- After the run the result is the gated attention. -/
theorem final4 : (dats m 0 c).arrAt 4 cfg0.N = G (m ((c : Thread nD τ).loc main_arg0)) (m ((c : Thread nD τ).loc main_arg1)) :=
  (dats m 0 c).arrAt_eq_of_cover 4 _ (fun t _ => by
    rw [flushed4]; funext y
    show outsAt0 (F := Ideal) m c t y = G _ _ (((cfg0.win 4).blk t).view.emb y)
    obtain ⟨r, x, rfl⟩ := idx_eta (n := 512) (k := 2048) y
    rw [emb4]
    refine Eq.trans (congrArg _ (ix2_eq rfl ?_)) (out_apply m c t (hd x) r (dm x))
    show x.val = 512 * (x.val / 512) + x.val % 512; omega) cover4

/-! ## The reference -/

section
open Cert.MemFRefIdeal.Read
variable (A : S8192x13440.Idx → EReal) (B : S256x4096.Idx → EReal)

/-- The queries, by row, head and column. -/
theorem v9_eq (i : Fin 8192) (h : Fin 4) (e : Fin 512) : val_main_v9 (F := Ideal) A (ix3 i h e) = A (ix2 i (⟨8192 + (512 * h.val + e.val), by omega⟩ : Fin 13440)) := by
  rw [val_main_v9_apply, val_main_v3_apply, val_main_v0_apply]
  refine congrArg A (funext fun a => Fin.ext ?_)
  match a with
  | ⟨0, _⟩ => show ((i.val * 4 + h.val) * 512 + e.val) / 2048 = i.val; omega
  | ⟨1, _⟩ => show 8192 + ((i.val * 4 + h.val) * 512 + e.val) % 2048 = 8192 + (512 * h.val + e.val); omega

/-- The keys. -/
theorem v7_eq (k : Fin 256) (h : Fin 4) (e : Fin 512) : val_main_v7 (F := Ideal) B (ix3 k h e) = B (ix2 k (⟨512 * h.val + e.val, by omega⟩ : Fin 4096)) := by
  rw [val_main_v7_apply, val_main_v5_apply, val_main_v4_apply, val_main_v2_apply]
  refine congrArg B (funext fun a => Fin.ext ?_)
  match a with
  | ⟨0, _⟩ => show (((((k.val * 4 + h.val) * 512 + e.val) / 2048 * 2 + 0) * 4 + ((k.val * 4 + h.val) * 512 + e.val) / 512 % 4) * 512
      + ((k.val * 4 + h.val) * 512 + e.val) % 512) / 4096 = k.val; omega
  | ⟨1, _⟩ => show (((((k.val * 4 + h.val) * 512 + e.val) / 2048 * 2 + 0) * 4 + ((k.val * 4 + h.val) * 512 + e.val) / 512 % 4) * 512
      + ((k.val * 4 + h.val) * 512 + e.val) % 512) % 4096 = 512 * h.val + e.val; omega

/-- The values. -/
theorem v8_eq (k : Fin 256) (h : Fin 4) (e : Fin 512) : val_main_v8 (F := Ideal) B (ix3 k h e) = B (ix2 k (⟨2048 + (512 * h.val + e.val), by omega⟩ : Fin 4096)) := by
  rw [val_main_v8_apply, val_main_v6_apply, val_main_v4_apply, val_main_v2_apply]
  refine congrArg B (funext fun a => Fin.ext ?_)
  match a with
  | ⟨0, _⟩ => show (((((k.val * 4 + h.val) * 512 + e.val) / 2048 * 2 + (1 + 0)) * 4 + ((k.val * 4 + h.val) * 512 + e.val) / 512 % 4) * 512
      + ((k.val * 4 + h.val) * 512 + e.val) % 512) / 4096 = k.val; omega
  | ⟨1, _⟩ => show (((((k.val * 4 + h.val) * 512 + e.val) / 2048 * 2 + (1 + 0)) * 4 + ((k.val * 4 + h.val) * 512 + e.val) / 512 % 4) * 512
      + ((k.val * 4 + h.val) * 512 + e.val) % 512) % 4096 = 2048 + (512 * h.val + e.val); omega

/-- The scaled scores. -/
theorem v12_eq : val_main_v12 (F := Ideal) A B = fun j => score A B (j 1) (j 0) (j 2) := by
  funext j
  rw [val_main_v12_apply, val_main_v10_apply, val_main_v11_apply, val_main_cst_apply]
  refine congrArg (· * Ideal.ofBits .f32 0x3D3504F3#32) (Finset.sum_congr rfl fun e _ => ?_)
  refine congrArg₂ (· * ·) (Eq.trans (congrArg _ ?_) (v9_eq A (j 1) (j 0) e)) (Eq.trans (congrArg _ ?_) (v7_eq B (j 2) (j 0) e)) <;>
  exact funext fun a => match a with
    | ⟨0, _⟩ => rfl
    | ⟨1, _⟩ => rfl
    | ⟨2, _⟩ => rfl

/-- The largest score of a row. -/
theorem v17_apply (j : Cert.MemFRefIdeal.S4x8192x256.Idx) : val_main_v17 (F := Ideal) A B j
    = (Finset.univ : Finset (Fin 256)).fold max (Ideal.ofBits .f32 0xFF800000#32) (score A B (j 1) (j 0)) := by
  have key (i : Cert.MemFRefIdeal.S4x8192.Idx) : val_main_v15 (F := Ideal) A B i
      = (Finset.univ : Finset (Fin 256)).fold max (Ideal.ofBits .f32 0xFF800000#32) (score A B (i 1) (i 0)) := by
    obtain ⟨h, i, rfl⟩ := idx_eta (n := 4) (k := 8192) i
    have e : val_main_v13 (F := Ideal) A B (ix2 h i)
        = (Finset.univ : Finset (Fin 256)).fold max (Ideal.ofBits .f32 0xFF800000#32) (score A B i h) := by
      unfold val_main_v13
      rw [v12_eq]
      simp only [val_main_cst_0, pointwise]
    rw [val_main_v15_apply, val_main_v14_apply, val_main_cst_1_apply, e]
    show max (Ideal.ofBits .f32 0xFF800000#32) _ = _
    rw [ofBits_neg_inf, max_eq_right bot_le]; rfl
  rw [val_main_v17_apply, val_main_v16_apply, key]; rfl

/-- The exponentials. -/
theorem v19_apply (j : Cert.MemFRefIdeal.S4x8192x256.Idx) : val_main_v19 (F := Ideal) A B j
    = Ideal.exp (score A B (j 1) (j 0) (j 2) - (Finset.univ : Finset (Fin 256)).fold max (Ideal.ofBits .f32 0xFF800000#32) (score A B (j 1) (j 0))) := by
  rw [val_main_v19_apply, val_main_v18_apply, v17_apply, v12_eq]; rfl

/-- The attention's weights. -/
theorem v23_apply (j : Cert.MemFRefIdeal.S4x8192x256.Idx) : val_main_v23 (F := Ideal) A B j = softE (score A B (j 1) (j 0)) (j 2) := by
  rw [val_main_v23_apply, val_main_v22_apply, val_main_v21_apply, val_main_v20_apply, val_main_cst_2_apply]
  show Ideal.div _ (Ideal.ofBits .f32 0x00000000#32 + _) = _
  rw [Ideal.ofBits_zero_f32, zero_add]
  simp only [v19_apply]; rfl

/-- The attention's output, by head. -/
theorem v24_eq (h : Fin 4) (d : Fin 512) (i : Fin 8192) : val_main_v24 (F := Ideal) A B (ix3 h d i) = att A B i h d := by
  rw [val_main_v24_apply]
  refine Finset.sum_congr rfl fun k _ => (mul_comm _ _).trans ?_
  rw [v23_apply]
  refine congrArg₂ (· * ·) rfl (Eq.trans (congrArg _ ?_) (v8_eq B k h d))
  exact funext fun a => match a with
    | ⟨0, _⟩ => rfl
    | ⟨1, _⟩ => rfl
    | ⟨2, _⟩ => rfl

/-- The attention's output, by column. -/
theorem v26_apply (i : Fin 8192) (x : Fin 2048) : val_main_v26 (F := Ideal) A B (ix2 i x) = att A B i (hd x) (dm x) := by
  rw [val_main_v26_apply, val_main_v25_apply]
  refine Eq.trans (congrArg _ (funext fun a => Fin.ext ?_)) (v24_eq A B (hd x) (dm x) i)
  match a with
  | ⟨0, _⟩ => show (i.val * 2048 + x.val) / 512 % 4 = x.val / 512; omega
  | ⟨1, _⟩ => show (i.val * 2048 + x.val) % 512 = x.val % 512; omega
  | ⟨2, _⟩ => show (i.val * 2048 + x.val) / 2048 = i.val; omega

/-- The gate. -/
theorem v28_apply (i : Fin 8192) (x : Fin 2048) : val_main_v28 (F := Ideal) A (ix2 i x)
    = gate (A (ix2 i (⟨10240 + (512 * (hd x).val + (dm x).val), by have := (hd x).isLt; omega⟩ : Fin 13440))) := by
  have hz : val_main_v27 (F := Ideal) A (ix2 i x) = A (ix2 i (⟨10240 + (512 * (hd x).val + (dm x).val), by have := (hd x).isLt; omega⟩ : Fin 13440)) := by
    rw [val_main_v27_apply, val_main_v1_apply]
    refine congrArg A (funext fun a => Fin.ext ?_)
    match a with
    | ⟨0, _⟩ => rfl
    | ⟨1, _⟩ => show 10240 + x.val = 10240 + (512 * (x.val / 512) + x.val % 512); omega
  rw [val_main_v28_apply, val_main_call0_v5_apply, val_main_call0_v4_apply, val_main_call0_cst_0_apply, val_main_call0_v3_apply, val_main_call0_v2_apply,
    val_main_call0_cst_apply, val_main_call0_v1_apply, val_main_call0_v0_apply, hz]
  show _ * Ideal.div (Ideal.ofBits .f32 0x3F800000#32) (Ideal.ofBits .f32 0x3F800000#32 + Ideal.exp (-_)) = _
  rw [ofBits_one]; rfl

/-- The reference's result is the gated attention. -/
theorem reference_eq : val_main_v30 (F := Ideal) A B = G A B := by
  funext j
  obtain ⟨i, x, rfl⟩ := idx_eta (n := 8192) (k := 2048) j
  rw [val_main_v30_apply, val_main_v29_apply, v26_apply, v28_apply]; rfl
end

/-- The kernel and the reference end with the same array. -/
theorem algebraic : Cert.algebraic_MemFIdeal_MemFRefIdeal (hMemFIdeal := facts) (hMemFRefIdeal := Cert.MemFRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final4 m c), (h c).2⟩) (run_blocks (F := Ideal) m ρ)
  · exact (θ_run Cert.MemFRefIdeal.defs _ _).mono (fun _ h c => ⟨(h c).1.trans ((Cert.MemFRefIdeal.Read.val_main_v30_eq _ _).trans (by
      rw [(hagree c).1, (hagree c).2]; exact reference_eq _ _)), (h c).2⟩) (Cert.MemFRefIdeal.Value.run (F := Ideal) m' ρ')

/-- The reference runs, keeps its arguments and holds no semaphore. -/
theorem frame_reference : Cert.quiescent_MemFRefIdeal (hMemFRefIdeal := Cert.MemFRefIdeal.Gen.facts) := fun m ρ _ =>
  (θ_run Cert.MemFRefIdeal.defs _ _).mono (fun r h => ⟨fun c => (h c).2, sem_eq_zero_of_no_sems rfl r.2⟩) (Cert.MemFRefIdeal.Value.run (F := Ideal) m ρ)

end Cert.MemFValue
end
-- ==== Proof.Norms.lean ====
module
public import Idealize.ShloMosaic.Lib.Pipeline.ValueKit
public import Idealize.ShloMosaic.Lib.Pointwise
@[expose] public section
noncomputable section
namespace Cert.Norms
open Idealize.ShloMosaic
open scoped BigOperators

/-- An element of a row divided by the row's root mean square, times the gain; `w` is the row's length as a number. -/
def normed {n : ℕ} (w : EReal) (x : Fin n → EReal) (g : EReal) (d : Fin n) : EReal :=
  x d * Ideal.rsqrt (Ideal.div (∑ k, x k * x k) w + Ideal.ofBits .f32 0x358637BD#32) * g

end Cert.Norms
-- ==== Proof.NormX.lean ====
module
public import proofs.«01_k».proof.Proof.Gen.NormXIdeal.Value
public import proofs.«01_k».proof.Proof.Gen.NormXRefIdeal.Read
public import proofs.«01_k».proof.Proof.Products
public import proofs.«01_k».proof.Proof.Norms
public import proofs.«01_k».proof.Defs
public import Idealize.ShloMosaic.Adequacy
public import Idealize.ShloMosaic.Init
public import Idealize.ShloMosaic.Lib.Pointwise
@[expose] public section
set_option maxRecDepth 16384
noncomputable section
namespace Cert.NormXValue
open Cert.NormXIdeal Cert.NormXIdeal.Gen Cert.NormXIdeal.Facts Cert.NormXIdeal.Value Cert.Products Cert.Norms
open Idealize.ShloMosaic Idealize.ShloMosaic.TcCoe Idealize.SL.Sem
open scoped BigOperators

/-! The norm of the layer's input: the array the kernel leaves, and the reference's. -/

/-- The normed rows, an array. -/
def G (A : S8192x2048.Idx → EReal) (B : S1x2048.Idx → EReal) : S8192x2048.Idx → EReal := fun j =>
  normed (Ideal.ofBits .f32 0x45000000#32) (fun k : Fin 2048 => A (ix2 (j 0) k)) (B (ix2 0 (j 1))) (j 1)

theorem pay_apply (X : Vec Ideal S256x2048 .f32) (g : Vec Ideal S1x2048 .f32) (r : Fin 256) (d : Fin 2048) :
    k0_pay1 X g (ix2 r d) = normed (Ideal.ofBits .f32 0x45000000#32) (fun k => X (ix2 r k)) (g (ix2 0 d)) d := by
  simp only [k0_pay1, pointwise]
  show X (ix2 r d) * Ideal.rsqrt (Ideal.div (∑ k, X (ix2 r k) * X (ix2 r k)) (Ideal.ofBits .f32 0x45000000#32) + Ideal.ofBits .f32 0x358637BD#32) * g (ix2 0 d) = _
  rfl

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem ltN (t : Fin cfg0.N) : t.val < 32 := lt_of_lt_of_eq t.isLt N_0

/-- The row `r` of a point's block. -/
def row (t : Fin cfg0.N) (r : Fin 256) : Fin 8192 := ⟨256 * t.val + r.val, by have := ltN t; omega⟩

variable (c : Dev nD)

theorem x_block (t : Fin cfg0.N) (r : Fin 256) (k : Fin 2048) :
    iblk (F := Ideal) m c 0 t (ix2 r k) = m ((c : Thread nD τ).loc main_arg0) (ix2 (row t r) k) := by
  blk_ext [iblk, V, idx0 t, row]

theorem g_block (t : Fin cfg0.N) (d : Fin 2048) : iblk (F := Ideal) m c 1 t (ix2 (0 : Fin 1) d) = m ((c : Thread nD τ).loc main_arg1) (ix2 (0 : Fin 1) d) := by
  blk_ext [iblk, V, idx1 t]

/-- The block a point writes back. -/
theorem out_apply (t : Fin cfg0.N) (r : Fin 256) (d : Fin 2048) :
    out0_2 (F := Ideal) (iblk m c 0 t) (iblk m c 1 t) (ix2 r d) = G (m ((c : Thread nD τ).loc main_arg0)) (m ((c : Thread nD τ).loc main_arg1)) (ix2 (row t r) d) := by
  frame_out
  rw [pay_apply, g_block]
  simp only [x_block]; rfl

theorem emb2 (t : Fin cfg0.N) (r : Fin 256) (x : Fin 2048) : ((cfg0.win 2).blk t).view.emb (ix2 r x) = ix2 (row t r) x := by
  blk_ext [idx2 t, row]

theorem cover2 (i : S8192x2048.Idx) : ∃ t : Fin cfg0.N, (cfg0.win 2).flush t = true ∧ i ∈ ((cfg0.win 2).blk t).view.set := by
  obtain ⟨i, x, rfl⟩ := idx_eta (n := 8192) (k := 2048) i
  obtain ⟨t, ht⟩ : ∃ t : Fin cfg0.N, t.val = i.val / 256 := ⟨⟨_, lt_of_lt_of_eq (by omega) N_0.symm⟩, rfl⟩
  refine ⟨t, flush0_2 t, ?_⟩
  have h := ((cfg0.win 2).blk t).view.emb_mem_set (ix2 ⟨i.val % 256, by omega⟩ x)
  rw [emb2] at h
  exact (congrArg (· ∈ ((cfg0.win 2).blk t).view.set) (ix2_eq (by dsimp only [row]; omega) rfl)).mp h

/-- After the run the result is the normed rows. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 256) (k := 2048) y
    rw [emb2]
    exact out_apply m c t r x) cover2

open Cert.NormXRefIdeal.Read in
/-- The reference's result is the normed rows. -/
theorem reference_eq (A : S8192x2048.Idx → EReal) (B : S1x2048.Idx → EReal) : val_main_v14 (F := Ideal) A B = G A B := by
  funext j
  obtain ⟨i, x, rfl⟩ := idx_eta (n := 8192) (k := 2048) j
  rw [val_main_v14_apply, val_main_v13_apply, val_main_v10_apply, val_main_v9_apply, val_main_v8_apply, val_main_v7_apply, val_main_v5_apply, val_main_v3_apply, val_main_v2_apply,
    val_main_v4_apply, val_main_v6_apply, val_main_cst_apply, val_main_cst_0_apply, val_main_cst_1_apply, val_main_v12_apply, val_main_v11_apply, val_main_v0_apply]
  simp only [val_main_v1_apply]
  have e1 (k : Fin 2048) : (idx_main_v2 (idx_main_v3 (idx_main_v9 (ix2 i x))) k : S8192x2048.Idx) = ix2 i k := funext fun a => match a with
    | ⟨0, _⟩ => rfl
    | ⟨1, _⟩ => rfl
  have e2 : (idx_main_v0 (idx_main_v11 (idx_main_v12 (ix2 i x))) : S1x2048.Idx) = ix2 0 x := funext fun a => Fin.ext (match a with
    | ⟨0, _⟩ => rfl
    | ⟨1, _⟩ => Nat.mod_eq_of_lt x.isLt)
  simp only [e1, e2]
  show A (ix2 i x) * Ideal.rsqrt (Ideal.div (Ideal.ofBits .f32 0x00000000#32 + ∑ k : Fin 2048, A (ix2 i k) * A (ix2 i k)) (Ideal.ofBits .f32 0x45000000#32)
    + Ideal.ofBits .f32 0x358637BD#32) * B (ix2 0 x) = _
  rw [Ideal.ofBits_zero_f32, zero_add]; rfl

/-- The kernel and the reference end with the same array. -/
theorem algebraic : Cert.algebraic_NormXIdeal_NormXRefIdeal (hNormXIdeal := facts) (hNormXRefIdeal := Cert.NormXRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.NormXRefIdeal.defs _ _).mono (fun _ h c => ⟨(h c).1.trans ((Cert.NormXRefIdeal.Read.val_main_v14_eq _ _).trans (by
      rw [(hagree c).1, (hagree c).2]; exact reference_eq _ _)), (h c).2⟩) (Cert.NormXRefIdeal.Value.run (F := Ideal) m' ρ')

/-- The reference runs, keeps its arguments and holds no semaphore. -/
theorem frame_reference : Cert.quiescent_NormXRefIdeal (hNormXRefIdeal := Cert.NormXRefIdeal.Gen.facts) := fun m ρ _ =>
  (θ_run Cert.NormXRefIdeal.defs _ _).mono (fun r h => ⟨fun c => (h c).2, sem_eq_zero_of_no_sems rfl r.2⟩) (Cert.NormXRefIdeal.Value.run (F := Ideal) m ρ)

end Cert.NormXValue
end
-- ==== Proof.NormM.lean ====
module
public import proofs.«01_k».proof.Proof.Gen.NormMIdeal.Value
public import proofs.«01_k».proof.Proof.Gen.NormMRefIdeal.Read
public import proofs.«01_k».proof.Proof.Products
public import proofs.«01_k».proof.Proof.Norms
public import proofs.«01_k».proof.Defs
public import Idealize.ShloMosaic.Adequacy
public import Idealize.ShloMosaic.Init
public import Idealize.ShloMosaic.Lib.Pointwise
@[expose] public section
set_option maxRecDepth 16384
noncomputable section
namespace Cert.NormMValue
open Cert.NormMIdeal Cert.NormMIdeal.Gen Cert.NormMIdeal.Facts Cert.NormMIdeal.Value Cert.Products Cert.Norms
open Idealize.ShloMosaic Idealize.ShloMosaic.TcCoe Idealize.SL.Sem
open scoped BigOperators

/-! The norm of the memory: the array the kernel leaves, and the reference's. -/

/-- The normed rows, an array. -/
def G (A : S256x2048.Idx → EReal) (B : S1x2048.Idx → EReal) : S256x2048.Idx → EReal := fun j =>
  normed (Ideal.ofBits .f32 0x45000000#32) (fun k : Fin 2048 => A (ix2 (j 0) k)) (B (ix2 0 (j 1))) (j 1)

theorem pay_apply (X : Vec Ideal S256x2048 .f32) (g : Vec Ideal S1x2048 .f32) (r : Fin 256) (d : Fin 2048) :
    k0_pay1 X g (ix2 r d) = normed (Ideal.ofBits .f32 0x45000000#32) (fun k => X (ix2 r k)) (g (ix2 0 d)) d := by
  simp only [k0_pay1, pointwise]
  show X (ix2 r d) * Ideal.rsqrt (Ideal.div (∑ k, X (ix2 r k) * X (ix2 r k)) (Ideal.ofBits .f32 0x45000000#32) + Ideal.ofBits .f32 0x358637BD#32) * g (ix2 0 d) = _
  rfl

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem ltN (t : Fin cfg0.N) : t.val < 1 := lt_of_lt_of_eq t.isLt N_0

/-- The row `r` of a point's block. -/
def row (t : Fin cfg0.N) (r : Fin 256) : Fin 256 := ⟨256 * t.val + r.val, by have := ltN t; omega⟩

variable (c : Dev nD)

theorem x_block (t : Fin cfg0.N) (r : Fin 256) (k : Fin 2048) :
    iblk (F := Ideal) m c 0 t (ix2 r k) = m ((c : Thread nD τ).loc main_arg0) (ix2 (row t r) k) := by
  blk_ext [iblk, V, idx0 t, row]

theorem g_block (t : Fin cfg0.N) (d : Fin 2048) : iblk (F := Ideal) m c 1 t (ix2 (0 : Fin 1) d) = m ((c : Thread nD τ).loc main_arg1) (ix2 (0 : Fin 1) d) := by
  blk_ext [iblk, V, idx1 t]

/-- The block a point writes back. -/
theorem out_apply (t : Fin cfg0.N) (r : Fin 256) (d : Fin 2048) :
    out0_2 (F := Ideal) (iblk m c 0 t) (iblk m c 1 t) (ix2 r d) = G (m ((c : Thread nD τ).loc main_arg0)) (m ((c : Thread nD τ).loc main_arg1)) (ix2 (row t r) d) := by
  frame_out
  rw [pay_apply, g_block]
  simp only [x_block]; rfl

theorem emb2 (t : Fin cfg0.N) (r : Fin 256) (x : Fin 2048) : ((cfg0.win 2).blk t).view.emb (ix2 r x) = ix2 (row t r) x := by
  blk_ext [idx2 t, row]

theorem cover2 (i : S256x2048.Idx) : ∃ t : Fin cfg0.N, (cfg0.win 2).flush t = true ∧ i ∈ ((cfg0.win 2).blk t).view.set := by
  obtain ⟨i, x, rfl⟩ := idx_eta (n := 256) (k := 2048) i
  obtain ⟨t, ht⟩ : ∃ t : Fin cfg0.N, t.val = i.val / 256 := ⟨⟨_, lt_of_lt_of_eq (by omega) N_0.symm⟩, rfl⟩
  refine ⟨t, flush0_2 t, ?_⟩
  have h := ((cfg0.win 2).blk t).view.emb_mem_set (ix2 ⟨i.val % 256, by omega⟩ x)
  rw [emb2] at h
  exact (congrArg (· ∈ ((cfg0.win 2).blk t).view.set) (ix2_eq (by dsimp only [row]; omega) rfl)).mp h

/-- After the run the result is the normed rows. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show out0_2 (F := Ideal) (iblk m c 0 t) (iblk m c 1 t) y = G _ _ (((cfg0.win 2).blk t).view.emb y)
    obtain ⟨r, x, rfl⟩ := idx_eta (n := 256) (k := 2048) y
    rw [emb2]
    exact out_apply m c t r x) cover2

open Cert.NormMRefIdeal.Read in
/-- The reference's result is the normed rows. -/
theorem reference_eq (A : S256x2048.Idx → EReal) (B : S1x2048.Idx → EReal) : val_main_v14 (F := Ideal) A B = G A B := by
  funext j
  obtain ⟨i, x, rfl⟩ := idx_eta (n := 256) (k := 2048) j
  rw [val_main_v14_apply, val_main_v13_apply, val_main_v10_apply, val_main_v9_apply, val_main_v8_apply, val_main_v7_apply, val_main_v5_apply, val_main_v3_apply, val_main_v2_apply,
    val_main_v4_apply, val_main_v6_apply, val_main_cst_apply, val_main_cst_0_apply, val_main_cst_1_apply, val_main_v12_apply, val_main_v11_apply, val_main_v0_apply]
  simp only [val_main_v1_apply]
  have e1 (k : Fin 2048) : (idx_main_v2 (idx_main_v3 (idx_main_v9 (ix2 i x))) k : S256x2048.Idx) = ix2 i k := funext fun a => match a with
    | ⟨0, _⟩ => rfl
    | ⟨1, _⟩ => rfl
  have e2 : (idx_main_v0 (idx_main_v11 (idx_main_v12 (ix2 i x))) : S1x2048.Idx) = ix2 0 x := funext fun a => Fin.ext (match a with
    | ⟨0, _⟩ => rfl
    | ⟨1, _⟩ => Nat.mod_eq_of_lt x.isLt)
  simp only [e1, e2]
  show A (ix2 i x) * Ideal.rsqrt (Ideal.div (Ideal.ofBits .f32 0x00000000#32 + ∑ k : Fin 2048, A (ix2 i k) * A (ix2 i k)) (Ideal.ofBits .f32 0x45000000#32)
    + Ideal.ofBits .f32 0x358637BD#32) * B (ix2 0 x) = _
  rw [Ideal.ofBits_zero_f32, zero_add]; rfl

/-- The kernel and the reference end with the same array. -/
theorem algebraic : Cert.algebraic_NormMIdeal_NormMRefIdeal (hNormMIdeal := facts) (hNormMRefIdeal := Cert.NormMRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.NormMRefIdeal.defs _ _).mono (fun _ h c => ⟨(h c).1.trans ((Cert.NormMRefIdeal.Read.val_main_v14_eq _ _).trans (by
      rw [(hagree c).1, (hagree c).2]; exact reference_eq _ _)), (h c).2⟩) (Cert.NormMRefIdeal.Value.run (F := Ideal) m' ρ')

/-- The reference runs, keeps its arguments and holds no semaphore. -/
theorem frame_reference : Cert.quiescent_NormMRefIdeal (hNormMRefIdeal := Cert.NormMRefIdeal.Gen.facts) := fun m ρ _ =>
  (θ_run Cert.NormMRefIdeal.defs _ _).mono (fun r h => ⟨fun c => (h c).2, sem_eq_zero_of_no_sems rfl r.2⟩) (Cert.NormMRefIdeal.Value.run (F := Ideal) m ρ)

end Cert.NormMValue
end
-- ==== Proof.NormQ.lean ====
module
public import proofs.«01_k».proof.Proof.Gen.NormQIdeal.Value
public import proofs.«01_k».proof.Proof.Gen.NormQRefIdeal.Read
public import proofs.«01_k».proof.Proof.Products
public import proofs.«01_k».proof.Proof.Norms
public import proofs.«01_k».proof.Defs
public import Idealize.ShloMosaic.Adequacy
public import Idealize.ShloMosaic.Init
public import Idealize.ShloMosaic.Lib.Pointwise
@[expose] public section
set_option maxRecDepth 16384
noncomputable section
namespace Cert.NormQValue
open Cert.NormQIdeal Cert.NormQIdeal.Gen Cert.NormQIdeal.Facts Cert.NormQIdeal.Value Cert.Products Cert.Norms
open Idealize.ShloMosaic Idealize.ShloMosaic.TcCoe Idealize.SL.Sem
open scoped BigOperators

/-! The norm of the queries' latents: the array the kernel leaves, and the reference's. -/

/-- The normed rows, an array. -/
def G (A : S8192x13440.Idx → EReal) (B : S1x512.Idx → EReal) : S8192x512.Idx → EReal := fun j =>
  normed (Ideal.ofBits .f32 0x44000000#32) (fun k : Fin 512 => A (ix2 (j 0) (⟨12288 + k.val, by omega⟩ : Fin 13440))) (B (ix2 0 (j 1))) (j 1)

theorem pay_apply (X : Vec Ideal S512x512 .bf16) (g : Vec Ideal S1x512 .f32) (r : Fin 512) (d : Fin 512) :
    k0_pay1 X g (ix2 r d) = normed (Ideal.ofBits .f32 0x44000000#32) (fun k => X (ix2 r k)) (g (ix2 0 d)) d := by
  simp only [k0_pay1, pointwise]
  show X (ix2 r d) * Ideal.rsqrt (Ideal.div (∑ k, X (ix2 r k) * X (ix2 r k)) (Ideal.ofBits .f32 0x44000000#32) + Ideal.ofBits .f32 0x358637BD#32) * g (ix2 0 d) = _
  rfl

variable (m : (ℓ : Loc nD τ sig) → Buf (Elt Ideal) ℓ)

theorem idx0 : ∀ t : Fin cfg0.N, win0_0.index t = ![t.val, 24] := (by decide +kernel : ∀ t : Fin grid0.N, win0_0.index t = ![t.val, 24])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem ltN (t : Fin cfg0.N) : t.val < 16 := lt_of_lt_of_eq t.isLt N_0

/-- The row `r` of a point's block. -/
def row (t : Fin cfg0.N) (r : Fin 512) : Fin 8192 := ⟨512 * t.val + r.val, by have := ltN t; omega⟩

variable (c : Dev nD)

theorem x_block (t : Fin cfg0.N) (r : Fin 512) (k : Fin 512) :
    X0_0 (F := Ideal) m c t (ix2 r k) = m ((c : Thread nD τ).loc main_arg0) (ix2 (row t r) (⟨12288 + k.val, by omega⟩ : Fin 13440)) := by
  unfold X0_0 Pipeline.Window.fill
  rw [dif_pos (moved0_0 t (ix2 r k))]
  blk_ext [iblk, V, idx0 t, row]

theorem g_block (t : Fin cfg0.N) (d : Fin 512) : iblk (F := Ideal) m c 1 t (ix2 (0 : Fin 1) d) = m ((c : Thread nD τ).loc main_arg1) (ix2 (0 : Fin 1) d) := by
  blk_ext [iblk, V, idx1 t]

/-- The block a point writes back. -/
theorem out_apply (t : Fin cfg0.N) (r : Fin 512) (d : Fin 512) :
    outsAt0 (F := Ideal) m c t (ix2 r d) = G (m ((c : Thread nD τ).loc main_arg0)) (m ((c : Thread nD τ).loc main_arg1)) (ix2 (row t r) d) := by
  unfold outsAt0; frame_out
  rw [pay_apply, g_block]
  simp only [x_block]; rfl

theorem emb2 (t : Fin cfg0.N) (r : Fin 512) (x : Fin 512) : ((cfg0.win 2).blk t).view.emb (ix2 r x) = ix2 (row t r) x := by
  blk_ext [idx2 t, row]

theorem cover2 (i : S8192x512.Idx) : ∃ t : Fin cfg0.N, (cfg0.win 2).flush t = true ∧ i ∈ ((cfg0.win 2).blk t).view.set := by
  obtain ⟨i, x, rfl⟩ := idx_eta (n := 8192) (k := 512) i
  obtain ⟨t, ht⟩ : ∃ t : Fin cfg0.N, t.val = i.val / 512 := ⟨⟨_, lt_of_lt_of_eq (by omega) N_0.symm⟩, rfl⟩
  refine ⟨t, flush0_2 t, ?_⟩
  have h := ((cfg0.win 2).blk t).view.emb_mem_set (ix2 ⟨i.val % 512, by omega⟩ x)
  rw [emb2] at h
  exact (congrArg (· ∈ ((cfg0.win 2).blk t).view.set) (ix2_eq (by dsimp only [row]; omega) rfl)).mp h

/-- After the run the result is the normed rows. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show outsAt0 (F := Ideal) m c t y = G _ _ (((cfg0.win 2).blk t).view.emb y)
    obtain ⟨r, x, rfl⟩ := idx_eta (n := 512) (k := 512) y
    rw [emb2]
    exact out_apply m c t r x) cover2

open Cert.NormQRefIdeal.Read in
/-- The reference's result is the normed rows. -/
theorem reference_eq (A : S8192x13440.Idx → EReal) (B : S1x512.Idx → EReal) : val_main_v16 (F := Ideal) A B = G A B := by
  funext j
  obtain ⟨i, x, rfl⟩ := idx_eta (n := 8192) (k := 512) j
  have e0 (k : Fin 512) : val_main_v1 (F := Ideal) A (ix2 i k) = A (ix2 i (⟨12288 + k.val, by omega⟩ : Fin 13440)) := by
    rw [val_main_v1_apply, val_main_v0_apply]
    exact congrArg A (funext fun a => match a with
      | ⟨0, _⟩ => rfl
      | ⟨1, _⟩ => rfl)
  rw [val_main_v16_apply, val_main_v15_apply, val_main_v12_apply, val_main_v11_apply, val_main_v10_apply, val_main_v9_apply, val_main_v7_apply, val_main_v5_apply, val_main_v4_apply,
    val_main_v6_apply, val_main_v8_apply, val_main_cst_apply, val_main_cst_0_apply, val_main_cst_1_apply, val_main_v14_apply, val_main_v13_apply, val_main_v2_apply]
  simp only [val_main_v3_apply]
  have e1 (k : Fin 512) : (idx_main_v4 (idx_main_v5 (idx_main_v11 (ix2 i x))) k : S8192x512.Idx) = ix2 i k := funext fun a => match a with
    | ⟨0, _⟩ => rfl
    | ⟨1, _⟩ => rfl
  have e2 : (idx_main_v2 (idx_main_v13 (idx_main_v14 (ix2 i x))) : S1x512.Idx) = ix2 0 x := funext fun a => Fin.ext (match a with
    | ⟨0, _⟩ => rfl
    | ⟨1, _⟩ => Nat.mod_eq_of_lt x.isLt)
  simp only [e1, e2, e0]
  show A (ix2 i _) * Ideal.rsqrt (Ideal.div (Ideal.ofBits .f32 0x00000000#32 + ∑ k : Fin 512, A (ix2 i (⟨12288 + k.val, by omega⟩ : Fin 13440)) * A (ix2 i (⟨12288 + k.val, by omega⟩ : Fin 13440))) (Ideal.ofBits .f32 0x44000000#32)
    + Ideal.ofBits .f32 0x358637BD#32) * B (ix2 0 x) = _
  rw [Ideal.ofBits_zero_f32, zero_add]; rfl

/-- The kernel and the reference end with the same array. -/
theorem algebraic : Cert.algebraic_NormQIdeal_NormQRefIdeal (hNormQIdeal := facts) (hNormQRefIdeal := Cert.NormQRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.NormQRefIdeal.defs _ _).mono (fun _ h c => ⟨(h c).1.trans ((Cert.NormQRefIdeal.Read.val_main_v16_eq _ _).trans (by
      rw [(hagree c).1, (hagree c).2]; exact reference_eq _ _)), (h c).2⟩) (Cert.NormQRefIdeal.Value.run (F := Ideal) m' ρ')

/-- The reference runs, keeps its arguments and holds no semaphore. -/
theorem frame_reference : Cert.quiescent_NormQRefIdeal (hNormQRefIdeal := Cert.NormQRefIdeal.Gen.facts) := fun m ρ _ =>
  (θ_run Cert.NormQRefIdeal.defs _ _).mono (fun r h => ⟨fun c => (h c).2, sem_eq_zero_of_no_sems rfl r.2⟩) (Cert.NormQRefIdeal.Value.run (F := Ideal) m ρ)

end Cert.NormQValue
end
-- ==== Proof.NormK.lean ====
module
public import proofs.«01_k».proof.Proof.Gen.NormKIdeal.Value
public import proofs.«01_k».proof.Proof.Gen.NormKRefIdeal.Read
public import proofs.«01_k».proof.Proof.Products
public import proofs.«01_k».proof.Proof.Norms
public import proofs.«01_k».proof.Defs
public import Idealize.ShloMosaic.Adequacy
public import Idealize.ShloMosaic.Init
public import Idealize.ShloMosaic.Lib.Pointwise
@[expose] public section
set_option maxRecDepth 16384
noncomputable section
namespace Cert.NormKValue
open Cert.NormKIdeal Cert.NormKIdeal.Gen Cert.NormKIdeal.Facts Cert.NormKIdeal.Value Cert.Products Cert.Norms
open Idealize.ShloMosaic Idealize.ShloMosaic.TcCoe Idealize.SL.Sem
open scoped BigOperators

/-! The norm of the keys' and values' latents: the array the kernel leaves, and the reference's. -/

/-- The normed rows, an array. -/
def G (A : S8192x13440.Idx → EReal) (B : S1x512.Idx → EReal) : S8192x512.Idx → EReal := fun j =>
  normed (Ideal.ofBits .f32 0x44000000#32) (fun k : Fin 512 => A (ix2 (j 0) (⟨12800 + k.val, by omega⟩ : Fin 13440))) (B (ix2 0 (j 1))) (j 1)

theorem pay_apply (X : Vec Ideal S512x512 .bf16) (g : Vec Ideal S1x512 .f32) (r : Fin 512) (d : Fin 512) :
    k0_pay1 X g (ix2 r d) = normed (Ideal.ofBits .f32 0x44000000#32) (fun k => X (ix2 r k)) (g (ix2 0 d)) d := by
  simp only [k0_pay1, pointwise]
  show X (ix2 r d) * Ideal.rsqrt (Ideal.div (∑ k, X (ix2 r k) * X (ix2 r k)) (Ideal.ofBits .f32 0x44000000#32) + Ideal.ofBits .f32 0x358637BD#32) * g (ix2 0 d) = _
  rfl

variable (m : (ℓ : Loc nD τ sig) → Buf (Elt Ideal) ℓ)

theorem idx0 : ∀ t : Fin cfg0.N, win0_0.index t = ![t.val, 25] := (by decide +kernel : ∀ t : Fin grid0.N, win0_0.index t = ![t.val, 25])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem ltN (t : Fin cfg0.N) : t.val < 16 := lt_of_lt_of_eq t.isLt N_0

/-- The row `r` of a point's block. -/
def row (t : Fin cfg0.N) (r : Fin 512) : Fin 8192 := ⟨512 * t.val + r.val, by have := ltN t; omega⟩

variable (c : Dev nD)

theorem x_block (t : Fin cfg0.N) (r : Fin 512) (k : Fin 512) :
    X0_0 (F := Ideal) m c t (ix2 r k) = m ((c : Thread nD τ).loc main_arg0) (ix2 (row t r) (⟨12800 + k.val, by omega⟩ : Fin 13440)) := by
  unfold X0_0 Pipeline.Window.fill
  rw [dif_pos (moved0_0 t (ix2 r k))]
  blk_ext [iblk, V, idx0 t, row]

theorem g_block (t : Fin cfg0.N) (d : Fin 512) : iblk (F := Ideal) m c 1 t (ix2 (0 : Fin 1) d) = m ((c : Thread nD τ).loc main_arg1) (ix2 (0 : Fin 1) d) := by
  blk_ext [iblk, V, idx1 t]

/-- The block a point writes back. -/
theorem out_apply (t : Fin cfg0.N) (r : Fin 512) (d : Fin 512) :
    outsAt0 (F := Ideal) m c t (ix2 r d) = G (m ((c : Thread nD τ).loc main_arg0)) (m ((c : Thread nD τ).loc main_arg1)) (ix2 (row t r) d) := by
  unfold outsAt0; frame_out
  rw [pay_apply, g_block]
  simp only [x_block]; rfl

theorem emb2 (t : Fin cfg0.N) (r : Fin 512) (x : Fin 512) : ((cfg0.win 2).blk t).view.emb (ix2 r x) = ix2 (row t r) x := by
  blk_ext [idx2 t, row]

theorem cover2 (i : S8192x512.Idx) : ∃ t : Fin cfg0.N, (cfg0.win 2).flush t = true ∧ i ∈ ((cfg0.win 2).blk t).view.set := by
  obtain ⟨i, x, rfl⟩ := idx_eta (n := 8192) (k := 512) i
  obtain ⟨t, ht⟩ : ∃ t : Fin cfg0.N, t.val = i.val / 512 := ⟨⟨_, lt_of_lt_of_eq (by omega) N_0.symm⟩, rfl⟩
  refine ⟨t, flush0_2 t, ?_⟩
  have h := ((cfg0.win 2).blk t).view.emb_mem_set (ix2 ⟨i.val % 512, by omega⟩ x)
  rw [emb2] at h
  exact (congrArg (· ∈ ((cfg0.win 2).blk t).view.set) (ix2_eq (by dsimp only [row]; omega) rfl)).mp h

/-- After the run the result is the normed rows. -/
theorem final2 : (dats m 0 c).arrAt 2 cfg0.N = G (m ((c : Thread nD τ).loc main_arg0)) (m ((c : Thread nD τ).loc main_arg1)) :=
  (dats m 0 c).arrAt_eq_of_cover 2 _ (fun t _ => by
    rw [flushed2]; funext y
    show outsAt0 (F := Ideal) m c t y = G _ _ (((cfg0.win 2).blk t).view.emb y)
    obtain ⟨r, x, rfl⟩ := idx_eta (n := 512) (k := 512) y
    rw [emb2]
    exact out_apply m c t r x) cover2

open Cert.NormKRefIdeal.Read in
/-- The reference's result is the normed rows. -/
theorem reference_eq (A : S8192x13440.Idx → EReal) (B : S1x512.Idx → EReal) : val_main_v16 (F := Ideal) A B = G A B := by
  funext j
  obtain ⟨i, x, rfl⟩ := idx_eta (n := 8192) (k := 512) j
  have e0 (k : Fin 512) : val_main_v1 (F := Ideal) A (ix2 i k) = A (ix2 i (⟨12800 + k.val, by omega⟩ : Fin 13440)) := by
    rw [val_main_v1_apply, val_main_v0_apply]
    exact congrArg A (funext fun a => match a with
      | ⟨0, _⟩ => rfl
      | ⟨1, _⟩ => rfl)
  rw [val_main_v16_apply, val_main_v15_apply, val_main_v12_apply, val_main_v11_apply, val_main_v10_apply, val_main_v9_apply, val_main_v7_apply, val_main_v5_apply, val_main_v4_apply,
    val_main_v6_apply, val_main_v8_apply, val_main_cst_apply, val_main_cst_0_apply, val_main_cst_1_apply, val_main_v14_apply, val_main_v13_apply, val_main_v2_apply]
  simp only [val_main_v3_apply]
  have e1 (k : Fin 512) : (idx_main_v4 (idx_main_v5 (idx_main_v11 (ix2 i x))) k : S8192x512.Idx) = ix2 i k := funext fun a => match a with
    | ⟨0, _⟩ => rfl
    | ⟨1, _⟩ => rfl
  have e2 : (idx_main_v2 (idx_main_v13 (idx_main_v14 (ix2 i x))) : S1x512.Idx) = ix2 0 x := funext fun a => Fin.ext (match a with
    | ⟨0, _⟩ => rfl
    | ⟨1, _⟩ => Nat.mod_eq_of_lt x.isLt)
  simp only [e1, e2, e0]
  show A (ix2 i _) * Ideal.rsqrt (Ideal.div (Ideal.ofBits .f32 0x00000000#32 + ∑ k : Fin 512, A (ix2 i (⟨12800 + k.val, by omega⟩ : Fin 13440)) * A (ix2 i (⟨12800 + k.val, by omega⟩ : Fin 13440))) (Ideal.ofBits .f32 0x44000000#32)
    + Ideal.ofBits .f32 0x358637BD#32) * B (ix2 0 x) = _
  rw [Ideal.ofBits_zero_f32, zero_add]; rfl

/-- The kernel and the reference end with the same array. -/
theorem algebraic : Cert.algebraic_NormKIdeal_NormKRefIdeal (hNormKIdeal := facts) (hNormKRefIdeal := Cert.NormKRefIdeal.Gen.facts) := by
  intro m ρ m' ρ' _ hagree
  refine ⟨fun c => G (m ((c : Thread nD τ).loc main_arg0)) (m ((c : Thread nD τ).loc main_arg1)), ?_, ?_⟩
  · exact (θ_run defs _ _).mono (fun _ h c => ⟨(h c).1.trans (final2 m c), (h c).2⟩) (run_blocks (F := Ideal) m ρ)
  · exact (θ_run Cert.NormKRefIdeal.defs _ _).mono (fun _ h c => ⟨(h c).1.trans ((Cert.NormKRefIdeal.Read.val_main_v16_eq _ _).trans (by
      rw [(hagree c).1, (hagree c).2]; exact reference_eq _ _)), (h c).2⟩) (Cert.NormKRefIdeal.Value.run (F := Ideal) m' ρ')

/-- The reference runs, keeps its arguments and holds no semaphore. -/
theorem frame_reference : Cert.quiescent_NormKRefIdeal (hNormKRefIdeal := Cert.NormKRefIdeal.Gen.facts) := fun m ρ _ =>
  (θ_run Cert.NormKRefIdeal.defs _ _).mono (fun r h => ⟨fun c => (h c).2, sem_eq_zero_of_no_sems rfl r.2⟩) (Cert.NormKRefIdeal.Value.run (F := Ideal) m ρ)

end Cert.NormKValue
end
-- ==== Proof.MemBlock.lean ====
module
public import proofs.«01_k».proof.Proof.Gen.KernelIdeal.Skeleton
public import proofs.«01_k».proof.Proof.RealTools
public import Idealize.ShloMosaic.Lib.Pipeline.ValueKit
public import Idealize.ShloMosaic.Lib.Pointwise
@[expose] public section
set_option maxRecDepth 16384
noncomputable section
namespace Cert.MemBlock
open Cert.KernelIdeal Cert.KernelIdeal.Gen Cert.KernelIdeal.Facts Cert.RealTools
open Idealize.ShloMosaic
open scoped BigOperators

/-! ## The gradient of the memory attention at one row, over the real numbers

For one query row and one head: `q` the query, `z` the gate, `y` the output's gradient, each over the head's 512
columns; `k`, `v` the memory keys and values. -/

/-- The scaled scores of the row. -/
def scR (q : Fin 512 → ℝ) (k : Fin 256 → Fin 512 → ℝ) (c : Fin 256) : ℝ := (∑ d, q d * k c d) * wgtR
/-- The row's attention weights. -/
def prR (q : Fin 512 → ℝ) (k : Fin 256 → Fin 512 → ℝ) (c : Fin 256) : ℝ := softR (scR q k) c
/-- The gradient of the attention's output, through the gate. -/
def doR (z y : Fin 512 → ℝ) (d : Fin 512) : ℝ := y d * (z d * sgR (z d))
/-- The gradient of the attention weights. -/
def dpR (z y : Fin 512 → ℝ) (v : Fin 256 → Fin 512 → ℝ) (c : Fin 256) : ℝ := ∑ d, doR z y d * v c d
/-- The gradient of the scores, with the scale. -/
def dsR (q z y : Fin 512 → ℝ) (k v : Fin 256 → Fin 512 → ℝ) (c : Fin 256) : ℝ :=
  prR q k c * (dpR z y v c - ∑ c', dpR z y v c' * prR q k c') * wgtR
/-- The gradient of the query. -/
def dqR (q z y : Fin 512 → ℝ) (k v : Fin 256 → Fin 512 → ℝ) (d : Fin 512) : ℝ := ∑ c, dsR q z y k v c * k c d
/-- The gradient of the gate. -/
def dzR (q z y : Fin 512 → ℝ) (k v : Fin 256 → Fin 512 → ℝ) (d : Fin 512) : ℝ :=
  y d * (∑ c, prR q k c * v c d) * (sgR (z d) * (1 + z d * (1 - sgR (z d))))

/-! ## The kernel's stored values -/

/-- A head's attention weights from its query and key tiles. -/
theorem weights_apply (Q : Vec Ideal S512x512 .bf16) (K : Vec Ideal S256x512 .bf16) (q : Fin 512 → Fin 512 → ℝ)
    (k : Fin 256 → Fin 512 → ℝ) (hQ : ∀ r d, Q (ix2 r d) = ((q r d : ℝ) : EReal)) (hK : ∀ r d, K (ix2 r d) = ((k r d : ℝ) : EReal))
    (r : Fin 512) (c : Fin 256) : k0_pay9 (F := Ideal) Q K (ix2 r c) = ((prR (q r) k c : ℝ) : EReal) := by
  have hs : (fun c => (0 + ∑ d, Q (ix2 r d) * K (ix2 c d)) * Ideal.ofBits .f32 0x3D3504F3#32)
      = fun c => ((scR (q r) k c : ℝ) : EReal) := funext fun c => by
    simp only [hQ, hK, wgt_coe, ← EReal.coe_mul, coe_sum, zero_add]; rfl
  simp only [k0_pay9, pointwise]
  show softE (fun c => (0 + ∑ d, Q (ix2 r d) * K (ix2 c d)) * Ideal.ofBits .f32 0x3D3504F3#32) c = _
  rw [hs, softE_coe (by norm_num)]; rfl

/-- The logistic function of the gate. -/
theorem logistic_apply (Z : Vec Ideal S512x2048 .bf16) (z : Fin 512 → Fin 2048 → ℝ)
    (hZ : ∀ r d, Z (ix2 r d) = ((z r d : ℝ) : EReal)) (r : Fin 512) (d : Fin 2048) :
    k0_pay5 (F := Ideal) Z (ix2 r d) = ((sgR (z r d) : ℝ) : EReal) := by
  simp only [k0_pay5, k0_pay4, pointwise]
  show Ideal.div 1 (1 + Ideal.exp (0 - Z (ix2 r d))) = _
  rw [hZ, zero_sub, ← EReal.coe_one, ← EReal.coe_neg, Ideal.exp_coe, ← EReal.coe_add, div_coe_coe _ (one_add_exp_ne _)]; rfl

/-- The gate's factor. -/
theorem gate_apply (Z : Vec Ideal S512x2048 .bf16) (z : Fin 512 → Fin 2048 → ℝ)
    (hZ : ∀ r d, Z (ix2 r d) = ((z r d : ℝ) : EReal)) (r : Fin 512) (d : Fin 2048) :
    k0_pay6 (F := Ideal) Z (ix2 r d) = ((z r d * sgR (z r d) : ℝ) : EReal) := by
  show Z (ix2 r d) * k0_pay5 (F := Ideal) Z (ix2 r d) = _
  rw [logistic_apply Z z hZ, hZ, EReal.coe_mul]

/-- The gate's slope. -/
theorem slope_apply (Z : Vec Ideal S512x2048 .bf16) (z : Fin 512 → Fin 2048 → ℝ)
    (hZ : ∀ r d, Z (ix2 r d) = ((z r d : ℝ) : EReal)) (r : Fin 512) (d : Fin 2048) :
    k0_pay7 (F := Ideal) Z (ix2 r d) = ((sgR (z r d) * (1 + z r d * (1 - sgR (z r d))) : ℝ) : EReal) := by
  show k0_pay5 (F := Ideal) Z (ix2 r d) * (Ideal.ofBits .f32 0x3F800000#32 + Z (ix2 r d) * (Ideal.ofBits .f32 0x3F800000#32 - k0_pay5 (F := Ideal) Z (ix2 r d))) = _
  rw [logistic_apply Z z hZ, hZ, ofBits_one]
  simp only [← EReal.coe_sub, ← EReal.coe_mul, ← EReal.coe_add]

/-- Column `d` of the head whose columns begin at `o`. -/
def col (o : ℕ) (ho : o + 512 ≤ 2048) (d : Fin 512) : Fin 2048 := ⟨o + d.val, by omega⟩

/-- A head's gradient of the attention's output, from the gate's factor and the output's gradient. -/
def tDo (o : ℕ) (hs : S512x2048.Slices ![0, o] S512x512) (sz dy : FVec Ideal S512x2048 .f32) : FVec Ideal S512x512 .bf16 :=
  truncf .bf16 (mulf (extractStridedSlice S512x512 ![0, o] dy hs) (extractStridedSlice S512x512 ![0, o] sz hs)) bitsLt_bf16_f32

/-- A head's gradient of the gate. -/
def tDz (o : ℕ) (hs : S512x2048.Slices ![0, o] S512x512) (dsz dy : FVec Ideal S512x2048 .f32)
    (p : FVec Ideal S512x256 .bf16) (v : Vec Ideal S256x512 .bf16) : FVec Ideal S512x512 .bf16 :=
  truncf .bf16 (mulf (mulf (extractStridedSlice S512x512 ![0, o] dy hs)
      (matmul (φ₂ := .bf16) dot_S512x256_S256x512_S512x512_1_0_0_1_n_n none p v (constant S512x512 .f32 0x00000000#32)))
    (extractStridedSlice S512x512 ![0, o] dsz hs)) bitsLt_bf16_f32

/-- A head's gradient of the scores, from that of the attention's output, the weights and the values. -/
def tDs (g : FVec Ideal S512x512 .bf16) (p : FVec Ideal S512x256 .f32) (v : Vec Ideal S256x512 .bf16) : FVec Ideal S512x256 .bf16 :=
  have v48 : FVec Ideal S512x256 .f32 := matmul (φ₂ := .bf16) dot_S512x512_S256x512_S512x256_1_1_0_0_n_n none g v (constant S512x256 .f32 0x00000000#32)
  truncf .bf16 (mulf (mulf p (subf v48 (broadcastTo S512x256 (shapeCast S512x1
    (multiReduction .add [1] S512 (mulf v48 p) 0x00000000#32 reduces_S512x256_S512 (.inl rfl) rfl) shapeCasts_S512_S512x1) broadcasts_S512x1_S512x256)))
    (broadcast S512x256 (Scalar.ofBits .f32 0x3D3504F3#32))) bitsLt_bf16_f32

section
variable (q z y : Fin 512 → Fin 512 → ℝ) (k v : Fin 256 → Fin 512 → ℝ)

theorem tDo_apply (o : ℕ) (hs) (SZ DY : FVec Ideal S512x2048 .f32) (ho : o + 512 ≤ 2048)
    (hSZ : ∀ r d, SZ (ix2 r (col o ho d)) = ((z r d * sgR (z r d) : ℝ) : EReal)) (hDY : ∀ r d, DY (ix2 r (col o ho d)) = ((y r d : ℝ) : EReal))
    (r d : Fin 512) : tDo o hs SZ DY (ix2 r d) = ((doR (z r) (y r) d : ℝ) : EReal) := by
  simp only [tDo, pointwise]
  have e : (ix2 ⟨![0, o] 0 + r.val, by simp⟩ ⟨![0, o] 1 + d.val, by simp; omega⟩ : (⟨2, ![512, 2048]⟩ : Shape).Idx) = ix2 r (col o ho d) := by
    congr 1 <;> exact Fin.ext (by simp [col])
  show DY (ix2 _ _) * SZ (ix2 _ _) = _
  rw [e, hSZ, hDY, ← EReal.coe_mul]; rfl

theorem tDs_apply (D : FVec Ideal S512x512 .bf16) (P : FVec Ideal S512x256 .f32) (V : Vec Ideal S256x512 .bf16)
    (hD : ∀ r d, D (ix2 r d) = ((doR (z r) (y r) d : ℝ) : EReal)) (hP : ∀ r c, P (ix2 r c) = ((prR (q r) k c : ℝ) : EReal))
    (hV : ∀ r d, V (ix2 r d) = ((v r d : ℝ) : EReal)) (r : Fin 512) (c : Fin 256) :
    tDs D P V (ix2 r c) = ((dsR (q r) (z r) (y r) k v c : ℝ) : EReal) := by
  simp only [tDs, pointwise]
  show P (ix2 r c) * ((0 + ∑ d, D (ix2 r d) * V (ix2 c d)) - ∑ c', (0 + ∑ d, D (ix2 r d) * V (ix2 c' d)) * P (ix2 r c')) * Ideal.ofBits .f32 0x3D3504F3#32 = _
  simp only [hD, hP, hV, wgt_coe, zero_add, ← EReal.coe_mul, coe_sum, ← EReal.coe_sub]; rfl

theorem tDz_apply (o : ℕ) (hs) (DSZ DY : FVec Ideal S512x2048 .f32) (P : FVec Ideal S512x256 .bf16) (V : Vec Ideal S256x512 .bf16)
    (ho : o + 512 ≤ 2048)
    (hDSZ : ∀ r d, DSZ (ix2 r (col o ho d)) = ((sgR (z r d) * (1 + z r d * (1 - sgR (z r d))) : ℝ) : EReal))
    (hDY : ∀ r d, DY (ix2 r (col o ho d)) = ((y r d : ℝ) : EReal))
    (hP : ∀ r c, P (ix2 r c) = ((prR (q r) k c : ℝ) : EReal)) (hV : ∀ r d, V (ix2 r d) = ((v r d : ℝ) : EReal))
    (r d : Fin 512) : tDz o hs DSZ DY P V (ix2 r d) = ((dzR (q r) (z r) (y r) k v d : ℝ) : EReal) := by
  simp only [tDz, pointwise]
  have e : (ix2 ⟨![0, o] 0 + r.val, by simp⟩ ⟨![0, o] 1 + d.val, by simp; omega⟩ : (⟨2, ![512, 2048]⟩ : Shape).Idx) = ix2 r (col o ho d) := by
    congr 1 <;> exact Fin.ext (by simp [col])
  show DY (ix2 _ _) * (0 + ∑ c, P (ix2 r c) * V (ix2 c d)) * DSZ (ix2 _ _) = _
  rw [e, hDSZ, hDY]
  simp only [hP, hV, zero_add, ← EReal.coe_mul, coe_sum]; rfl

theorem tDq_apply (D : FVec Ideal S512x256 .bf16) (K : Vec Ideal S256x512 .bf16)
    (hD : ∀ r c, D (ix2 r c) = ((dsR (q r) (z r) (y r) k v c : ℝ) : EReal)) (hK : ∀ r d, K (ix2 r d) = ((k r d : ℝ) : EReal))
    (r d : Fin 512) : k0_pay24 (F := Ideal) D K (ix2 r d) = ((dqR (q r) (z r) (y r) k v d : ℝ) : EReal) := by
  simp only [k0_pay24, pointwise]
  show 0 + ∑ c, D (ix2 r c) * K (ix2 c d) = _
  simp only [hD, hK, zero_add, ← EReal.coe_mul, coe_sum]; rfl

theorem tDk_apply (D : FVec Ideal S512x256 .bf16) (Q : Vec Ideal S512x512 .bf16) (A : Vec Ideal S256x512 .f32)
    (hD : ∀ r c, D (ix2 r c) = ((dsR (q r) (z r) (y r) k v c : ℝ) : EReal)) (hQ : ∀ r d, Q (ix2 r d) = ((q r d : ℝ) : EReal))
    (c : Fin 256) (d : Fin 512) : k0_pay25 (F := Ideal) Q D A (ix2 c d)
      = A (ix2 c d) + ((∑ r, dsR (q r) (z r) (y r) k v c * q r d : ℝ) : EReal) := by
  simp only [k0_pay25, pointwise]
  show A (ix2 c d) + (0 + ∑ r, D (ix2 r c) * Q (ix2 r d)) = _
  simp only [hD, hQ, zero_add, ← EReal.coe_mul, coe_sum]

theorem tDv_apply (P : FVec Ideal S512x256 .bf16) (D : FVec Ideal S512x512 .bf16) (A : Vec Ideal S256x512 .f32)
    (hP : ∀ r c, P (ix2 r c) = ((prR (q r) k c : ℝ) : EReal)) (hD : ∀ r d, D (ix2 r d) = ((doR (z r) (y r) d : ℝ) : EReal))
    (c : Fin 256) (d : Fin 512) : k0_pay26 (F := Ideal) P D A (ix2 c d)
      = A (ix2 c d) + ((∑ r, prR (q r) k c * doR (z r) (y r) d : ℝ) : EReal) := by
  simp only [k0_pay26, pointwise]
  show A (ix2 c d) + (0 + ∑ r, P (ix2 r c) * D (ix2 r d)) = _
  simp only [hP, hD, zero_add, ← EReal.coe_mul, coe_sum]

end

end Cert.MemBlock
-- ==== Proof.MemTiles.lean ====
module
public import proofs.«01_k».proof.Proof.Gen.KernelIdeal.Value
public import proofs.«01_k».proof.Proof.MemBlock
public import proofs.«01_k».proof.Proof.ColTiles
@[expose] public section
set_option maxRecDepth 16384
noncomputable section
namespace Cert.MemTiles
open Cert.KernelIdeal Cert.KernelIdeal.Gen Cert.KernelIdeal.Facts Cert.RealTools Cert.MemBlock
open Idealize.ShloMosaic Idealize.ShloMosaic.TcCoe Idealize.SL.Sem
open scoped BigOperators

/-! ## The arguments as real matrices, cut into heads -/

section Spec
variable (a0 : Fin 8192 → Fin 13440 → ℝ) (a1 : Fin 256 → Fin 4096 → ℝ) (a2 : Fin 8192 → Fin 2048 → ℝ)
/-- Head `h` of the query of row `i`. -/
def Qm (i : Fin 8192) (h : Fin 4) (d : Fin 512) : ℝ := a0 i ⟨8192 + (512 * h.val + d.val), by omega⟩
/-- Head `h` of the gate of row `i`. -/
def Zm (i : Fin 8192) (h : Fin 4) (d : Fin 512) : ℝ := a0 i ⟨10240 + (512 * h.val + d.val), by omega⟩
/-- Head `h` of the output's gradient of row `i`. -/
def Ym (i : Fin 8192) (h : Fin 4) (d : Fin 512) : ℝ := a2 i ⟨512 * h.val + d.val, by omega⟩
/-- Head `h` of the memory keys. -/
def Km (h : Fin 4) (c : Fin 256) (d : Fin 512) : ℝ := a1 c ⟨512 * h.val + d.val, by omega⟩
/-- Head `h` of the memory values. -/
def Vm (h : Fin 4) (c : Fin 256) (d : Fin 512) : ℝ := a1 c ⟨2048 + (512 * h.val + d.val), by omega⟩
/-- The query's gradient at row `i`, head `h`, column `d`. -/
def gQ (i : Fin 8192) (h : Fin 4) (d : Fin 512) : ℝ := dqR (Qm a0 i h) (Zm a0 i h) (Ym a2 i h) (Km a1 h) (Vm a1 h) d
/-- The gate's gradient there. -/
def gZ (i : Fin 8192) (h : Fin 4) (d : Fin 512) : ℝ := dzR (Qm a0 i h) (Zm a0 i h) (Ym a2 i h) (Km a1 h) (Vm a1 h) d
/-- What row `i` adds to the gradient of the keys. -/
def gK (i : Fin 8192) (h : Fin 4) (c : Fin 256) (d : Fin 512) : ℝ :=
  dsR (Qm a0 i h) (Zm a0 i h) (Ym a2 i h) (Km a1 h) (Vm a1 h) c * Qm a0 i h d
/-- What row `i` adds to the gradient of the values. -/
def gV (i : Fin 8192) (h : Fin 4) (c : Fin 256) (d : Fin 512) : ℝ := prR (Qm a0 i h) (Km a1 h) c * doR (Zm a0 i h) (Ym a2 i h) d
/-- The arrays' elements are these real numbers. -/
def Reals (A0 : (⟨2, ![8192, 13440]⟩ : Shape).Idx → EReal) (A1 : (⟨2, ![256, 4096]⟩ : Shape).Idx → EReal)
    (A2 : (⟨2, ![8192, 2048]⟩ : Shape).Idx → EReal) : Prop :=
  (∀ i x, A0 (ix2 i x) = ((a0 i x : ℝ) : EReal)) ∧ (∀ i x, A1 (ix2 i x) = ((a1 i x : ℝ) : EReal)) ∧ ∀ i x, A2 (ix2 i x) = ((a2 i x : ℝ) : EReal)
end Spec

variable (m : (ℓ : Loc nD τ sig) → Buf (Elt Ideal) ℓ)

/-! ## The windows' blocks at a point -/

theorem idx0 : ∀ t : Fin cfg0.N, win0_0.index t = ![t.val, 4] := (by decide +kernel : ∀ t : Fin grid0.N, win0_0.index t = ![t.val, 4])
theorem idx1 : ∀ t : Fin cfg0.N, win0_1.index t = ![t.val, 5] := (by decide +kernel : ∀ t : Fin grid0.N, win0_1.index t = ![t.val, 5])
theorem idx2 : ∀ t : Fin cfg0.N, win0_2.index t = ![0, 0] := (by decide +kernel : ∀ t : Fin grid0.N, win0_2.index t = ![0, 0])
theorem idx3 : ∀ t : Fin cfg0.N, win0_3.index t = ![0, 1] := (by decide +kernel : ∀ t : Fin grid0.N, win0_3.index t = ![0, 1])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])

theorem N16 : cfg0.N = 16 := N_0

/-- Row `r` of the block of point `t`. -/
def row (t : Fin cfg0.N) (r : Fin 512) : Fin 8192 := ⟨512 * t.val + r.val, by have := t.isLt; have := N16; omega⟩

section
variable (a0 : Fin 8192 → Fin 13440 → ℝ) (a1 : Fin 256 → Fin 4096 → ℝ) (a2 : Fin 8192 → Fin 2048 → ℝ) (c : Dev nD)
  (H : Reals a0 a1 a2 (m ((c : Thread nD τ).loc main_arg0)) (m ((c : Thread nD τ).loc main_arg1)) (m ((c : Thread nD τ).loc main_arg2)))
include H

theorem q_block (t : Fin cfg0.N) (r : Fin 512) (x : Fin 2048) :
    X0_0 (F := Ideal) m c t (ix2 r x) = ((a0 (row t r) ⟨8192 + x.val, by omega⟩ : ℝ) : EReal) := by
  rw [← H.1]
  unfold X0_0 Pipeline.Window.fill
  rw [dif_pos (moved0_0 t (ix2 r x))]
  blk_ext [iblk, V, idx0 t, row]

theorem z_block (t : Fin cfg0.N) (r : Fin 512) (x : Fin 2048) :
    X0_1 (F := Ideal) m c t (ix2 r x) = ((a0 (row t r) ⟨10240 + x.val, by omega⟩ : ℝ) : EReal) := by
  rw [← H.1]
  unfold X0_1 Pipeline.Window.fill
  rw [dif_pos (moved0_1 t (ix2 r x))]
  blk_ext [iblk, V, idx1 t, row]

theorem k_block (t : Fin cfg0.N) (r : Fin 256) (x : Fin 2048) :
    iblk (F := Ideal) m c 2 t (ix2 r x) = ((a1 r ⟨x.val, by omega⟩ : ℝ) : EReal) := by
  rw [← H.2.1]
  blk_ext [iblk, V, idx2 t, row]

theorem v_block (t : Fin cfg0.N) (r : Fin 256) (x : Fin 2048) :
    iblk (F := Ideal) m c 3 t (ix2 r x) = ((a1 r ⟨2048 + x.val, by omega⟩ : ℝ) : EReal) := by
  rw [← H.2.1]
  blk_ext [iblk, V, idx3 t, row]

theorem y_block (t : Fin cfg0.N) (r : Fin 512) (x : Fin 2048) :
    iblk (F := Ideal) m c 4 t (ix2 r x) = ((a2 (row t r) x : ℝ) : EReal) := by
  rw [← H.2.2]
  blk_ext [iblk, V, idx4 t, row]
end

/-! ## What one head stores, from the blocks of the point -/

section
variable (a0 : Fin 8192 → Fin 13440 → ℝ) (a1 : Fin 256 → Fin 4096 → ℝ) (a2 : Fin 8192 → Fin 2048 → ℝ) (c : Dev nD)
  (H : Reals a0 a1 a2 (m ((c : Thread nD τ).loc main_arg0)) (m ((c : Thread nD τ).loc main_arg1)) (m ((c : Thread nD τ).loc main_arg2)))
  (t : Fin cfg0.N) (h : Fin 4) (o : ℕ) (ho : o = 512 * h.val)

/-- The head's 512 columns lie within the row block. -/
abbrev InQ (o : ℕ) : Prop := ∀ a, (![0, o] : Fin 2 → ℕ) a + (![512, 512] : Fin 2 → ℕ) a ≤ S512x2048.size a
/-- The head's 512 columns lie within the memory block. -/
abbrev InK (o : ℕ) : Prop := ∀ a, (![0, o] : Fin 2 → ℕ) a + (![256, 512] : Fin 2 → ℕ) a ≤ S256x2048.size a

/-- The head's query tile. -/
abbrev qT (i : InQ o) : Vec Ideal S512x512 .bf16 := View.ld (X0_0 (F := Ideal) m c t) (Rect.unit (s := S512x2048) ![0, o] ![512, 512] i)
/-- The head's key tile. -/
abbrev kT (i : InK o) : Vec Ideal S256x512 .bf16 := View.ld (iblk (F := Ideal) m c 2 t) (Rect.unit (s := S256x2048) ![0, o] ![256, 512] i)
/-- The head's value tile. -/
abbrev vT (i : InK o) : Vec Ideal S256x512 .bf16 := View.ld (iblk (F := Ideal) m c 3 t) (Rect.unit (s := S256x2048) ![0, o] ![256, 512] i)

include H ho

theorem qT_apply (i) (r d : Fin 512) : qT m c t o i (ix2 r d) = ((Qm a0 (row t r) h d : ℝ) : EReal) := by
  refine (View.ld_unit_apply_of _ _ _ _ _ (ix2 r ⟨512 * h.val + d.val, by omega⟩) (fun a => ?_)).trans (q_block m a0 a1 a2 c H t r _)
  match a with
  | ⟨0, _⟩ => show r.val = 0 + r.val; omega
  | ⟨1, _⟩ => show 512 * h.val + d.val = o + d.val; omega

theorem kT_apply (i) (r : Fin 256) (d : Fin 512) : kT m c t o i (ix2 r d) = ((Km a1 h r d : ℝ) : EReal) := by
  refine (View.ld_unit_apply_of _ _ _ _ _ (ix2 r ⟨512 * h.val + d.val, by omega⟩) (fun a => ?_)).trans (k_block m a0 a1 a2 c H t r _)
  match a with
  | ⟨0, _⟩ => show r.val = 0 + r.val; omega
  | ⟨1, _⟩ => show 512 * h.val + d.val = o + d.val; omega

theorem vT_apply (i) (r : Fin 256) (d : Fin 512) : vT m c t o i (ix2 r d) = ((Vm a1 h r d : ℝ) : EReal) := by
  refine (View.ld_unit_apply_of _ _ _ _ _ (ix2 r ⟨512 * h.val + d.val, by omega⟩) (fun a => ?_)).trans (v_block m a0 a1 a2 c H t r _)
  match a with
  | ⟨0, _⟩ => show r.val = 0 + r.val; omega
  | ⟨1, _⟩ => show 512 * h.val + d.val = o + d.val; omega

theorem p_apply (i j) (r : Fin 512) (x : Fin 256) : k0_pay9 (F := Ideal) (qT m c t o i) (kT m c t o j) (ix2 r x)
    = ((prR (Qm a0 (row t r) h) (Km a1 h) x : ℝ) : EReal) :=
  weights_apply _ _ (fun r => Qm a0 (row t r) h) _ (qT_apply m a0 a1 a2 c H t h o ho i) (kT_apply m a0 a1 a2 c H t h o ho j) r x

theorem do_apply (hs) (r d : Fin 512) : tDo o hs (k0_pay6 (F := Ideal) (X0_1 m c t)) (k0_pay8 (F := Ideal) (iblk m c 4 t)) (ix2 r d)
    = ((doR (Zm a0 (row t r) h) (Ym a2 (row t r) h) d : ℝ) : EReal) := by
  subst ho
  exact tDo_apply (fun r => Zm a0 (row t r) h) (fun r => Ym a2 (row t r) h) _ hs _ _ (by omega)
    (fun r d => gate_apply _ (fun r x => a0 (row t r) ⟨10240 + x.val, by omega⟩) (z_block m a0 a1 a2 c H t) r _)
    (fun r d => y_block m a0 a1 a2 c H t r _) r d

theorem ds_apply (hs i j l) (r : Fin 512) (x : Fin 256) :
    tDs (tDo o hs (k0_pay6 (F := Ideal) (X0_1 m c t)) (k0_pay8 (F := Ideal) (iblk m c 4 t)))
        (k0_pay9 (F := Ideal) (qT m c t o i) (kT m c t o j)) (vT m c t o l) (ix2 r x)
      = ((dsR (Qm a0 (row t r) h) (Zm a0 (row t r) h) (Ym a2 (row t r) h) (Km a1 h) (Vm a1 h) x : ℝ) : EReal) :=
  tDs_apply (fun r => Qm a0 (row t r) h) (fun r => Zm a0 (row t r) h) (fun r => Ym a2 (row t r) h) _ _ _ _ _
    (do_apply m a0 a1 a2 c H t h o ho hs) (p_apply m a0 a1 a2 c H t h o ho i j) (vT_apply m a0 a1 a2 c H t h o ho l) r x

theorem dq_apply (hs i j l) (r d : Fin 512) :
    k0_pay24 (F := Ideal) (tDs (tDo o hs (k0_pay6 (F := Ideal) (X0_1 m c t)) (k0_pay8 (F := Ideal) (iblk m c 4 t)))
        (k0_pay9 (F := Ideal) (qT m c t o i) (kT m c t o j)) (vT m c t o l)) (kT m c t o j) (ix2 r d)
      = ((gQ a0 a1 a2 (row t r) h d : ℝ) : EReal) :=
  tDq_apply (fun r => Qm a0 (row t r) h) (fun r => Zm a0 (row t r) h) (fun r => Ym a2 (row t r) h) _ _ _ _
    (ds_apply m a0 a1 a2 c H t h o ho hs i j l) (kT_apply m a0 a1 a2 c H t h o ho j) r d

theorem dz_apply (hs i j l) (r d : Fin 512) :
    tDz o hs (k0_pay7 (F := Ideal) (X0_1 m c t)) (k0_pay8 (F := Ideal) (iblk m c 4 t))
        (k0_pay10 (F := Ideal) (qT m c t o i) (kT m c t o j)) (vT m c t o l) (ix2 r d)
      = ((gZ a0 a1 a2 (row t r) h d : ℝ) : EReal) := by
  have hp := p_apply m a0 a1 a2 c H t h o ho i j
  have hv := vT_apply m a0 a1 a2 c H t h o ho l
  subst ho
  exact tDz_apply (fun r => Qm a0 (row t r) h) (fun r => Zm a0 (row t r) h) (fun r => Ym a2 (row t r) h) _ _ _ hs _ _ _ _ (by omega)
    (fun r d => slope_apply _ (fun r x => a0 (row t r) ⟨10240 + x.val, by omega⟩) (z_block m a0 a1 a2 c H t) r _)
    (fun r d => y_block m a0 a1 a2 c H t r _) hp hv r d

theorem dk_apply (hs i j l) (A) (x : Fin 256) (d : Fin 512) :
    k0_pay25 (F := Ideal) (qT m c t o i) (tDs (tDo o hs (k0_pay6 (F := Ideal) (X0_1 m c t)) (k0_pay8 (F := Ideal) (iblk m c 4 t)))
        (k0_pay9 (F := Ideal) (qT m c t o i) (kT m c t o j)) (vT m c t o l)) A (ix2 x d)
      = A (ix2 x d) + ((∑ r, gK a0 a1 a2 (row t r) h x d : ℝ) : EReal) :=
  tDk_apply (fun r => Qm a0 (row t r) h) (fun r => Zm a0 (row t r) h) (fun r => Ym a2 (row t r) h) _ _ _ _ _
    (ds_apply m a0 a1 a2 c H t h o ho hs i j l) (qT_apply m a0 a1 a2 c H t h o ho i) x d

theorem dv_apply (hs i j) (A) (x : Fin 256) (d : Fin 512) :
    k0_pay26 (F := Ideal) (k0_pay10 (F := Ideal) (qT m c t o i) (kT m c t o j))
        (tDo o hs (k0_pay6 (F := Ideal) (X0_1 m c t)) (k0_pay8 (F := Ideal) (iblk m c 4 t))) A (ix2 x d)
      = A (ix2 x d) + ((∑ r, gV a0 a1 a2 (row t r) h x d : ℝ) : EReal) :=
  tDv_apply (fun r => Qm a0 (row t r) h) (fun r => Zm a0 (row t r) h) (fun r => Ym a2 (row t r) h) _ _ _ _
    (p_apply m a0 a1 a2 c H t h o ho i j) (do_apply m a0 a1 a2 c H t h o ho hs) x d
end

end Cert.MemTiles
-- ==== Proof.MemPoint.lean ====
module
public import proofs.«01_k».proof.Proof.MemTiles
@[expose] public section
set_option maxRecDepth 16384
noncomputable section
namespace Cert.MemPoint
open Cert.KernelIdeal Cert.KernelIdeal.Gen Cert.KernelIdeal.Facts Cert.RealTools Cert.MemBlock Cert.MemTiles Cert.ColTiles
open Idealize.ShloMosaic Idealize.ShloMosaic.TcCoe Idealize.SL.Sem
open scoped BigOperators

/-! What a point of the grid leaves in the three output blocks. -/

variable (m : (ℓ : Loc nD τ sig) → Buf (Elt Ideal) ℓ)
variable (a0 : Fin 8192 → Fin 13440 → ℝ) (a1 : Fin 256 → Fin 4096 → ℝ) (a2 : Fin 8192 → Fin 2048 → ℝ) (c : Dev nD)
  (H : Reals a0 a1 a2 (m ((c : Thread nD τ).loc main_arg0)) (m ((c : Thread nD τ).loc main_arg1)) (m ((c : Thread nD τ).loc main_arg2)))
include H

/-- The block of the query's gradient. -/
theorem dq_point (t : Fin cfg0.N) (h : Fin 4) (r d : Fin 512) :
    (outsAt0 (F := Ideal) m c t.val t.isLt).1 (ix2 r ⟨512 * h.val + d.val, by omega⟩) = ((gQ a0 a1 a2 (row t r) h d : ℝ) : EReal) := by
  by_cases hA : t.val % 16 = 0
  · rw [outsAt0_A m c t hA]; frame_out
    match h with
    | ⟨0, _⟩ =>
      refine (canon_miss 1536 _ _ _ _ _ (by dsimp only <;> omega)).trans ?_
      refine (canon_miss 1024 _ _ _ _ _ (by dsimp only <;> omega)).trans ?_
      refine (canon_miss 512 _ _ _ _ _ (by dsimp only <;> omega)).trans ?_
      exact (canon_hit 0 _ _ _ _ d _ (by dsimp only <;> omega)).trans (dq_apply m a0 a1 a2 c H t 0 0 rfl _ _ _ _ r d)
    | ⟨1, _⟩ =>
      refine (canon_miss 1536 _ _ _ _ _ (by dsimp only <;> omega)).trans ?_
      refine (canon_miss 1024 _ _ _ _ _ (by dsimp only <;> omega)).trans ?_
      exact (canon_hit 512 _ _ _ _ d _ (by dsimp only <;> omega)).trans (dq_apply m a0 a1 a2 c H t 1 512 rfl _ _ _ _ r d)
    | ⟨2, _⟩ =>
      refine (canon_miss 1536 _ _ _ _ _ (by dsimp only <;> omega)).trans ?_
      exact (canon_hit 1024 _ _ _ _ d _ (by dsimp only <;> omega)).trans (dq_apply m a0 a1 a2 c H t 2 1024 rfl _ _ _ _ r d)
    | ⟨3, _⟩ =>
      exact (canon_hit 1536 _ _ _ _ d _ (by dsimp only <;> omega)).trans (dq_apply m a0 a1 a2 c H t 3 1536 rfl _ _ _ _ r d)
  · rw [outsAt0_B m c t hA]; frame_out
    match h with
    | ⟨0, _⟩ =>
      refine (canon_miss 1536 _ _ _ _ _ (by dsimp only <;> omega)).trans ?_
      refine (canon_miss 1024 _ _ _ _ _ (by dsimp only <;> omega)).trans ?_
      refine (canon_miss 512 _ _ _ _ _ (by dsimp only <;> omega)).trans ?_
      exact (canon_hit 0 _ _ _ _ d _ (by dsimp only <;> omega)).trans (dq_apply m a0 a1 a2 c H t 0 0 rfl _ _ _ _ r d)
    | ⟨1, _⟩ =>
      refine (canon_miss 1536 _ _ _ _ _ (by dsimp only <;> omega)).trans ?_
      refine (canon_miss 1024 _ _ _ _ _ (by dsimp only <;> omega)).trans ?_
      exact (canon_hit 512 _ _ _ _ d _ (by dsimp only <;> omega)).trans (dq_apply m a0 a1 a2 c H t 1 512 rfl _ _ _ _ r d)
    | ⟨2, _⟩ =>
      refine (canon_miss 1536 _ _ _ _ _ (by dsimp only <;> omega)).trans ?_
      exact (canon_hit 1024 _ _ _ _ d _ (by dsimp only <;> omega)).trans (dq_apply m a0 a1 a2 c H t 2 1024 rfl _ _ _ _ r d)
    | ⟨3, _⟩ =>
      exact (canon_hit 1536 _ _ _ _ d _ (by dsimp only <;> omega)).trans (dq_apply m a0 a1 a2 c H t 3 1536 rfl _ _ _ _ r d)

/-- The block of the gate's gradient. -/
theorem dz_point (t : Fin cfg0.N) (h : Fin 4) (r d : Fin 512) :
    (outsAt0 (F := Ideal) m c t.val t.isLt).2.1 (ix2 r ⟨512 * h.val + d.val, by omega⟩) = ((gZ a0 a1 a2 (row t r) h d : ℝ) : EReal) := by
  by_cases hA : t.val % 16 = 0
  · rw [outsAt0_A m c t hA]; frame_out
    match h with
    | ⟨0, _⟩ =>
      refine (canon_miss 1536 _ _ _ _ _ (by dsimp only <;> omega)).trans ?_
      refine (canon_miss 1024 _ _ _ _ _ (by dsimp only <;> omega)).trans ?_
      refine (canon_miss 512 _ _ _ _ _ (by dsimp only <;> omega)).trans ?_
      exact (canon_hit 0 _ _ _ _ d _ (by dsimp only <;> omega)).trans (dz_apply m a0 a1 a2 c H t 0 0 rfl _ _ _ _ r d)
    | ⟨1, _⟩ =>
      refine (canon_miss 1536 _ _ _ _ _ (by dsimp only <;> omega)).trans ?_
      refine (canon_miss 1024 _ _ _ _ _ (by dsimp only <;> omega)).trans ?_
      exact (canon_hit 512 _ _ _ _ d _ (by dsimp only <;> omega)).trans (dz_apply m a0 a1 a2 c H t 1 512 rfl _ _ _ _ r d)
    | ⟨2, _⟩ =>
      refine (canon_miss 1536 _ _ _ _ _ (by dsimp only <;> omega)).trans ?_
      exact (canon_hit 1024 _ _ _ _ d _ (by dsimp only <;> omega)).trans (dz_apply m a0 a1 a2 c H t 2 1024 rfl _ _ _ _ r d)
    | ⟨3, _⟩ =>
      exact (canon_hit 1536 _ _ _ _ d _ (by dsimp only <;> omega)).trans (dz_apply m a0 a1 a2 c H t 3 1536 rfl _ _ _ _ r d)
  · rw [outsAt0_B m c t hA]; frame_out
    match h with
    | ⟨0, _⟩ =>
      refine (canon_miss 1536 _ _ _ _ _ (by dsimp only <;> omega)).trans ?_
      refine (canon_miss 1024 _ _ _ _ _ (by dsimp only <;> omega)).trans ?_
      refine (canon_miss 512 _ _ _ _ _ (by dsimp only <;> omega)).trans ?_
      exact (canon_hit 0 _ _ _ _ d _ (by dsimp only <;> omega)).trans (dz_apply m a0 a1 a2 c H t 0 0 rfl _ _ _ _ r d)
    | ⟨1, _⟩ =>
      refine (canon_miss 1536 _ _ _ _ _ (by dsimp only <;> omega)).trans ?_
      refine (canon_miss 1024 _ _ _ _ _ (by dsimp only <;> omega)).trans ?_
      exact (canon_hit 512 _ _ _ _ d _ (by dsimp only <;> omega)).trans (dz_apply m a0 a1 a2 c H t 1 512 rfl _ _ _ _ r d)
    | ⟨2, _⟩ =>
      refine (canon_miss 1536 _ _ _ _ _ (by dsimp only <;> omega)).trans ?_
      exact (canon_hit 1024 _ _ _ _ d _ (by dsimp only <;> omega)).trans (dz_apply m a0 a1 a2 c H t 2 1024 rfl _ _ _ _ r d)
    | ⟨3, _⟩ =>
      exact (canon_hit 1536 _ _ _ _ d _ (by dsimp only <;> omega)).trans (dz_apply m a0 a1 a2 c H t 3 1536 rfl _ _ _ _ r d)

omit H in
/-- The accumulator starts from zeros. -/
theorem zero_start (i : S256x4096.Idx) : k0_pay3 (F := Ideal) i = (0 : EReal) := by
  simp only [k0_pay3, pointwise]

omit H in
/-- A load of 512 columns of the accumulator. -/
theorem ld_prev (X : Vec Ideal S256x4096 .f32) (o : ℕ)
    (inb : ∀ a, (![0, o] : Fin 2 → ℕ) a + (![256, 512] : Fin 2 → ℕ) a ≤ S256x4096.size a) (x : Fin 256) (d : Fin 512) (y : Fin 4096)
    (hy : y.val = o + d.val) : View.ld X (Rect.unit (s := S256x4096) ![0, o] ![256, 512] inb) (ix2 x d) = X (ix2 x y) :=
  View.ld_unit_apply_of _ _ _ _ _ _ fun a => match a with
    | ⟨0, _⟩ => (Nat.zero_add x.val).symm
    | ⟨1, _⟩ => hy

/-- The keys' half of the accumulator after the first point. -/
theorem dk_first (t : Fin cfg0.N) (hA : t.val % 16 = 0) (h : Fin 4) (x : Fin 256) (d : Fin 512) :
    (outsAt0 (F := Ideal) m c t.val t.isLt).2.2 (ix2 x ⟨512 * h.val + d.val, by omega⟩)
      = 0 + ((∑ r, gK a0 a1 a2 (row t r) h x d : ℝ) : EReal) := by
  rw [outsAt0_A m c t hA]; frame_out
  match h with
  | ⟨0, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_miss 2560 _ _ _ _ _ (by dsimp only <;> omega)).trans ?_
    refine (canon_miss 512 _ _ _ _ _ (by dsimp only <;> omega)).trans ?_
    refine (canon_miss 2048 _ _ _ _ _ (by dsimp only <;> omega)).trans ?_
    refine (canon_hit 0 _ _ _ _ d _ (by dsimp only <;> omega)).trans (((dk_apply m a0 a1 a2 c H t 0 0 rfl _ _ _ _ _ x d)).trans ?_)
    refine congrArg (· + _) (congrFun (?_ : _ = fun _ => (0 : EReal)) (ix2 x d))
    exact read_const (Val := Elt Ideal) (e := .f32) (R := 256) (C := 4096) _ _ _ _ _ (0 : EReal) _ zero_start
  | ⟨1, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_miss 2560 _ _ _ _ _ (by dsimp only <;> omega)).trans ?_
    refine (canon_hit 512 _ _ _ _ d _ (by dsimp only <;> omega)).trans (((dk_apply m a0 a1 a2 c H t 1 512 rfl _ _ _ _ _ x d)).trans ?_)
    refine congrArg (· + _) (congrFun (?_ : _ = fun _ => (0 : EReal)) (ix2 x d))
    refine (read_miss _ 2048 512 _ (by omega) _ _ _ _).trans ?_
    refine (read_miss _ 0 512 _ (by omega) _ _ _ _).trans ?_
    exact read_const (Val := Elt Ideal) (e := .f32) (R := 256) (C := 4096) _ _ _ _ _ (0 : EReal) _ zero_start
  | ⟨2, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_hit 1024 _ _ _ _ d _ (by dsimp only <;> omega)).trans (((dk_apply m a0 a1 a2 c H t 2 1024 rfl _ _ _ _ _ x d)).trans ?_)
    refine congrArg (· + _) (congrFun (?_ : _ = fun _ => (0 : EReal)) (ix2 x d))
    refine (read_miss _ 2560 1024 _ (by omega) _ _ _ _).trans ?_
    refine (read_miss _ 512 1024 _ (by omega) _ _ _ _).trans ?_
    refine (read_miss _ 2048 1024 _ (by omega) _ _ _ _).trans ?_
    refine (read_miss _ 0 1024 _ (by omega) _ _ _ _).trans ?_
    exact read_const (Val := Elt Ideal) (e := .f32) (R := 256) (C := 4096) _ _ _ _ _ (0 : EReal) _ zero_start
  | ⟨3, _⟩ =>
    refine (canon_miss 3584 _ _ _ _ _ (by dsimp only <;> omega)).trans ?_
    refine (canon_hit 1536 _ _ _ _ d _ (by dsimp only <;> omega)).trans (((dk_apply m a0 a1 a2 c H t 3 1536 rfl _ _ _ _ _ x d)).trans ?_)
    refine congrArg (· + _) (congrFun (?_ : _ = fun _ => (0 : EReal)) (ix2 x d))
    refine (read_miss _ 3072 1536 _ (by omega) _ _ _ _).trans ?_
    refine (read_miss _ 1024 1536 _ (by omega) _ _ _ _).trans ?_
    refine (read_miss _ 2560 1536 _ (by omega) _ _ _ _).trans ?_
    refine (read_miss _ 512 1536 _ (by omega) _ _ _ _).trans ?_
    refine (read_miss _ 2048 1536 _ (by omega) _ _ _ _).trans ?_
    refine (read_miss _ 0 1536 _ (by omega) _ _ _ _).trans ?_
    exact read_const (Val := Elt Ideal) (e := .f32) (R := 256) (C := 4096) _ _ _ _ _ (0 : EReal) _ zero_start

/-- The keys' half after a later point. -/
theorem dk_next (t : Fin cfg0.N) (hB : ¬t.val % 16 = 0) (h : Fin 4) (x : Fin 256) (d : Fin 512) :
    (outsAt0 (F := Ideal) m c t.val t.isLt).2.2 (ix2 x ⟨512 * h.val + d.val, by omega⟩)
      = (outsAt0 (F := Ideal) m c (t.val - 1) (Nat.lt_of_le_of_lt (Nat.sub_le _ _) t.isLt)).2.2 (ix2 x ⟨512 * h.val + d.val, by omega⟩)
        + ((∑ r, gK a0 a1 a2 (row t r) h x d : ℝ) : EReal) := by
  rw [outsAt0_B m c t hB]; frame_out
  match h with
  | ⟨0, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_miss 2560 _ _ _ _ _ (by dsimp only <;> omega)).trans ?_
    refine (canon_miss 512 _ _ _ _ _ (by dsimp only <;> omega)).trans ?_
    refine (canon_miss 2048 _ _ _ _ _ (by dsimp only <;> omega)).trans ?_
    refine (canon_hit 0 _ _ _ _ d _ (by dsimp only <;> omega)).trans (((dk_apply m a0 a1 a2 c H t 0 0 rfl _ _ _ _ _ x d)).trans ?_)
    exact congrArg (· + _) (ld_prev _ 0 _ x d _ (by dsimp only <;> omega))
  | ⟨1, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_miss 2560 _ _ _ _ _ (by dsimp only <;> omega)).trans ?_
    refine (canon_hit 512 _ _ _ _ d _ (by dsimp only <;> omega)).trans (((dk_apply m a0 a1 a2 c H t 1 512 rfl _ _ _ _ _ x d)).trans ?_)
    exact congrArg (· + _) (ld_prev _ 512 _ x d _ (by dsimp only <;> omega))
  | ⟨2, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_hit 1024 _ _ _ _ d _ (by dsimp only <;> omega)).trans (((dk_apply m a0 a1 a2 c H t 2 1024 rfl _ _ _ _ _ x d)).trans ?_)
    exact congrArg (· + _) (ld_prev _ 1024 _ x d _ (by dsimp only <;> omega))
  | ⟨3, _⟩ =>
    refine (canon_miss 3584 _ _ _ _ _ (by dsimp only <;> omega)).trans ?_
    refine (canon_hit 1536 _ _ _ _ d _ (by dsimp only <;> omega)).trans (((dk_apply m a0 a1 a2 c H t 3 1536 rfl _ _ _ _ _ x d)).trans ?_)
    exact congrArg (· + _) (ld_prev _ 1536 _ x d _ (by dsimp only <;> omega))

/-- The values' half of the accumulator after the first point. -/
theorem dv_first (t : Fin cfg0.N) (hA : t.val % 16 = 0) (h : Fin 4) (x : Fin 256) (d : Fin 512) :
    (outsAt0 (F := Ideal) m c t.val t.isLt).2.2 (ix2 x ⟨2048 + (512 * h.val + d.val), by omega⟩)
      = 0 + ((∑ r, gV a0 a1 a2 (row t r) h x d : ℝ) : EReal) := by
  rw [outsAt0_A m c t hA]; frame_out
  match h with
  | ⟨0, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_miss 2560 _ _ _ _ _ (by dsimp only <;> omega)).trans ?_
    refine (canon_miss 512 _ _ _ _ _ (by dsimp only <;> omega)).trans ?_
    refine (canon_hit 2048 _ _ _ _ d _ (by dsimp only <;> omega)).trans (((dv_apply m a0 a1 a2 c H t 0 0 rfl _ _ _ _ x d)).trans ?_)
    refine congrArg (· + _) (congrFun (?_ : _ = fun _ => (0 : EReal)) (ix2 x d))
    refine (read_miss _ 0 2048 _ (by omega) _ _ _ _).trans ?_
    exact read_const (Val := Elt Ideal) (e := .f32) (R := 256) (C := 4096) _ _ _ _ _ (0 : EReal) _ zero_start
  | ⟨1, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_hit 2560 _ _ _ _ d _ (by dsimp only <;> omega)).trans (((dv_apply m a0 a1 a2 c H t 1 512 rfl _ _ _ _ x d)).trans ?_)
    refine congrArg (· + _) (congrFun (?_ : _ = fun _ => (0 : EReal)) (ix2 x d))
    refine (read_miss _ 512 2560 _ (by omega) _ _ _ _).trans ?_
    refine (read_miss _ 2048 2560 _ (by omega) _ _ _ _).trans ?_
    refine (read_miss _ 0 2560 _ (by omega) _ _ _ _).trans ?_
    exact read_const (Val := Elt Ideal) (e := .f32) (R := 256) (C := 4096) _ _ _ _ _ (0 : EReal) _ zero_start
  | ⟨2, _⟩ =>
    refine (canon_miss 3584 _ _ _ _ _ (by dsimp only <;> omega)).trans ?_
    refine (canon_miss 1536 _ _ _ _ _ (by dsimp only <;> omega)).trans ?_
    refine (canon_hit 3072 _ _ _ _ d _ (by dsimp only <;> omega)).trans (((dv_apply m a0 a1 a2 c H t 2 1024 rfl _ _ _ _ x d)).trans ?_)
    refine congrArg (· + _) (congrFun (?_ : _ = fun _ => (0 : EReal)) (ix2 x d))
    refine (read_miss _ 1024 3072 _ (by omega) _ _ _ _).trans ?_
    refine (read_miss _ 2560 3072 _ (by omega) _ _ _ _).trans ?_
    refine (read_miss _ 512 3072 _ (by omega) _ _ _ _).trans ?_
    refine (read_miss _ 2048 3072 _ (by omega) _ _ _ _).trans ?_
    refine (read_miss _ 0 3072 _ (by omega) _ _ _ _).trans ?_
    exact read_const (Val := Elt Ideal) (e := .f32) (R := 256) (C := 4096) _ _ _ _ _ (0 : EReal) _ zero_start
  | ⟨3, _⟩ =>
    refine (canon_hit 3584 _ _ _ _ d _ (by dsimp only <;> omega)).trans (((dv_apply m a0 a1 a2 c H t 3 1536 rfl _ _ _ _ x d)).trans ?_)
    refine congrArg (· + _) (congrFun (?_ : _ = fun _ => (0 : EReal)) (ix2 x d))
    refine (read_miss _ 1536 3584 _ (by omega) _ _ _ _).trans ?_
    refine (read_miss _ 3072 3584 _ (by omega) _ _ _ _).trans ?_
    refine (read_miss _ 1024 3584 _ (by omega) _ _ _ _).trans ?_
    refine (read_miss _ 2560 3584 _ (by omega) _ _ _ _).trans ?_
    refine (read_miss _ 512 3584 _ (by omega) _ _ _ _).trans ?_
    refine (read_miss _ 2048 3584 _ (by omega) _ _ _ _).trans ?_
    refine (read_miss _ 0 3584 _ (by omega) _ _ _ _).trans ?_
    exact read_const (Val := Elt Ideal) (e := .f32) (R := 256) (C := 4096) _ _ _ _ _ (0 : EReal) _ zero_start

/-- The values' half after a later point. -/
theorem dv_next (t : Fin cfg0.N) (hB : ¬t.val % 16 = 0) (h : Fin 4) (x : Fin 256) (d : Fin 512) :
    (outsAt0 (F := Ideal) m c t.val t.isLt).2.2 (ix2 x ⟨2048 + (512 * h.val + d.val), by omega⟩)
      = (outsAt0 (F := Ideal) m c (t.val - 1) (Nat.lt_of_le_of_lt (Nat.sub_le _ _) t.isLt)).2.2 (ix2 x ⟨2048 + (512 * h.val + d.val), by omega⟩)
        + ((∑ r, gV a0 a1 a2 (row t r) h x d : ℝ) : EReal) := by
  rw [outsAt0_B m c t hB]; frame_out
  match h with
  | ⟨0, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_miss 2560 _ _ _ _ _ (by dsimp only <;> omega)).trans ?_
    refine (canon_miss 512 _ _ _ _ _ (by dsimp only <;> omega)).trans ?_
    refine (canon_hit 2048 _ _ _ _ d _ (by dsimp only <;> omega)).trans (((dv_apply m a0 a1 a2 c H t 0 0 rfl _ _ _ _ x d)).trans ?_)
    exact congrArg (· + _) (ld_prev _ 2048 _ x d _ (by dsimp only <;> omega))
  | ⟨1, _⟩ =>
    refine (canon_miss 3584 _ _ _ _ _ (by dsimp only <;> omega)).trans ?_
    refine (canon_miss 1536 _ _ _ _ _ (by dsimp only <;> omega)).trans ?_
    refine (canon_miss 3072 _ _ _ _ _ (by dsimp only <;> omega)).trans ?_
    refine (canon_miss 1024 _ _ _ _ _ (by dsimp only <;> omega)).trans ?_
    refine (canon_hit 2560 _ _ _ _ d _ (by dsimp only <;> omega)).trans (((dv_apply m a0 a1 a2 c H t 1 512 rfl _ _ _ _ x d)).trans ?_)
    exact congrArg (· + _) (ld_prev _ 2560 _ x d _ (by dsimp only <;> omega))
  | ⟨2, _⟩ =>
    refine (canon_miss 3584 _ _ _ _ _ (by dsimp only <;> omega)).trans ?_
    refine (canon_miss 1536 _ _ _ _ _ (by dsimp only <;> omega)).trans ?_
    refine (canon_hit 3072 _ _ _ _ d _ (by dsimp only <;> omega)).trans (((dv_apply m a0 a1 a2 c H t 2 1024 rfl _ _ _ _ x d)).trans ?_)
    exact congrArg (· + _) (ld_prev _ 3072 _ x d _ (by dsimp only <;> omega))
  | ⟨3, _⟩ =>
    refine (canon_hit 3584 _ _ _ _ d _ (by dsimp only <;> omega)).trans (((dv_apply m a0 a1 a2 c H t 3 1536 rfl _ _ _ _ x d)).trans ?_)
    exact congrArg (· + _) (ld_prev _ 3584 _ x d _ (by dsimp only <;> omega))

end Cert.MemPoint
-- ==== Proof.MemArrays.lean ====
module
public import proofs.«01_k».proof.Proof.MemPoint
@[expose] public section
set_option maxRecDepth 16384
noncomputable section
namespace Cert.MemArrays
open Cert.KernelIdeal Cert.KernelIdeal.Gen Cert.KernelIdeal.Facts Cert.KernelIdeal.Value Cert.RealTools Cert.MemBlock Cert.MemTiles Cert.MemPoint
open Idealize.ShloMosaic Idealize.ShloMosaic.TcCoe Idealize.SL.Sem
open scoped BigOperators

/-! The three arrays the run ends with. -/

/-- The head of a column. -/
def hd (x : Fin 2048) : Fin 4 := ⟨x.val / 512, by omega⟩
/-- The column within the head. -/
def dm (x : Fin 2048) : Fin 512 := ⟨x.val % 512, by omega⟩

section Spec
variable (a0 : Fin 8192 → Fin 13440 → ℝ) (a1 : Fin 256 → Fin 4096 → ℝ) (a2 : Fin 8192 → Fin 2048 → ℝ)
/-- The gradient of the query, an array. -/
def GQ : S8192x2048.Idx → EReal := fun i => ((gQ a0 a1 a2 (i 0) (hd (i 1)) (dm (i 1)) : ℝ) : EReal)
/-- The gradient of the gate, an array. -/
def GZ : S8192x2048.Idx → EReal := fun i => ((gZ a0 a1 a2 (i 0) (hd (i 1)) (dm (i 1)) : ℝ) : EReal)
/-- What row `i` adds to the gradient of the keys and values at column `x`. -/
def gKV (i : Fin 8192) (c : Fin 256) (x : Fin 4096) : ℝ :=
  if h : x.val < 2048 then gK a0 a1 a2 i (hd ⟨x.val, h⟩) c (dm ⟨x.val, h⟩)
  else gV a0 a1 a2 i (hd ⟨x.val - 2048, by omega⟩) c (dm ⟨x.val - 2048, by omega⟩)
/-- The gradient of the keys and values, an array. -/
def GKV : S256x4096.Idx → EReal := fun j => ((∑ i, gKV a0 a1 a2 i (j 0) (j 1) : ℝ) : EReal)
end Spec

theorem idx_eta {n k : ℕ} (y : (⟨2, ![n, k]⟩ : Shape).Idx) : ∃ (r : Fin n) (x : Fin k), y = ix2 r x :=
  ⟨y 0, y 1, by
    funext a; match a with
    | ⟨0, _⟩ => rfl
    | ⟨1, _⟩ => rfl⟩

variable (m : (ℓ : Loc nD τ sig) → Buf (Elt Ideal) ℓ)
variable (a0 : Fin 8192 → Fin 13440 → ℝ) (a1 : Fin 256 → Fin 4096 → ℝ) (a2 : Fin 8192 → Fin 2048 → ℝ) (c : Dev nD)
  (H : Reals a0 a1 a2 (m ((c : Thread nD τ).loc main_arg0)) (m ((c : Thread nD τ).loc main_arg1)) (m ((c : Thread nD τ).loc main_arg2)))

/-- The place in the array of an element of the block of a point, window 5. -/
theorem emb5 (t : Fin cfg0.N) (r : Fin 512) (x : Fin 2048) : ((cfg0.win 5).blk t).view.emb (ix2 r x) = ix2 (row t r) x := by
  blk_ext [idx5 t, row]
theorem emb6 (t : Fin cfg0.N) (r : Fin 512) (x : Fin 2048) : ((cfg0.win 6).blk t).view.emb (ix2 r x) = ix2 (row t r) x := by
  blk_ext [idx6 t, row]
theorem emb7 (t : Fin cfg0.N) (r : Fin 256) (x : Fin 4096) : ((cfg0.win 7).blk t).view.emb (ix2 r x) = ix2 r x := by
  blk_ext [idx7 t]

/-- The point of a row. -/
def pt (i : Fin 8192) : Fin cfg0.N := ⟨i.val / 512, by have := N16; omega⟩

theorem row_pt (i : Fin 8192) : row (pt i) ⟨i.val % 512, by omega⟩ = i := Fin.ext (by show 512 * (i.val / 512) + i.val % 512 = i.val; omega)

theorem cover5 (i : S8192x2048.Idx) : ∃ t : Fin cfg0.N, (cfg0.win 5).flush t = true ∧ i ∈ ((cfg0.win 5).blk t).view.set := by
  obtain ⟨i, x, rfl⟩ := idx_eta (n := 8192) (k := 2048) i
  refine ⟨pt i, flush0_5 _, ?_⟩
  have h := ((cfg0.win 5).blk (pt i)).view.emb_mem_set (ix2 ⟨i.val % 512, by omega⟩ x)
  rwa [emb5, row_pt] at h
theorem cover6 (i : S8192x2048.Idx) : ∃ t : Fin cfg0.N, (cfg0.win 6).flush t = true ∧ i ∈ ((cfg0.win 6).blk t).view.set := by
  obtain ⟨i, x, rfl⟩ := idx_eta (n := 8192) (k := 2048) i
  refine ⟨pt i, flush0_6 _, ?_⟩
  have h := ((cfg0.win 6).blk (pt i)).view.emb_mem_set (ix2 ⟨i.val % 512, by omega⟩ x)
  rwa [emb6, row_pt] at h
theorem cover7 (i : S256x4096.Idx) : ∃ t : Fin cfg0.N, (cfg0.win 7).flush t = true ∧ i ∈ ((cfg0.win 7).blk t).view.set := by
  obtain ⟨i, x, rfl⟩ := idx_eta (n := 256) (k := 4096) i
  refine ⟨t0_15, (flush0_7 t0_15).mpr rfl, ?_⟩
  have h := ((cfg0.win 7).blk t0_15).view.emb_mem_set (ix2 i x)
  rwa [emb7] at h

theorem col_eq (x : Fin 2048) : (⟨512 * (hd x).val + (dm x).val, by have := (hd x).isLt; have := (dm x).isLt; omega⟩ : Fin 2048) = x :=
  Fin.ext (by show 512 * (x.val / 512) + x.val % 512 = x.val; omega)

include H

/-- After the run the first result is the gradient of the query. -/
theorem final5 : (dats m 0 c).arrAt 5 cfg0.N = GQ a0 a1 a2 :=
  (dats m 0 c).arrAt_eq_of_cover 5 (GQ a0 a1 a2) (fun t _ => by
    rw [flushed5]; funext y
    show (outsAt0 (F := Ideal) m c t.val t.isLt).1 y = GQ a0 a1 a2 (((cfg0.win 5).blk t).view.emb y)
    obtain ⟨r, x, rfl⟩ := idx_eta (n := 512) (k := 2048) y
    rw [emb5]
    have h := dq_point m a0 a1 a2 c H t (hd x) r (dm x)
    rw [col_eq] at h
    exact h) cover5

/-- After the run the second result is the gradient of the gate. -/
theorem final6 : (dats m 0 c).arrAt 6 cfg0.N = GZ a0 a1 a2 :=
  (dats m 0 c).arrAt_eq_of_cover 6 (GZ a0 a1 a2) (fun t _ => by
    rw [flushed6]; funext y
    show (outsAt0 (F := Ideal) m c t.val t.isLt).2.1 y = GZ a0 a1 a2 (((cfg0.win 6).blk t).view.emb y)
    obtain ⟨r, x, rfl⟩ := idx_eta (n := 512) (k := 2048) y
    rw [emb6]
    have h := dz_point m a0 a1 a2 c H t (hd x) r (dm x)
    rw [col_eq] at h
    exact h) cover6

theorem kv_first (t : Fin cfg0.N) (hA : t.val % 16 = 0) (x : Fin 256) (y : Fin 4096) :
    (outsAt0 (F := Ideal) m c t.val t.isLt).2.2 (ix2 x y) = 0 + ((∑ r, gKV a0 a1 a2 (row t r) x y : ℝ) : EReal) := by
  unfold gKV
  by_cases hy : y.val < 2048
  · simp only [dif_pos hy]
    have h := dk_first m a0 a1 a2 c H t hA (hd ⟨y.val, hy⟩) x (dm ⟨y.val, hy⟩)
    rwa [show (⟨512 * (hd ⟨y.val, hy⟩).val + (dm ⟨y.val, hy⟩).val, _⟩ : Fin 4096) = y from
      Fin.ext (by show 512 * (y.val / 512) + y.val % 512 = y.val; omega)] at h
  · simp only [dif_neg hy]
    have h := dv_first m a0 a1 a2 c H t hA (hd ⟨y.val - 2048, by omega⟩) x (dm ⟨y.val - 2048, by omega⟩)
    rwa [show (⟨2048 + (512 * (hd ⟨y.val - 2048, _⟩).val + (dm ⟨y.val - 2048, _⟩).val), _⟩ : Fin 4096) = y from
      Fin.ext (by show 2048 + (512 * ((y.val - 2048) / 512) + (y.val - 2048) % 512) = y.val; omega)] at h

theorem kv_next (t : Fin cfg0.N) (hB : ¬t.val % 16 = 0) (x : Fin 256) (y : Fin 4096) :
    (outsAt0 (F := Ideal) m c t.val t.isLt).2.2 (ix2 x y)
      = (outsAt0 (F := Ideal) m c (t.val - 1) (Nat.lt_of_le_of_lt (Nat.sub_le _ _) t.isLt)).2.2 (ix2 x y)
        + ((∑ r, gKV a0 a1 a2 (row t r) x y : ℝ) : EReal) := by
  unfold gKV
  by_cases hy : y.val < 2048
  · simp only [dif_pos hy]
    have h := dk_next m a0 a1 a2 c H t hB (hd ⟨y.val, hy⟩) x (dm ⟨y.val, hy⟩)
    rwa [show (⟨512 * (hd ⟨y.val, hy⟩).val + (dm ⟨y.val, hy⟩).val, _⟩ : Fin 4096) = y from
      Fin.ext (by show 512 * (y.val / 512) + y.val % 512 = y.val; omega)] at h
  · simp only [dif_neg hy]
    have h := dv_next m a0 a1 a2 c H t hB (hd ⟨y.val - 2048, by omega⟩) x (dm ⟨y.val - 2048, by omega⟩)
    rwa [show (⟨2048 + (512 * (hd ⟨y.val - 2048, _⟩).val + (dm ⟨y.val - 2048, _⟩).val), _⟩ : Fin 4096) = y from
      Fin.ext (by show 2048 + (512 * ((y.val - 2048) / 512) + (y.val - 2048) % 512) = y.val; omega)] at h

/-- The accumulator after the last point is the whole gradient of the keys and values. -/
theorem kv_last (x : Fin 256) (y : Fin 4096) : (outsAt0 (F := Ideal) m c t0_15.val t0_15.isLt).2.2 (ix2 x y) = GKV a0 a1 a2 (ix2 x y) := by
  have h := Pipeline.eq_sum_fin_of_reset_step_apply_last (fun n h (_ : Unit) => (outsAt0 (F := Ideal) m c n h).2.2 (ix2 x y)) 16
    (fun _ => (0 : EReal)) (fun t _ => ((∑ r, gKV a0 a1 a2 (row t r) x y : ℝ) : EReal))
    (fun t h _ => kv_first m a0 a1 a2 c H t h x y) (fun t h _ => kv_next m a0 a1 a2 c H t h x y) (le_of_eq N16) t0_15 rfl ()
  refine h.trans ?_
  rw [coe_sum, zero_add]
  show _ = ((∑ i, gKV a0 a1 a2 i x y : ℝ) : EReal)
  exact congrArg _ (Fin.sum_mul_add_congr (fun s k hl =>
    congrArg (fun i => gKV a0 a1 a2 i x y) (Fin.ext (by show 512 * s.val + k.val = s.val * 512 + k.val; omega))) (by rw [N16]))

/-- After the run the third result is the gradient of the keys and values. -/
theorem final7 : (dats m 0 c).arrAt 7 cfg0.N = GKV a0 a1 a2 :=
  (dats m 0 c).arrAt_eq_of_cover 7 (GKV a0 a1 a2) (fun t hf => by
    have h3 : t.val = 15 := by have := (flush0_7 t).mp hf; have := t.isLt; have := N16; omega
    obtain rfl : t = t0_15 := Fin.ext h3
    rw [flushed7]; funext y
    show (outsAt0 (F := Ideal) m c t0_15.val t0_15.isLt).2.2 y = GKV a0 a1 a2 (((cfg0.win 7).blk t0_15).view.emb y)
    obtain ⟨r, x, rfl⟩ := idx_eta (n := 256) (k := 4096) y
    rw [kv_last m a0 a1 a2 c H, emb7]) cover7

end Cert.MemArrays
-- ==== Proof.MemRef.lean ====
module
public import proofs.«01_k».proof.Proof.Gen.ReferenceIdeal.Read
public import proofs.«01_k».proof.Proof.MemArrays
@[expose] public section
set_option maxRecDepth 16384
noncomputable section
namespace Cert.MemRef
open Cert.ReferenceIdeal Cert.ReferenceIdeal.Facts Cert.ReferenceIdeal.Read Cert.RealTools Cert.MemBlock Cert.MemTiles Cert.MemArrays
open Idealize.ShloMosaic Idealize.ShloMosaic.TcCoe Idealize.SL.Sem
open scoped BigOperators

/-! The reference's results, an element at a time, over the real numbers. -/

variable (x0 : S8192x13440.Idx → EReal) (x1 : S256x4096.Idx → EReal) (x2 : S8192x2048.Idx → EReal)
variable (a0 : Fin 8192 → Fin 13440 → ℝ) (a1 : Fin 256 → Fin 4096 → ℝ) (a2 : Fin 8192 → Fin 2048 → ℝ)
  (H : Reals a0 a1 a2 x0 x1 x2)
include H

theorem x0_apply (j : S8192x13440.Idx) : x0 j = ((a0 (j 0) (j 1) : ℝ) : EReal) := by
  obtain ⟨i, x, rfl⟩ := idx_eta (n := 8192) (k := 13440) j; exact H.1 i x
theorem x1_apply (j : S256x4096.Idx) : x1 j = ((a1 (j 0) (j 1) : ℝ) : EReal) := by
  obtain ⟨i, x, rfl⟩ := idx_eta (n := 256) (k := 4096) j; exact H.2.1 i x
theorem x2_apply (j : S8192x2048.Idx) : x2 j = ((a2 (j 0) (j 1) : ℝ) : EReal) := by
  obtain ⟨i, x, rfl⟩ := idx_eta (n := 8192) (k := 2048) j; exact H.2.2 i x

/-- The query, by row, head and column. -/
theorem v9_apply (j : S8192x4x512.Idx) : val_main_v9 (F := Ideal) x0 j = ((Qm a0 (j 0) (j 1) (j 2) : ℝ) : EReal) := by
  rw [val_main_v9_apply, val_main_v3_apply, val_main_v0_apply]
  refine (x0_apply x0 x1 x2 a0 a1 a2 H _).trans (congrArg₂ (fun i x => ((a0 i x : ℝ) : EReal)) (Fin.ext ?_) (Fin.ext ?_))
  all_goals
    have h0 : (j 0).val < 8192 := (j 0).isLt
    have h1 : (j 1).val < 4 := (j 1).isLt
    have h2 : (j 2).val < 512 := (j 2).isLt
  · show (((j 0).val * 4 + (j 1).val) * 512 + (j 2).val) / 2048 = (j 0).val; omega
  · show 8192 + (((j 0).val * 4 + (j 1).val) * 512 + (j 2).val) % 2048 = 8192 + (512 * (j 1).val + (j 2).val); omega

/-- The keys, by row, head and column. -/
theorem v7_apply (j : S256x4x512.Idx) : val_main_v7 (F := Ideal) x1 j = ((Km a1 (j 1) (j 0) (j 2) : ℝ) : EReal) := by
  rw [val_main_v7_apply, val_main_v5_apply, val_main_v4_apply, val_main_v2_apply]
  refine (x1_apply x0 x1 x2 a0 a1 a2 H _).trans (congrArg₂ (fun i x => ((a1 i x : ℝ) : EReal)) (Fin.ext ?_) (Fin.ext ?_))
  all_goals
    have h0 : (j 0).val < 256 := (j 0).isLt
    have h1 : (j 1).val < 4 := (j 1).isLt
    have h2 : (j 2).val < 512 := (j 2).isLt
  · show ((((((j 0).val * 4 + (j 1).val) * 512 + (j 2).val) / 2048 * 2 + 0) * 4 + (((j 0).val * 4 + (j 1).val) * 512 + (j 2).val) / 512 % 4) * 512
      + (((j 0).val * 4 + (j 1).val) * 512 + (j 2).val) % 512) / 4096 = (j 0).val
    omega
  · show ((((((j 0).val * 4 + (j 1).val) * 512 + (j 2).val) / 2048 * 2 + 0) * 4 + (((j 0).val * 4 + (j 1).val) * 512 + (j 2).val) / 512 % 4) * 512
      + (((j 0).val * 4 + (j 1).val) * 512 + (j 2).val) % 512) % 4096 = 512 * (j 1).val + (j 2).val
    omega

/-- The values, by row, head and column. -/
theorem v8_apply (j : S256x4x512.Idx) : val_main_v8 (F := Ideal) x1 j = ((Vm a1 (j 1) (j 0) (j 2) : ℝ) : EReal) := by
  rw [val_main_v8_apply, val_main_v6_apply, val_main_v4_apply, val_main_v2_apply]
  refine (x1_apply x0 x1 x2 a0 a1 a2 H _).trans (congrArg₂ (fun i x => ((a1 i x : ℝ) : EReal)) (Fin.ext ?_) (Fin.ext ?_))
  all_goals
    have h0 : (j 0).val < 256 := (j 0).isLt
    have h1 : (j 1).val < 4 := (j 1).isLt
    have h2 : (j 2).val < 512 := (j 2).isLt
  · show ((((((j 0).val * 4 + (j 1).val) * 512 + (j 2).val) / 2048 * 2 + (1 + 0)) * 4 + (((j 0).val * 4 + (j 1).val) * 512 + (j 2).val) / 512 % 4) * 512
      + (((j 0).val * 4 + (j 1).val) * 512 + (j 2).val) % 512) / 4096 = (j 0).val
    omega
  · show ((((((j 0).val * 4 + (j 1).val) * 512 + (j 2).val) / 2048 * 2 + (1 + 0)) * 4 + (((j 0).val * 4 + (j 1).val) * 512 + (j 2).val) / 512 % 4) * 512
      + (((j 0).val * 4 + (j 1).val) * 512 + (j 2).val) % 512) % 4096 = 2048 + (512 * (j 1).val + (j 2).val)
    omega

/-- The scaled scores. -/
theorem v12_apply (j : S4x8192x256.Idx) : val_main_v12 (F := Ideal) x0 x1 j
    = ((scR (Qm a0 (j 1) (j 0)) (Km a1 (j 0)) (j 2) : ℝ) : EReal) := by
  rw [val_main_v12_apply, val_main_v10_apply, val_main_v11_apply, val_main_cst_apply]
  show (∑ k : Fin 512, val_main_v9 (F := Ideal) x0 (lidx_main_v10 j k) * val_main_v7 (F := Ideal) x1 (ridx_main_v10 j k)) * Ideal.ofBits .f32 0x3D3504F3#32 = _
  simp only [v9_apply x0 x1 x2 a0 a1 a2 H, v7_apply x0 x1 x2 a0 a1 a2 H, wgt_coe, ← EReal.coe_mul, coe_sum]; rfl

/-- The largest score of a row is a real number. -/
theorem v31_real : ∃ M : Fin 4 → Fin 8192 → ℝ, ∀ j : S4x8192x256.Idx, val_main_v31 (F := Ideal) x0 x1 j = ((M (j 0) (j 1) : ℝ) : EReal) := by
  have key : ∀ (h : Fin 4) (i : Fin 8192), ∃ M : ℝ, val_main_v20 (F := Ideal) x0 x1 (ix2 h i) = (M : EReal) := fun h i => by
    obtain ⟨M, hM⟩ := fold_max_coe (Finset.univ : Finset (Fin 256)) ⟨0, Finset.mem_univ _⟩ (fun c => scR (Qm a0 i h) (Km a1 h) c)
    refine ⟨M, ?_⟩
    rw [val_main_v20_apply, val_main_v19_apply, val_main_cst_2_apply, ← hM]
    have e : val_main_v13 (F := Ideal) x0 x1 (ix2 h i)
        = (Finset.univ : Finset (Fin 256)).fold max (⊥ : EReal) (fun c => ((scR (Qm a0 i h) (Km a1 h) c : ℝ) : EReal)) := by
      unfold val_main_v13
      have hv : val_main_v12 (F := Ideal) x0 x1 = fun j => ((scR (Qm a0 (j 1) (j 0)) (Km a1 (j 0)) (j 2) : ℝ) : EReal) :=
        funext (v12_apply x0 x1 x2 a0 a1 a2 H)
      rw [hv]
      simp only [val_main_cst_0, pointwise]
      rw [ofBits_neg_inf]
    rw [e]
    show max (Ideal.ofBits .f32 0xFF800000#32) _ = _
    rw [ofBits_neg_inf, max_eq_right bot_le]
  choose M hM using key
  refine ⟨M, fun j => ?_⟩
  rw [val_main_v31_apply, val_main_v30_apply]
  obtain ⟨h, i, e⟩ := idx_eta (n := 4) (k := 8192) (idx_main_v30 (idx_main_v31 j))
  rw [e, hM]
  have e0 : h = j 0 := (congrFun e 0).symm
  have e1 : i = j 1 := (congrFun e 1).symm
  rw [e0, e1]

section Softmax
variable (M : Fin 4 → Fin 8192 → ℝ) (hM : ∀ j : S4x8192x256.Idx, val_main_v31 (F := Ideal) x0 x1 j = ((M (j 0) (j 1) : ℝ) : EReal))
include hM

/-- The exponentials of the shifted scores. -/
theorem v33_apply (j : S4x8192x256.Idx) : val_main_v33 (F := Ideal) x0 x1 j
    = ((Real.exp (scR (Qm a0 (j 1) (j 0)) (Km a1 (j 0)) (j 2) - M (j 0) (j 1)) : ℝ) : EReal) := by
  rw [val_main_v33_apply, val_main_v32_apply, v12_apply x0 x1 x2 a0 a1 a2 H, hM]
  show Ideal.exp (((_ : ℝ) : EReal) - ((_ : ℝ) : EReal)) = _
  rw [← EReal.coe_sub, Ideal.exp_coe]

/-- Their sum along a row. -/
theorem v35_apply (j : S4x8192x1.Idx) : val_main_v35 (F := Ideal) x0 x1 j
    = ((∑ c, Real.exp (scR (Qm a0 (j 1) (j 0)) (Km a1 (j 0)) c - M (j 0) (j 1)) : ℝ) : EReal) := by
  rw [val_main_v35_apply, val_main_v34_apply, val_main_cst_8_apply]
  show Ideal.ofBits .f32 0x00000000#32 + _ = _
  rw [Ideal.ofBits_zero_f32, zero_add]
  simp only [v33_apply x0 x1 x2 a0 a1 a2 H M hM, coe_sum]; rfl

/-- The attention weights. -/
theorem v37_apply (j : S4x8192x256.Idx) : val_main_v37 (F := Ideal) x0 x1 j
    = ((prR (Qm a0 (j 1) (j 0)) (Km a1 (j 0)) (j 2) : ℝ) : EReal) := by
  rw [val_main_v37_apply, val_main_v36_apply, v33_apply x0 x1 x2 a0 a1 a2 H M hM, v35_apply x0 x1 x2 a0 a1 a2 H M hM]
  refine (div_coe_coe _ (sum_exp_pos (by norm_num) _).ne').trans (congrArg _ ?_)
  exact softR_shift (scR (Qm a0 (j 1) (j 0)) (Km a1 (j 0))) _ _

/-- The attention's output, by row, head and column. -/
theorem v43_apply (j : S8192x2048.Idx) : val_main_v43 (F := Ideal) x0 x1 j
    = ((∑ c, prR (Qm a0 (j 0) (hd (j 1))) (Km a1 (hd (j 1))) c * Vm a1 (hd (j 1)) c (dm (j 1)) : ℝ) : EReal) := by
  rw [val_main_v43_apply, val_main_v42_apply, val_main_v41_apply]
  simp only [v8_apply x0 x1 x2 a0 a1 a2 H, v37_apply x0 x1 x2 a0 a1 a2 H M hM, ← EReal.coe_mul, coe_sum]
  have h0 : (j 0).val < 8192 := (j 0).isLt
  have h1 : (j 1).val < 2048 := (j 1).isLt
  have e0 : (⟨((j 0).val * 2048 + (j 1).val) / 2048, by omega⟩ : Fin 8192) = j 0 := Fin.ext (by show _ = (j 0).val; dsimp only; omega)
  have e1 : (⟨((j 0).val * 2048 + (j 1).val) / 512 % 4, by omega⟩ : Fin 4) = hd (j 1) := Fin.ext (by show _ = (j 1).val / 512; dsimp only; omega)
  have e2 : (⟨((j 0).val * 2048 + (j 1).val) % 512, by omega⟩ : Fin 512) = dm (j 1) := Fin.ext (by show _ = (j 1).val % 512; dsimp only; omega)
  rw [← e0, ← e1, ← e2]
  exact congrArg _ (Finset.sum_congr rfl fun c _ => mul_comm _ _)
end Softmax

/-- The gate. -/
theorem v44_apply (j : S8192x2048.Idx) : val_main_v44 (F := Ideal) x0 j = ((Zm a0 (j 0) (hd (j 1)) (dm (j 1)) : ℝ) : EReal) := by
  rw [val_main_v44_apply, val_main_v1_apply]
  refine (x0_apply x0 x1 x2 a0 a1 a2 H _).trans (congrArg₂ (fun i x => ((a0 i x : ℝ) : EReal)) (Fin.ext rfl) (Fin.ext ?_))
  have h1 : (j 1).val < 2048 := (j 1).isLt
  show 10240 + (j 1).val = 10240 + (512 * ((j 1).val / 512) + (j 1).val % 512); omega

/-- The output's gradient. -/
theorem v47_apply (j : S8192x2048.Idx) : val_main_v47 (F := Ideal) x2 j = ((Ym a2 (j 0) (hd (j 1)) (dm (j 1)) : ℝ) : EReal) := by
  rw [val_main_v47_apply]
  refine (x2_apply x0 x1 x2 a0 a1 a2 H _).trans (congrArg₂ (fun i x => ((a2 i x : ℝ) : EReal)) (Fin.ext rfl) (Fin.ext ?_))
  have h1 : (j 1).val < 2048 := (j 1).isLt
  show (j 1).val = 512 * ((j 1).val / 512) + (j 1).val % 512; omega

/-- The gate's logistic function. -/
theorem v45_2_apply (j : S8192x2048.Idx) : val_main_v45_2 (F := Ideal) x0 j = ((sgR (Zm a0 (j 0) (hd (j 1)) (dm (j 1))) : ℝ) : EReal) := by
  rw [val_main_v45_2_apply, val_main_call0_v4_apply, val_main_call0_cst_0_apply, val_main_call0_v3_apply, val_main_call0_v2_apply,
    val_main_call0_cst_apply, val_main_call0_v1_apply, val_main_call0_v0_apply, v44_apply x0 x1 x2 a0 a1 a2 H]
  show Ideal.div (Ideal.ofBits .f32 0x3F800000#32) (Ideal.ofBits .f32 0x3F800000#32 + Ideal.exp (-((_ : ℝ) : EReal))) = _
  rw [ofBits_one, ← EReal.coe_neg, Ideal.exp_coe, ← EReal.coe_add, div_coe_coe _ (one_add_exp_ne _)]; rfl

/-- Its derivative. -/
theorem v45_1_apply (j : S8192x2048.Idx) : val_main_v45_1 (F := Ideal) x0 j
    = ((sgR (Zm a0 (j 0) (hd (j 1)) (dm (j 1))) * (1 - sgR (Zm a0 (j 0) (hd (j 1)) (dm (j 1)))) : ℝ) : EReal) := by
  rw [val_main_v45_1_apply, val_main_call0_v7_apply, val_main_call0_v6_apply, val_main_call0_cst_1_apply, v45_2_apply x0 x1 x2 a0 a1 a2 H]
  show ((_ : ℝ) : EReal) * (Ideal.ofBits .f32 0x3F800000#32 - ((_ : ℝ) : EReal)) = _
  rw [ofBits_one, ← EReal.coe_sub, ← EReal.coe_mul]

/-- The gradient of the attention's output. -/
theorem v49_apply (j : S8192x2048.Idx) : val_main_v49 (F := Ideal) x0 x2 j
    = ((doR (Zm a0 (j 0) (hd (j 1))) (Ym a2 (j 0) (hd (j 1))) (dm (j 1)) : ℝ) : EReal) := by
  rw [val_main_v49_apply, val_main_v45_0_apply, v47_apply x0 x1 x2 a0 a1 a2 H, v44_apply x0 x1 x2 a0 a1 a2 H, v45_2_apply x0 x1 x2 a0 a1 a2 H]
  show ((_ : ℝ) : EReal) * (((_ : ℝ) : EReal) * ((_ : ℝ) : EReal)) = _
  rw [← EReal.coe_mul, ← EReal.coe_mul]; rfl

/-- The same, by head, column and row. -/
theorem v53_apply (j : S4x512x8192.Idx) : val_main_v53 (F := Ideal) x0 x2 j
    = ((doR (Zm a0 (j 2) (j 0)) (Ym a2 (j 2) (j 0)) (j 1) : ℝ) : EReal) := by
  rw [val_main_v53_apply, val_main_v52_apply, v49_apply x0 x1 x2 a0 a1 a2 H]
  have h0 : (j 0).val < 4 := (j 0).isLt
  have h1 : (j 1).val < 512 := (j 1).isLt
  have h2 : (j 2).val < 8192 := (j 2).isLt
  have e0 : (⟨(((j 2).val * 4 + (j 0).val) * 512 + (j 1).val) / 2048, by omega⟩ : Fin 8192) = j 2 := Fin.ext (by show _ = (j 2).val; dsimp only; omega)
  have e1 : hd ⟨(((j 2).val * 4 + (j 0).val) * 512 + (j 1).val) % 2048, by omega⟩ = j 0 :=
    Fin.ext (by show (((j 2).val * 4 + (j 0).val) * 512 + (j 1).val) % 2048 / 512 = (j 0).val; omega)
  have e2 : dm ⟨(((j 2).val * 4 + (j 0).val) * 512 + (j 1).val) % 2048, by omega⟩ = j 1 :=
    Fin.ext (by show (((j 2).val * 4 + (j 0).val) * 512 + (j 1).val) % 2048 % 512 = (j 1).val; omega)
  show ((doR (Zm a0 ⟨(((j 2).val * 4 + (j 0).val) * 512 + (j 1).val) / 2048, _⟩ (hd ⟨(((j 2).val * 4 + (j 0).val) * 512 + (j 1).val) % 2048, _⟩))
    (Ym a2 ⟨(((j 2).val * 4 + (j 0).val) * 512 + (j 1).val) / 2048, _⟩ (hd ⟨(((j 2).val * 4 + (j 0).val) * 512 + (j 1).val) % 2048, _⟩))
    (dm ⟨(((j 2).val * 4 + (j 0).val) * 512 + (j 1).val) % 2048, _⟩) : ℝ) : EReal) = _
  rw [e0, e1, e2]

/-- The gradient of the attention weights. -/
theorem v54_apply (j : S4x8192x256.Idx) : val_main_v54 (F := Ideal) x0 x1 x2 j
    = ((dpR (Zm a0 (j 1) (j 0)) (Ym a2 (j 1) (j 0)) (Vm a1 (j 0)) (j 2) : ℝ) : EReal) := by
  rw [val_main_v54_apply]
  simp only [v53_apply x0 x1 x2 a0 a1 a2 H, v8_apply x0 x1 x2 a0 a1 a2 H, ← EReal.coe_mul, coe_sum]; rfl

/-- The gradient of the scores, with the scale. -/
theorem v70_apply (j : S4x8192x256.Idx) : val_main_v70 (F := Ideal) x0 x1 x2 j
    = ((dsR (Qm a0 (j 1) (j 0)) (Zm a0 (j 1) (j 0)) (Ym a2 (j 1) (j 0)) (Km a1 (j 0)) (Vm a1 (j 0)) (j 2) : ℝ) : EReal) := by
  obtain ⟨M, hM⟩ := v31_real x0 x1 x2 a0 a1 a2 H
  obtain ⟨L, hL⟩ : ∃ L : Fin 4 → Fin 8192 → ℝ, L = fun h i => ∑ c, Real.exp (scR (Qm a0 i h) (Km a1 h) c - M h i) := ⟨_, rfl⟩
  have hL0 : ∀ h i, L h i ≠ 0 := fun h i => by rw [hL]; exact (sum_exp_pos (by norm_num) _).ne'
  obtain ⟨e, he⟩ : ∃ e : Fin 4 → Fin 8192 → Fin 256 → ℝ, e = fun h i c => Real.exp (scR (Qm a0 i h) (Km a1 h) c - M h i) := ⟨_, rfl⟩
  have h33 : ∀ j, val_main_v33 (F := Ideal) x0 x1 j = ((e (j 0) (j 1) (j 2) : ℝ) : EReal) := fun j => by
    rw [v33_apply x0 x1 x2 a0 a1 a2 H M hM, he]
  have h35 : ∀ j, val_main_v35 (F := Ideal) x0 x1 j = ((L (j 0) (j 1) : ℝ) : EReal) := fun j => by
    rw [v35_apply x0 x1 x2 a0 a1 a2 H M hM, hL]
  have hp : ∀ h i c, prR (Qm a0 i h) (Km a1 h) c = e h i c / L h i := fun h i c => by
    rw [he, hL]; exact (softR_shift _ _ _).symm
  have h40 : ∀ j, val_main_v40 (F := Ideal) x0 x1 j = ((1 / (L (j 0) (j 1) * L (j 0) (j 1)) : ℝ) : EReal) := fun j => by
    rw [val_main_v40_apply, val_main_v39_apply, val_main_cst_9_apply, val_main_v38_apply, h35]
    show Ideal.div (Ideal.ofBits .f32 0x3F800000#32) (((_ : ℝ) : EReal) * ((_ : ℝ) : EReal)) = _
    exact (congrArg₂ Ideal.div ofBits_one (EReal.coe_mul _ _).symm).trans (div_coe_coe _ (mul_ne_zero (hL0 _ _) (hL0 _ _)))
  obtain ⟨p, hpd⟩ : ∃ p : Fin 4 → Fin 8192 → Fin 256 → ℝ, p = fun h i c => dpR (Zm a0 i h) (Ym a2 i h) (Vm a1 h) c := ⟨_, rfl⟩
  have h54 : ∀ j, val_main_v54 (F := Ideal) x0 x1 x2 j = ((p (j 0) (j 1) (j 2) : ℝ) : EReal) := fun j => by
    rw [v54_apply x0 x1 x2 a0 a1 a2 H, hpd]
  have h59 : ∀ j, val_main_v59 (F := Ideal) x0 x1 x2 j
      = ((p (j 0) (j 1) (j 2) * (1 / (L (j 0) (j 1) * L (j 0) (j 1))) * e (j 0) (j 1) (j 2) : ℝ) : EReal) := fun j => by
    rw [val_main_v59_apply, val_main_v58_apply, val_main_v57_apply, h54, h40, h33]
    show ((_ : ℝ) : EReal) * ((_ : ℝ) : EReal) * ((_ : ℝ) : EReal) = _
    rw [← EReal.coe_mul, ← EReal.coe_mul]; rfl
  have h60 : ∀ j, val_main_v60 (F := Ideal) x0 x1 x2 j
      = ((∑ c, p (j 0) (j 1) c * (1 / (L (j 0) (j 1) * L (j 0) (j 1))) * e (j 0) (j 1) c : ℝ) : EReal) := fun j => by
    rw [val_main_v60_apply, val_main_cst_10_apply]
    show Ideal.ofBits .f32 0x00000000#32 + _ = _
    rw [Ideal.ofBits_zero_f32, zero_add]
    simp only [h59, coe_sum]; rfl
  have h62 : ∀ j, val_main_v62 (F := Ideal) x0 x1 x2 j
      = ((-(∑ c, p (j 0) (j 1) c * (1 / (L (j 0) (j 1) * L (j 0) (j 1))) * e (j 0) (j 1) c) : ℝ) : EReal) := fun j => by
    rw [val_main_v62_apply, val_main_v61_apply, h60]
    have h0 : (j 0).val < 4 := (j 0).isLt
    have h1 : (j 1).val < 8192 := (j 1).isLt
    have h2 : (j 2).val < 1 := (j 2).isLt
    have e0 : (⟨(((j 0).val * 8192 + (j 1).val) * 1 + (j 2).val) / 8192, by omega⟩ : Fin 4) = j 0 := Fin.ext (by show _ = (j 0).val; dsimp only; omega)
    have e1 : (⟨(((j 0).val * 8192 + (j 1).val) * 1 + (j 2).val) % 8192, by omega⟩ : Fin 8192) = j 1 := Fin.ext (by show _ = (j 1).val; dsimp only; omega)
    exact (congrArg₂ (fun h i => -((∑ c, p h i c * (1 / (L h i * L h i)) * e h i c : ℝ) : EReal)) e0 e1).trans (EReal.coe_neg _).symm
  have h66 : ∀ j, val_main_v66 (F := Ideal) x0 x1 x2 j
      = ((-(∑ c, p (j 0) (j 1) c * (1 / (L (j 0) (j 1) * L (j 0) (j 1))) * e (j 0) (j 1) c) : ℝ) : EReal) := fun j => by
    rw [val_main_v66_apply, val_main_v65_apply, val_main_cst_11_apply]
    show Ideal.ofBits .f32 0x00000000#32 + _ = _
    rw [Ideal.ofBits_zero_f32, zero_add, Fin.sum_univ_one, h62]; rfl
  rw [val_main_v70_apply, val_main_v69_apply, val_main_v68_apply, val_main_v67_apply, val_main_v64_apply, val_main_v63_apply, h54, h35, h66, h33]
  show (Ideal.div ((_ : ℝ) : EReal) ((L (j 0) (j 1) : ℝ) : EReal) + ((_ : ℝ) : EReal)) * ((_ : ℝ) : EReal) * Ideal.ofBits .f32 0x3D3504F3#32 = _
  have hc : ∀ p L s e : ℝ, L ≠ 0 → (Ideal.div ((p : ℝ) : EReal) ((L : ℝ) : EReal) + ((s : ℝ) : EReal)) * ((e : ℝ) : EReal)
      * ((wgtR : ℝ) : EReal) = (((p / L + s) * e * wgtR : ℝ) : EReal) := fun p L s e hne => by
    rw [div_coe_coe _ hne, ← EReal.coe_add, ← EReal.coe_mul, ← EReal.coe_mul]
  rw [wgt_coe]
  have hd : ∀ h i c, (p h i c / L h i + -(∑ c, p h i c * (1 / (L h i * L h i)) * e h i c)) * e h i c * wgtR
      = dsR (Qm a0 i h) (Zm a0 i h) (Ym a2 i h) (Km a1 h) (Vm a1 h) c := fun h i c => by
    have hpe : ∀ c, dpR (Zm a0 i h) (Ym a2 i h) (Vm a1 h) c = p h i c := fun c => by rw [hpd]
    unfold dsR
    simp only [hp, hpe]
    have hl := hL0 h i
    have hs : ∑ c, p h i c * (1 / (L h i * L h i)) * e h i c = (∑ c, p h i c * (e h i c / L h i)) / L h i := by
      rw [Finset.sum_div]; exact Finset.sum_congr rfl fun c _ => by field_simp
    rw [hs]; ring
  exact (hc _ _ _ _ (hL0 _ _)).trans (congrArg _ (hd (j 0) (j 1) (j 2)))

/-! ## The three results -/

/-- The query's gradient. -/
theorem v80_eq : val_main_v80 (F := Ideal) x0 x1 x2 = GQ a0 a1 a2 := funext fun j => by
  rw [val_main_v80_apply, val_main_v75_apply, val_main_v74_apply, val_main_v73_apply]
  have h0 : (j 0).val < 8192 := (j 0).isLt
  have h1 : (j 1).val < 2048 := (j 1).isLt
  have e0 : (⟨((j 0).val * 2048 + (j 1).val) / 2048, by omega⟩ : Fin 8192) = j 0 := Fin.ext (by show _ = (j 0).val; dsimp only; omega)
  have e1 : (⟨((j 0).val * 2048 + (j 1).val) / 512 % 4, by omega⟩ : Fin 4) = hd (j 1) := Fin.ext (by show _ = (j 1).val / 512; dsimp only; omega)
  have e2 : (⟨((j 0).val * 2048 + (j 1).val) % 512, by omega⟩ : Fin 512) = dm (j 1) := Fin.ext (by show _ = (j 1).val % 512; dsimp only; omega)
  simp only [v70_apply x0 x1 x2 a0 a1 a2 H, v7_apply x0 x1 x2 a0 a1 a2 H, ← EReal.coe_mul, coe_sum]
  show _ = ((gQ a0 a1 a2 (j 0) (hd (j 1)) (dm (j 1)) : ℝ) : EReal)
  rw [← e0, ← e1, ← e2]; rfl

/-- The gate's gradient. -/
theorem v51_eq : val_main_v51 (F := Ideal) x0 x1 x2 = GZ a0 a1 a2 := funext fun j => by
  obtain ⟨M, hM⟩ := v31_real x0 x1 x2 a0 a1 a2 H
  rw [val_main_v51_apply, val_main_v50_apply, val_main_call1_v1_apply, val_main_call1_v2_apply, val_main_call1_v0_apply, val_main_v48_apply,
    v43_apply x0 x1 x2 a0 a1 a2 H M hM, v47_apply x0 x1 x2 a0 a1 a2 H, v44_apply x0 x1 x2 a0 a1 a2 H, v45_2_apply x0 x1 x2 a0 a1 a2 H,
    v45_1_apply x0 x1 x2 a0 a1 a2 H]
  show ((_ : ℝ) : EReal) * ((_ : ℝ) : EReal) * ((_ : ℝ) : EReal)
    + ((_ : ℝ) : EReal) * (((_ : ℝ) : EReal) * ((_ : ℝ) : EReal)) * ((_ : ℝ) : EReal) = ((dzR _ _ _ _ _ _ : ℝ) : EReal)
  rw [← EReal.coe_mul, ← EReal.coe_mul, ← EReal.coe_mul, ← EReal.coe_mul, ← EReal.coe_add]
  refine congrArg _ ?_
  unfold dzR
  ring

/-- The values' gradient, by row, head and column. -/
theorem v56_apply (j : S256x4x512.Idx) : val_main_v56 (F := Ideal) x0 x1 x2 j
    = ((∑ i, gV a0 a1 a2 i (j 1) (j 0) (j 2) : ℝ) : EReal) := by
  obtain ⟨M, hM⟩ := v31_real x0 x1 x2 a0 a1 a2 H
  rw [val_main_v56_apply, val_main_v55_apply]
  simp only [v53_apply x0 x1 x2 a0 a1 a2 H, v37_apply x0 x1 x2 a0 a1 a2 H M hM, ← EReal.coe_mul, coe_sum]
  exact congrArg _ (Finset.sum_congr rfl fun i _ => mul_comm _ _)

/-- The keys' gradient, by row, head and column. -/
theorem v72_apply (j : S256x4x512.Idx) : val_main_v72 (F := Ideal) x0 x1 x2 j
    = ((∑ i, gK a0 a1 a2 i (j 1) (j 0) (j 2) : ℝ) : EReal) := by
  rw [val_main_v72_apply, val_main_v71_apply]
  simp only [v70_apply x0 x1 x2 a0 a1 a2 H, v9_apply x0 x1 x2 a0 a1 a2 H, ← EReal.coe_mul, coe_sum]; rfl

/-- The gradient of the keys and values. -/
theorem v79_eq : val_main_v79 (F := Ideal) x0 x1 x2 = GKV a0 a1 a2 := funext fun j => by
  have h0 : (j 0).val < 256 := (j 0).isLt
  have h1 : (j 1).val < 4096 := (j 1).isLt
  rw [val_main_v79_apply]
  unfold val_main_v78
  by_cases hx : (j 1).val < 2048
  · rw [concatenate_pair_apply_left (t := S256x2x4x512) (s₁ := S256x1x4x512) (s₂ := S256x1x4x512) 1 _ _ _ (idx_main_v79 j) rfl
      (fun a => match a with
        | ⟨0, _⟩ => j 0
        | ⟨1, _⟩ => (0 : Fin 1)
        | ⟨2, _⟩ => hd ⟨(j 1).val, hx⟩
        | ⟨3, _⟩ => dm ⟨(j 1).val, hx⟩)
      (fun b => by
        match b with
        | ⟨0, _⟩ => show (j 0).val = ((j 0).val * 4096 + (j 1).val) / 4096; omega
        | ⟨1, _⟩ => show 0 = ((j 0).val * 4096 + (j 1).val) / 2048 % 2; omega
        | ⟨2, _⟩ => show (j 1).val / 512 = ((j 0).val * 4096 + (j 1).val) / 512 % 4; omega
        | ⟨3, _⟩ => show (j 1).val % 512 = ((j 0).val * 4096 + (j 1).val) % 512; omega)]
    rw [val_main_v77_apply, v72_apply x0 x1 x2 a0 a1 a2 H]
    refine congrArg _ (Finset.sum_congr rfl fun i _ => ?_)
    unfold gKV; rw [dif_pos hx]; rfl
  · rw [concatenate_pair_apply_right (t := S256x2x4x512) (s₁ := S256x1x4x512) (s₂ := S256x1x4x512) 1 _ _ _ (idx_main_v79 j) rfl rfl
      (fun a => match a with
        | ⟨0, _⟩ => j 0
        | ⟨1, _⟩ => (0 : Fin 1)
        | ⟨2, _⟩ => hd ⟨(j 1).val - 2048, by omega⟩
        | ⟨3, _⟩ => dm ⟨(j 1).val - 2048, by omega⟩)
      (fun b hb => by
        match b with
        | ⟨0, _⟩ => show (j 0).val = ((j 0).val * 4096 + (j 1).val) / 4096; omega
        | ⟨1, _⟩ => exact absurd rfl hb
        | ⟨2, _⟩ => show ((j 1).val - 2048) / 512 = ((j 0).val * 4096 + (j 1).val) / 512 % 4; omega
        | ⟨3, _⟩ => show ((j 1).val - 2048) % 512 = ((j 0).val * 4096 + (j 1).val) % 512; omega)
      (by show 0 + 1 = ((j 0).val * 4096 + (j 1).val) / 2048 % 2; omega)]
    rw [val_main_v76_apply, v56_apply x0 x1 x2 a0 a1 a2 H]
    refine congrArg _ (Finset.sum_congr rfl fun i _ => ?_)
    unfold gKV; rw [dif_neg hx]; rfl

end Cert.MemRef
-- ==== Proof.MemFinite.lean ====
module
public import proofs.«01_k».proof.Pre_finite
public import proofs.«01_k».proof.Proof.MemTiles
@[expose] public section
set_option maxRecDepth 16384
noncomputable section
namespace Cert.MemFinite
open Cert.RealTools Cert.MemTiles
open Idealize.ShloMosaic Idealize.ShloMosaic.TcCoe Idealize.SL.Sem

/-! What the precondition says of the arguments: every element is a real number. -/

/-- The word of +∞. -/
theorem ofBits_pos_inf : Ideal.ofBits .f32 0x7F800000#32 = ⊤ := by simp [Ideal.ofBits, Ideal.ieee]

/-- The side conditions of the predicate. -/
theorem facts : Cert.Pre_finite.Facts := ⟨by decide, by decide, by decide, by decide⟩

/-- A number whose magnitude is below +∞ is real. -/
theorem real_of_abs_lt (x : EReal) (h : BitVec.ofBool (decide (FloatOps.absf (F := Ideal) (φ := .f32) x < Ideal.ofBits .f32 0x7F800000#32)) = 1#1) :
    x = ((x.toReal : ℝ) : EReal) := by
  rw [ofBits_pos_inf] at h
  have h' : max x (-x) < ⊤ := by
    by_contra hc
    have hd : decide (FloatOps.absf (F := Ideal) (φ := .f32) x < (⊤ : EReal)) = false := decide_eq_false hc
    rw [hd] at h
    exact absurd h (by decide)
  refine (EReal.coe_toReal ?_ ?_).symm
  · rintro rfl; exact absurd h' (by simp)
  · rintro rfl; exact absurd h' (by simp)

/-- Of arguments that satisfy the precondition every element is its real part. -/
theorem reals (x0 : (⟨2, ![8192, 13440]⟩ : Shape).Idx → EReal) (x1 : (⟨2, ![256, 4096]⟩ : Shape).Idx → EReal)
    (x2 : (⟨2, ![8192, 2048]⟩ : Shape).Idx → EReal) [Cert.Pre_finite.Facts]
    (h0 : (Cert.Pre_finite.fn (F := Ideal) x0 x1 x2).1 = fun _ => 1#1)
    (h1 : (Cert.Pre_finite.fn (F := Ideal) x0 x1 x2).2.1 = fun _ => 1#1)
    (h2 : (Cert.Pre_finite.fn (F := Ideal) x0 x1 x2).2.2 = fun _ => 1#1) :
    Reals (fun i x => (x0 (ix2 i x)).toReal) (fun i x => (x1 (ix2 i x)).toReal) (fun i x => (x2 (ix2 i x)).toReal) x0 x1 x2 := by
  refine ⟨fun i x => ?_, fun i x => ?_, fun i x => ?_⟩
  · have h := congrFun h0 (ix2 i x)
    simp only [Cert.Pre_finite.fn, pointwise] at h
    exact real_of_abs_lt _ h
  · have h := congrFun h1 (ix2 i x)
    simp only [Cert.Pre_finite.fn, pointwise] at h
    exact real_of_abs_lt _ h
  · have h := congrFun h2 (ix2 i x)
    simp only [Cert.Pre_finite.fn, pointwise] at h
    exact real_of_abs_lt _ h

end Cert.MemFinite
-- ==== Proof.Step.lean ====
module
public import Idealize.ShloMosaic.Lib.Pipeline.FrameBody
public import Idealize.ShloMosaic.Lib.Tactic
@[expose] public section
noncomputable section
namespace Cert.Step
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! One load, one store, at the head of a program: what the buffer reads is all that is kept of its contents. -/

variable {nD : Nat} {τ : Topo} {sig : RefSig} {Ix : Type} [DecidableEq Ix]
variable {Val : EltTy → Type} {Name : Type} [DecidableEq Name] {U : Type} [URA U] {Lvl : Type} {Λ : Labels} [Preorder Lvl]
local notation "𝕄" => MT nD τ sig Ix Val Name U Lvl
variable {defs : Defs nD τ sig Val Λ} {𝒱 : Variants} {c : Thread nD τ} {bd : Option 𝒱.V} {E : Set Name}
variable {cs : CoreSpace} {s : Shape} {e : EltTy}

/-- A load through a rectangle gives what the buffer reads there, and leaves the buffer as it was. -/
theorem load {m : Memref sig c.2.kind cs s e} {off size off' : Fin s.rank → ℕ} {inb : ∀ a, off a + size a ≤ s.size a}
    {hl : m.view.LoadsAt (Rect.unit off size inb).toLoadRect} {q : PosShare TreeShare} {X : s.Idx → Val e}
    (inb' : ∀ a, off' a + size a ≤ s.size a) (h : off = off')
    {K : ((Rect.unit off size inb).toLoadRect.shape.Idx → Val e) → sProp 𝕄} :
    (owns c m q X : sProp 𝕄) ⊢ iprop((owns c m q X -∗ K (View.ld X (Rect.unit off' size inb')))
        -∗ wp frame (wpE defs 𝒱 c bd) E (Prog.lift (.load m (Rect.unit off size inb).toLoadRect hl)) K) := by
  subst h
  unfold owns
  iintro ⟨%f, %hf, H⟩ HK
  iapply (wp_load (Γ := _) 𝒱 c bd E (m.view.setOn_subset_set _)) $$ H
  iintro H
  rw [wp_ret, show m.view.readAt Val (Rect.unit off size inb).toLoadRect f = View.ld X (Rect.unit off size inb') from by subst hf; rfl]
  imodintro
  iapply HK
  iexists f
  isplitr
  · ipureintro; exact hf
  · iexact H

/-- A store through a rectangle replaces what the buffer reads there. -/
theorem store {m : Memref sig c.2.kind cs s e} {off size off' : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {X : s.Idx → Val e} (inb' : ∀ a, off' a + size a ≤ s.size a) (h : off = off') {K : PUnit → sProp 𝕄} :
    (owns c m fullShare X : sProp 𝕄) ⊢ iprop((owns c m fullShare ((Rect.unit off' size inb').overlay X w) -∗ K ⟨⟩)
        -∗ wp frame (wpE defs 𝒱 c bd) E (Prog.lift (.store m (Rect.unit off size inb) w Finset.univ hx hm)) K) := by
  subst h
  unfold owns
  iintro ⟨%f, %hf, H⟩ HK
  have key : (m.view.loc c ↦[m.view.set]{fullShare} f : sProp 𝕄)
      ⊢ iprop(((m.view.loc c ↦[m.view.set]{fullShare} ((m.access (Rect.unit off size inb)).write Val f w Finset.univ))
          -∗ wp frame (wpE defs 𝒱 c bd) E (.ret ⟨⟩) K)
        -∗ wp frame (wpE defs 𝒱 c bd) E (Prog.lift (.store m (Rect.unit off size inb) w Finset.univ hx hm)) K) :=
    wp_store (m := m) (r := Rect.unit off size inb) (S := m.view.set) (f := f) 𝒱 c bd E
      ((View.setOn_subset_set _ _).trans (View.set_slice_subset (v := m.view) (Rect.unit off size inb)))
  iapply key $$ H
  iintro H
  rw [wp_ret]
  imodintro
  subst hf
  iapply HK
  iexists _
  isplitr
  swap
  · iexact H
  · ipureintro
    funext y
    by_cases hy : y ∈ (Rect.unit off size inb).set
    · obtain ⟨x, rfl⟩ := (Rect.unit off size inb).exists_idx_of_mem hy
      exact (View.read_slice_write_emb _ _ _ (Finset.mem_univ x)).trans
        (Rect.overlay_emb (Rect.unit off size inb) (m.view.read Val f) w x).symm
    · rw [Rect.overlay_of_not_mem _ _ _ hy]
      exact View.read_slice_write_of_not_mem _ _ _ _ (by rwa [Rect.map_emb_univ])

end Cert.Step
-- ==== Proof.Kernel2IdealOff.lean ====
module
public import proofs.«01_k».proof.Proof.Gen.Kernel2Ideal.Skeleton
public import proofs.«01_k».proof.Proof.Gen.Kernel2Ideal.Points
public import proofs.«01_k».proof.Proof.Step
@[expose] public section
set_option maxRecDepth 16384
noncomputable section
namespace Cert.Kernel2Ideal.Run
open Cert.Kernel2Ideal Cert.Kernel2Ideal.Gen Cert.Kernel2Ideal.Facts Cert.Step
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! The run of the attention gradient's body: one block of keys, against the query blocks from its own to the last. -/

/-! Where the rows of query block `b` lie. -/
theorem inbQ {b : ℕ} (hb : b < 16) : ∀ a, (![512 * b, 0] : Fin 2 → ℕ) a + S512x256.size a ≤ S8192x256.size a := by
  intro a; match a with
  | ⟨0, _⟩ => show 512 * b + 512 ≤ 8192; omega
  | ⟨1, _⟩ => show 0 + 256 ≤ 256; omega
theorem inbD {b : ℕ} (hb : b < 16) : ∀ a, (![512 * b, 0] : Fin 2 → ℕ) a + S512x128.size a ≤ S8192x128.size a := by
  intro a; match a with
  | ⟨0, _⟩ => show 512 * b + 512 ≤ 8192; omega
  | ⟨1, _⟩ => show 0 + 128 ≤ 128; omega
theorem inbS {b : ℕ} (hb : b < 16) : ∀ a, (![0, b, 0, 0] : Fin 4 → ℕ) a + S1x1x8x512.size a ≤ S1x16x8x512.size a := by
  intro a; match a with
  | ⟨0, _⟩ => show 0 + 1 ≤ 1; omega
  | ⟨1, _⟩ => show b + 1 ≤ 16; omega
  | ⟨2, _⟩ => show 0 + 8 ≤ 8; omega
  | ⟨3, _⟩ => show 0 + 512 ≤ 512; omega

abbrev rQ {b : ℕ} (hb : b < 16) : Rect S8192x256 := Rect.unit ![512 * b, 0] S512x256.size (inbQ hb)
abbrev rD {b : ℕ} (hb : b < 16) : Rect S8192x128 := Rect.unit ![512 * b, 0] S512x128.size (inbD hb)
abbrev rS {b : ℕ} (hb : b < 16) : Rect S1x16x8x512 := Rect.unit ![0, b, 0, 0] S1x1x8x512.size (inbS hb)

/-- The number of query blocks taken before the loop, besides the diagonal one. -/
abbrev rest (i : grid0.Coords) : ℕ := (15 - (i 1).val) % 4

theorem key_lt (i : grid0.Coords) : (i 1).val < 16 := (i 1).isLt

theorem off10_eq : ∀ i : grid0.Coords, k0_off10 i = ![512 * ((i 1).val + 1 + 0), 0] := by decide +kernel
theorem off11_eq : ∀ i : grid0.Coords, k0_off11 i = ![512 * ((i 1).val + 1 + 0), 0] := by decide +kernel
theorem off12_eq : ∀ i : grid0.Coords, k0_off12 i = ![0, (i 1).val + 1 + 0, 0, 0] := by decide +kernel
theorem off4_eq (r : Fin 3) (i : grid0.Coords) : k0_off4 i (BitVec.ofNat 32 r.val) = ![512 * ((i 1).val + 1 + r.val), 0] :=
  (k0_off4_eq i r).trans (congrArg (fun n : ℕ => ![n, 0]) (by omega))
theorem off5_eq (r : Fin 3) (i : grid0.Coords) : k0_off5 i (BitVec.ofNat 32 r.val) = ![512 * ((i 1).val + 1 + r.val), 0] :=
  (k0_off5_eq i r).trans (congrArg (fun n : ℕ => ![n, 0]) (by omega))
theorem off6_eq (r : Fin 3) (i : grid0.Coords) : k0_off6 i (BitVec.ofNat 32 r.val) = ![0, (i 1).val + 1 + r.val, 0, 0] :=
  (k0_off6_eq i r).trans (congrArg (fun n : ℕ => ![0, n, 0, 0]) (by omega))
theorem off7_eq (r : Fin 2) (i : grid0.Coords) : k0_off7 i (BitVec.ofNat 32 r.val) = ![512 * ((i 1).val + 1 + r.val), 0] :=
  (k0_off7_eq i r).trans (congrArg (fun n : ℕ => ![n, 0]) (by omega))
theorem off8_eq (r : Fin 2) (i : grid0.Coords) : k0_off8 i (BitVec.ofNat 32 r.val) = ![512 * ((i 1).val + 1 + r.val), 0] :=
  (k0_off8_eq i r).trans (congrArg (fun n : ℕ => ![n, 0]) (by omega))
theorem off9_eq (r : Fin 2) (i : grid0.Coords) : k0_off9 i (BitVec.ofNat 32 r.val) = ![0, (i 1).val + 1 + r.val, 0, 0] :=
  (k0_off9_eq i r).trans (congrArg (fun n : ℕ => ![0, n, 0, 0]) (by omega))
theorem off13_eq : ∀ (r : Fin 4) (i : grid0.Coords) (t : Fin (k0_t1_loop i).trips),
    k0_off13 i t (BitVec.ofNat 32 r.val) = ![512 * ((i 1).val + 1 + (rest i + 4 * t.val + r.val)), 0] := by decide +kernel
theorem off14_eq : ∀ (r : Fin 4) (i : grid0.Coords) (t : Fin (k0_t1_loop i).trips),
    k0_off14 i t (BitVec.ofNat 32 r.val) = ![512 * ((i 1).val + 1 + (rest i + 4 * t.val + r.val)), 0] := by decide +kernel
theorem off15_eq : ∀ (r : Fin 4) (i : grid0.Coords) (t : Fin (k0_t1_loop i).trips),
    k0_off15 i t (BitVec.ofNat 32 r.val) = ![0, (i 1).val + 1 + (rest i + 4 * t.val + r.val), 0, 0] := by decide +kernel
theorem trips1 : ∀ i : grid0.Coords, rest i + 4 * (k0_t1_loop i).trips = 15 - (i 1).val := by decide +kernel
theorem trips2 : ∀ i : grid0.Coords, (k0_t2_loop i).trips = 0 := by decide +kernel
theorem zero_iff : ∀ i : grid0.Coords, (Scalar.cmpi .ne (Scalar.extui (Scalar.cmpi .eq (BitVec.ofNat 32 (i 1).val) 0#32) : BitVec 32) 0#32 = 1#1) ↔ (i 1).val = 0 := by decide +kernel
theorem cond2_iff : ∀ i : grid0.Coords, k0_cond2 i = 1#1 ↔ rest i ≠ 0 := by decide +kernel
theorem cond3_iff : ∀ i : grid0.Coords, rest i ≠ 0 → (k0_cond3 i = 1#1 ↔ 2 ≤ rest i) := by decide +kernel
theorem cond4_iff : ∀ i : grid0.Coords, 2 ≤ rest i → (k0_cond4 i = 1#1 ↔ rest i = 3) := by decide +kernel

/-! The payloads of the blocks are three functions, spelled once for each place a block is written out. -/
section Payloads
variable {F : FTy → Type} [FloatOps F] [Named F]
theorem pay43_eq : k0_pay43 (F := F) = k0_pay37 := rfl
theorem pay49_eq : k0_pay49 (F := F) = k0_pay37 := rfl
theorem pay18_eq : k0_pay18 (F := F) = k0_pay37 := rfl
theorem pay24_eq : k0_pay24 (F := F) = k0_pay37 := rfl
theorem pay31_eq : k0_pay31 (F := F) = k0_pay37 := rfl
theorem pay92_eq : k0_pay92 (F := F) = k0_pay37 := rfl
theorem pay98_eq : k0_pay98 (F := F) = k0_pay37 := rfl
theorem pay40_eq : k0_pay40 (F := F) = k0_pay34 := rfl
theorem pay46_eq : k0_pay46 (F := F) = k0_pay34 := rfl
theorem pay15_eq : k0_pay15 (F := F) = k0_pay34 := rfl
theorem pay21_eq : k0_pay21 (F := F) = k0_pay34 := rfl
theorem pay28_eq : k0_pay28 (F := F) = k0_pay34 := rfl
theorem pay89_eq : k0_pay89 (F := F) = k0_pay34 := rfl
theorem pay95_eq : k0_pay95 (F := F) = k0_pay34 := rfl
theorem pay42_eq : k0_pay42 (F := F) = k0_pay36 := rfl
theorem pay48_eq : k0_pay48 (F := F) = k0_pay36 := rfl
theorem pay17_eq : k0_pay17 (F := F) = k0_pay36 := rfl
theorem pay23_eq : k0_pay23 (F := F) = k0_pay36 := rfl
theorem pay30_eq : k0_pay30 (F := F) = k0_pay36 := rfl
theorem pay91_eq : k0_pay91 (F := F) = k0_pay36 := rfl
variable (v3 : Vec F S512x256 .bf16) (v4 : Vec F S512x128 .bf16) (g : FVec F S512x256 .f32) (h : FVec F S512x128 .f32)
  (q : Vec F S512x256 .bf16) (d : Vec F S512x128 .bf16) (t : Vec F S1x1x8x512 .f32) (x : Vec F S512x256 .f32)
theorem pay5_eq : k0_pay5 v3 v4 d (k0_pay50 t) (k0_pay51 v3 q) (k0_pay52 t) x = k0_pay37 v3 v4 q d t x := rfl
theorem pay2_eq : k0_pay2 h d (k0_pay51 v3 q) (k0_pay52 t) = k0_pay34 v3 h q d t := rfl
theorem pay4_eq : k0_pay4 v4 g q d (k0_pay50 t) (k0_pay51 v3 q) (k0_pay52 t) = k0_pay36 v3 v4 g q d t := rfl
theorem pay86_eq : k0_pay86 v3 v4 q d (k0_pay25 t) (constant S512x512 .f32 0x00000000#32) x = k0_pay37 v3 v4 q d t x := rfl
theorem pay83_eq : k0_pay83 v3 h q d (k0_pay25 t) (constant S512x512 .f32 0x00000000#32) = k0_pay34 v3 h q d t := rfl
theorem pay85_eq : k0_pay85 v3 v4 g q d (k0_pay25 t) (constant S512x512 .f32 0x00000000#32) = k0_pay36 v3 v4 g q d t := rfl
theorem pay97_eq (v5 : FVec F S512x256 .f32) (v10 : Vec F S512x256 .bf16) (v36 : FVec F S512x512 .bf16) (c : FVec F S512x256 .f32) :
    k0_pay97 v3 v4 v5 v10 v36 c q d t = k0_pay36 v3 v4 (k0_pay80 v5 v10 v36 c) q d t := rfl
end Payloads

end Cert.Kernel2Ideal.Run
-- ==== Proof.Kernel2IdealRun.lean ====
module
public import proofs.«01_k».proof.Proof.Kernel2IdealOff
@[expose] public section
set_option maxRecDepth 16384
noncomputable section
namespace Cert.Kernel2Ideal.Run
open Cert.Kernel2Ideal Cert.Kernel2Ideal.Gen Cert.Kernel2Ideal.Facts Cert.Step
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! The run of the attention gradient's body. -/

variable {F : FTy → Type} [FloatOps F] [Named F]

/-- The gradient of the queries so far, and of this block's keys and values. -/
abbrev St (F : FTy → Type) := Vec F S8192x256 .f32 × Vec F S512x256 .f32 × Vec F S512x128 .f32

section Pure
variable (v3 : Vec F S512x256 .bf16) (v4 : Vec F S512x128 .bf16) (Q : Vec F S8192x256 .bf16) (D : Vec F S8192x128 .bf16) (T : Vec F S1x16x8x512 .f32)

/-- The diagonal block, masked. -/
def first {b : ℕ} (hb : b < 16) (X : Vec F S8192x256 .f32) : St F :=
  ((rQ hb).overlay X (k0_pay81 v3 (k0_pay79 v3 v4 (View.ld Q (rQ hb)) (View.ld D (rD hb)) (View.ld T (rS hb))) (View.ld X (rQ hb))),
    k0_pay80 (k0_pay75 (F := F)) (View.ld Q (rQ hb)) (k0_pay79 v3 v4 (View.ld Q (rQ hb)) (View.ld D (rD hb)) (View.ld T (rS hb))) (constant S512x256 .f32 0x00000000#32),
    k0_pay78 v3 (View.ld Q (rQ hb)) (View.ld D (rD hb)) (View.ld T (rS hb)))

/-- A block below the diagonal. -/
def next {b : ℕ} (hb : b < 16) (s : St F) : St F :=
  ((rQ hb).overlay s.1 (k0_pay37 v3 v4 (View.ld Q (rQ hb)) (View.ld D (rD hb)) (View.ld T (rS hb)) (View.ld s.1 (rQ hb))),
    k0_pay36 v3 v4 s.2.1 (View.ld Q (rQ hb)) (View.ld D (rD hb)) (View.ld T (rS hb)),
    k0_pay34 v3 s.2.2 (View.ld Q (rQ hb)) (View.ld D (rD hb)) (View.ld T (rS hb)))

theorem first_rows {b : ℕ} (hb : b < 16) (X : Vec F S8192x256 .f32) :
    (rQ hb).overlay X (k0_pay81 v3 (k0_pay79 v3 v4 (View.ld Q (rQ hb)) (View.ld D (rD hb)) (View.ld T (rS hb))) (View.ld X (rQ hb)))
      = (first v3 v4 Q D T hb X).1 := rfl
theorem first_keys {b : ℕ} (hb : b < 16) (X : Vec F S8192x256 .f32) :
    k0_pay80 (k0_pay75 (F := F)) (View.ld Q (rQ hb)) (k0_pay79 v3 v4 (View.ld Q (rQ hb)) (View.ld D (rD hb)) (View.ld T (rS hb))) (constant S512x256 .f32 0x00000000#32)
      = (first v3 v4 Q D T hb X).2.1 := rfl
theorem first_values {b : ℕ} (hb : b < 16) (X : Vec F S8192x256 .f32) :
    k0_pay78 v3 (View.ld Q (rQ hb)) (View.ld D (rD hb)) (View.ld T (rS hb)) = (first v3 v4 Q D T hb X).2.2 := rfl
theorem next_rows {b : ℕ} (hb : b < 16) (s : St F) :
    (rQ hb).overlay s.1 (k0_pay37 v3 v4 (View.ld Q (rQ hb)) (View.ld D (rD hb)) (View.ld T (rS hb)) (View.ld s.1 (rQ hb)))
      = (next v3 v4 Q D T hb s).1 := rfl
theorem next_keys {b : ℕ} (hb : b < 16) (s : St F) :
    k0_pay36 v3 v4 s.2.1 (View.ld Q (rQ hb)) (View.ld D (rD hb)) (View.ld T (rS hb)) = (next v3 v4 Q D T hb s).2.1 := rfl
theorem next_values {b : ℕ} (hb : b < 16) (s : St F) :
    k0_pay34 v3 s.2.2 (View.ld Q (rQ hb)) (View.ld D (rD hb)) (View.ld T (rS hb)) = (next v3 v4 Q D T hb s).2.2 := rfl

/-- Key block `k` against its diagonal block and the `n` blocks after it. -/
def run {k : ℕ} (hk : k < 16) (X : Vec F S8192x256 .f32) : ℕ → St F
  | 0 => first v3 v4 Q D T hk X
  | n + 1 => if h : k + 1 + n < 16 then next v3 v4 Q D T h (run hk X n) else run hk X n

theorem run_succ {k : ℕ} (hk : k < 16) (X : Vec F S8192x256 .f32) (n : ℕ) (h : k + 1 + n < 16) :
    run v3 v4 Q D T hk X (n + 1) = next v3 v4 Q D T h (run v3 v4 Q D T hk X n) := dif_pos h
end Pure

local notation "𝕄" => MT nD τ sig Unit (Elt F) ℕ (UR sig nD τ) ℕ

variable (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S8192x256 .f32) (harg7 : arg7.IsWhole) (arg8 : Memref sig .tc .vmem S512x256 .bf16) (harg8 : arg8.IsWhole) (arg9 : Memref sig .tc .vmem S512x128 .bf16) (harg9 : arg9.IsWhole) (arg10 : DmaSems sig S1) (arg11 : DmaSems sig S1)
  (v3 : Vec F S512x256 .bf16) (v4 : Vec F S512x128 .bf16) (Q : Vec F S8192x256 .bf16) (D : Vec F S8192x128 .bf16) (T : Vec F S1x16x8x512 .f32) (X : Vec F S8192x256 .f32)

/-- The buffers a block reads and writes, `n` blocks after the diagonal one. -/
def held (n : ℕ) : sProp 𝕄 :=
  iprop(owns (c : Thread nD τ) arg2 fullShare Q ∗ owns (c : Thread nD τ) arg5 fullShare D ∗ owns (c : Thread nD τ) arg6 fullShare T
    ∗ owns (c : Thread nD τ) arg7 fullShare (run v3 v4 Q D T (key_lt i) X n).1)

set_option maxHeartbeats 4000000 in
/-- One trip of the loop is four blocks. -/
theorem trip (E : Set ℕ) (v75 : BitVec 32) (t : Fin (k0_t1_loop i).trips) :
    held c i arg2 arg5 arg6 arg7 v3 v4 Q D T X (rest i + 4 * t.val)
      ⊢ wp frame (wpE (defs₀ (F := F)) Variants.none c none) E
        (k0_t1_body i arg2 harg2 arg3 harg3 arg4 harg4 arg5 harg5 arg6 harg6 arg7 harg7 arg8 harg8 arg9 harg9 arg10 arg11 v3 v4 v75 t (run v3 v4 Q D T (key_lt i) X (rest i + 4 * t.val)).2)
        (fun a => iprop(⌜a = (run v3 v4 Q D T (key_lt i) X (rest i + 4 * t.val + 4)).2⌝
          ∗ held c i arg2 arg5 arg6 arg7 v3 v4 Q D T X (rest i + 4 * t.val + 4))) := by
  have ht := trips1 i
  have htl := t.isLt
  have hk := key_lt i
  have hb0 : (i 1).val + 1 + (rest i + 4 * t.val + 0) < 16 := by omega
  have hb1 : (i 1).val + 1 + (rest i + 4 * t.val + 1) < 16 := by omega
  have hb2 : (i 1).val + 1 + (rest i + 4 * t.val + 2) < 16 := by omega
  have hb3 : (i 1).val + 1 + (rest i + 4 * t.val + 3) < 16 := by omega
  have e0 := run_succ v3 v4 Q D T hk X _ hb0
  have e1 := run_succ v3 v4 Q D T hk X _ hb1
  have e2 := run_succ v3 v4 Q D T hk X _ hb2
  have e3 := run_succ v3 v4 Q D T hk X _ hb3
  unfold held
  have e : run v3 v4 Q D T hk X (rest i + 4 * t.val + 4)
      = next v3 v4 Q D T hb3 (next v3 v4 Q D T hb2 (next v3 v4 Q D T hb1 (next v3 v4 Q D T hb0 (run v3 v4 Q D T hk X (rest i + 4 * t.val))))) :=
    e3.trans (congrArg _ (e2.trans (congrArg _ (e1.trans (congrArg _ e0)))))
  rw [e]
  clear e e0 e1 e2 e3
  have r0 := next_rows v3 v4 Q D T hb0
  have r1 := next_rows v3 v4 Q D T hb1
  have r2 := next_rows v3 v4 Q D T hb2
  have r3 := next_rows v3 v4 Q D T hb3
  generalize run v3 v4 Q D T hk X (rest i + 4 * t.val) = s
  unfold k0_t1_body
  simp only [k0_part4_eq_skeleton, k0_part5_eq_skeleton, k0_part6_eq_skeleton]
  unfold k0_part4_skel k0_part5_skel k0_part6_skel
  simp only [wp_bind, wp_pure, fupd_wp_eq, pay43_eq, pay40_eq, pay42_eq, pay49_eq, pay46_eq, pay48_eq, pay5_eq, pay2_eq, pay4_eq]
  iintro ⟨H2, H5, H6, H7⟩
  iapply (load (inbQ (hb0)) (off13_eq 0 i t)) $$ H2; iintro H2
  iapply (load (inbD (hb0)) (off14_eq 0 i t)) $$ H5; iintro H5
  iapply (load (inbS (hb0)) (off15_eq 0 i t)) $$ H6; iintro H6
  iapply (load (inbQ (hb0)) (off13_eq 0 i t)) $$ H7; iintro H7
  iapply (load (inbQ (hb0)) (off13_eq 0 i t)) $$ H7; iintro H7
  iapply (store (inbQ (hb0)) (off13_eq 0 i t)) $$ H7; iintro H7
  rw [r0]
  iapply (load (inbQ (hb1)) (off13_eq 1 i t)) $$ H2; iintro H2
  iapply (load (inbD (hb1)) (off14_eq 1 i t)) $$ H5; iintro H5
  iapply (load (inbS (hb1)) (off15_eq 1 i t)) $$ H6; iintro H6
  iapply (load (inbQ (hb1)) (off13_eq 1 i t)) $$ H7; iintro H7
  iapply (load (inbQ (hb1)) (off13_eq 1 i t)) $$ H7; iintro H7
  iapply (store (inbQ (hb1)) (off13_eq 1 i t)) $$ H7; iintro H7
  rw [r1]
  iapply (load (inbQ (hb2)) (off13_eq 2 i t)) $$ H2; iintro H2
  iapply (load (inbD (hb2)) (off14_eq 2 i t)) $$ H5; iintro H5
  iapply (load (inbS (hb2)) (off15_eq 2 i t)) $$ H6; iintro H6
  iapply (load (inbQ (hb2)) (off13_eq 2 i t)) $$ H7; iintro H7
  iapply (load (inbQ (hb2)) (off13_eq 2 i t)) $$ H7; iintro H7
  iapply (store (inbQ (hb2)) (off13_eq 2 i t)) $$ H7; iintro H7
  rw [r2]
  iapply (load (inbQ (hb3)) (off13_eq 3 i t)) $$ H2; iintro H2
  iapply (load (inbD (hb3)) (off14_eq 3 i t)) $$ H5; iintro H5
  iapply (load (inbS (hb3)) (off15_eq 3 i t)) $$ H6; iintro H6
  iapply (load (inbQ (hb3)) (off13_eq 3 i t)) $$ H7; iintro H7
  iapply (load (inbQ (hb3)) (off13_eq 3 i t)) $$ H7; iintro H7
  iapply (store (inbQ (hb3)) (off13_eq 3 i t)) $$ H7; iintro H7
  rw [r3]
  imodintro
  isplitr
  · ipureintro
    simp only [next_keys, next_values]
    rfl
  isplitl [H2]; · iexact H2
  isplitl [H5]; · iexact H5
  isplitl [H6]; · iexact H6
  iexact H7

set_option maxHeartbeats 4000000 in
/-- The diagonal block and the blocks before the loop. -/
theorem part (E : Set ℕ) (w v8 : BitVec 32) :
    iprop(owns (c : Thread nD τ) arg2 fullShare Q ∗ owns (c : Thread nD τ) arg5 fullShare D ∗ owns (c : Thread nD τ) arg6 fullShare T
      ∗ owns (c : Thread nD τ) arg7 fullShare X)
      ⊢ wp frame (wpE (defs₀ (F := F)) Variants.none c none) E
        (k0_part11 i arg2 harg2 arg3 harg3 arg4 harg4 arg5 harg5 arg6 harg6 arg7 harg7 arg8 harg8 arg9 harg9 arg10 arg11 w v3 v4 (k0_pay75 (F := F)) v8 (View.ld Q (rQ (key_lt i)))
          (k0_pay78 v3 (View.ld Q (rQ (key_lt i))) (View.ld D (rD (key_lt i))) (View.ld T (rS (key_lt i))))
          (k0_pay79 v3 v4 (View.ld Q (rQ (key_lt i))) (View.ld D (rD (key_lt i))) (View.ld T (rS (key_lt i))))
          (constant S512x256 .f32 0x00000000#32))
        (fun r => iprop(⌜r.2.1 = (run v3 v4 Q D T (key_lt i) X (rest i)).2.1 ∧ r.2.2.1 = (run v3 v4 Q D T (key_lt i) X (rest i)).2.2⌝
          ∗ held c i arg2 arg5 arg6 arg7 v3 v4 Q D T X (rest i))) := by
  have hk := key_lt i
  have hd : rest i = (15 - (i 1).val) % 4 := rfl
  have hlt : rest i < 4 := Nat.mod_lt _ (by decide)
  have hle : rest i ≤ 15 - (i 1).val := Nat.mod_le _ _
  simp only [k0_part11_eq_skeleton]
  unfold held
  clear hd
  generalize hr : rest i = n at *
  have hn : n = 0 ∨ n = 1 ∨ n = 2 ∨ n = 3 := by omega
  rcases hn with rfl | rfl | rfl | rfl
  · have hk2 : ¬ k0_cond2 i = 1#1 := fun h => (cond2_iff i).mp h (by omega)
    have e : run v3 v4 Q D T hk X 0 = first v3 v4 Q D T hk X :=
      rfl
    rw [e]
    unfold k0_part11_skel
    simp only [dif_neg hk2]
    simp only [wp_bind, wp_pure, fupd_wp_eq]
    iintro ⟨H2, H5, H6, H7⟩
    iapply (load (inbQ hk) (k0_off1_eq i)) $$ H7; iintro H7
    iapply (load (inbQ hk) (k0_off1_eq i)) $$ H7; iintro H7
    iapply (store (inbQ hk) (k0_off1_eq i)) $$ H7; iintro H7
    rw [first_rows v3 v4 Q D T hk X]
    imodintro
    isplitr
    · ipureintro
      simp only [first_keys v3 v4 Q D T hk X, first_values v3 v4 Q D T hk X, next_keys v3 v4 Q D T, next_values v3 v4 Q D T]
      trivial
    isplitl [H2]; · iexact H2
    isplitl [H5]; · iexact H5
    isplitl [H6]; · iexact H6
    iexact H7
  · have hk2 : k0_cond2 i = 1#1 := (cond2_iff i).mpr (by omega)
    have hk3 : ¬ k0_cond3 i = 1#1 := fun h => absurd ((cond3_iff i (by omega)).mp h) (by omega)
    have hb0 : (i 1).val + 1 + 0 < 16 := by omega
    have e : run v3 v4 Q D T hk X 1 = next v3 v4 Q D T hb0 (first v3 v4 Q D T hk X) :=
      run_succ v3 v4 Q D T hk X 0 hb0
    rw [e]
    unfold k0_part11_skel
    simp only [dif_pos hk2, dif_neg hk3]
    simp only [wp_bind, wp_pure, fupd_wp_eq, pay98_eq, pay97_eq, pay95_eq]
    iintro ⟨H2, H5, H6, H7⟩
    iapply (load (inbQ hk) (k0_off1_eq i)) $$ H7; iintro H7
    iapply (load (inbQ hk) (k0_off1_eq i)) $$ H7; iintro H7
    iapply (store (inbQ hk) (k0_off1_eq i)) $$ H7; iintro H7
    rw [first_rows v3 v4 Q D T hk X]
    iapply (load (inbQ hb0) (off10_eq i)) $$ H2; iintro H2
    iapply (load (inbD hb0) (off11_eq i)) $$ H5; iintro H5
    iapply (load (inbS hb0) (off12_eq i)) $$ H6; iintro H6
    iapply (load (inbQ hb0) (off10_eq i)) $$ H7; iintro H7
    iapply (load (inbQ hb0) (off10_eq i)) $$ H7; iintro H7
    iapply (store (inbQ hb0) (off10_eq i)) $$ H7; iintro H7
    rw [next_rows v3 v4 Q D T hb0]
    imodintro
    isplitr
    · ipureintro
      dsimp only
      simp only [first_keys v3 v4 Q D T hk X, first_values v3 v4 Q D T hk X, next_keys v3 v4 Q D T, next_values v3 v4 Q D T]
      exact ⟨rfl, rfl⟩
    isplitl [H2]; · iexact H2
    isplitl [H5]; · iexact H5
    isplitl [H6]; · iexact H6
    iexact H7
  · have hk2 : k0_cond2 i = 1#1 := (cond2_iff i).mpr (by omega)
    have hk3 : k0_cond3 i = 1#1 := (cond3_iff i (by omega)).mpr (by omega)
    have hk4 : ¬ k0_cond4 i = 1#1 := fun h => absurd ((cond4_iff i (by omega)).mp h) (by omega)
    have hb0 : (i 1).val + 1 + 0 < 16 := by omega
    have hb1 : (i 1).val + 1 + 1 < 16 := by omega
    have e : run v3 v4 Q D T hk X 2 = next v3 v4 Q D T hb1 (next v3 v4 Q D T hb0 (first v3 v4 Q D T hk X)) :=
      (run_succ v3 v4 Q D T hk X 1 hb1).trans (congrArg _ (run_succ v3 v4 Q D T hk X 0 hb0))
    rw [e]
    unfold k0_part11_skel
    simp only [dif_pos hk2, dif_pos hk3, dif_neg hk4]
    simp only [k0_part3_eq_skeleton]
    unfold k0_part3_skel
    simp only [wp_bind, wp_pure, fupd_wp_eq, pay31_eq, pay28_eq, pay30_eq, pay92_eq, pay91_eq, pay89_eq]
    iintro ⟨H2, H5, H6, H7⟩
    iapply (load (inbQ hk) (k0_off1_eq i)) $$ H7; iintro H7
    iapply (load (inbQ hk) (k0_off1_eq i)) $$ H7; iintro H7
    iapply (store (inbQ hk) (k0_off1_eq i)) $$ H7; iintro H7
    rw [first_rows v3 v4 Q D T hk X]
    iapply (load (inbQ hb0) (off7_eq 0 i)) $$ H2; iintro H2
    iapply (load (inbD hb0) (off8_eq 0 i)) $$ H5; iintro H5
    iapply (load (inbS hb0) (off9_eq 0 i)) $$ H6; iintro H6
    iapply (load (inbQ hb0) (off7_eq 0 i)) $$ H7; iintro H7
    iapply (load (inbQ hb0) (off7_eq 0 i)) $$ H7; iintro H7
    iapply (store (inbQ hb0) (off7_eq 0 i)) $$ H7; iintro H7
    rw [next_rows v3 v4 Q D T hb0]
    iapply (load (inbQ hb1) (off7_eq 1 i)) $$ H2; iintro H2
    iapply (load (inbD hb1) (off8_eq 1 i)) $$ H5; iintro H5
    iapply (load (inbS hb1) (off9_eq 1 i)) $$ H6; iintro H6
    iapply (load (inbQ hb1) (off7_eq 1 i)) $$ H7; iintro H7
    iapply (load (inbQ hb1) (off7_eq 1 i)) $$ H7; iintro H7
    iapply (store (inbQ hb1) (off7_eq 1 i)) $$ H7; iintro H7
    rw [next_rows v3 v4 Q D T hb1]
    imodintro
    isplitr
    · ipureintro
      dsimp only
      simp only [first_keys v3 v4 Q D T hk X, first_values v3 v4 Q D T hk X, next_keys v3 v4 Q D T, next_values v3 v4 Q D T]
      exact ⟨rfl, rfl⟩
    isplitl [H2]; · iexact H2
    isplitl [H5]; · iexact H5
    isplitl [H6]; · iexact H6
    iexact H7
  · have hk2 : k0_cond2 i = 1#1 := (cond2_iff i).mpr (by omega)
    have hk3 : k0_cond3 i = 1#1 := (cond3_iff i (by omega)).mpr (by omega)
    have hk4 : k0_cond4 i = 1#1 := (cond4_iff i (by omega)).mpr (by omega)
    have hb0 : (i 1).val + 1 + 0 < 16 := by omega
    have hb1 : (i 1).val + 1 + 1 < 16 := by omega
    have hb2 : (i 1).val + 1 + 2 < 16 := by omega
    have e : run v3 v4 Q D T hk X 3 = next v3 v4 Q D T hb2 (next v3 v4 Q D T hb1 (next v3 v4 Q D T hb0 (first v3 v4 Q D T hk X))) :=
      (run_succ v3 v4 Q D T hk X 2 hb2).trans (congrArg _ ((run_succ v3 v4 Q D T hk X 1 hb1).trans (congrArg _ (run_succ v3 v4 Q D T hk X 0 hb0))))
    rw [e]
    unfold k0_part11_skel
    simp only [dif_pos hk2, dif_pos hk3, dif_pos hk4]
    simp only [k0_part1_eq_skeleton, k0_part2_eq_skeleton]
    unfold k0_part1_skel k0_part2_skel
    simp only [wp_bind, wp_pure, fupd_wp_eq, pay18_eq, pay15_eq, pay17_eq, pay24_eq, pay21_eq, pay23_eq, pay86_eq, pay85_eq, pay83_eq]
    iintro ⟨H2, H5, H6, H7⟩
    iapply (load (inbQ hk) (k0_off1_eq i)) $$ H7; iintro H7
    iapply (load (inbQ hk) (k0_off1_eq i)) $$ H7; iintro H7
    iapply (store (inbQ hk) (k0_off1_eq i)) $$ H7; iintro H7
    rw [first_rows v3 v4 Q D T hk X]
    iapply (load (inbQ hb0) (off4_eq 0 i)) $$ H2; iintro H2
    iapply (load (inbD hb0) (off5_eq 0 i)) $$ H5; iintro H5
    iapply (load (inbS hb0) (off6_eq 0 i)) $$ H6; iintro H6
    iapply (load (inbQ hb0) (off4_eq 0 i)) $$ H7; iintro H7
    iapply (load (inbQ hb0) (off4_eq 0 i)) $$ H7; iintro H7
    iapply (store (inbQ hb0) (off4_eq 0 i)) $$ H7; iintro H7
    rw [next_rows v3 v4 Q D T hb0]
    iapply (load (inbQ hb1) (off4_eq 1 i)) $$ H2; iintro H2
    iapply (load (inbD hb1) (off5_eq 1 i)) $$ H5; iintro H5
    iapply (load (inbS hb1) (off6_eq 1 i)) $$ H6; iintro H6
    iapply (load (inbQ hb1) (off4_eq 1 i)) $$ H7; iintro H7
    iapply (load (inbQ hb1) (off4_eq 1 i)) $$ H7; iintro H7
    iapply (store (inbQ hb1) (off4_eq 1 i)) $$ H7; iintro H7
    rw [next_rows v3 v4 Q D T hb1]
    iapply (load (inbQ hb2) (off4_eq 2 i)) $$ H2; iintro H2
    iapply (load (inbD hb2) (off5_eq 2 i)) $$ H5; iintro H5
    iapply (load (inbS hb2) (off6_eq 2 i)) $$ H6; iintro H6
    iapply (load (inbQ hb2) (off4_eq 2 i)) $$ H7; iintro H7
    iapply (load (inbQ hb2) (off4_eq 2 i)) $$ H7; iintro H7
    iapply (store (inbQ hb2) (off4_eq 2 i)) $$ H7; iintro H7
    rw [next_rows v3 v4 Q D T hb2]
    imodintro
    isplitr
    · ipureintro
      dsimp only
      simp only [first_keys v3 v4 Q D T hk X, first_values v3 v4 Q D T hk X, next_keys v3 v4 Q D T, next_values v3 v4 Q D T]
      exact ⟨rfl, rfl⟩
    isplitl [H2]; · iexact H2
    isplitl [H5]; · iexact H5
    isplitl [H6]; · iexact H6
    iexact H7

end Cert.Kernel2Ideal.Run
-- ==== Proof.MlaBlock.lean ====
module
public import proofs.«01_k».proof.Proof.Kernel2IdealRun
public import proofs.«01_k».proof.Proof.RealTools
public import Idealize.ShloMosaic.Lib.Pipeline.ValueKit
public import Idealize.ShloMosaic.Lib.Pointwise
@[expose] public section
set_option maxRecDepth 16384
noncomputable section
namespace Cert.MlaBlock
open Cert.Kernel2Ideal Cert.Kernel2Ideal.Gen Cert.Kernel2Ideal.Facts Cert.Kernel2Ideal.Run Cert.RealTools
open Idealize.ShloMosaic
open scoped BigOperators

/-! ## The attention gradient of one head, over the real numbers

For one head: `q` the queries, `k` the keys, `v` the values, `o` the gradient of the attention's output, each by row and
column; `L` the logarithm to base two of a row's sum of exponentials, `E` the row's sum of `o` times the attention's output. -/

/-- The scale of the scores, as a power of two takes it. -/
def sc2 : ℝ := (Real.sqrt 192)⁻¹ * (Real.log 2)⁻¹

section Spec
variable (q k : ℕ → Fin 256 → ℝ) (v o : ℕ → Fin 128 → ℝ) (L E : ℕ → ℝ)
/-- The attention weight of a key for a query. -/
def pN (i j : ℕ) : ℝ := if i ≤ j then Real.rpow 2 ((∑ d, k i d * q j d) * sc2 - L j) else 0
/-- The gradient of their score. -/
def dsN (i j : ℕ) : ℝ := pN q k L i j * ((∑ d, v i d * o j d) - E j)
end Spec

theorem named_sc2 : Named.named (F := Ideal) (φ := .f32) κ "scale_log2e" 0x3DD53B95#32 = ((sc2 : ℝ) : EReal) :=
  IdealRules.named_const.ideal_named_scalar _ _ _ _ rfl
theorem named_scale : Named.named (F := Ideal) (φ := .f32) κ "scale" 0x3D93CD3A#32 = (((Real.sqrt 192)⁻¹ : ℝ) : EReal) :=
  IdealRules.named_const.ideal_named_scalar _ _ _ _ rfl
theorem named_mask : Named.named (F := Ideal) (φ := .f32) κ "mask" 0xF149F2CA#32 = (⊥ : EReal) :=
  IdealRules.named_const.ideal_named_scalar _ _ _ _ rfl

theorem sc2_pos : 0 < sc2 := by unfold sc2; have := Real.log_pos (by norm_num : (1 : ℝ) < 2); positivity

/-- The comparison of two small numbers chooses by their order. -/
theorem select_le {α : Type} (a b : ℕ) (ha : a < 2 ^ 20) (hb : b < 2 ^ 20) (x y : α) :
    Scalar.select (IntOp.cmpi .sle (BitVec.ofNat 32 a) (BitVec.ofNat 32 b)) x y = if a ≤ b then x else y := by
  have hi : ∀ n : ℕ, n < 2 ^ 20 → (BitVec.ofNat 32 n).toInt = n := fun n hn => by
    have hn' : (BitVec.ofNat 32 n).toNat = n := by rw [BitVec.toNat_ofNat]; omega
    rw [BitVec.toInt_eq_toNat_of_lt (by rw [hn']; omega), hn']
  have e : (BitVec.ofNat 32 a).sle (BitVec.ofNat 32 b) = decide (a ≤ b) := by
    rw [BitVec.sle_eq_decide, hi a ha, hi b hb]
    simp
  show (if BitVec.ofBool ((BitVec.ofNat 32 a).sle (BitVec.ofNat 32 b)) = 1 then x else y) = _
  rw [e]
  by_cases h : a ≤ b <;> simp [h]

section Payloads
variable (q k : ℕ → Fin 256 → ℝ) (v o : ℕ → Fin 128 → ℝ) (L E : ℕ → ℝ) (B C : ℕ)
  (K : Vec Ideal S512x256 .bf16) (V : Vec Ideal S512x128 .bf16) (Q : Vec Ideal S512x256 .bf16) (O : Vec Ideal S512x128 .bf16) (T : Vec Ideal S1x1x8x512 .f32)
  (hK : ∀ (r : Fin 512) d, K (ix2 r d) = ((k (B + r.val) d : ℝ) : EReal)) (hV : ∀ (r : Fin 512) d, V (ix2 r d) = ((v (B + r.val) d : ℝ) : EReal))
  (hQ : ∀ (r : Fin 512) d, Q (ix2 r d) = ((q (C + r.val) d : ℝ) : EReal)) (hO : ∀ (r : Fin 512) d, O (ix2 r d) = ((o (C + r.val) d : ℝ) : EReal))
  (hL : ∀ j : Fin 512, T (ix4 0 0 0 j) = ((L (C + j.val) : ℝ) : EReal)) (hE : ∀ j : Fin 512, T (ix4 0 0 1 j) = ((E (C + j.val) : ℝ) : EReal))

include hK hQ in
/-- A score. -/
theorem score_coe (r j : Fin 512) : 0 + ∑ d, K (ix2 r d) * Q (ix2 j d) = ((∑ d, k (B + r.val) d * q (C + j.val) d : ℝ) : EReal) := by
  simp only [hK, hQ, zero_add, ← EReal.coe_mul, coe_sum]

include hV hO in
/-- The gradient of a weight. -/
theorem slope_coe (r j : Fin 512) : 0 + ∑ d, V (ix2 r d) * O (ix2 j d) = ((∑ d, v (B + r.val) d * o (C + j.val) d : ℝ) : EReal) := by
  simp only [hV, hO, zero_add, ← EReal.coe_mul, coe_sum]

include hK hQ hL in
/-- The weights of a block below the diagonal. -/
theorem p_next (hB : B + 512 ≤ C) (r j : Fin 512) : k0_pay33 (F := Ideal) K Q T (ix2 r j) = ((pN q k L (B + r.val) (C + j.val) : ℝ) : EReal) := by
  simp only [k0_pay33, k0_pay32, pointwise]
  rw [named_sc2]
  have e : (⟨![0, 0] 1 + (if h1 : 512 = 1 then (0 : Fin 512) else j).val, by simp⟩ : Fin 512) = j := Fin.ext (by simp)
  refine (congrArg (fun j' : Fin 512 => Ideal.exp2 ((0 + ∑ d, K (ix2 r d) * Q (ix2 j d)) * ((sc2 : ℝ) : EReal) - T (ix4 0 0 0 j'))) e).trans ?_
  rw [hL, score_coe q k B C K Q hK hQ, ← EReal.coe_mul, ← EReal.coe_sub, Ideal.exp2_coe]
  unfold pN
  rw [if_pos (by have := r.isLt; omega)]

include hK hQ hL in
/-- The weights of the diagonal block: none for a key after the query. -/
theorem p_first (hB : B = C) (r j : Fin 512) : k0_pay77 (F := Ideal) K Q T (ix2 r j) = ((pN q k L (B + r.val) (C + j.val) : ℝ) : EReal) := by
  simp only [k0_pay77, k0_pay76, pointwise]
  rw [named_sc2, named_mask]
  have e : (⟨![0, 0] 1 + (if h1 : 512 = 1 then (0 : Fin 512) else j).val, by simp⟩ : Fin 512) = j := Fin.ext (by simp)
  have e0 : List.foldl (fun n a => n * ![512, 512] a + ((ix2 r j : (⟨2, ![512, 512]⟩ : Shape).Idx) a).val) 0 [0] = r.val := by
    show 0 * 512 + r.val = r.val; omega
  have e1 : List.foldl (fun n a => n * ![512, 512] a + ((ix2 r j : (⟨2, ![512, 512]⟩ : Shape).Idx) a).val) 0 [1] = j.val := by
    show 0 * 512 + j.val = j.val; omega
  refine (congrArg (fun j' : Fin 512 => Ideal.exp2 (Scalar.select (IntOp.cmpi .sle (BitVec.ofNat 32 (List.foldl (fun n a => n * ![512, 512] a + ((ix2 r j : (⟨2, ![512, 512]⟩ : Shape).Idx) a).val) 0 [0]))
      (BitVec.ofNat 32 (List.foldl (fun n a => n * ![512, 512] a + ((ix2 r j : (⟨2, ![512, 512]⟩ : Shape).Idx) a).val) 0 [1])))
    (0 + ∑ d, K (ix2 r d) * Q (ix2 j d)) ⊥ * ((sc2 : ℝ) : EReal) - T (ix4 0 0 0 j'))) e).trans ?_
  rw [e0, e1, hL, score_coe q k B C K Q hK hQ, select_le _ _ (by have := r.isLt; omega) (by have := j.isLt; omega)]
  unfold pN
  by_cases h : r.val ≤ j.val
  · rw [if_pos h, if_pos (by omega), ← EReal.coe_mul, ← EReal.coe_sub, Ideal.exp2_coe]
  · rw [if_neg h, if_neg (by omega), EReal.bot_mul_coe_of_pos sc2_pos, EReal.bot_sub]; rfl

include hK hQ hL hV hO hE in
/-- The gradient of the scores of a block below the diagonal. -/
theorem ds_next (hB : B + 512 ≤ C) (r j : Fin 512) :
    k0_pay35 (F := Ideal) K V Q O T (ix2 r j) = ((dsN q k v o L E (B + r.val) (C + j.val) : ℝ) : EReal) := by
  simp only [k0_pay35, k0_pay32, pointwise]
  have e : (⟨![1, 0] 1 + (if h1 : 512 = 1 then (0 : Fin 512) else j).val, by simp⟩ : Fin 512) = j := Fin.ext (by simp)
  refine (congrArg (fun j' : Fin 512 => k0_pay33 (F := Ideal) K Q T (ix2 r j) * ((0 + ∑ d, V (ix2 r d) * O (ix2 j d)) - T (ix4 0 0 1 j'))) e).trans ?_
  rw [hE, slope_coe v o B C V O hV hO, p_next q k L B C K Q T hK hQ hL hB, ← EReal.coe_sub, ← EReal.coe_mul]; rfl

include hK hQ hL hV hO hE in
/-- The gradient of the scores of the diagonal block. -/
theorem ds_first (hB : B = C) (r j : Fin 512) :
    k0_pay79 (F := Ideal) K V Q O T (ix2 r j) = ((dsN q k v o L E (B + r.val) (C + j.val) : ℝ) : EReal) := by
  simp only [k0_pay79, k0_pay76, pointwise]
  have e : (⟨![1, 0] 1 + (if h1 : 512 = 1 then (0 : Fin 512) else j).val, by simp⟩ : Fin 512) = j := Fin.ext (by simp)
  refine (congrArg (fun j' : Fin 512 => k0_pay77 (F := Ideal) K Q T (ix2 r j) * ((0 + ∑ d, V (ix2 r d) * O (ix2 j d)) - T (ix4 0 0 1 j'))) e).trans ?_
  rw [hE, slope_coe v o B C V O hV hO, p_first q k L B C K Q T hK hQ hL hB, ← EReal.coe_sub, ← EReal.coe_mul]; rfl

include hK hQ hL hV hO hE in
/-- What a block below the diagonal adds to the keys' gradient, -/
theorem dk_next (hB : B + 512 ≤ C) (A : FVec Ideal S512x256 .f32) (r : Fin 512) (d : Fin 256) :
    k0_pay36 (F := Ideal) K V A Q O T (ix2 r d)
      = A (ix2 r d) + ((∑ j : Fin 512, dsN q k v o L E (B + r.val) (C + j.val) * q (C + j.val) d : ℝ) : EReal) := by
  simp only [k0_pay36, pointwise]
  show A (ix2 r d) + (0 + ∑ j, k0_pay35 (F := Ideal) K V Q O T (ix2 r j) * Q (ix2 j d)) = _
  simp only [ds_next q k v o L E B C K V Q O T hK hV hQ hO hL hE hB, hQ, zero_add, ← EReal.coe_mul, coe_sum]

include hK hQ hL hV hO hE in
/-- to the values', -/
theorem dv_next (hB : B + 512 ≤ C) (A : FVec Ideal S512x128 .f32) (r : Fin 512) (d : Fin 128) :
    k0_pay34 (F := Ideal) K A Q O T (ix2 r d)
      = A (ix2 r d) + ((∑ j : Fin 512, pN q k L (B + r.val) (C + j.val) * o (C + j.val) d : ℝ) : EReal) := by
  simp only [k0_pay34, pointwise]
  show A (ix2 r d) + (0 + ∑ j, k0_pay33 (F := Ideal) K Q T (ix2 r j) * O (ix2 j d)) = _
  simp only [p_next q k L B C K Q T hK hQ hL hB, hO, zero_add, ← EReal.coe_mul, coe_sum]

include hK hQ hL hV hO hE in
/-- and to the queries'. -/
theorem dq_next (hB : B + 512 ≤ C) (A : Vec Ideal S512x256 .f32) (j : Fin 512) (d : Fin 256) :
    k0_pay37 (F := Ideal) K V Q O T A (ix2 j d)
      = A (ix2 j d) + ((∑ r : Fin 512, dsN q k v o L E (B + r.val) (C + j.val) * k (B + r.val) d : ℝ) : EReal) := by
  simp only [k0_pay37, pointwise]
  show A (ix2 j d) + (0 + ∑ r, k0_pay35 (F := Ideal) K V Q O T (ix2 r j) * K (ix2 r d)) = _
  simp only [ds_next q k v o L E B C K V Q O T hK hV hQ hO hL hE hB, hK, zero_add, ← EReal.coe_mul, coe_sum]

include hK hQ hL hV hO hE in
/-- What the diagonal block gives the keys' gradient, -/
theorem dk_first (hB : B = C) (r : Fin 512) (d : Fin 256) :
    k0_pay80 (F := Ideal) (k0_pay75 (F := Ideal)) Q (k0_pay79 (F := Ideal) K V Q O T) (constant S512x256 .f32 0x00000000#32) (ix2 r d)
      = ((∑ j : Fin 512, dsN q k v o L E (B + r.val) (C + j.val) * q (C + j.val) d : ℝ) : EReal) := by
  simp only [k0_pay80, k0_pay75, pointwise]
  show (0 : EReal) + (0 + ∑ j, k0_pay79 (F := Ideal) K V Q O T (ix2 r j) * Q (ix2 j d)) = _
  simp only [ds_first q k v o L E B C K V Q O T hK hV hQ hO hL hE hB, hQ, zero_add, ← EReal.coe_mul, coe_sum]

include hK hQ hL hV hO hE in
/-- the values', -/
theorem dv_first (hB : B = C) (r : Fin 512) (d : Fin 128) :
    k0_pay78 (F := Ideal) K Q O T (ix2 r d)
      = ((∑ j : Fin 512, pN q k L (B + r.val) (C + j.val) * o (C + j.val) d : ℝ) : EReal) := by
  simp only [k0_pay78, pointwise]
  show (0 : EReal) + (0 + ∑ j, k0_pay77 (F := Ideal) K Q T (ix2 r j) * O (ix2 j d)) = _
  simp only [p_first q k L B C K Q T hK hQ hL hB, hO, zero_add, ← EReal.coe_mul, coe_sum]

include hK hQ hL hV hO hE in
/-- and the queries'. -/
theorem dq_first (hB : B = C) (A : Vec Ideal S512x256 .f32) (j : Fin 512) (d : Fin 256) :
    k0_pay81 (F := Ideal) K (k0_pay79 (F := Ideal) K V Q O T) A (ix2 j d)
      = A (ix2 j d) + ((∑ r : Fin 512, dsN q k v o L E (B + r.val) (C + j.val) * k (B + r.val) d : ℝ) : EReal) := by
  simp only [k0_pay81, pointwise]
  show A (ix2 j d) + (0 + ∑ r, k0_pay79 (F := Ideal) K V Q O T (ix2 r j) * K (ix2 r d)) = _
  simp only [ds_first q k v o L E B C K V Q O T hK hV hQ hO hL hE hB, hK, zero_add, ← EReal.coe_mul, coe_sum]
end Payloads
end Cert.MlaBlock
-- ==== Proof.Kernel2IdealBody.lean ====
module
public import proofs.«01_k».proof.Proof.Kernel2IdealRun
@[expose] public section
set_option maxRecDepth 16384
noncomputable section
namespace Cert.Kernel2Ideal.Run
open Cert.Kernel2Ideal Cert.Kernel2Ideal.Gen Cert.Kernel2Ideal.Facts Cert.Step
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! The whole body. -/

variable {F : FTy → Type} [FloatOps F] [Named F]

theorem ld_full {s : Shape} {e : EltTy} (Z : s.Idx → Elt F e) (off : Fin s.rank → ℕ) (inb : ∀ a, off a + s.size a ≤ s.size a) :
    View.ld Z (Rect.unit off s.size inb) = Z := by
  funext y
  exact congrArg Z (funext fun a => Fin.ext (by
    show off a + 1 * (y a).val = (y a).val
    have := inb a; omega))
theorem overlay_full {s : Shape} {e : EltTy} (Z w : s.Idx → Elt F e) (off : Fin s.rank → ℕ) (inb : ∀ a, off a + s.size a ≤ s.size a) :
    (Rect.unit off s.size inb).overlay Z w = w := by
  funext y
  have h : (Rect.unit off s.size inb).emb y = y := funext fun a => Fin.ext (by
    show off a + 1 * (y a).val = (y a).val
    have := inb a; omega)
  have := Rect.overlay_emb (Rect.unit off s.size inb) Z w y
  rwa [h] at this

local notation "𝕄" => MT nD τ sig Unit (Elt F) ℕ (UR sig nD τ) ℕ

variable (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x16x8x512 .f32) (harg6 : arg6.IsWhole) (arg7 : Memref sig .tc .vmem S8192x256 .f32) (harg7 : arg7.IsWhole) (arg8 : Memref sig .tc .vmem S512x256 .bf16) (harg8 : arg8.IsWhole) (arg9 : Memref sig .tc .vmem S512x128 .bf16) (harg9 : arg9.IsWhole) (arg10 : DmaSems sig S1) (arg11 : DmaSems sig S1)
  (v3 : Vec F S512x256 .bf16) (v4 : Vec F S512x128 .bf16) (Q : Vec F S8192x256 .bf16) (D : Vec F S8192x128 .bf16) (T : Vec F S1x16x8x512 .f32) (X : Vec F S8192x256 .f32)

/-- What the body leaves after its last block. -/
def last {k : ℕ} (hk : k < 16) (X : Vec F S8192x256 .f32) : St F := run v3 v4 Q D T hk X (15 - k)

set_option maxHeartbeats 4000000 in
/-- The first statements: the gradient of the queries is cleared at the first key block, and the blocks are read. -/
theorem start (E : Set ℕ) (X₀ : Vec F S8192x256 .f32) (hX : X = if (i 1).val = 0 then k0_pay74 (F := F) else X₀) :
    (iprop(owns (c : Thread nD τ) arg2 fullShare Q ∗ owns (c : Thread nD τ) arg3 fullShare v3 ∗ owns (c : Thread nD τ) arg4 fullShare v4
        ∗ owns (c : Thread nD τ) arg5 fullShare D ∗ owns (c : Thread nD τ) arg6 fullShare T ∗ owns (c : Thread nD τ) arg7 fullShare X₀) : sProp 𝕄)
      ⊢ wp frame (wpE (defs₀ (F := F)) Variants.none c none) E (k0_part10 i arg2 harg2 arg3 harg3 arg4 harg4 arg5 harg5 arg6 harg6 arg7 harg7 arg8 harg8 arg9 harg9 arg10 arg11)
        (fun r => iprop(⌜r = ⟨BitVec.ofNat 32 (i 1).val, v3, v4, k0_pay75 (F := F), Scalar.muli (BitVec.ofNat 32 (i 1).val) 512#32, View.ld Q (rQ (key_lt i)),
            k0_pay78 v3 (View.ld Q (rQ (key_lt i))) (View.ld D (rD (key_lt i))) (View.ld T (rS (key_lt i))),
            k0_pay79 v3 v4 (View.ld Q (rQ (key_lt i))) (View.ld D (rD (key_lt i))) (View.ld T (rS (key_lt i))),
            constant S512x256 .f32 0x00000000#32⟩⌝
          ∗ owns (c : Thread nD τ) arg2 fullShare Q ∗ owns (c : Thread nD τ) arg3 fullShare v3 ∗ owns (c : Thread nD τ) arg4 fullShare v4
          ∗ owns (c : Thread nD τ) arg5 fullShare D ∗ owns (c : Thread nD τ) arg6 fullShare T ∗ owns (c : Thread nD τ) arg7 fullShare X)) := by
  have hk := key_lt i
  simp only [k0_part10_eq_skeleton]
  unfold k0_part10_skel
  by_cases h0 : (i 1).val = 0
  · rw [if_pos h0] at hX
    simp only [dif_pos ((zero_iff i).mpr h0), wp_bind, wp_pure, fupd_wp_eq]
    iintro ⟨H2, H3, H4, H5, H6, H7⟩
    iapply (load inb_S8192x256_S8192x256_0_0 rfl) $$ H7; iintro H7
    iapply (store inb_S8192x256_S8192x256_0_0 rfl) $$ H7; iintro H7
    rw [overlay_full, ← hX]
    iapply (load inb_S512x256_S512x256_0_0 rfl) $$ H3; iintro H3
    iapply (load inb_S512x128_S512x128_0_0 rfl) $$ H4; iintro H4
    iapply (load (inbQ hk) (k0_off1_eq i)) $$ H2; iintro H2
    iapply (load (inbD hk) (k0_off2_eq i)) $$ H5; iintro H5
    iapply (load (inbS hk) (k0_off3_eq i)) $$ H6; iintro H6
    rw [ld_full v3, ld_full v4]
    imodintro
    isplitr; · ipureintro; rfl
    isplitl [H2]; · iexact H2
    isplitl [H3]; · iexact H3
    isplitl [H4]; · iexact H4
    isplitl [H5]; · iexact H5
    isplitl [H6]; · iexact H6
    iexact H7
  · rw [if_neg h0] at hX
    subst hX
    simp only [dif_neg (fun h => h0 ((zero_iff i).mp h)), wp_bind, wp_pure, fupd_wp_eq]
    iintro ⟨H2, H3, H4, H5, H6, H7⟩
    iapply (load inb_S512x256_S512x256_0_0 rfl) $$ H3; iintro H3
    iapply (load inb_S512x128_S512x128_0_0 rfl) $$ H4; iintro H4
    iapply (load (inbQ hk) (k0_off1_eq i)) $$ H2; iintro H2
    iapply (load (inbD hk) (k0_off2_eq i)) $$ H5; iintro H5
    iapply (load (inbS hk) (k0_off3_eq i)) $$ H6; iintro H6
    rw [ld_full v3, ld_full v4]
    imodintro
    isplitr; · ipureintro; rfl
    isplitl [H2]; · iexact H2
    isplitl [H3]; · iexact H3
    isplitl [H4]; · iexact H4
    isplitl [H5]; · iexact H5
    isplitl [H6]; · iexact H6
    iexact H7

set_option maxHeartbeats 4000000 in
/-- The whole body, at a point whose gradient of the queries starts from `X`. -/
theorem body (E : Set ℕ) (X₀ : Vec F S8192x256 .f32) (Y : Vec F S512x256 .bf16) (Z : Vec F S512x128 .bf16)
    (hX : X = if (i 1).val = 0 then k0_pay74 (F := F) else X₀) :
    (iprop(owns (c : Thread nD τ) arg2 fullShare Q ∗ owns (c : Thread nD τ) arg3 fullShare v3 ∗ owns (c : Thread nD τ) arg4 fullShare v4
        ∗ owns (c : Thread nD τ) arg5 fullShare D ∗ owns (c : Thread nD τ) arg6 fullShare T ∗ owns (c : Thread nD τ) arg7 fullShare X₀
        ∗ owns (c : Thread nD τ) arg8 fullShare Y ∗ owns (c : Thread nD τ) arg9 fullShare Z) : sProp 𝕄)
      ⊢ wp frame (wpE (defs₀ (F := F)) Variants.none c none) E (cc0_mla_bwd i arg2 harg2 arg3 harg3 arg4 harg4 arg5 harg5 arg6 harg6 arg7 harg7 arg8 harg8 arg9 harg9 arg10 arg11)
        (fun _ => iprop(owns (c : Thread nD τ) arg2 fullShare Q ∗ owns (c : Thread nD τ) arg3 fullShare v3 ∗ owns (c : Thread nD τ) arg4 fullShare v4
          ∗ owns (c : Thread nD τ) arg5 fullShare D ∗ owns (c : Thread nD τ) arg6 fullShare T
          ∗ owns (c : Thread nD τ) arg7 fullShare (last v3 v4 Q D T (key_lt i) X).1
          ∗ owns (c : Thread nD τ) arg8 fullShare (k0_pay11 (last v3 v4 Q D T (key_lt i) X).2.1)
          ∗ owns (c : Thread nD τ) arg9 fullShare (k0_pay12 (last v3 v4 Q D T (key_lt i) X).2.2))) := by
  have hk := key_lt i
  have ht1 := trips1 i
  have ht2 := trips2 i
  simp only [cc0_mla_bwd_eq_skeleton]
  unfold cc0_mla_bwd_skel
  simp only [wp_bind]
  iintro ⟨H2, H3, H4, H5, H6, H7, H8, H9⟩
  iapply wp_wand_r
  isplitl [H2 H3 H4 H5 H6 H7]
  · iapply (start c i arg2 harg2 arg3 harg3 arg4 harg4 arg5 harg5 arg6 harg6 arg7 harg7 arg8 harg8 arg9 harg9 arg10 arg11 v3 v4 Q D T X E X₀ hX)
    isplitl [H2]; · iexact H2
    isplitl [H3]; · iexact H3
    isplitl [H4]; · iexact H4
    isplitl [H5]; · iexact H5
    isplitl [H6]; · iexact H6
    iexact H7
  iintro %r ⟨%hr, H2, H3, H4, H5, H6, H7⟩
  subst hr
  dsimp only
  try simp only [wp_bind]
  iapply wp_wand_r
  isplitl [H2 H5 H6 H7]
  · iapply (part c i arg2 harg2 arg3 harg3 arg4 harg4 arg5 harg5 arg6 harg6 arg7 harg7 arg8 harg8 arg9 harg9 arg10 arg11 v3 v4 Q D T X E _ _)
    isplitl [H2]; · iexact H2
    isplitl [H5]; · iexact H5
    isplitl [H6]; · iexact H6
    iexact H7
  iintro %r ⟨%hr, HI⟩
  obtain ⟨v46, a, b, v64, v66, v67, v72⟩ := r
  obtain ⟨ha, hb⟩ := hr
  dsimp only at ha hb
  subst ha hb
  dsimp only
  try simp only [wp_bind]
  iapply (Scf.wp_for _ _ _ _ _ _ _ _ _ (fun n a => iprop(⌜a = (run v3 v4 Q D T (key_lt i) X (rest i + 4 * n)).2⌝
    ∗ held c i arg2 arg5 arg6 arg7 v3 v4 Q D T X (rest i + 4 * n))) (fun t a => by
      iintro ⟨%h, HI⟩
      subst h
      iapply (trip c i arg2 harg2 arg3 harg3 arg4 harg4 arg5 harg5 arg6 harg6 arg7 harg7 arg8 harg8 arg9 harg9 arg10 arg11 v3 v4 Q D T X E _ t) $$ HI))
  isplitl [HI]
  · isplitr; · ipureintro; rfl
    iexact HI
  iintro %a ⟨%ha, HI⟩
  subst ha
  rw [ht1]
  dsimp only
  try simp only [wp_bind]
  iapply (Scf.wp_for _ _ _ _ _ _ _ _ _ (fun n a => iprop(⌜a = (run v3 v4 Q D T (key_lt i) X (15 - (i 1).val)).2⌝
    ∗ held c i arg2 arg5 arg6 arg7 v3 v4 Q D T X (15 - (i 1).val))) (fun t a => by
      exact absurd (lt_of_lt_of_eq t.isLt ht2) (Nat.not_lt_zero _)))
  isplitl [HI]
  · isplitr; · ipureintro; rfl
    iexact HI
  iintro %a ⟨%ha, HI⟩
  subst ha
  unfold held
  icases HI with ⟨H2, H5, H6, H7⟩
  dsimp only
  simp only [wp_bind, wp_pure, fupd_wp_eq]
  iapply (load inb_S512x256_S512x256_0_0 rfl) $$ H8; iintro H8
  iapply (store inb_S512x256_S512x256_0_0 rfl) $$ H8; iintro H8
  iapply (load inb_S512x128_S512x128_0_0 rfl) $$ H9; iintro H9
  iapply (store inb_S512x128_S512x128_0_0 rfl) $$ H9; iintro H9
  rw [overlay_full, overlay_full]
  imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel2Ideal.Run
-- ==== Proof.MlaRun.lean ====
module
public import proofs.«01_k».proof.Proof.MlaBlock
public import proofs.«01_k».proof.Proof.Kernel2IdealBody
@[expose] public section
set_option maxRecDepth 16384
noncomputable section
namespace Cert.MlaRun
open Cert.Kernel2Ideal Cert.Kernel2Ideal.Gen Cert.Kernel2Ideal.Facts Cert.Kernel2Ideal.Run Cert.RealTools Cert.MlaBlock
open Idealize.ShloMosaic
open scoped BigOperators

/-! One key block against its query blocks, over the real numbers. -/

/-- A sum over `n + 1` blocks of 512 is the sum over `n` of them and the last block's. -/
theorem sum_block (f : ℕ → ℝ) (n : ℕ) :
    ∑ j ∈ Finset.range (512 * (n + 1)), f j = ∑ j ∈ Finset.range (512 * n), f j + ∑ j : Fin 512, f (512 * n + j.val) := by
  rw [show 512 * (n + 1) = 512 * n + 512 by ring, Finset.sum_range_add, Finset.sum_range fun j => f (512 * n + j)]

/-- Rows laid over an array. -/
theorem overlay_rows {b : ℕ} (hb : b < 16) (X : Vec Ideal S8192x256 .f32) (G : Vec Ideal S512x256 .f32) (r : Fin 8192) (d : Fin 256) :
    (rQ hb).overlay X G (ix2 r d) = if h : 512 * b ≤ r.val ∧ r.val < 512 * b + 512 then G (ix2 ⟨r.val - 512 * b, by omega⟩ d) else X (ix2 r d) := by
  by_cases h : 512 * b ≤ r.val ∧ r.val < 512 * b + 512
  · rw [dif_pos h]
    have e : (ix2 r d : S8192x256.Idx) = (rQ hb).emb (ix2 (⟨r.val - 512 * b, by omega⟩ : Fin 512) d) := funext fun a => Fin.ext (by
      match a with
      | ⟨0, _⟩ => show r.val = 512 * b + 1 * (r.val - 512 * b); omega
      | ⟨1, _⟩ => show d.val = 0 + 1 * d.val; omega)
    rw [e]; exact Rect.overlay_emb _ _ _ _
  · rw [dif_neg h]
    refine Rect.overlay_of_not_mem _ _ _ fun hm => h ?_
    obtain ⟨y, hy⟩ : ∃ y, (rQ hb).emb y = ix2 r d := by
      rw [← Rect.map_emb_univ] at hm
      obtain ⟨y, -, hy⟩ := Finset.mem_map.mp hm
      exact ⟨y, hy⟩
    have h0 : r.val = 512 * b + 1 * (y 0).val := (congrArg (fun i : S8192x256.Idx => (i 0).val) hy).symm
    have h1 : (y 0).val < 512 := (y 0).isLt
    omega

section Run
variable (q k : ℕ → Fin 256 → ℝ) (v o : ℕ → Fin 128 → ℝ) (L E : ℕ → ℝ)
  (K : Vec Ideal S512x256 .bf16) (V : Vec Ideal S512x128 .bf16) (Q : Vec Ideal S8192x256 .bf16) (O : Vec Ideal S8192x128 .bf16) (T : Vec Ideal S1x16x8x512 .f32)
  (hQ : ∀ (r : Fin 8192) d, Q (ix2 r d) = ((q r.val d : ℝ) : EReal)) (hO : ∀ (r : Fin 8192) d, O (ix2 r d) = ((o r.val d : ℝ) : EReal))
  (hL : ∀ (b : Fin 16) (j : Fin 512), T (ix4 0 b 0 j) = ((L (512 * b.val + j.val) : ℝ) : EReal))
  (hE : ∀ (b : Fin 16) (j : Fin 512), T (ix4 0 b 1 j) = ((E (512 * b.val + j.val) : ℝ) : EReal))

theorem ld_rows {e : EltTy} {b : ℕ} (hb : b < 16) (Z : Vec Ideal S8192x256 e) (r : Fin 512) (d : Fin 256) :
    View.ld Z (rQ hb) (ix2 r d) = Z (ix2 (⟨512 * b + r.val, by omega⟩ : Fin 8192) d) :=
  View.ld_unit_apply_of _ _ _ _ _ _ fun a => by
    match a with
    | ⟨0, _⟩ => rfl
    | ⟨1, _⟩ => exact (Nat.zero_add _).symm

include hQ in
theorem ldQ {b : ℕ} (hb : b < 16) (r : Fin 512) (d : Fin 256) : View.ld Q (rQ hb) (ix2 r d) = ((q (512 * b + r.val) d : ℝ) : EReal) :=
  (ld_rows hb Q r d).trans (hQ _ _)

include hO in
theorem ldO {b : ℕ} (hb : b < 16) (r : Fin 512) (d : Fin 128) : View.ld O (rD hb) (ix2 r d) = ((o (512 * b + r.val) d : ℝ) : EReal) :=
  (View.ld_unit_apply_of _ _ _ _ _ (ix2 (⟨512 * b + r.val, by omega⟩ : Fin 8192) d) fun a => by
    match a with
    | ⟨0, _⟩ => rfl
    | ⟨1, _⟩ => exact (Nat.zero_add _).symm).trans (hO _ _)

theorem ldT {b : ℕ} (hb : b < 16) (x : Fin 8) (j : Fin 512) : View.ld T (rS hb) (ix4 0 0 x j) = T (ix4 0 ⟨b, hb⟩ x j) :=
  View.ld_unit_apply_of _ _ _ _ _ (ix4 0 ⟨b, hb⟩ x j) fun a => by
    match a with
    | ⟨0, _⟩ => rfl
    | ⟨1, _⟩ => rfl
    | ⟨2, _⟩ => exact (Nat.zero_add _).symm
    | ⟨3, _⟩ => exact (Nat.zero_add _).symm

/-- What the block adds to the gradient of the queries. -/
def addQ (kb : ℕ) (j : ℕ) (d : Fin 256) : ℝ := ∑ i : Fin 512, dsN q k v o L E (512 * kb + i.val) j * k (512 * kb + i.val) d

variable {kb : ℕ} (hk : kb < 16)
  (hK : ∀ (r : Fin 512) d, K (ix2 r d) = ((k (512 * kb + r.val) d : ℝ) : EReal)) (hV : ∀ (r : Fin 512) d, V (ix2 r d) = ((v (512 * kb + r.val) d : ℝ) : EReal))
  (X : Vec Ideal S8192x256 .f32) (x : ℕ → Fin 256 → ℝ) (hX : ∀ (r : Fin 8192) d, X (ix2 r d) = ((x r.val d : ℝ) : EReal))

include hK hV hQ hO hL hE hX in
theorem run_apply (n : ℕ) (hn : kb + n < 16) :
    (∀ (r : Fin 512) (d : Fin 256), (run K V Q O T hk X n).2.1 (ix2 r d)
        = ((∑ j ∈ Finset.range (512 * (n + 1)), dsN q k v o L E (512 * kb + r.val) (512 * kb + j) * q (512 * kb + j) d : ℝ) : EReal))
    ∧ (∀ (r : Fin 512) (d : Fin 128), (run K V Q O T hk X n).2.2 (ix2 r d)
        = ((∑ j ∈ Finset.range (512 * (n + 1)), pN q k L (512 * kb + r.val) (512 * kb + j) * o (512 * kb + j) d : ℝ) : EReal))
    ∧ ∀ (r : Fin 8192) (d : Fin 256), (run K V Q O T hk X n).1 (ix2 r d)
        = ((x r.val d + if 512 * kb ≤ r.val ∧ r.val < 512 * (kb + n + 1) then addQ q k v o L E kb r.val d else 0 : ℝ) : EReal) := by
  induction n with
  | zero =>
    have hq := ldQ q Q hQ hk
    have ho := ldO o O hO hk
    have hl := fun j => (ldT T hk 0 j).trans (hL ⟨kb, hk⟩ j)
    have he := fun j => (ldT T hk 1 j).trans (hE ⟨kb, hk⟩ j)
    refine ⟨fun r d => ?_, fun r d => ?_, fun r d => ?_⟩
    · rw [sum_block]
      refine (dk_first q k v o L E (512 * kb) (512 * kb) K V _ _ _ hK hV hq ho hl he rfl r d).trans ?_
      simp
    · rw [sum_block]
      refine (dv_first q k v o L E (512 * kb) (512 * kb) K V _ _ _ hK hV hq ho hl he rfl r d).trans ?_
      simp
    · refine (congrFun (first_rows K V Q O T hk X).symm (ix2 r d)).trans ((overlay_rows hk X _ r d).trans ?_)
      by_cases h : 512 * kb ≤ r.val ∧ r.val < 512 * kb + 512
      · rw [dif_pos h, if_pos (by omega)]
        refine (dq_first q k v o L E (512 * kb) (512 * kb) K V _ _ _ hK hV hq ho hl he rfl _ _ d).trans ?_
        rw [ld_rows, hX, ← EReal.coe_add]
        have e : 512 * kb + (r.val - 512 * kb) = r.val := by omega
        simp only [e]; rfl
      · rw [dif_neg h, if_neg (by omega), hX, add_zero]
  | succ n ih =>
    have hb : kb + 1 + n < 16 := by omega
    obtain ⟨i1, i2, i3⟩ := ih (by omega)
    rw [run_succ K V Q O T hk X n hb]
    have hq := ldQ q Q hQ hb
    have ho := ldO o O hO hb
    have hl := fun j => (ldT T hb 0 j).trans (hL ⟨_, hb⟩ j)
    have he := fun j => (ldT T hb 1 j).trans (hE ⟨_, hb⟩ j)
    have hB : 512 * kb + 512 ≤ 512 * (kb + 1 + n) := by omega
    have hs : ∀ j : ℕ, 512 * (kb + 1 + n) + j = 512 * kb + (512 * (n + 1) + j) := fun j => by ring
    refine ⟨fun r d => ?_, fun r d => ?_, fun r d => ?_⟩
    · rw [sum_block]
      refine (dk_next q k v o L E (512 * kb) _ K V _ _ _ hK hV hq ho hl he hB _ r d).trans ?_
      rw [i1, ← EReal.coe_add]
      simp only [hs]
    · rw [sum_block]
      refine (dv_next q k v o L E (512 * kb) _ K V _ _ _ hK hV hq ho hl he hB _ r d).trans ?_
      rw [i2, ← EReal.coe_add]
      simp only [hs]
    · rw [← next_rows K V Q O T hb]
      refine (overlay_rows hb _ _ r d).trans ?_
      by_cases h : 512 * (kb + 1 + n) ≤ r.val ∧ r.val < 512 * (kb + 1 + n) + 512
      · rw [dif_pos h, if_pos (by omega)]
        refine (dq_next q k v o L E (512 * kb) _ K V _ _ _ hK hV hq ho hl he hB _ _ d).trans ?_
        rw [ld_rows, i3, ← EReal.coe_add]
        have e : 512 * (kb + 1 + n) + (r.val - 512 * (kb + 1 + n)) = r.val := by omega
        simp only [e]
        rw [if_neg (by omega), add_zero]; rfl
      · rw [dif_neg h, i3]
        have hc : (512 * kb ≤ r.val ∧ r.val < 512 * (kb + n + 1)) ↔ (512 * kb ≤ r.val ∧ r.val < 512 * (kb + (n + 1) + 1)) := by omega
        simp only [hc]

/-- A block above the diagonal adds nothing. -/
theorem addQ_zero (j : ℕ) (d : Fin 256) (h : j < 512 * kb) : addQ q k v o L E kb j d = 0 := by
  unfold addQ
  refine Finset.sum_eq_zero fun i _ => ?_
  unfold dsN pN
  rw [if_neg (by omega), zero_mul, zero_mul]

include hK hV hQ hO hL hE hX in
/-- What the body leaves of the queries' gradient. -/
theorem last_rows (r : Fin 8192) (d : Fin 256) :
    (last K V Q O T hk X).1 (ix2 r d) = ((x r.val d + addQ q k v o L E kb r.val d : ℝ) : EReal) := by
  refine ((run_apply q k v o L E K V Q O T hQ hO hL hE hk hK hV X x hX (15 - kb) (by omega)).2.2 r d).trans ?_
  by_cases h : 512 * kb ≤ r.val
  · rw [if_pos (by omega)]
  · rw [if_neg (by omega), addQ_zero q k v o L E _ _ (by omega)]

/-- A sum that is zero before a block is the sum from that block on. -/
theorem sum_from (f : ℕ → ℝ) (hf : ∀ j, j < 512 * kb → f j = 0) (hk : kb < 16) :
    ∑ j ∈ Finset.range (512 * (15 - kb + 1)), f (512 * kb + j) = ∑ j ∈ Finset.range 8192, f j := by
  rw [show (8192 : ℕ) = 512 * kb + 512 * (15 - kb + 1) by omega, Finset.sum_range_add,
    Finset.sum_eq_zero (s := Finset.range (512 * kb)) (fun j hj => hf j (Finset.mem_range.mp hj)), zero_add]

include hK hV hQ hO hL hE hX in
/-- What the body leaves of the keys' gradient. -/
theorem last_keys (r : Fin 512) (d : Fin 256) :
    (last K V Q O T hk X).2.1 (ix2 r d) = ((∑ j ∈ Finset.range 8192, dsN q k v o L E (512 * kb + r.val) j * q j d : ℝ) : EReal) := by
  refine ((run_apply q k v o L E K V Q O T hQ hO hL hE hk hK hV X x hX (15 - kb) (by omega)).1 r d).trans ?_
  rw [sum_from (fun j => dsN q k v o L E (512 * kb + r.val) j * q j d) (fun j hj => ?_) hk]
  unfold dsN pN
  rw [if_neg (by omega), zero_mul, zero_mul]

include hK hV hQ hO hL hE hX in
/-- What the body leaves of the values' gradient. -/
theorem last_values (r : Fin 512) (d : Fin 128) :
    (last K V Q O T hk X).2.2 (ix2 r d) = ((∑ j ∈ Finset.range 8192, pN q k L (512 * kb + r.val) j * o j d : ℝ) : EReal) := by
  refine ((run_apply q k v o L E K V Q O T hQ hO hL hE hk hK hV X x hX (15 - kb) (by omega)).2.1 r d).trans ?_
  rw [sum_from (fun j => pN q k L (512 * kb + r.val) j * o j d) (fun j hj => ?_) hk]
  unfold pN
  rw [if_neg (by omega), zero_mul]
end Run
end Cert.MlaRun
-- ==== Proof.Kernel2IdealFrame.lean ====
module
public import proofs.«01_k».proof.Proof.Kernel2IdealBody
public import proofs.«01_k».proof.Proof.Gen.Kernel2Ideal.Frame
public import Idealize.ShloMosaic.Lib.Claim
@[expose] public section
set_option maxRecDepth 16384
noncomputable section
namespace Cert.Kernel2Ideal.Run
open Cert.Kernel2Ideal Cert.Kernel2Ideal.Gen Cert.Kernel2Ideal.Facts Cert.Step
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

/-! The frame of the attention gradient. -/

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The contents of the buffers, point by point. -/

/-- The blocks at a point: the queries' rows, a key block, a value block, the cotangent's rows and the statistics. -/
def rowsQ (c : Dev nD) (t : Fin cfg0.N) : Vec F S8192x256 .bf16 := iblk m c 0 t
def keys (c : Dev nD) (t : Fin cfg0.N) : Vec F S512x256 .bf16 := iblk m c 1 t
def values (c : Dev nD) (t : Fin cfg0.N) : Vec F S512x128 .bf16 := iblk m c 2 t
def rowsD (c : Dev nD) (t : Fin cfg0.N) : Vec F S8192x128 .bf16 := iblk m c 3 t
def rowsT (c : Dev nD) (t : Fin cfg0.N) : Vec F S1x16x8x512 .f32 := iblk m c 4 t

/-- What a point leaves, when the gradient of the queries starts from `X`. -/
def left (c : Dev nD) (t : Fin cfg0.N) (X : Vec F S8192x256 .f32) : St F :=
  last (keys m c t) (values m c t) (rowsQ m c t) (rowsD m c t) (rowsT m c t) (key_lt (grid0.coords t)) X

/-- What each point leaves: the gradient of the queries goes on within a head and is cleared between heads. -/
def outs (c : Dev nD) : (n : ℕ) → n < cfg0.N → St F
  | 0, h => left m c ⟨0, h⟩ (k0_pay74 (F := F))
  | n + 1, h => left m c ⟨n + 1, h⟩ (if (n + 1) % 16 = 0 then k0_pay74 (F := F) else (outs c n (Nat.lt_of_succ_lt h)).1)

theorem outs_first (c : Dev nD) (t : Fin cfg0.N) (h : t.val % 16 = 0) : outs m c t.val t.isLt = left m c t (k0_pay74 (F := F)) := by
  obtain ⟨n, hn⟩ := t
  cases n with
  | zero => rfl
  | succ n => exact congrArg _ (if_pos h)

theorem outs_next (c : Dev nD) (t : Fin cfg0.N) (h : ¬t.val % 16 = 0) :
    outs m c t.val t.isLt = left m c t (outs m c (t.val - 1) (Nat.lt_of_le_of_lt (Nat.sub_le _ _) t.isLt)).1 := by
  obtain ⟨n, hn⟩ := t
  cases n with
  | zero => exact absurd (Nat.zero_mod _) h
  | succ n => exact congrArg _ (if_neg h)

theorem key_zero : ∀ t : Fin cfg0.N, (grid0.coords t 1).val = 0 ↔ t.val % 16 = 0 := by decide +kernel

/-- The pipeline's proof data: every input's buffer keeps its block, the outputs' are left as `outs` says. -/
def dats (_ : Fin 1) (c : Dev nD) : Dat τ (Elt F) Unit ℕ (UR sig nD τ) ℕ cfg0 c where
  A w := V m c (Pipeline.arrRef spec0 w)
  after w t := match w with
    | ⟨0, _⟩ => rowsQ m c t
    | ⟨1, _⟩ => keys m c t
    | ⟨2, _⟩ => values m c t
    | ⟨3, _⟩ => rowsD m c t
    | ⟨4, _⟩ => rowsT m c t
    | ⟨5, _⟩ => (outs m c t.val t.isLt).1
    | ⟨6, _⟩ => k0_pay11 (outs m c t.val t.isLt).2.1
    | ⟨7, _⟩ => k0_pay12 (outs m c t.val t.isLt).2.2
  Φ _ := Pipeline.ΦA spec0 c
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = rowsQ m c t := by dsimp only [dats]
theorem after1 (c : Dev nD) (t : Fin cfg0.N) : (dats m 0 c).after 1 t = keys m c t := by dsimp only [dats]
theorem after2 (c : Dev nD) (t : Fin cfg0.N) : (dats m 0 c).after 2 t = values m c t := by dsimp only [dats]
theorem after3 (c : Dev nD) (t : Fin cfg0.N) : (dats m 0 c).after 3 t = rowsD m c t := by dsimp only [dats]
theorem after4 (c : Dev nD) (t : Fin cfg0.N) : (dats m 0 c).after 4 t = rowsT m c t := by dsimp only [dats]
theorem after5 (c : Dev nD) (t : Fin cfg0.N) : (dats m 0 c).after 5 t = (outs m c t.val t.isLt).1 := by dsimp only [dats]
theorem after6 (c : Dev nD) (t : Fin cfg0.N) : (dats m 0 c).after 6 t = k0_pay11 (outs m c t.val t.isLt).2.1 := by dsimp only [dats]
theorem after7 (c : Dev nD) (t : Fin cfg0.N) : (dats m 0 c).after 7 t = k0_pay12 (outs m c t.val t.isLt).2.2 := by dsimp only [dats]

theorem before0 (c : Dev nD) (t : Fin cfg0.N) (d) : (dats m 0 c).before 0 t d = rowsQ m c t :=
  before0_0_of m (dats m 0 c) (arrays m c 0) (after0 m c) t d
theorem before1 (c : Dev nD) (t : Fin cfg0.N) (d) : (dats m 0 c).before 1 t d = keys m c t :=
  before0_1_of m (dats m 0 c) (arrays m c 1) (after1 m c) t d
theorem before2 (c : Dev nD) (t : Fin cfg0.N) (d) : (dats m 0 c).before 2 t d = values m c t :=
  before0_2_of m (dats m 0 c) (arrays m c 2) (after2 m c) t d
theorem before3 (c : Dev nD) (t : Fin cfg0.N) (d) : (dats m 0 c).before 3 t d = rowsD m c t :=
  before0_3_of m (dats m 0 c) (arrays m c 3) (after3 m c) t d
theorem before4 (c : Dev nD) (t : Fin cfg0.N) (d) : (dats m 0 c).before 4 t d = rowsT m c t :=
  before0_4_of m (dats m 0 c) (arrays m c 4) (after4 m c) t d

/-- Within a head the gradient of the queries is what the point before left. -/
theorem before5 (c : Dev nD) (t : Fin cfg0.N) (h : ¬t.val % 16 = 0) (d) :
    (dats m 0 c).before 5 t d = (outs m c (t.val - 1) (Nat.lt_of_le_of_lt (Nat.sub_le _ _) t.isLt)).1 := by
  rw [Dat.before_out_kept _ 5 rfl t (by omega) (Bool.eq_false_iff.mpr fun h => by have := (flush0_5 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  by_cases h0 : t.val % 16 = 0
  · rw [outs_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply wp_wand_r
    isplitl [H0 H1 H2 H3 H4 H5 H6 H7]
    · iapply (body c (grid0.coords t) _ _ _ _ _ _ _ _ _ _ _ _ _ _ _ _ _ _ (keys m c t) (values m c t) (rowsQ m c t) (rowsD m c t) (rowsT m c t)
        (k0_pay74 (F := F)) Set.univ ((dats m 0 c).before 5 t d5) ((dats m 0 c).before 6 t d6) ((dats m 0 c).before 7 t d7) (if_pos ((key_zero t).mpr h0)).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iintro %_ ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outs_next m c t h0]
    simp only [before5 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply wp_wand_r
    isplitl [H0 H1 H2 H3 H4 H5 H6 H7]
    · iapply (body c (grid0.coords t) _ _ _ _ _ _ _ _ _ _ _ _ _ _ _ _ _ _ (keys m c t) (values m c t) (rowsQ m c t) (rowsD m c t) (rowsT m c t)
        _ Set.univ (outs m c (t.val - 1) (Nat.lt_of_le_of_lt (Nat.sub_le _ _) t.isLt)).1 ((dats m 0 c).before 6 t d6) ((dats m 0 c).before 7 t d7)
        (if_neg fun h => h0 ((key_zero t).mp h)).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iintro %_ ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch: the arrays end as the proof data says, and the semaphores at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c w => by unfold Dat.share; dsimp only [dats]; exact ite_self _)
    (howed := fun _ _ => rfl) (V := V m) (hmain := hmain m Variants.none) (hA := arrays m) (hΦ := fun _ _ => rfl)

theorem posts : θ_run defs (onTc (τ := τ) (main (F := F))) (s₀ m ρ) (Pipeline.FramePost cfgs (dats m) 0 (V m)) :=
  (θ_run defs _ _).mono (fun _ h => h.1) (launch m ρ)

/-- The frame: the arguments end unchanged and the semaphores at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays m) (posts m ρ)) ((θ_run defs _ _).mono (fun _ h => h.2) (launch m ρ))

end Cert.Kernel2Ideal.Run
-- ==== Proof.MlaArrays.lean ====
module
public import proofs.«01_k».proof.Proof.MlaRun
public import proofs.«01_k».proof.Proof.Kernel2IdealFrame
@[expose] public section
set_option maxRecDepth 16384
noncomputable section
namespace Cert.MlaArrays
open Cert.Kernel2Ideal Cert.Kernel2Ideal.Gen Cert.Kernel2Ideal.Facts Cert.Kernel2Ideal.Run Cert.RealTools Cert.MlaBlock Cert.MlaRun
open Idealize.ShloMosaic Idealize.ShloMosaic.TcCoe Idealize.SL.Sem
open scoped BigOperators

/-! The three arrays the run of the attention gradient ends with, from the statistics it reads. -/

/-- Head `h`'s columns of an array whose heads are 256 wide, -/
def wide (a : ℕ → ℕ → ℝ) (h : ℕ) : ℕ → Fin 256 → ℝ := fun i d => a i (256 * h + d.val)
/-- and of one whose heads are 128 wide. -/
def thin (a : ℕ → ℕ → ℝ) (h : ℕ) : ℕ → Fin 128 → ℝ := fun i d => a i (128 * h + d.val)

section Spec
variable (a0 a1 a2 a3 Ls Es : ℕ → ℕ → ℝ)
/-- The attention weight of key `i` for query `j` in head `h`, -/
def pH (h i j : ℕ) : ℝ := pN (wide a0 h) (wide a1 h) (Ls h) i j
/-- and the gradient of their score. -/
def dsH (h i j : ℕ) : ℝ := dsN (wide a0 h) (wide a1 h) (thin a2 h) (thin a3 h) (Ls h) (Es h) i j
/-- The gradient of the queries, the sum over the first `n` keys, -/
def rowsSum (h n j : ℕ) (d : Fin 256) : ℝ := ∑ i ∈ Finset.range n, dsH a0 a1 a2 a3 Ls Es h i j * wide a1 h i d
/-- the gradient of the keys, unscaled, -/
def keysSum (h i : ℕ) (d : Fin 256) : ℝ := ∑ j ∈ Finset.range 8192, dsH a0 a1 a2 a3 Ls Es h i j * wide a0 h j d
/-- and the gradient of the values. -/
def valuesSum (h i : ℕ) (d : Fin 128) : ℝ := ∑ j ∈ Finset.range 8192, pH a0 a1 Ls h i j * thin a3 h j d

/-- The three arrays. -/
def GQ : S8192x4096.Idx → EReal := fun y => ((rowsSum a0 a1 a2 a3 Ls Es ((y 1).val / 256) 8192 (y 0).val ⟨(y 1).val % 256, Nat.mod_lt _ (by norm_num)⟩ : ℝ) : EReal)
def GK : S8192x4096.Idx → EReal := fun y =>
  ((keysSum a0 a1 a2 a3 Ls Es ((y 1).val / 256) (y 0).val ⟨(y 1).val % 256, Nat.mod_lt _ (by norm_num)⟩ * (Real.sqrt 192)⁻¹ : ℝ) : EReal)
def GV : S8192x2048.Idx → EReal := fun y => ((valuesSum a0 a1 a3 Ls ((y 1).val / 128) (y 0).val ⟨(y 1).val % 128, Nat.mod_lt _ (by norm_num)⟩ : ℝ) : EReal)
end Spec

theorem idx_eta {n k : ℕ} (y : (⟨2, ![n, k]⟩ : Shape).Idx) : ∃ (r : Fin n) (x : Fin k), y = ix2 r x :=
  ⟨y 0, y 1, by
    funext a; match a with
    | ⟨0, _⟩ => rfl
    | ⟨1, _⟩ => rfl⟩

theorem idx0 : ∀ t : Fin cfg0.N, win0_0.index t = ![0, t.val / 16] := (by decide +kernel : ∀ t : Fin grid0.N, win0_0.index t = ![0, t.val / 16])
theorem idx1 : ∀ t : Fin cfg0.N, win0_1.index t = ![t.val % 16, t.val / 16] := (by decide +kernel : ∀ t : Fin grid0.N, win0_1.index t = ![t.val % 16, t.val / 16])
theorem idx2 : ∀ t : Fin cfg0.N, win0_2.index t = ![t.val % 16, t.val / 16] := (by decide +kernel : ∀ t : Fin grid0.N, win0_2.index t = ![t.val % 16, t.val / 16])
theorem idx3 : ∀ t : Fin cfg0.N, win0_3.index t = ![0, t.val / 16] := (by decide +kernel : ∀ t : Fin grid0.N, win0_3.index t = ![0, t.val / 16])
theorem idx4 : ∀ t : Fin cfg0.N, win0_4.index t = ![t.val / 16, 0, 0, 0] := (by decide +kernel : ∀ t : Fin grid0.N, win0_4.index t = ![t.val / 16, 0, 0, 0])
theorem idx5 : ∀ t : Fin cfg0.N, win0_5.index t = ![0, t.val / 16] := (by decide +kernel : ∀ t : Fin grid0.N, win0_5.index t = ![0, t.val / 16])
theorem idx6 : ∀ t : Fin cfg0.N, win0_6.index t = ![t.val % 16, t.val / 16] := (by decide +kernel : ∀ t : Fin grid0.N, win0_6.index t = ![t.val % 16, t.val / 16])
theorem idx7 : ∀ t : Fin cfg0.N, win0_7.index t = ![t.val % 16, t.val / 16] := (by decide +kernel : ∀ t : Fin grid0.N, win0_7.index t = ![t.val % 16, t.val / 16])

theorem key_of : ∀ t : Fin cfg0.N, (grid0.coords t 1).val = t.val % 16 := by decide +kernel

theorem N256 : cfg0.N = 256 := N_0

/-- The places in the arrays of the elements of a point's blocks. -/
def colW (t : Fin cfg0.N) (d : Fin 256) : Fin 4096 := ⟨256 * (t.val / 16) + d.val, by have := t.isLt; have := N256; omega⟩
def colT (t : Fin cfg0.N) (d : Fin 128) : Fin 2048 := ⟨128 * (t.val / 16) + d.val, by have := t.isLt; have := N256; omega⟩
def row (t : Fin cfg0.N) (r : Fin 512) : Fin 8192 := ⟨512 * (t.val % 16) + r.val, by omega⟩

/-- The four arguments are real. -/
structure Reals (a0 a1 a2 a3 : ℕ → ℕ → ℝ) (A0 A1 : S8192x4096.Idx → EReal) (A2 A3 : S8192x2048.Idx → EReal) : Prop where
  h0 : ∀ (i : Fin 8192) (x : Fin 4096), A0 (ix2 i x) = ((a0 i.val x.val : ℝ) : EReal)
  h1 : ∀ (i : Fin 8192) (x : Fin 4096), A1 (ix2 i x) = ((a1 i.val x.val : ℝ) : EReal)
  h2 : ∀ (i : Fin 8192) (x : Fin 2048), A2 (ix2 i x) = ((a2 i.val x.val : ℝ) : EReal)
  h3 : ∀ (i : Fin 8192) (x : Fin 2048), A3 (ix2 i x) = ((a3 i.val x.val : ℝ) : EReal)

/-- The statistics are real. -/
structure Stats (Ls Es : ℕ → ℕ → ℝ) (A : S16x16x8x512.Idx → EReal) : Prop where
  hL : ∀ (h b : Fin 16) (j : Fin 512), A (ix4 h b 0 j) = ((Ls h.val (512 * b.val + j.val) : ℝ) : EReal)
  hE : ∀ (h b : Fin 16) (j : Fin 512), A (ix4 h b 1 j) = ((Es h.val (512 * b.val + j.val) : ℝ) : EReal)

theorem rowsSum_step (a0 a1 a2 a3 Ls Es : ℕ → ℕ → ℝ) (h kb : ℕ) (j : ℕ) (d : Fin 256) :
    rowsSum a0 a1 a2 a3 Ls Es h (512 * kb) j d + addQ (wide a0 h) (wide a1 h) (thin a2 h) (thin a3 h) (Ls h) (Es h) kb j d
      = rowsSum a0 a1 a2 a3 Ls Es h (512 * (kb + 1)) j d :=
  (sum_block (fun i => dsH a0 a1 a2 a3 Ls Es h i j * wide a1 h i d) kb).symm

variable (m : (ℓ : Loc nD τ sig) → Buf (Elt Ideal) ℓ)
variable (a0 a1 a2 a3 Ls Es : ℕ → ℕ → ℝ) (c : Dev nD)
  (H : Reals a0 a1 a2 a3 (m ((c : Thread nD τ).loc main_arg0)) (m ((c : Thread nD τ).loc main_arg1)) (m ((c : Thread nD τ).loc main_arg2))
    (m ((c : Thread nD τ).loc main_arg3)))
  (HS : Stats Ls Es (V (F := Ideal) m c main_v48))

section Blocks
include H
theorem q_block (t : Fin cfg0.N) (r : Fin 8192) (d : Fin 256) :
    rowsQ (F := Ideal) m c t (ix2 r d) = ((wide a0 (t.val / 16) r.val d : ℝ) : EReal) := by
  refine Eq.trans ?_ (H.h0 r (colW t d))
  rw [← V_main_arg0 m c]
  blk_ext [rowsQ, iblk, idx0 t, colW]
theorem k_block (t : Fin cfg0.N) (r : Fin 512) (d : Fin 256) :
    keys (F := Ideal) m c t (ix2 r d) = ((wide a1 (t.val / 16) (512 * (t.val % 16) + r.val) d : ℝ) : EReal) := by
  refine Eq.trans ?_ (H.h1 (row t r) (colW t d))
  rw [← V_main_arg1 m c]
  blk_ext [keys, iblk, idx1 t, colW, row]
theorem v_block (t : Fin cfg0.N) (r : Fin 512) (d : Fin 128) :
    values (F := Ideal) m c t (ix2 r d) = ((thin a2 (t.val / 16) (512 * (t.val % 16) + r.val) d : ℝ) : EReal) := by
  refine Eq.trans ?_ (H.h2 (row t r) (colT t d))
  rw [← V_main_arg2 m c]
  blk_ext [values, iblk, idx2 t, colT, row]
theorem o_block (t : Fin cfg0.N) (r : Fin 8192) (d : Fin 128) :
    rowsD (F := Ideal) m c t (ix2 r d) = ((thin a3 (t.val / 16) r.val d : ℝ) : EReal) := by
  refine Eq.trans ?_ (H.h3 r (colT t d))
  rw [← V_main_arg3 m c]
  blk_ext [rowsD, iblk, idx3 t, colT]
end Blocks

section BlockStats
/-- The head of a point. -/
def headOf (t : Fin cfg0.N) : Fin 16 := ⟨t.val / 16, by have := t.isLt; have := N256; omega⟩
theorem s_block (t : Fin cfg0.N) (b : Fin 16) (x : Fin 8) (j : Fin 512) :
    rowsT (F := Ideal) m c t (ix4 0 b x j) = V (F := Ideal) m c main_v48 (ix4 (headOf t) b x j) := by
  blk_ext [rowsT, iblk, idx4 t, headOf]
include HS
theorem l_block (t : Fin cfg0.N) (b : Fin 16) (j : Fin 512) :
    rowsT (F := Ideal) m c t (ix4 0 b 0 j) = ((Ls (t.val / 16) (512 * b.val + j.val) : ℝ) : EReal) :=
  (s_block m c t b 0 j).trans (HS.hL (headOf t) b j)
theorem e_block (t : Fin cfg0.N) (b : Fin 16) (j : Fin 512) :
    rowsT (F := Ideal) m c t (ix4 0 b 1 j) = ((Es (t.val / 16) (512 * b.val + j.val) : ℝ) : EReal) :=
  (s_block m c t b 1 j).trans (HS.hE (headOf t) b j)
end BlockStats

section Points
include H HS

theorem left_rows (t : Fin cfg0.N) (X : Vec Ideal S8192x256 .f32) (x : ℕ → Fin 256 → ℝ) (hX : ∀ (r : Fin 8192) d, X (ix2 r d) = ((x r.val d : ℝ) : EReal))
    (r : Fin 8192) (d : Fin 256) : (left m c t X).1 (ix2 r d)
      = ((x r.val d + addQ (wide a0 (t.val / 16)) (wide a1 (t.val / 16)) (thin a2 (t.val / 16)) (thin a3 (t.val / 16)) (Ls (t.val / 16)) (Es (t.val / 16))
        (t.val % 16) r.val d : ℝ) : EReal) := by
  rw [← key_of t]
  exact last_rows _ _ _ _ _ _ _ _ _ _ _ (q_block m a0 a1 a2 a3 c H t) (o_block m a0 a1 a2 a3 c H t) (l_block m Ls Es c HS t) (e_block m Ls Es c HS t)
    (key_lt (grid0.coords t)) (fun r d => by rw [key_of t]; exact k_block m a0 a1 a2 a3 c H t r d)
    (fun r d => by rw [key_of t]; exact v_block m a0 a1 a2 a3 c H t r d) X x hX r d

theorem left_keys (t : Fin cfg0.N) (X : Vec Ideal S8192x256 .f32) (x : ℕ → Fin 256 → ℝ) (hX : ∀ (r : Fin 8192) d, X (ix2 r d) = ((x r.val d : ℝ) : EReal))
    (r : Fin 512) (d : Fin 256) : (left m c t X).2.1 (ix2 r d)
      = ((keysSum a0 a1 a2 a3 Ls Es (t.val / 16) (512 * (t.val % 16) + r.val) d : ℝ) : EReal) := by
  rw [← key_of t]
  exact last_keys _ _ _ _ _ _ _ _ _ _ _ (q_block m a0 a1 a2 a3 c H t) (o_block m a0 a1 a2 a3 c H t) (l_block m Ls Es c HS t) (e_block m Ls Es c HS t)
    (key_lt (grid0.coords t)) (fun r d => by rw [key_of t]; exact k_block m a0 a1 a2 a3 c H t r d)
    (fun r d => by rw [key_of t]; exact v_block m a0 a1 a2 a3 c H t r d) X x hX r d

theorem left_values (t : Fin cfg0.N) (X : Vec Ideal S8192x256 .f32) (x : ℕ → Fin 256 → ℝ) (hX : ∀ (r : Fin 8192) d, X (ix2 r d) = ((x r.val d : ℝ) : EReal))
    (r : Fin 512) (d : Fin 128) : (left m c t X).2.2 (ix2 r d)
      = ((valuesSum a0 a1 a3 Ls (t.val / 16) (512 * (t.val % 16) + r.val) d : ℝ) : EReal) := by
  rw [← key_of t]
  exact last_values _ _ _ _ _ _ _ _ _ _ _ (q_block m a0 a1 a2 a3 c H t) (o_block m a0 a1 a2 a3 c H t) (l_block m Ls Es c HS t) (e_block m Ls Es c HS t)
    (key_lt (grid0.coords t)) (fun r d => by rw [key_of t]; exact k_block m a0 a1 a2 a3 c H t r d)
    (fun r d => by rw [key_of t]; exact v_block m a0 a1 a2 a3 c H t r d) X x hX r d

/-- The queries' gradient after a point: the sum over the keys of the head's blocks so far. -/
theorem rows_point : ∀ (n : ℕ) (hn : n < cfg0.N) (r : Fin 8192) (d : Fin 256),
    (outs (F := Ideal) m c n hn).1 (ix2 r d) = ((rowsSum a0 a1 a2 a3 Ls Es (n / 16) (512 * (n % 16 + 1)) r.val d : ℝ) : EReal) := by
  intro n
  induction n with
  | zero =>
    intro hn r d
    rw [outs_first m c ⟨0, hn⟩ rfl]
    refine (left_rows m a0 a1 a2 a3 Ls Es c H HS ⟨0, hn⟩ _ (fun _ _ => 0) (fun r d => by unfold k0_pay74; pointwise; rfl) r d).trans ?_
    rw [← rowsSum_step]
    simp [rowsSum]
  | succ n ih =>
    intro hn r d
    by_cases h0 : (n + 1) % 16 = 0
    · rw [outs_first m c ⟨n + 1, hn⟩ h0]
      refine (left_rows m a0 a1 a2 a3 Ls Es c H HS ⟨n + 1, hn⟩ _ (fun _ _ => 0) (fun r d => by unfold k0_pay74; pointwise; rfl) r d).trans ?_
      rw [← rowsSum_step]
      simp [rowsSum, h0]
    · rw [outs_next m c ⟨n + 1, hn⟩ h0]
      refine (left_rows m a0 a1 a2 a3 Ls Es c H HS ⟨n + 1, hn⟩ _ _ (fun r d => ih (Nat.lt_of_succ_lt hn) r d) r d).trans ?_
      rw [← rowsSum_step a0 a1 a2 a3 Ls Es ((n + 1) / 16) ((n + 1) % 16), show n / 16 = (n + 1) / 16 by omega, show n % 16 + 1 = (n + 1) % 16 by omega]

/-- What a point leaves of the keys' and the values' gradients does not depend on what it started from. -/
theorem keys_point (t : Fin cfg0.N) (r : Fin 512) (d : Fin 256) : (outs (F := Ideal) m c t.val t.isLt).2.1 (ix2 r d)
      = ((keysSum a0 a1 a2 a3 Ls Es (t.val / 16) (512 * (t.val % 16) + r.val) d : ℝ) : EReal) := by
  by_cases h0 : t.val % 16 = 0
  · rw [outs_first m c t h0]
    exact left_keys m a0 a1 a2 a3 Ls Es c H HS t _ (fun _ _ => 0) (fun r d => by unfold k0_pay74; pointwise; rfl) r d
  · rw [outs_next m c t h0]
    exact left_keys m a0 a1 a2 a3 Ls Es c H HS t _ _ (rows_point m a0 a1 a2 a3 Ls Es c H HS _ _) r d
theorem values_point (t : Fin cfg0.N) (r : Fin 512) (d : Fin 128) : (outs (F := Ideal) m c t.val t.isLt).2.2 (ix2 r d)
      = ((valuesSum a0 a1 a3 Ls (t.val / 16) (512 * (t.val % 16) + r.val) d : ℝ) : EReal) := by
  by_cases h0 : t.val % 16 = 0
  · rw [outs_first m c t h0]
    exact left_values m a0 a1 a2 a3 Ls Es c H HS t _ (fun _ _ => 0) (fun r d => by unfold k0_pay74; pointwise; rfl) r d
  · rw [outs_next m c t h0]
    exact left_values m a0 a1 a2 a3 Ls Es c H HS t _ _ (rows_point m a0 a1 a2 a3 Ls Es c H HS _ _) r d
end Points

/-- The places in the arrays of the results' blocks. -/
theorem emb5 (t : Fin cfg0.N) (r : Fin 8192) (x : Fin 256) : ((cfg0.win 5).blk t).view.emb (ix2 r x) = ix2 r (colW t x) := by
  blk_ext [idx5 t, colW]
theorem emb6 (t : Fin cfg0.N) (r : Fin 512) (x : Fin 256) : ((cfg0.win 6).blk t).view.emb (ix2 r x) = ix2 (row t r) (colW t x) := by
  blk_ext [idx6 t, colW, row]
theorem emb7 (t : Fin cfg0.N) (r : Fin 512) (x : Fin 128) : ((cfg0.win 7).blk t).view.emb (ix2 r x) = ix2 (row t r) (colT t x) := by
  blk_ext [idx7 t, colT, row]

theorem cover5 (i : S8192x4096.Idx) : ∃ t : Fin cfg0.N, (cfg0.win 5).flush t = true ∧ i ∈ ((cfg0.win 5).blk t).view.set := by
  obtain ⟨i, x, rfl⟩ := idx_eta (n := 8192) (k := 4096) i
  have hN := N256
  obtain ⟨t, ht⟩ : ∃ t : Fin cfg0.N, t.val = 16 * (x.val / 256) + 15 := ⟨⟨16 * (x.val / 256) + 15, by omega⟩, rfl⟩
  refine ⟨t, (flush0_5 t).mpr (by omega), ?_⟩
  have h := ((cfg0.win 5).blk t).view.emb_mem_set (ix2 i (⟨x.val % 256, by omega⟩ : Fin 256))
  rw [emb5] at h
  rwa [show colW t ⟨x.val % 256, by omega⟩ = x from Fin.ext (by show 256 * (t.val / 16) + x.val % 256 = x.val; omega)] at h
theorem cover6 (i : S8192x4096.Idx) : ∃ t : Fin cfg0.N, (cfg0.win 6).flush t = true ∧ i ∈ ((cfg0.win 6).blk t).view.set := by
  obtain ⟨i, x, rfl⟩ := idx_eta (n := 8192) (k := 4096) i
  have hN := N256
  obtain ⟨t, ht⟩ : ∃ t : Fin cfg0.N, t.val = 16 * (x.val / 256) + i.val / 512 := ⟨⟨16 * (x.val / 256) + i.val / 512, by omega⟩, rfl⟩
  refine ⟨t, flush0_6 t, ?_⟩
  have h := ((cfg0.win 6).blk t).view.emb_mem_set (ix2 (⟨i.val % 512, by omega⟩ : Fin 512) (⟨x.val % 256, by omega⟩ : Fin 256))
  rw [emb6] at h
  rwa [show colW t ⟨x.val % 256, by omega⟩ = x from Fin.ext (by show 256 * (t.val / 16) + x.val % 256 = x.val; omega),
    show row t ⟨i.val % 512, by omega⟩ = i from Fin.ext (by show 512 * (t.val % 16) + i.val % 512 = i.val; omega)] at h
theorem cover7 (i : S8192x2048.Idx) : ∃ t : Fin cfg0.N, (cfg0.win 7).flush t = true ∧ i ∈ ((cfg0.win 7).blk t).view.set := by
  obtain ⟨i, x, rfl⟩ := idx_eta (n := 8192) (k := 2048) i
  have hN := N256
  obtain ⟨t, ht⟩ : ∃ t : Fin cfg0.N, t.val = 16 * (x.val / 128) + i.val / 512 := ⟨⟨16 * (x.val / 128) + i.val / 512, by omega⟩, rfl⟩
  refine ⟨t, flush0_7 t, ?_⟩
  have h := ((cfg0.win 7).blk t).view.emb_mem_set (ix2 (⟨i.val % 512, by omega⟩ : Fin 512) (⟨x.val % 128, by omega⟩ : Fin 128))
  rw [emb7] at h
  rwa [show colT t ⟨x.val % 128, by omega⟩ = x from Fin.ext (by show 128 * (t.val / 16) + x.val % 128 = x.val; omega),
    show row t ⟨i.val % 512, by omega⟩ = i from Fin.ext (by show 512 * (t.val % 16) + i.val % 512 = i.val; omega)] at h

theorem hd_w (t : Fin cfg0.N) (d : Fin 256) : (colW t d).val / 256 = t.val / 16 := by
  show (256 * (t.val / 16) + d.val) / 256 = _; omega
theorem dm_w (t : Fin cfg0.N) (d : Fin 256) : (⟨(colW t d).val % 256, Nat.mod_lt _ (by norm_num)⟩ : Fin 256) = d :=
  Fin.ext (by show (256 * (t.val / 16) + d.val) % 256 = _; omega)
theorem hd_t (t : Fin cfg0.N) (d : Fin 128) : (colT t d).val / 128 = t.val / 16 := by
  show (128 * (t.val / 16) + d.val) / 128 = _; omega
theorem dm_t (t : Fin cfg0.N) (d : Fin 128) : (⟨(colT t d).val % 128, Nat.mod_lt _ (by norm_num)⟩ : Fin 128) = d :=
  Fin.ext (by show (128 * (t.val / 16) + d.val) % 128 = _; omega)

section Finals
include H HS

/-- After the run the first result is the gradient of the queries, -/
theorem final5 : (dats m 0 c).arrAt 5 cfg0.N = GQ a0 a1 a2 a3 Ls Es :=
  (dats m 0 c).arrAt_eq_of_cover 5 (GQ a0 a1 a2 a3 Ls Es) (fun t hf => by
    have hm := (flush0_5 t).mp hf
    rw [show (dats m 0 c).flushed 5 t = (dats m 0 c).after 5 t from rfl, after5]; funext y
    show (outs (F := Ideal) m c t.val t.isLt).1 y = GQ a0 a1 a2 a3 Ls Es (((cfg0.win 5).blk t).view.emb y)
    obtain ⟨r, x, rfl⟩ := idx_eta (n := 8192) (k := 256) y
    rw [emb5]
    refine (rows_point m a0 a1 a2 a3 Ls Es c H HS t.val t.isLt r x).trans ?_
    show _ = ((rowsSum a0 a1 a2 a3 Ls Es ((colW t x).val / 256) 8192 r.val ⟨(colW t x).val % 256, _⟩ : ℝ) : EReal)
    rw [dm_w, hd_w, hm]) cover5

/-- the second the gradient of the keys, -/
theorem final6 : (dats m 0 c).arrAt 6 cfg0.N = GK a0 a1 a2 a3 Ls Es :=
  (dats m 0 c).arrAt_eq_of_cover 6 (GK a0 a1 a2 a3 Ls Es) (fun t _ => by
    rw [show (dats m 0 c).flushed 6 t = (dats m 0 c).after 6 t from rfl, after6]; funext y
    show k0_pay11 (F := Ideal) (outs (F := Ideal) m c t.val t.isLt).2.1 y = GK a0 a1 a2 a3 Ls Es (((cfg0.win 6).blk t).view.emb y)
    obtain ⟨r, x, rfl⟩ := idx_eta (n := 512) (k := 256) y
    rw [emb6]
    show (_ : EReal) = ((keysSum a0 a1 a2 a3 Ls Es ((colW t x).val / 256) (row t r).val ⟨(colW t x).val % 256, _⟩ * (Real.sqrt 192)⁻¹ : ℝ) : EReal)
    rw [dm_w, hd_w, EReal.coe_mul, ← named_scale, show (row t r).val = 512 * (t.val % 16) + r.val from rfl, ← keys_point m a0 a1 a2 a3 Ls Es c H HS t r x]
    unfold k0_pay11; pointwise) cover6

/-- and the third the gradient of the values. -/
theorem final7 : (dats m 0 c).arrAt 7 cfg0.N = GV a0 a1 a3 Ls :=
  (dats m 0 c).arrAt_eq_of_cover 7 (GV a0 a1 a3 Ls) (fun t _ => by
    rw [show (dats m 0 c).flushed 7 t = (dats m 0 c).after 7 t from rfl, after7]; funext y
    show k0_pay12 (F := Ideal) (outs (F := Ideal) m c t.val t.isLt).2.2 y = GV a0 a1 a3 Ls (((cfg0.win 7).blk t).view.emb y)
    obtain ⟨r, x, rfl⟩ := idx_eta (n := 512) (k := 128) y
    rw [emb7]
    show (_ : EReal) = ((valuesSum a0 a1 a3 Ls ((colT t x).val / 128) (row t r).val ⟨(colT t x).val % 128, _⟩ : ℝ) : EReal)
    rw [dm_t, hd_t, show (row t r).val = 512 * (t.val % 16) + r.val from rfl, ← values_point m a0 a1 a2 a3 Ls Es c H HS t r x]
    unfold k0_pay12; pointwise) cover7
end Finals

end Cert.MlaArrays
-- ==== Proof.MlaHost.lean ====
module
public import proofs.«01_k».proof.Proof.Gen.Kernel2Ideal.Frame
public import proofs.«01_k».proof.Proof.Gen.Reference2Ideal.Read
public import proofs.«01_k».proof.Proof.RealTools
public import Idealize.ShloMosaic.Lib.Pointwise
@[expose] public section
set_option maxRecDepth 16384
noncomputable section
namespace Cert.MlaHost
open Cert.Kernel2Ideal Cert.Kernel2Ideal.Gen Cert.Kernel2Ideal.Facts Cert.RealTools
open Idealize.ShloMosaic Idealize.ShloMosaic.TcCoe
open scoped BigOperators

/-! The statistics the attention gradient reads, as the host computes them. -/

/-- The logarithm to base two of the rows' sums of exponentials, from their largest scores and their shifted sums. -/
def lse (M l : FVec Ideal S16x8192x1 .f32) : FVec Ideal S16x8192 .f32 :=
  shapeCast _ (Host.divf (addf M (Host.log l)) (broadcastInDim S16x8192x1 ![] bcast_S_S16x8192x1 (Host.log (constant S_ .f32 0x40000000#32))))
    shapeCasts_S16x8192x1_S16x8192
/-- The rows' sums of the cotangent times the attention's output. -/
def delta (P : FVec Ideal S16x8192x8192 .f32) (v d : FVec Ideal S8192x16x128 .f32) : FVec Ideal S16x8192 .f32 :=
  Host.reduceAdd (mulf (transpose S16x8192x128 [1, 0, 2] d transposes_S8192x16x128_S16x8192x128_1_0_2)
    (Host.dotGeneral dot_S16x8192x8192_S8192x16x128_S16x8192x128_2_0_1_2_0_1 none P v)) (constant S_ .f32 0x00000000#32) reducesTo_S16x8192x128_S16x8192_d2 h_S_
/-- Which of the eight rows is row `n`. -/
def isRow (n : BitVec 32) : IVec S16x16x8x512 1 :=
  broadcastInDim S16x16x8x512 ![0, 1, 2, 3] bcast_S1x1x8x1_S16x16x8x512_0_1_2_3 (cmpi .eq (broadcastInDim S1x1x8x1 ![2] bcast_S8_S1x1x8x1_2 (iotaInDim S8 32 0))
    (broadcastInDim S1x1x8x1 ![] bcast_S_S1x1x8x1 (constantI S_ 32 n)))
/-- A value for each row of the scores, spread over the eight rows. -/
def spread (a : FVec Ideal S16x8192 .f32) : FVec Ideal S16x16x8x512 .f32 :=
  broadcastInDim S16x16x8x512 ![0, 1, 2, 3] bcast_S16x16x1x512_S16x16x8x512_0_1_2_3 (shapeCast S16x16x1x512 a shapeCasts_S16x8192_S16x16x1x512)
/-- The two in one array: the first in row 0, the second in row 1. -/
def both (a b : FVec Ideal S16x8192 .f32) : FVec Ideal S16x16x8x512 .f32 :=
  select (isRow 0#32) (spread a) (select (isRow 1#32) (spread b) (broadcastInDim S16x16x8x512 ![] bcast_S_S16x16x8x512 (id (constant S_ .f32 0x00000000#32))))

theorem both_zero (a b : FVec Ideal S16x8192 .f32) (h k : Fin 16) (j : Fin 512) :
    both a b (ix4 h k 0 j) = a (ix2 h (⟨512 * k.val + j.val, by omega⟩ : Fin 8192)) := by
  unfold both isRow spread
  pointwise
  exact congrArg (fun i => a (ix2 h i)) (Fin.ext (by show k.val * 512 + j.val = 512 * k.val + j.val; omega))
theorem both_one (a b : FVec Ideal S16x8192 .f32) (h k : Fin 16) (j : Fin 512) :
    both a b (ix4 h k 1 j) = b (ix2 h (⟨512 * k.val + j.val, by omega⟩ : Fin 8192)) := by
  unfold both isRow spread
  pointwise
  exact congrArg (fun i => b (ix2 h i)) (Fin.ext (by show k.val * 512 + j.val = 512 * k.val + j.val; omega))
theorem lse_apply (M l : FVec Ideal S16x8192x1 .f32) (h : Fin 16) (i : Fin 8192) :
    lse M l (ix2 h i) = Ideal.div (M (ix3 h i 0) + Ideal.log (l (ix3 h i 0))) (Ideal.log (Ideal.ofBits .f32 0x40000000#32)) := by
  unfold lse
  pointwise
theorem delta_apply (P : FVec Ideal S16x8192x8192 .f32) (v d : FVec Ideal S8192x16x128 .f32) (h : Fin 16) (i : Fin 8192) :
    delta P v d (ix2 h i) = ∑ e : Fin 128, d (ix3 i h e) * ∑ k : Fin 8192, P (ix3 h i k) * v (ix3 k h e) := by
  unfold delta
  pointwise

/-- The largest scores, taken with or without `-∞`, are the same. -/
theorem max_bot (x : FVec Ideal S16x8192 .f32) : maximumf (Cert.Reference2Ideal.Read.val_main_v22 (F := Ideal)) x = x := funext fun j => by
  unfold Cert.Reference2Ideal.Read.val_main_v22 Cert.Reference2Ideal.Read.val_main_cst_3
  pointwise
  rw [ofBits_neg_inf]
  exact max_eq_right bot_le

variable (m : (ℓ : Loc nD τ sig) → Buf (Elt Ideal) ℓ) (c : Dev nD)

open Cert.Reference2Ideal.Read in
theorem stats_eq (x0 x1 : S8192x4096.Idx → EReal) (x2 x3 : S8192x2048.Idx → EReal) (h0 : m ((c : Thread nD τ).loc main_arg0) = x0)
    (h1 : m ((c : Thread nD τ).loc main_arg1) = x1) (h2 : m ((c : Thread nD τ).loc main_arg2) = x2) (h3 : m ((c : Thread nD τ).loc main_arg3) = x3) :
    V (F := Ideal) m c main_v48 = both (lse (val_main_v33 (F := Ideal) x0 x1) (val_main_v38 (F := Ideal) x0 x1))
      (delta (val_main_v40 (F := Ideal) x0 x1) (val_main_v45 (F := Ideal) x2) (val_main_v50 (F := Ideal) x3)) := by
  unfold val_main_v40 val_main_v39 val_main_v38 val_main_v37 val_main_v36 val_main_v35 val_main_v34 val_main_v33 val_main_v23
  rw [max_bot]
  subst h0 h1 h2 h3
  unfold V
  simp only [hostOps0, hostOps0_1, hostOps0_2, hostOps0_3, hostOps0_4, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end Cert.MlaHost
-- ==== Proof.MlaRef.lean ====
module
public import proofs.«01_k».proof.Proof.Gen.Reference2Ideal.Read
public import proofs.«01_k».proof.Proof.MlaArrays
public import proofs.«01_k».proof.Proof.MlaHost
@[expose] public section
set_option maxRecDepth 16384
noncomputable section
namespace Cert.MlaRef
open Cert.Reference2Ideal Cert.Reference2Ideal.Facts Cert.Reference2Ideal.Read Cert.RealTools Cert.MlaBlock Cert.MlaArrays
open Idealize.ShloMosaic Idealize.ShloMosaic.TcCoe Idealize.SL.Sem
open scoped BigOperators

/-! The reference's attention gradient, an element at a time, over the real numbers; and the statistics of the kernel's host. -/

theorem ofBits_192 : Ideal.ofBits .f32 0x43400000#32 = ((192 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem sqrt_192 : Ideal.sqrt (Ideal.ofBits .f32 0x43400000#32) = ((Real.sqrt 192 : ℝ) : EReal) := by
  rw [ofBits_192, Ideal.sqrt_coe, if_neg (by norm_num)]
theorem sqrt_ne : Real.sqrt 192 ≠ 0 := (Real.sqrt_pos.mpr (by norm_num)).ne'
theorem log_two : Ideal.log (Ideal.ofBits .f32 0x40000000#32) = ((Real.log 2 : ℝ) : EReal) := by
  rw [ofBits_two, Ideal.log_coe, if_neg (by norm_num)]
theorem log_ne : Real.log 2 ≠ 0 := (Real.log_pos (by norm_num)).ne'

/-- The largest of finitely many values below `+∞`, of which one is above `-∞`, is a real number. -/
theorem fold_max_real {ι : Type*} (s : Finset ι) (f : ι → EReal) (ht : ∀ i, f i < ⊤) (i : ι) (hi : i ∈ s) (hb : ⊥ < f i) :
    ∃ M : ℝ, s.fold max (⊥ : EReal) f = (M : EReal) :=
  ⟨(s.fold max (⊥ : EReal) f).toReal, (EReal.coe_toReal ((Finset.fold_max_lt _).mpr ⟨bot_lt_top, fun i _ => ht i⟩).ne
    ((Finset.lt_fold_max _).mpr (Or.inr ⟨i, hi, hb⟩)).ne').symm⟩

/-- A function of three arguments at equal arguments. -/
theorem congr3 {α β γ δ : Type} (f : α → β → γ → δ) {a a' : α} {b b' : β} {c c' : γ} (ha : a = a') (hb : b = b') (hc : c = c') :
    f a b c = f a' b' c' := by subst ha; subst hb; subst hc; rfl

section Spec
variable (a0 a1 a2 a3 M : ℕ → ℕ → ℝ)
/-- The score of query `j` and key `i` in head `h`. -/
def sc (h j i : ℕ) : ℝ := ∑ d : Fin 256, wide a0 h j d / Real.sqrt 192 * wide a1 h i d
/-- Its exponential, shifted by the row's `M`; none above the diagonal. -/
def ex (h j i : ℕ) : ℝ := if i ≤ j then Real.exp (sc a0 a1 h j i - M h j) else 0
/-- Their sum along a row. -/
def su (h j : ℕ) : ℝ := ∑ i ∈ Finset.range 8192, ex a0 a1 M h j i
/-- The gradient of an attention weight. -/
def dp (h j i : ℕ) : ℝ := ∑ d : Fin 128, thin a3 h j d * thin a2 h i d
/-- The statistics. -/
def Ls (h j : ℕ) : ℝ := (M h j + Real.log (su a0 a1 M h j)) / Real.log 2
def Es (h j : ℕ) : ℝ := ∑ d : Fin 128, thin a3 h j d * ∑ i ∈ Finset.range 8192, ex a0 a1 M h j i / su a0 a1 M h j * thin a2 h i d

theorem ex_nonneg (h j i : ℕ) : 0 ≤ ex a0 a1 M h j i := by
  unfold ex; split
  · exact (Real.exp_pos _).le
  · exact le_rfl
theorem su_pos (h j : ℕ) (hj : j < 8192) : 0 < su a0 a1 M h j :=
  Finset.sum_pos' (fun i _ => ex_nonneg a0 a1 M h j i) ⟨j, Finset.mem_range.mpr hj, by unfold ex; rw [if_pos le_rfl]; exact Real.exp_pos _⟩

/-- The kernel's weight is the softmax's. -/
theorem pH_eq (h i j : ℕ) (hj : j < 8192) : pH a0 a1 (Ls a0 a1 M) h i j = ex a0 a1 M h j i / su a0 a1 M h j := by
  unfold pH pN ex
  by_cases hij : i ≤ j
  · rw [if_pos hij, if_pos hij]
    have hs : (∑ d, wide a1 h i d * wide a0 h j d) * sc2 - Ls a0 a1 M h j = (sc a0 a1 h j i - M h j - Real.log (su a0 a1 M h j)) / Real.log 2 := by
      have e : sc a0 a1 h j i = (∑ d, wide a1 h i d * wide a0 h j d) * (Real.sqrt 192)⁻¹ := by
        unfold sc; rw [Finset.sum_mul]; exact Finset.sum_congr rfl fun d _ => by rw [div_eq_mul_inv]; ring
      rw [e]; unfold sc2 Ls; rw [div_eq_mul_inv, div_eq_mul_inv]; ring
    have hr : ∀ x, Real.rpow 2 x = Real.exp (Real.log 2 * x) := fun x => Real.rpow_def_of_pos (by norm_num) x
    rw [hs, hr, mul_comm, div_mul_cancel₀ _ log_ne, Real.exp_sub, Real.exp_log (su_pos a0 a1 M h j hj)]
  · rw [if_neg hij, if_neg hij, zero_div]

/-- A row's cotangent times the output is the sum of the weights times their gradients. -/
theorem Es_eq (h j : ℕ) : Es a0 a1 a2 a3 M h j = ∑ i ∈ Finset.range 8192, ex a0 a1 M h j i / su a0 a1 M h j * dp a2 a3 h j i := by
  unfold Es dp
  simp only [Finset.mul_sum]
  rw [Finset.sum_comm]
  exact Finset.sum_congr rfl fun i _ => Finset.sum_congr rfl fun d _ => by ring

/-- The gradient of a score, as the reference takes it. -/
theorem dsH_eq (h i j : ℕ) (hj : j < 8192) : dsH a0 a1 a2 a3 (Ls a0 a1 M) (Es a0 a1 a2 a3 M) h i j
    = (dp a2 a3 h j i / su a0 a1 M h j + -(∑ k ∈ Finset.range 8192, dp a2 a3 h j k * (1 / (su a0 a1 M h j * su a0 a1 M h j)) * ex a0 a1 M h j k))
      * ex a0 a1 M h j i := by
  have hl := (su_pos a0 a1 M h j hj).ne'
  show pH a0 a1 (Ls a0 a1 M) h i j * ((∑ d, thin a2 h i d * thin a3 h j d) - Es a0 a1 a2 a3 M h j) = _
  rw [pH_eq a0 a1 M h i j hj, Es_eq, show (∑ d, thin a2 h i d * thin a3 h j d) = dp a2 a3 h j i from Finset.sum_congr rfl fun d _ => mul_comm _ _]
  have hs : ∑ k ∈ Finset.range 8192, dp a2 a3 h j k * (1 / (su a0 a1 M h j * su a0 a1 M h j)) * ex a0 a1 M h j k
      = (∑ k ∈ Finset.range 8192, ex a0 a1 M h j k / su a0 a1 M h j * dp a2 a3 h j k) / su a0 a1 M h j := by
    rw [Finset.sum_div]; exact Finset.sum_congr rfl fun k _ => by field_simp
  rw [hs]; ring
end Spec

variable (x0 x1 : S8192x4096.Idx → EReal) (x2 x3 : S8192x2048.Idx → EReal) (a0 a1 a2 a3 : ℕ → ℕ → ℝ)
  (H : Reals a0 a1 a2 a3 x0 x1 x2 x3)

section Args
include H
theorem x0_apply (j : S8192x4096.Idx) : x0 j = ((a0 (j 0).val (j 1).val : ℝ) : EReal) := by
  obtain ⟨i, x, rfl⟩ := idx_eta (n := 8192) (k := 4096) j; exact H.h0 i x
theorem x1_apply (j : S8192x4096.Idx) : x1 j = ((a1 (j 0).val (j 1).val : ℝ) : EReal) := by
  obtain ⟨i, x, rfl⟩ := idx_eta (n := 8192) (k := 4096) j; exact H.h1 i x
theorem x2_apply (j : S8192x2048.Idx) : x2 j = ((a2 (j 0).val (j 1).val : ℝ) : EReal) := by
  obtain ⟨i, x, rfl⟩ := idx_eta (n := 8192) (k := 2048) j; exact H.h2 i x
theorem x3_apply (j : S8192x2048.Idx) : x3 j = ((a3 (j 0).val (j 1).val : ℝ) : EReal) := by
  obtain ⟨i, x, rfl⟩ := idx_eta (n := 8192) (k := 2048) j; exact H.h3 i x

/-- The scaled queries, by row, head and column. -/
theorem v4_apply (j : S8192x16x256.Idx) : val_main_v4 (F := Ideal) x0 j = ((wide a0 (j 1).val (j 0).val (j 2) / Real.sqrt 192 : ℝ) : EReal) := by
  rw [val_main_v4_apply, val_main_v3_apply, val_main_v0_apply, val_main_v2_apply, val_main_v1_apply, val_main_cst_apply]
  show Ideal.div (x0 (idx_main_v4 j)) (Ideal.sqrt (Ideal.ofBits .f32 0x43400000#32)) = _
  rw [sqrt_192, x0_apply x0 x1 x2 x3 a0 a1 a2 a3 H, div_coe_coe _ sqrt_ne]
  have h0 : (j 0).val < 8192 := (j 0).isLt
  have h1 : (j 1).val < 16 := (j 1).isLt
  have h2 : (j 2).val < 256 := (j 2).isLt
  refine congrArg₂ (fun i x => ((a0 i x / Real.sqrt 192 : ℝ) : EReal)) ?_ ?_
  · show (((j 0).val * 16 + (j 1).val) * 256 + (j 2).val) / 4096 = (j 0).val; omega
  · show (((j 0).val * 16 + (j 1).val) * 256 + (j 2).val) % 4096 = 256 * (j 1).val + (j 2).val; omega

/-- The keys, -/
theorem v6_apply (j : S8192x16x256.Idx) : val_main_v6 (F := Ideal) x1 j = ((wide a1 (j 1).val (j 0).val (j 2) : ℝ) : EReal) := by
  rw [val_main_v6_apply, val_main_v5_apply]
  refine (x1_apply x0 x1 x2 x3 a0 a1 a2 a3 H _).trans ?_
  have h0 : (j 0).val < 8192 := (j 0).isLt
  have h1 : (j 1).val < 16 := (j 1).isLt
  have h2 : (j 2).val < 256 := (j 2).isLt
  refine congrArg₂ (fun i x => ((a1 i x : ℝ) : EReal)) ?_ ?_
  · show (((j 0).val * 16 + (j 1).val) * 256 + (j 2).val) / 4096 = (j 0).val; omega
  · show (((j 0).val * 16 + (j 1).val) * 256 + (j 2).val) % 4096 = 256 * (j 1).val + (j 2).val; omega

/-- the values, -/
theorem v45_apply (j : S8192x16x128.Idx) : val_main_v45 (F := Ideal) x2 j = ((thin a2 (j 1).val (j 0).val (j 2) : ℝ) : EReal) := by
  rw [val_main_v45_apply, val_main_v44_apply]
  refine (x2_apply x0 x1 x2 x3 a0 a1 a2 a3 H _).trans ?_
  have h0 : (j 0).val < 8192 := (j 0).isLt
  have h1 : (j 1).val < 16 := (j 1).isLt
  have h2 : (j 2).val < 128 := (j 2).isLt
  refine congrArg₂ (fun i x => ((a2 i x : ℝ) : EReal)) ?_ ?_
  · show (((j 0).val * 16 + (j 1).val) * 128 + (j 2).val) / 2048 = (j 0).val; omega
  · show (((j 0).val * 16 + (j 1).val) * 128 + (j 2).val) % 2048 = 128 * (j 1).val + (j 2).val; omega

/-- and the cotangent. -/
theorem v50_apply (j : S8192x16x128.Idx) : val_main_v50 (F := Ideal) x3 j = ((thin a3 (j 1).val (j 0).val (j 2) : ℝ) : EReal) := by
  rw [val_main_v50_apply, val_main_v49_apply]
  refine (x3_apply x0 x1 x2 x3 a0 a1 a2 a3 H _).trans ?_
  have h0 : (j 0).val < 8192 := (j 0).isLt
  have h1 : (j 1).val < 16 := (j 1).isLt
  have h2 : (j 2).val < 128 := (j 2).isLt
  refine congrArg₂ (fun i x => ((a3 i x : ℝ) : EReal)) ?_ ?_
  · show (((j 0).val * 16 + (j 1).val) * 128 + (j 2).val) / 2048 = (j 0).val; omega
  · show (((j 0).val * 16 + (j 1).val) * 128 + (j 2).val) % 2048 = 128 * (j 1).val + (j 2).val; omega
theorem v51_apply (j : S16x128x8192.Idx) : val_main_v51 (F := Ideal) x3 j = ((thin a3 (j 0).val (j 2).val (j 1) : ℝ) : EReal) := by
  rw [val_main_v51_apply, v50_apply x0 x1 x2 x3 a0 a1 a2 a3 H]; rfl
end Args

/-- The mask keeps the keys up to the query. -/
theorem select_mask (j : S16x8192x8192.Idx) (x y : EReal) :
    Scalar.select (val_main_v15_1 (F := Ideal) j) x y = if (j 2).val ≤ (j 1).val then x else y := by
  rw [val_main_v15_1_apply, val_main_v14_apply, val_main_v12_apply, val_main_v13_apply, val_main_v9_apply, val_main_v11_apply,
    val_main_v8_apply, val_main_v10_apply]
  have h1 : (j 1).val < 8192 := (j 1).isLt
  have h2 : (j 2).val < 8192 := (j 2).isLt
  exact select_le (j 2).val (j 1).val (by omega) (by omega) x y

section Scores
include H
/-- The masked scores. -/
theorem v15_0_apply (j : S16x8192x8192.Idx) : val_main_v15_0 (F := Ideal) x0 x1 j
    = if (j 2).val ≤ (j 1).val then ((sc a0 a1 (j 0).val (j 1).val (j 2).val : ℝ) : EReal) else ⊥ := by
  rw [val_main_v15_0_apply, select_mask, val_main_v7_apply, val_main_call0_v2_apply, val_main_call0_v0_apply, val_main_cst_0_apply]
  simp only [v4_apply x0 x1 x2 x3 a0 a1 a2 a3 H, v6_apply x0 x1 x2 x3 a0 a1 a2 a3 H, ← EReal.coe_mul, coe_sum]
  rw [show FloatOps.ofBits (F := Ideal) .f32 0xFF800000#32 = (⊥ : EReal) from ofBits_neg_inf]
  rfl

/-- The largest score of a row is a real number. -/
theorem v33_real : ∃ M : ℕ → ℕ → ℝ, ∀ j : S16x8192x1.Idx, val_main_v33 (F := Ideal) x0 x1 j = ((M (j 0).val (j 1).val : ℝ) : EReal) := by
  have key : ∀ h i : ℕ, ∃ M : ℝ, ∀ (hh : h < 16) (hi : i < 8192), val_main_v23 (F := Ideal) x0 x1 (ix2 (⟨h, hh⟩ : Fin 16) (⟨i, hi⟩ : Fin 8192)) = (M : EReal) := by
    intro h i
    by_cases hh : h < 16
    · by_cases hi : i < 8192
      · obtain ⟨M, hM⟩ := fold_max_real (Finset.univ : Finset (Fin 8192)) (fun c => if c.val ≤ i then ((sc a0 a1 h i c.val : ℝ) : EReal) else ⊥)
          (fun c => by split <;> simp) ⟨i, hi⟩ (Finset.mem_univ _) (by simp)
        refine ⟨M, fun _ _ => ?_⟩
        unfold val_main_v23
        rw [Cert.MlaHost.max_bot, ← hM]
        unfold val_main_v16
        have hv : val_main_v15_0 (F := Ideal) x0 x1 = fun j => if (j 2).val ≤ (j 1).val then ((sc a0 a1 (j 0).val (j 1).val (j 2).val : ℝ) : EReal) else ⊥ :=
          funext (v15_0_apply x0 x1 x2 x3 a0 a1 a2 a3 H)
        rw [hv]
        simp only [val_main_cst_1, pointwise]
        rw [ofBits_neg_inf]
        rfl
      · exact ⟨0, fun _ h => absurd h hi⟩
    · exact ⟨0, fun h => absurd h hh⟩
  choose M hM using key
  refine ⟨M, fun j => ?_⟩
  rw [val_main_v33_apply]
  obtain ⟨h, i, e⟩ := idx_eta (n := 16) (k := 8192) (idx_main_v33 j)
  rw [e, hM h.val i.val h.isLt i.isLt]
  have e0 : h.val = (j 0).val := (congrArg Fin.val (congrFun e 0)).symm
  have e1 : i.val = (j 1).val := (congrArg Fin.val (congrFun e 1)).symm
  rw [e0, e1]
end Scores

section Softmax
variable (M : ℕ → ℕ → ℝ) (hM : ∀ j : S16x8192x1.Idx, val_main_v33 (F := Ideal) x0 x1 j = ((M (j 0).val (j 1).val : ℝ) : EReal))
include H hM

/-- The exponentials of the shifted scores. -/
theorem v36_apply (j : S16x8192x8192.Idx) : val_main_v36 (F := Ideal) x0 x1 j = ((ex a0 a1 M (j 0).val (j 1).val (j 2).val : ℝ) : EReal) := by
  rw [val_main_v36_apply, val_main_v35_apply, val_main_v34_apply, v15_0_apply x0 x1 x2 x3 a0 a1 a2 a3 H, hM]
  unfold ex
  show Ideal.exp ((if (j 2).val ≤ (j 1).val then ((sc a0 a1 (j 0).val (j 1).val (j 2).val : ℝ) : EReal) else ⊥) - ((M (j 0).val (j 1).val : ℝ) : EReal)) = _
  by_cases h : (j 2).val ≤ (j 1).val
  · rw [if_pos h, if_pos h, ← EReal.coe_sub, Ideal.exp_coe]
  · rw [if_neg h, if_neg h, EReal.bot_sub, Ideal.exp_bot, EReal.coe_zero]

/-- Their sum along a row. -/
theorem v38_apply (j : S16x8192x1.Idx) : val_main_v38 (F := Ideal) x0 x1 j = ((su a0 a1 M (j 0).val (j 1).val : ℝ) : EReal) := by
  rw [val_main_v38_apply, val_main_v37_apply, val_main_cst_9_apply]
  show Ideal.ofBits .f32 0x00000000#32 + _ = _
  rw [Ideal.ofBits_zero_f32, zero_add]
  simp only [v36_apply x0 x1 x2 x3 a0 a1 a2 a3 H M hM, coe_sum]
  unfold su; rw [Finset.sum_range]

theorem su_ne (j : S16x8192x8192.Idx) : su a0 a1 M (j 0).val (j 1).val ≠ 0 := (su_pos a0 a1 M _ _ (j 1).isLt).ne'

/-- The attention weights. -/
theorem v40_apply (j : S16x8192x8192.Idx) : val_main_v40 (F := Ideal) x0 x1 j
    = ((ex a0 a1 M (j 0).val (j 1).val (j 2).val / su a0 a1 M (j 0).val (j 1).val : ℝ) : EReal) := by
  rw [val_main_v40_apply, val_main_v39_apply, v36_apply x0 x1 x2 x3 a0 a1 a2 a3 H M hM, v38_apply x0 x1 x2 x3 a0 a1 a2 a3 H M hM]
  exact div_coe_coe _ (su_ne x0 x1 x2 x3 a0 a1 a2 a3 H M hM j)

/-- The gradient of the attention weights. -/
theorem v52_apply (j : S16x8192x8192.Idx) : val_main_v52 (F := Ideal) x2 x3 j = ((dp a2 a3 (j 0).val (j 1).val (j 2).val : ℝ) : EReal) := by
  rw [val_main_v52_apply]
  simp only [v51_apply x0 x1 x2 x3 a0 a1 a2 a3 H, v45_apply x0 x1 x2 x3 a0 a1 a2 a3 H, ← EReal.coe_mul, coe_sum]; rfl

theorem v43_apply (j : S16x8192x1.Idx) : val_main_v43 (F := Ideal) x0 x1 j
    = ((1 / (su a0 a1 M (j 0).val (j 1).val * su a0 a1 M (j 0).val (j 1).val) : ℝ) : EReal) := by
  have hl : su a0 a1 M (j 0).val (j 1).val ≠ 0 := (su_pos a0 a1 M _ _ (j 1).isLt).ne'
  rw [val_main_v43_apply, val_main_v42_apply, val_main_cst_10_apply, val_main_v41_apply, v38_apply x0 x1 x2 x3 a0 a1 a2 a3 H M hM]
  show Ideal.div (Ideal.ofBits .f32 0x3F800000#32) (((_ : ℝ) : EReal) * ((_ : ℝ) : EReal)) = _
  exact (congrArg₂ Ideal.div ofBits_one (EReal.coe_mul _ _).symm).trans (div_coe_coe _ (mul_ne_zero hl hl))

/-- A row's sum of the weights times their gradients, over its sum of exponentials. -/
theorem v60_apply (j : S16x8192.Idx) : val_main_v60 (F := Ideal) x0 x1 x2 x3 j
    = ((∑ k ∈ Finset.range 8192, dp a2 a3 (j 0).val (j 1).val k * (1 / (su a0 a1 M (j 0).val (j 1).val * su a0 a1 M (j 0).val (j 1).val))
      * ex a0 a1 M (j 0).val (j 1).val k : ℝ) : EReal) := by
  have h59 : ∀ j, val_main_v59 (F := Ideal) x0 x1 x2 x3 j
      = ((dp a2 a3 (j 0).val (j 1).val (j 2).val * (1 / (su a0 a1 M (j 0).val (j 1).val * su a0 a1 M (j 0).val (j 1).val))
        * ex a0 a1 M (j 0).val (j 1).val (j 2).val : ℝ) : EReal) := fun j => by
    rw [val_main_v59_apply, val_main_v58_apply, val_main_v57_apply, v52_apply x0 x1 x2 x3 a0 a1 a2 a3 H M hM, v43_apply x0 x1 x2 x3 a0 a1 a2 a3 H M hM,
      v36_apply x0 x1 x2 x3 a0 a1 a2 a3 H M hM]
    show ((_ : ℝ) : EReal) * ((_ : ℝ) : EReal) * ((_ : ℝ) : EReal) = _
    rw [← EReal.coe_mul, ← EReal.coe_mul]
  rw [val_main_v60_apply, val_main_cst_11_apply]
  show Ideal.ofBits .f32 0x00000000#32 + _ = _
  rw [Ideal.ofBits_zero_f32, zero_add]
  simp only [h59, coe_sum]
  rw [Finset.sum_range]

theorem v66_apply (j : S16x8192x8192.Idx) : val_main_v66 (F := Ideal) x0 x1 x2 x3 j
    = ((-(∑ k ∈ Finset.range 8192, dp a2 a3 (j 0).val (j 1).val k * (1 / (su a0 a1 M (j 0).val (j 1).val * su a0 a1 M (j 0).val (j 1).val))
      * ex a0 a1 M (j 0).val (j 1).val k) : ℝ) : EReal) := by
  have h62 : ∀ j : S16x8192x1.Idx, val_main_v62 (F := Ideal) x0 x1 x2 x3 j
      = ((-(∑ k ∈ Finset.range 8192, dp a2 a3 (j 0).val (j 1).val k * (1 / (su a0 a1 M (j 0).val (j 1).val * su a0 a1 M (j 0).val (j 1).val))
        * ex a0 a1 M (j 0).val (j 1).val k) : ℝ) : EReal) := fun j => by
    rw [val_main_v62_apply, val_main_v61_apply, v60_apply x0 x1 x2 x3 a0 a1 a2 a3 H M hM]
    have h0 : (j 0).val < 16 := (j 0).isLt
    have h1 : (j 1).val < 8192 := (j 1).isLt
    have h2 : (j 2).val < 1 := (j 2).isLt
    have e0 : (((j 0).val * 8192 + (j 1).val) * 1 + (j 2).val) / 8192 = (j 0).val := by omega
    have e1 : (((j 0).val * 8192 + (j 1).val) * 1 + (j 2).val) % 8192 = (j 1).val := by omega
    exact (congrArg₂ (fun h i => -((∑ k ∈ Finset.range 8192, dp a2 a3 h i k * (1 / (su a0 a1 M h i * su a0 a1 M h i)) * ex a0 a1 M h i k : ℝ) : EReal)) e0 e1).trans
      (EReal.coe_neg _).symm
  rw [val_main_v66_apply, val_main_v65_apply, val_main_cst_12_apply]
  show Ideal.ofBits .f32 0x00000000#32 + _ = _
  rw [Ideal.ofBits_zero_f32, zero_add, Fin.sum_univ_one, h62]

/-- The gradient of the scores. -/
theorem v69_apply (j : S16x8192x8192.Idx) : val_main_v69 (F := Ideal) x0 x1 x2 x3 j
    = ((dsH a0 a1 a2 a3 (Ls a0 a1 M) (Es a0 a1 a2 a3 M) (j 0).val (j 2).val (j 1).val : ℝ) : EReal) := by
  have hl := su_ne x0 x1 x2 x3 a0 a1 a2 a3 H M hM j
  rw [val_main_v69_apply, select_mask, val_main_call1_v0_apply, val_main_call1_cst_apply]
  by_cases h : (j 2).val ≤ (j 1).val
  · rw [if_pos h, dsH_eq a0 a1 a2 a3 M _ _ _ (j 1).isLt, val_main_v68_apply, val_main_v67_apply, val_main_v64_apply, val_main_v63_apply,
      v52_apply x0 x1 x2 x3 a0 a1 a2 a3 H M hM, v38_apply x0 x1 x2 x3 a0 a1 a2 a3 H M hM, v66_apply x0 x1 x2 x3 a0 a1 a2 a3 H M hM,
      v36_apply x0 x1 x2 x3 a0 a1 a2 a3 H M hM]
    have hc : ∀ p L s e : ℝ, L ≠ 0 → (Ideal.div ((p : ℝ) : EReal) ((L : ℝ) : EReal) + ((s : ℝ) : EReal)) * ((e : ℝ) : EReal)
        = (((p / L + s) * e : ℝ) : EReal) := fun p L s e hne => by
      rw [div_coe_coe _ hne, ← EReal.coe_add, ← EReal.coe_mul]
    exact hc _ _ _ _ hl
  · rw [if_neg h]
    show Ideal.ofBits .f32 0x00000000#32 = _
    rw [Ideal.ofBits_zero_f32]
    unfold dsH dsN pN
    rw [if_neg h, zero_mul, EReal.coe_zero]

/-! ## The three results -/

/-- The gradient of the queries. -/
theorem v76_eq : val_main_v76 (F := Ideal) x0 x1 x2 x3 = GQ a0 a1 a2 a3 (Ls a0 a1 M) (Es a0 a1 a2 a3 M) := funext fun j => by
  rw [val_main_v76_apply, val_main_v73_apply, val_main_v72_apply]
  have h0 : (j 0).val < 8192 := (j 0).isLt
  have h1 : (j 1).val < 4096 := (j 1).isLt
  simp only [v69_apply x0 x1 x2 x3 a0 a1 a2 a3 H M hM, v6_apply x0 x1 x2 x3 a0 a1 a2 a3 H, ← EReal.coe_mul, coe_sum]
  unfold GQ rowsSum
  rw [Finset.sum_range]
  have e0 : ((j 0).val * 4096 + (j 1).val) / 4096 = (j 0).val := by omega
  have e1 : ((j 0).val * 4096 + (j 1).val) / 256 % 16 = (j 1).val / 256 := by omega
  have e2 : (⟨((j 0).val * 4096 + (j 1).val) % 256, by omega⟩ : Fin 256) = ⟨(j 1).val % 256, Nat.mod_lt _ (by norm_num)⟩ := Fin.ext (by dsimp only; omega)
  exact congr3 (fun h i d => ((∑ k : Fin 8192, dsH a0 a1 a2 a3 (Ls a0 a1 M) (Es a0 a1 a2 a3 M) h k.val i * wide a1 h k.val d : ℝ) : EReal)) e1 e0 e2

/-- The gradient of the keys. -/
theorem v75_eq : val_main_v75 (F := Ideal) x0 x1 x2 x3 = GK a0 a1 a2 a3 (Ls a0 a1 M) (Es a0 a1 a2 a3 M) := funext fun j => by
  rw [val_main_v75_apply, val_main_v74_apply, val_main_v71_apply, val_main_v70_apply]
  have h0 : (j 0).val < 8192 := (j 0).isLt
  have h1 : (j 1).val < 4096 := (j 1).isLt
  simp only [v69_apply x0 x1 x2 x3 a0 a1 a2 a3 H M hM, v4_apply x0 x1 x2 x3 a0 a1 a2 a3 H, ← EReal.coe_mul, coe_sum]
  unfold GK keysSum
  rw [Finset.sum_range, Finset.sum_mul]
  have e0 : ((j 0).val * 4096 + (j 1).val) / 4096 = (j 0).val := by omega
  have e1 : ((j 0).val * 4096 + (j 1).val) / 256 % 16 = (j 1).val / 256 := by omega
  have e2 : (⟨((j 0).val * 4096 + (j 1).val) % 256, by omega⟩ : Fin 256) = ⟨(j 1).val % 256, Nat.mod_lt _ (by norm_num)⟩ := Fin.ext (by dsimp only; omega)
  refine (congr3 (fun h i d => ((∑ k : Fin 8192, dsH a0 a1 a2 a3 (Ls a0 a1 M) (Es a0 a1 a2 a3 M) h i k.val
    * (wide a0 h k.val d / Real.sqrt 192) : ℝ) : EReal)) e1 e0 e2).trans ?_
  exact congrArg (fun x : ℝ => (x : EReal)) (Finset.sum_congr rfl fun i _ => by rw [div_eq_mul_inv, ← mul_assoc])

/-- The gradient of the values. -/
theorem v56_eq : val_main_v56 (F := Ideal) x0 x1 x3 = GV a0 a1 a3 (Ls a0 a1 M) := funext fun j => by
  rw [val_main_v56_apply, val_main_v55_apply, val_main_v54_apply, val_main_v53_apply]
  have h0 : (j 0).val < 8192 := (j 0).isLt
  have h1 : (j 1).val < 2048 := (j 1).isLt
  simp only [v40_apply x0 x1 x2 x3 a0 a1 a2 a3 H M hM, v51_apply x0 x1 x2 x3 a0 a1 a2 a3 H, ← EReal.coe_mul, coe_sum]
  unfold GV valuesSum
  rw [Finset.sum_range]
  have e0 : ((j 0).val * 2048 + (j 1).val) / 2048 = (j 0).val := by omega
  have e1 : ((j 0).val * 2048 + (j 1).val) / 128 % 16 = (j 1).val / 128 := by omega
  have e2 : (⟨((j 0).val * 2048 + (j 1).val) % 128, by omega⟩ : Fin 128) = ⟨(j 1).val % 128, Nat.mod_lt _ (by norm_num)⟩ := Fin.ext (by dsimp only; omega)
  refine (congr3 (fun h i d => ((∑ k : Fin 8192, thin a3 h k.val d * (ex a0 a1 M h k.val i / su a0 a1 M h k.val) : ℝ) : EReal)) e1 e0 e2).trans ?_
  exact congrArg (fun x : ℝ => (x : EReal)) (Finset.sum_congr rfl fun i _ => by rw [pH_eq a0 a1 M _ _ _ i.isLt, mul_comm])

/-! ## The statistics of the kernel's host -/

theorem stats : Stats (Ls a0 a1 M) (Es a0 a1 a2 a3 M) (Cert.MlaHost.both (Cert.MlaHost.lse (val_main_v33 (F := Ideal) x0 x1) (val_main_v38 (F := Ideal) x0 x1))
    (Cert.MlaHost.delta (val_main_v40 (F := Ideal) x0 x1) (val_main_v45 (F := Ideal) x2) (val_main_v50 (F := Ideal) x3))) where
  hL h b j := by
    rw [Cert.MlaHost.both_zero, Cert.MlaHost.lse_apply, hM, v38_apply x0 x1 x2 x3 a0 a1 a2 a3 H M hM, log_two]
    have hp : 0 < su a0 a1 M h.val (512 * b.val + j.val) := su_pos a0 a1 M _ _ (by omega)
    show Ideal.div (((M h.val (512 * b.val + j.val) : ℝ) : EReal) + Ideal.log ((su a0 a1 M h.val (512 * b.val + j.val) : ℝ) : EReal)) ((Real.log 2 : ℝ) : EReal) = _
    rw [Ideal.log_coe, if_neg (not_le.mpr hp), ← EReal.coe_add, div_coe_coe _ log_ne]; rfl
  hE h b j := by
    rw [Cert.MlaHost.both_one, Cert.MlaHost.delta_apply]
    simp only [v40_apply x0 x1 x2 x3 a0 a1 a2 a3 H M hM, v45_apply x0 x1 x2 x3 a0 a1 a2 a3 H, v50_apply x0 x1 x2 x3 a0 a1 a2 a3 H, ← EReal.coe_mul, coe_sum]
    unfold Es
    simp only [Finset.sum_range]; rfl
end Softmax

end Cert.MlaRef
-- ==== Proof.MlaFinite.lean ====
module
public import proofs.«01_k».proof.Pre_finite2
public import proofs.«01_k».proof.Proof.MemFinite
public import proofs.«01_k».proof.Proof.MlaArrays
@[expose] public section
set_option maxRecDepth 16384
noncomputable section
namespace Cert.MlaFinite
open Cert.RealTools Cert.MlaArrays Cert.MemFinite
open Idealize.ShloMosaic Idealize.ShloMosaic.TcCoe Idealize.SL.Sem

/-! What the precondition says of the arguments of the attention gradient: every element is a real number. -/

/-- The side conditions of the predicate. -/
theorem facts : Cert.Pre_finite2.Facts := ⟨by decide, by decide, by decide⟩

/-- The real parts of an array, by row and column; zero outside. -/
def re {n k : ℕ} (A : (⟨2, ![n, k]⟩ : Shape).Idx → EReal) (i x : ℕ) : ℝ :=
  if h : i < n ∧ x < k then (A (ix2 ⟨i, h.1⟩ ⟨x, h.2⟩)).toReal else 0

theorem re_val {n k : ℕ} (A : (⟨2, ![n, k]⟩ : Shape).Idx → EReal) (i : Fin n) (x : Fin k) : re A i.val x.val = (A (ix2 i x)).toReal := by
  unfold re; rw [dif_pos ⟨i.isLt, x.isLt⟩]

/-- Of arguments that satisfy the precondition every element is its real part. -/
theorem reals (x0 x1 : (⟨2, ![8192, 4096]⟩ : Shape).Idx → EReal) (x2 x3 : (⟨2, ![8192, 2048]⟩ : Shape).Idx → EReal) [Cert.Pre_finite2.Facts]
    (h0 : (Cert.Pre_finite2.fn (F := Ideal) x0 x1 x2 x3).1 = fun _ => 1#1)
    (h1 : (Cert.Pre_finite2.fn (F := Ideal) x0 x1 x2 x3).2.1 = fun _ => 1#1)
    (h2 : (Cert.Pre_finite2.fn (F := Ideal) x0 x1 x2 x3).2.2.1 = fun _ => 1#1)
    (h3 : (Cert.Pre_finite2.fn (F := Ideal) x0 x1 x2 x3).2.2.2 = fun _ => 1#1) :
    Reals (re x0) (re x1) (re x2) (re x3) x0 x1 x2 x3 := by
  refine ⟨fun i x => ?_, fun i x => ?_, fun i x => ?_, fun i x => ?_⟩
  · have h := congrFun h0 (ix2 i x)
    simp only [Cert.Pre_finite2.fn, pointwise] at h
    rw [re_val]; exact real_of_abs_lt _ h
  · have h := congrFun h1 (ix2 i x)
    simp only [Cert.Pre_finite2.fn, pointwise] at h
    rw [re_val]; exact real_of_abs_lt _ h
  · have h := congrFun h2 (ix2 i x)
    simp only [Cert.Pre_finite2.fn, pointwise] at h
    rw [re_val]; exact real_of_abs_lt _ h
  · have h := congrFun h3 (ix2 i x)
    simp only [Cert.Pre_finite2.fn, pointwise] at h
    rw [re_val]; exact real_of_abs_lt _ h

end Cert.MlaFinite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Loops
public import proofs.«01_k».proof.Proof.Gen.Reference2Ideal
public import proofs.«01_k».proof.Proof.Gen.Reference2Ideal.Read
public import proofs.«01_k».proof.Proof.Gen.GateW.Frame
public import proofs.«01_k».proof.Proof.GateW
public import proofs.«01_k».proof.Proof.Gen.GateH.Frame
public import proofs.«01_k».proof.Proof.GateH
public import proofs.«01_k».proof.Proof.Gen.BranchW.Frame
public import proofs.«01_k».proof.Proof.BranchW
public import proofs.«01_k».proof.Proof.Gen.BranchY.Frame
public import proofs.«01_k».proof.Proof.BranchY
public import proofs.«01_k».proof.Proof.Gen.InW.Frame
public import proofs.«01_k».proof.Proof.InW
public import proofs.«01_k».proof.Proof.Gen.InH.Frame
public import proofs.«01_k».proof.Proof.InH
public import proofs.«01_k».proof.Proof.Gen.InP.Frame
public import proofs.«01_k».proof.Proof.InP
public import proofs.«01_k».proof.Proof.Gen.OutP.Frame
public import proofs.«01_k».proof.Proof.OutP
public import proofs.«01_k».proof.Proof.Gen.Merge.Frame
public import proofs.«01_k».proof.Proof.Merge
public import proofs.«01_k».proof.Proof.Gen.LatW.Frame
public import proofs.«01_k».proof.Proof.LatW
public import proofs.«01_k».proof.Proof.Gen.LatV.Frame
public import proofs.«01_k».proof.Proof.LatV
public import proofs.«01_k».proof.Proof.Gen.LatQ.Frame
public import proofs.«01_k».proof.Proof.LatQ
public import proofs.«01_k».proof.Proof.Gen.LatC.Frame
public import proofs.«01_k».proof.Proof.LatC
public import proofs.«01_k».proof.Proof.Gen.MemP.Frame
public import proofs.«01_k».proof.Proof.MemP
public import proofs.«01_k».proof.Proof.Gen.MemW.Frame
public import proofs.«01_k».proof.Proof.MemW
public import proofs.«01_k».proof.Proof.Gen.MemX.Frame
public import proofs.«01_k».proof.Proof.MemX
public import proofs.«01_k».proof.Proof.Gen.MemF.Frame
public import proofs.«01_k».proof.Proof.MemF
public import proofs.«01_k».proof.Proof.Gen.NormX.Frame
public import proofs.«01_k».proof.Proof.NormX
public import proofs.«01_k».proof.Proof.Gen.NormM.Frame
public import proofs.«01_k».proof.Proof.NormM
public import proofs.«01_k».proof.Proof.Gen.NormQ.Frame
public import proofs.«01_k».proof.Proof.NormQ
public import proofs.«01_k».proof.Proof.Gen.NormK.Frame
public import proofs.«01_k».proof.Proof.NormK
public import proofs.«01_k».proof.Proof.MemRef
public import proofs.«01_k».proof.Proof.MemFinite
public import proofs.«01_k».proof.Proof.Kernel2Frame
public import proofs.«01_k».proof.Proof.MlaRef
public import proofs.«01_k».proof.Proof.MlaFinite
public import Idealize.ShloMosaic.Adequacy
public import Idealize.ShloMosaic.Init

@[expose] public section

noncomputable section

namespace Cert.Proof

open Idealize.ShloMosaic Idealize.SL.Sem Cert.Kernel

/-- The kernel and the reference end with the same three arrays: over the real numbers both hold the gradients of the
memory attention. -/
theorem algebraic (hP : Cert.Pre_finite.Facts) : Cert.algebraic_KernelIdeal_ReferenceIdeal_pre_finite (hKernelIdeal := Cert.KernelIdeal.Gen.facts)
    (hReferenceIdeal := Cert.ReferenceIdeal.Gen.facts) (hPre_finite := hP) := by
  intro m ρ m' ρ' hpre hagree
  let a0 : Dev Cert.KernelIdeal.nD → Fin 8192 → Fin 13440 → ℝ := fun c i x =>
    (m ((c.tc : Thread Cert.KernelIdeal.nD Cert.KernelIdeal.τ).loc Cert.KernelIdeal.main_arg0) (ix2 i x) : EReal).toReal
  let a1 : Dev Cert.KernelIdeal.nD → Fin 256 → Fin 4096 → ℝ := fun c i x =>
    (m ((c.tc : Thread Cert.KernelIdeal.nD Cert.KernelIdeal.τ).loc Cert.KernelIdeal.main_arg1) (ix2 i x) : EReal).toReal
  let a2 : Dev Cert.KernelIdeal.nD → Fin 8192 → Fin 2048 → ℝ := fun c i x =>
    (m ((c.tc : Thread Cert.KernelIdeal.nD Cert.KernelIdeal.τ).loc Cert.KernelIdeal.main_arg2) (ix2 i x) : EReal).toReal
  have H := fun c => Cert.MemFinite.reals _ _ _ (hpre c).1 (hpre c).2.1 (hpre c).2.2
  refine ⟨fun c => Cert.MemArrays.GQ (a0 c) (a1 c) (a2 c), fun c => Cert.MemArrays.GZ (a0 c) (a1 c) (a2 c),
    fun c => Cert.MemArrays.GKV (a0 c) (a1 c) (a2 c), ?_, ?_⟩
  · exact (θ_run Cert.KernelIdeal.defs _ _).mono (fun _ h c => ⟨(h c).1.trans (Cert.MemArrays.final5 m _ _ _ c (H c)),
      (h c).2.1.trans (Cert.MemArrays.final6 m _ _ _ c (H c)), (h c).2.2.1.trans (Cert.MemArrays.final7 m _ _ _ c (H c)), (h c).2.2.2⟩)
      (Cert.KernelIdeal.Value.run_blocks (F := Ideal) m ρ)
  · have H' := fun c => show Cert.MemTiles.Reals (a0 c) (a1 c) (a2 c)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) by
      rw [(hagree c).1, (hagree c).2.1, (hagree c).2.2]; exact H c
    exact (θ_run Cert.ReferenceIdeal.defs _ _).mono (fun _ h c =>
      ⟨(h c).1.trans ((Cert.ReferenceIdeal.Read.val_main_v80_eq m' c).trans (Cert.MemRef.v80_eq _ _ _ _ _ _ (H' c))),
      (h c).2.1.trans ((Cert.ReferenceIdeal.Read.val_main_v51_eq m' c).trans (Cert.MemRef.v51_eq _ _ _ _ _ _ (H' c))),
      (h c).2.2.1.trans ((Cert.ReferenceIdeal.Read.val_main_v79_eq m' c).trans (Cert.MemRef.v79_eq _ _ _ _ _ _ (H' c))), (h c).2.2.2⟩)
      (Cert.ReferenceIdeal.Value.run (F := Ideal) m' ρ')

/-- The reference runs, keeps its arguments and holds no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) : θ_run (Cert.ReferenceIdeal.defs (F := Ideal))
      (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2, sem_eq_zero_of_no_sems rfl r.2⟩)
    (Cert.ReferenceIdeal.Value.run (F := Ideal) m ρ)

/-- The attention gradient: the kernel and the reference end with the same three arrays. -/
theorem algebraic2 (hP : Cert.Pre_finite2.Facts) : Cert.algebraic_Kernel2Ideal_Reference2Ideal_pre_finite2 (hKernel2Ideal := Cert.Kernel2Ideal.Gen.facts)
    (hReference2Ideal := Cert.Reference2Ideal.Gen.facts) (hPre_finite2 := hP) := by
  intro m ρ m' ρ' hpre hagree
  let x0 := fun c : Dev Cert.Kernel2Ideal.nD => m ((c.tc : Thread Cert.Kernel2Ideal.nD Cert.Kernel2Ideal.τ).loc Cert.Kernel2Ideal.main_arg0)
  let x1 := fun c : Dev Cert.Kernel2Ideal.nD => m ((c.tc : Thread Cert.Kernel2Ideal.nD Cert.Kernel2Ideal.τ).loc Cert.Kernel2Ideal.main_arg1)
  let x2 := fun c : Dev Cert.Kernel2Ideal.nD => m ((c.tc : Thread Cert.Kernel2Ideal.nD Cert.Kernel2Ideal.τ).loc Cert.Kernel2Ideal.main_arg2)
  let x3 := fun c : Dev Cert.Kernel2Ideal.nD => m ((c.tc : Thread Cert.Kernel2Ideal.nD Cert.Kernel2Ideal.τ).loc Cert.Kernel2Ideal.main_arg3)
  have H := fun c => Cert.MlaFinite.reals (x0 c) (x1 c) (x2 c) (x3 c) (hpre c).1 (hpre c).2.1 (hpre c).2.2.1 (hpre c).2.2.2
  have hM := fun c => Cert.MlaRef.v33_real _ _ _ _ _ _ _ _ (H c)
  choose M hM using hM
  have HS := fun c => (congrArg (Cert.MlaArrays.Stats _ _) (Cert.MlaHost.stats_eq m c (x0 c) (x1 c) (x2 c) (x3 c) rfl rfl rfl rfl)).mpr
    (Cert.MlaRef.stats _ _ _ _ _ _ _ _ (H c) (M c) (hM c))
  let r0 := fun c => Cert.MlaFinite.re (x0 c)
  let r1 := fun c => Cert.MlaFinite.re (x1 c)
  let r2 := fun c => Cert.MlaFinite.re (x2 c)
  let r3 := fun c => Cert.MlaFinite.re (x3 c)
  let L := fun c => Cert.MlaRef.Ls (r0 c) (r1 c) (M c)
  let E := fun c => Cert.MlaRef.Es (r0 c) (r1 c) (r2 c) (r3 c) (M c)
  refine ⟨fun c => Cert.MlaArrays.GQ (r0 c) (r1 c) (r2 c) (r3 c) (L c) (E c), fun c => Cert.MlaArrays.GK (r0 c) (r1 c) (r2 c) (r3 c) (L c) (E c),
    fun c => Cert.MlaArrays.GV (r0 c) (r1 c) (r3 c) (L c), ?_, ?_⟩
  · exact (θ_run Cert.Kernel2Ideal.defs _ _).mono (fun _ h c => ⟨((h.1 c).1 5).trans (Cert.MlaArrays.final5 m _ _ _ _ _ _ c (H c) (HS c)),
      ((h.1 c).1 6).trans (Cert.MlaArrays.final6 m _ _ _ _ _ _ c (H c) (HS c)),
      ((h.1 c).1 7).trans (Cert.MlaArrays.final7 m _ _ _ _ _ _ c (H c) (HS c)), h.2.1 c⟩)
      (θ_run_and (Cert.Kernel2Ideal.Run.posts (F := Ideal) m ρ) (Cert.Kernel2Ideal.Run.frame_run (F := Ideal) m ρ))
  · have arg := fun c : Dev Cert.Kernel2Ideal.nD => show m' ((c.tc : Thread Cert.Reference2Ideal.nD Cert.Reference2Ideal.τ).loc Cert.Reference2Ideal.main_arg0) = x0 c
        ∧ m' ((c.tc : Thread Cert.Reference2Ideal.nD Cert.Reference2Ideal.τ).loc Cert.Reference2Ideal.main_arg1) = x1 c
        ∧ m' ((c.tc : Thread Cert.Reference2Ideal.nD Cert.Reference2Ideal.τ).loc Cert.Reference2Ideal.main_arg2) = x2 c
        ∧ m' ((c.tc : Thread Cert.Reference2Ideal.nD Cert.Reference2Ideal.τ).loc Cert.Reference2Ideal.main_arg3) = x3 c from hagree c
    exact (θ_run Cert.Reference2Ideal.defs _ _).mono (fun _ h c =>
      ⟨(h c).1.trans ((Cert.Reference2Ideal.Read.val_main_v76_eq m' c).trans (by
        rw [(arg c).1, (arg c).2.1, (arg c).2.2.1, (arg c).2.2.2]; exact Cert.MlaRef.v76_eq _ _ _ _ _ _ _ _ (H c) (M c) (hM c))),
      (h c).2.1.trans ((Cert.Reference2Ideal.Read.val_main_v75_eq m' c).trans (by
        rw [(arg c).1, (arg c).2.1, (arg c).2.2.1, (arg c).2.2.2]; exact Cert.MlaRef.v75_eq _ _ _ _ _ _ _ _ (H c) (M c) (hM c))),
      (h c).2.2.1.trans ((Cert.Reference2Ideal.Read.val_main_v56_eq m' c).trans (by
        rw [(arg c).1, (arg c).2.1, (arg c).2.2.2]; exact Cert.MlaRef.v56_eq _ _ _ _ _ _ _ _ (H c) (M c) (hM c))), (h c).2.2.2⟩)
      (Cert.Reference2Ideal.Value.run (F := Ideal) m' ρ')

/-- The attention's reference runs, keeps its arguments and holds no semaphore. -/
theorem frame_reference2 (m : (ℓ : Loc Cert.Reference2Ideal.nD Cert.Reference2Ideal.τ Cert.Reference2Ideal.sig) → Buf (Elt Ideal) ℓ)
    (ρ : Dev Cert.Reference2Ideal.nD → PrngReg) : θ_run (Cert.Reference2Ideal.defs (F := Ideal))
      (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2.2.2, sem_eq_zero_of_no_sems rfl r.2⟩)
    (Cert.Reference2Ideal.Value.run (F := Ideal) m ρ)

/-- The three named constants round to the kernel's literals. -/
theorem preserves2 : Cert.preserves_Kernel2_Kernel2Ideal :=
  ⟨IdealRules.named_const.statement Cert.Kernel2Ideal.κ "mask" .f32 0xF149F2CA#32 ⊥ rfl,
    IdealRules.named_const.statement Cert.Kernel2Ideal.κ "scale_log2e" .f32 0x3DD53B95#32 (((Real.sqrt 192)⁻¹ * (Real.log 2)⁻¹ : ℝ) : EReal) rfl,
    IdealRules.named_const.statement Cert.Kernel2Ideal.κ "scale" .f32 0x3D93CD3A#32 (((Real.sqrt 192)⁻¹ : ℝ) : EReal) rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.GateW.Gen.facts, Cert.GateWIdeal.Gen.facts, Cert.GateWRefIdeal.Gen.facts,
  Cert.GateH.Gen.facts, Cert.GateHIdeal.Gen.facts, Cert.GateHRefIdeal.Gen.facts,
  Cert.BranchW.Gen.facts, Cert.BranchWIdeal.Gen.facts, Cert.BranchWRefIdeal.Gen.facts,
  Cert.BranchY.Gen.facts, Cert.BranchYIdeal.Gen.facts, Cert.BranchYRefIdeal.Gen.facts,
  Cert.InW.Gen.facts, Cert.InWIdeal.Gen.facts, Cert.InWRefIdeal.Gen.facts,
  Cert.InH.Gen.facts, Cert.InHIdeal.Gen.facts, Cert.InHRefIdeal.Gen.facts,
  Cert.InP.Gen.facts, Cert.InPIdeal.Gen.facts, Cert.InPRefIdeal.Gen.facts,
  Cert.OutP.Gen.facts, Cert.OutPIdeal.Gen.facts, Cert.OutPRefIdeal.Gen.facts,
  Cert.Merge.Gen.facts, Cert.MergeIdeal.Gen.facts, Cert.MergeRefIdeal.Gen.facts,
  Cert.LatW.Gen.facts, Cert.LatWIdeal.Gen.facts, Cert.LatWRefIdeal.Gen.facts,
  Cert.LatV.Gen.facts, Cert.LatVIdeal.Gen.facts, Cert.LatVRefIdeal.Gen.facts,
  Cert.LatQ.Gen.facts, Cert.LatQIdeal.Gen.facts, Cert.LatQRefIdeal.Gen.facts,
  Cert.LatC.Gen.facts, Cert.LatCIdeal.Gen.facts, Cert.LatCRefIdeal.Gen.facts,
  Cert.MemP.Gen.facts, Cert.MemPIdeal.Gen.facts, Cert.MemPRefIdeal.Gen.facts,
  Cert.MemW.Gen.facts, Cert.MemWIdeal.Gen.facts, Cert.MemWRefIdeal.Gen.facts,
  Cert.MemX.Gen.facts, Cert.MemXIdeal.Gen.facts, Cert.MemXRefIdeal.Gen.facts,
  Cert.MemF.Gen.facts, Cert.MemFIdeal.Gen.facts, Cert.MemFRefIdeal.Gen.facts,
  Cert.NormX.Gen.facts, Cert.NormXIdeal.Gen.facts, Cert.NormXRefIdeal.Gen.facts,
  Cert.NormM.Gen.facts, Cert.NormMIdeal.Gen.facts, Cert.NormMRefIdeal.Gen.facts,
  Cert.NormQ.Gen.facts, Cert.NormQIdeal.Gen.facts, Cert.NormQRefIdeal.Gen.facts,
  Cert.NormK.Gen.facts, Cert.NormKIdeal.Gen.facts, Cert.NormKRefIdeal.Gen.facts,
  Cert.MemFinite.facts, Cert.MlaFinite.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Run.frame_run m ρ, fun m ρ _ => Cert.Kernel2Ideal.Run.frame_run m ρ, fun m ρ _ => Cert.Kernel2Ideal.Run.frame_run m ρ,
  fun m ρ _ => frame_reference2 m ρ, fun m ρ _ => frame_reference2 m ρ,
  fun m ρ _ => Cert.GateW.Gen.frame m ρ, fun m ρ _ => Cert.GateWIdeal.Gen.frame m ρ, Cert.GateWValue.frame_reference,
  fun m ρ _ => Cert.GateH.Gen.frame m ρ, fun m ρ _ => Cert.GateHIdeal.Gen.frame m ρ, Cert.GateHValue.frame_reference,
  fun m ρ _ => Cert.BranchW.Gen.frame m ρ, fun m ρ _ => Cert.BranchWIdeal.Gen.frame m ρ, Cert.BranchWValue.frame_reference,
  fun m ρ _ => Cert.BranchY.Gen.frame m ρ, fun m ρ _ => Cert.BranchYIdeal.Gen.frame m ρ, Cert.BranchYValue.frame_reference,
  fun m ρ _ => Cert.InW.Gen.frame m ρ, fun m ρ _ => Cert.InWIdeal.Gen.frame m ρ, Cert.InWValue.frame_reference,
  fun m ρ _ => Cert.InH.Gen.frame m ρ, fun m ρ _ => Cert.InHIdeal.Gen.frame m ρ, Cert.InHValue.frame_reference,
  fun m ρ _ => Cert.InP.Gen.frame m ρ, fun m ρ _ => Cert.InPIdeal.Gen.frame m ρ, Cert.InPValue.frame_reference,
  fun m ρ _ => Cert.OutP.Gen.frame m ρ, fun m ρ _ => Cert.OutPIdeal.Gen.frame m ρ, Cert.OutPValue.frame_reference,
  fun m ρ _ => Cert.Merge.Gen.frame m ρ, fun m ρ _ => Cert.MergeIdeal.Gen.frame m ρ, Cert.MergeValue.frame_reference,
  fun m ρ _ => Cert.LatW.Gen.frame m ρ, fun m ρ _ => Cert.LatWIdeal.Gen.frame m ρ, Cert.LatWValue.frame_reference,
  fun m ρ _ => Cert.LatV.Gen.frame m ρ, fun m ρ _ => Cert.LatVIdeal.Gen.frame m ρ, Cert.LatVValue.frame_reference,
  fun m ρ _ => Cert.LatQ.Gen.frame m ρ, fun m ρ _ => Cert.LatQIdeal.Gen.frame m ρ, Cert.LatQValue.frame_reference,
  fun m ρ _ => Cert.LatC.Gen.frame m ρ, fun m ρ _ => Cert.LatCIdeal.Gen.frame m ρ, Cert.LatCValue.frame_reference,
  fun m ρ _ => Cert.MemP.Gen.frame m ρ, fun m ρ _ => Cert.MemPIdeal.Gen.frame m ρ, Cert.MemPValue.frame_reference,
  fun m ρ _ => Cert.MemW.Gen.frame m ρ, fun m ρ _ => Cert.MemWIdeal.Gen.frame m ρ, Cert.MemWValue.frame_reference,
  fun m ρ _ => Cert.MemX.Gen.frame m ρ, fun m ρ _ => Cert.MemXIdeal.Gen.frame m ρ, Cert.MemXValue.frame_reference,
  fun m ρ _ => Cert.MemF.Gen.frame m ρ, fun m ρ _ => Cert.MemFIdeal.Gen.frame m ρ, Cert.MemFValue.frame_reference,
  fun m ρ _ => Cert.NormX.Gen.frame m ρ, fun m ρ _ => Cert.NormXIdeal.Gen.frame m ρ, Cert.NormXValue.frame_reference,
  fun m ρ _ => Cert.NormM.Gen.frame m ρ, fun m ρ _ => Cert.NormMIdeal.Gen.frame m ρ, Cert.NormMValue.frame_reference,
  fun m ρ _ => Cert.NormQ.Gen.frame m ρ, fun m ρ _ => Cert.NormQIdeal.Gen.frame m ρ, Cert.NormQValue.frame_reference,
  fun m ρ _ => Cert.NormK.Gen.frame m ρ, fun m ρ _ => Cert.NormKIdeal.Gen.frame m ρ, Cert.NormKValue.frame_reference,
  trivial, algebraic _, preserves2, algebraic2 _,
  trivial, Cert.GateWValue.algebraic, trivial, Cert.GateHValue.algebraic, trivial, Cert.BranchWValue.algebraic, trivial, Cert.BranchYValue.algebraic, trivial, Cert.InWValue.algebraic, trivial, Cert.InHValue.algebraic,
  trivial, Cert.InPValue.algebraic, trivial, Cert.OutPValue.algebraic, trivial, Cert.MergeValue.algebraic,
  trivial, Cert.LatWValue.algebraic, trivial, Cert.LatVValue.algebraic, trivial, Cert.LatQValue.algebraic, trivial, Cert.LatCValue.algebraic,
  trivial, Cert.MemPValue.algebraic, trivial, Cert.MemWValue.algebraic, trivial, Cert.MemXValue.algebraic, trivial, Cert.MemFValue.algebraic,
  trivial, Cert.NormXValue.algebraic, trivial, Cert.NormMValue.algebraic, trivial, Cert.NormQValue.algebraic, trivial, Cert.NormKValue.algebraic⟩

end Cert.Proof

end
